-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![2048, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![2048, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S4x64x1024 : Shape := ⟨3, ![4, 64, 1024]⟩
abbrev S2x2x64x512 : Shape := ⟨4, ![2, 2, 64, 512]⟩
abbrev S2x64x512 : Shape := ⟨3, ![2, 64, 512]⟩
abbrev S4 : Shape := ⟨1, ![4]⟩
abbrev S2x2 : Shape := ⟨2, ![2, 2]⟩
abbrev S2 : Shape := ⟨1, ![2]⟩
abbrev S_ : Shape := ⟨0, ![]⟩
abbrev S1x64x1024 : Shape := ⟨3, ![1, 64, 1024]⟩
abbrev S1 : Shape := ⟨1, ![1]⟩
abbrev S64x2048 : Shape := ⟨2, ![64, 2048]⟩
abbrev S64x512 : Shape := ⟨2, ![64, 512]⟩
abbrev S1x1x64x512 : Shape := ⟨4, ![1, 1, 64, 512]⟩
abbrev S1x1 : Shape := ⟨2, ![1, 1]⟩
abbrev S1x64x512 : Shape := ⟨3, ![1, 64, 512]⟩

abbrev nBuf : Space → Nat
  | .hbm => 8
  | .vmem => 12
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S1024x2048, .f32⟩
  | .local _ .vmem, ⟨2, _⟩ => ⟨S2048x1024, .f32⟩
  | .local _ .vmem, ⟨3, _⟩ => ⟨S1024x2048, .f32⟩
  | .local _ .vmem, ⟨4, _⟩ => ⟨S2048x1024, .f32⟩
  | .local _ .vmem, ⟨5, _⟩ => ⟨S1024x2048, .f32⟩
  | .local _ .vmem, ⟨6, _⟩ => ⟨S2048x1024, .f32⟩
  | .local _ .vmem, ⟨7, _⟩ => ⟨S64x1024, .f32⟩
  | .local _ .vmem, ⟨8, _⟩ => ⟨S4x64x1024, .bf16⟩
  | .local _ .vmem, ⟨9, _⟩ => ⟨S2x2x64x512, .f32⟩
  | .local _ .vmem, ⟨10, _⟩ => ⟨S2x2x64x512, .f32⟩
  | .local _ .vmem, ⟨11, _⟩ => ⟨S2x64x512, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 3 → Bool
  | ⟨0, _⟩ => true
  | ⟨1, _⟩ => true
  | ⟨2, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 3 26 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_18 : BitVec 32 := 1#32
  let v19 : BitVec 32 := Scalar.muli v7 c1_i32_18
  let v20 : BitVec 32 := Scalar.addi c0_i32_19 v19
  v20.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_49 : BitVec 32 := 1#32
  let v53 : BitVec 32 := Scalar.muli v5 c1_i32_49
  let v54 : BitVec 32 := Scalar.addi c0_i32_50 v53
  v54.toNat
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_65 : BitVec 32 := 1#32
  let v63 : BitVec 32 := Scalar.muli v7 c1_i32_65
  let v64 : BitVec 32 := Scalar.addi c0_i32_66 v63
  v64.toNat
@[reducible] def k0_t1_loop : Scf.Loop 32 :=
  let c0_i32_71 : BitVec 32 := 0#32
  let c31_i32 : BitVec 32 := 31#32
  let v73 : BitVec 32 := Scalar.addi c0_i32_71 c31_i32
  let c1_i32_72 : BitVec 32 := 1#32
  ⟨c0_i32_71, v73, c1_i32_72⟩
def k0_cond1 (k0_t1 : Fin k0_t1_loop.trips) : BitVec 1 :=
  let c0_i32_71 : BitVec 32 := 0#32
  let c1_i32_72 : BitVec 32 := 1#32
  let arg19 : BitVec 32 := Scf.iv c0_i32_71 c1_i32_72 k0_t1
  let c1_i32_638 : BitVec 32 := 1#32
  let v465 : BitVec 1 := Scalar.cmpi .sge arg19 c1_i32_638
  let v466 : BitVec 32 := Scalar.extui v465
  let c0_i32_639 : BitVec 32 := 0#32
  let v467 : BitVec 1 := Scalar.cmpi .ne v466 c0_i32_639
  v467

def k0_off1 (k0_t1 : Fin k0_t1_loop.trips) : Fin 2 → Nat :=
  let c0_i32_71 : BitVec 32 := 0#32
  let c1_i32_72 : BitVec 32 := 1#32
  let arg19 : BitVec 32 := Scf.iv c0_i32_71 c1_i32_72 k0_t1
  let c1_i32_636 : BitVec 32 := 1#32
  let v463 : BitVec 32 := Scalar.addi arg19 c1_i32_636
  let c2_i32_637 : BitVec 32 := 2#32
  let v464 : BitVec 32 := Scalar.remsi v463 c2_i32_637
  let c0_i32_714 : BitVec 32 := 0#32
  ![v464.toNat, 0]
def k0_off2 (k0_t1 : Fin k0_t1_loop.trips) : Fin 4 → Nat :=
  let c0_i32_71 : BitVec 32 := 0#32
  let c1_i32_72 : BitVec 32 := 1#32
  let arg19 : BitVec 32 := Scf.iv c0_i32_71 c1_i32_72 k0_t1
  let c1_i32_636 : BitVec 32 := 1#32
  let v463 : BitVec 32 := Scalar.addi arg19 c1_i32_636
  let c2_i32_637 : BitVec 32 := 2#32
  let v464 : BitVec 32 := Scalar.remsi v463 c2_i32_637
  let c0_i32_713 : BitVec 32 := 0#32
  let c0_i32_717 : BitVec 32 := 0#32
  let c0_i32_718 : BitVec 32 := 0#32
  ![v464.toNat, 0, 0, 0]
def k0_off3 (k0_t1 : Fin k0_t1_loop.trips) : Fin 4 → Nat :=
  let c0_i32_71 : BitVec 32 := 0#32
  let c1_i32_72 : BitVec 32 := 1#32
  let arg19 : BitVec 32 := Scf.iv c0_i32_71 c1_i32_72 k0_t1
  let c2_i32_635 : BitVec 32 := 2#32
  let v462 : BitVec 32 := Scalar.remsi arg19 c2_i32_635
  let c0_i32_712 : BitVec 32 := 0#32
  let c0_i32_719 : BitVec 32 := 0#32
  let c0_i32_720 : BitVec 32 := 0#32
  ![v462.toNat, 0, 0, 0]
def k0_off4 (k0_t1 : Fin k0_t1_loop.trips) : Fin 2 → Nat :=
  let c0_i32_71 : BitVec 32 := 0#32
  let c1_i32_72 : BitVec 32 := 1#32
  let arg19 : BitVec 32 := Scf.iv c0_i32_71 c1_i32_72 k0_t1
  let c1_i32_636 : BitVec 32 := 1#32
  let v463 : BitVec 32 := Scalar.addi arg19 c1_i32_636
  let c2_i32_637 : BitVec 32 := 2#32
  let v464 : BitVec 32 := Scalar.remsi v463 c2_i32_637
  let c1_i32_723 : BitVec 32 := 1#32
  ![v464.toNat, 1]
def k0_off5 (k0_t1 : Fin k0_t1_loop.trips) : Fin 4 → Nat :=
  let c0_i32_71 : BitVec 32 := 0#32
  let c1_i32_72 : BitVec 32 := 1#32
  let arg19 : BitVec 32 := Scf.iv c0_i32_71 c1_i32_72 k0_t1
  let c1_i32_636 : BitVec 32 := 1#32
  let v463 : BitVec 32 := Scalar.addi arg19 c1_i32_636
  let c2_i32_637 : BitVec 32 := 2#32
  let v464 : BitVec 32 := Scalar.remsi v463 c2_i32_637
  let c1_i32_722 : BitVec 32 := 1#32
  let c0_i32_726 : BitVec 32 := 0#32
  let c0_i32_727 : BitVec 32 := 0#32
  ![v464.toNat, 1, 0, 0]
def k0_off6 (k0_t1 : Fin k0_t1_loop.trips) : Fin 4 → Nat :=
  let c0_i32_71 : BitVec 32 := 0#32
  let c1_i32_72 : BitVec 32 := 1#32
  let arg19 : BitVec 32 := Scf.iv c0_i32_71 c1_i32_72 k0_t1
  let c2_i32_635 : BitVec 32 := 2#32
  let v462 : BitVec 32 := Scalar.remsi arg19 c2_i32_635
  let c1_i32_721 : BitVec 32 := 1#32
  let c0_i32_728 : BitVec 32 := 0#32
  let c0_i32_729 : BitVec 32 := 0#32
  ![v462.toNat, 1, 0, 0]
def k0_dev6 (d0 : Dev nD) : Nat :=
  let c0_i32_732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_731 : BitVec 32 := 1#32
  let v575 : BitVec 32 := Scalar.muli v5 c1_i32_731
  let v576 : BitVec 32 := Scalar.addi c0_i32_732 v575
  v576.toNat
def k0_cond2 (k0_t1 : Fin k0_t1_loop.trips) : BitVec 1 :=
  let c0_i32_71 : BitVec 32 := 0#32
  let c1_i32_72 : BitVec 32 := 1#32
  let arg19 : BitVec 32 := Scf.iv c0_i32_71 c1_i32_72 k0_t1
  let c29_i32 : BitVec 32 := 29#32
  let v468 : BitVec 1 := Scalar.cmpi .sle arg19 c29_i32
  let v469 : BitVec 32 := Scalar.extui v468
  let c0_i32_640 : BitVec 32 := 0#32
  let v470 : BitVec 1 := Scalar.cmpi .ne v469 c0_i32_640
  v470

def k0_off7 (k0_t1 : Fin k0_t1_loop.trips) : Fin 1 → Nat :=
  let c0_i32_71 : BitVec 32 := 0#32
  let c1_i32_72 : BitVec 32 := 1#32
  let arg19 : BitVec 32 := Scf.iv c0_i32_71 c1_i32_72 k0_t1
  let c2_i32_632 : BitVec 32 := 2#32
  let v458 : BitVec 32 := Scalar.addi arg19 c2_i32_632
  let c4_i32_633 : BitVec 32 := 4#32
  let v459 : BitVec 32 := Scalar.remsi v458 c4_i32_633
  ![v459.toNat]
def k0_off8 (k0_t1 : Fin k0_t1_loop.trips) : Fin 3 → Nat :=
  let c0_i32_71 : BitVec 32 := 0#32
  let c1_i32_72 : BitVec 32 := 1#32
  let arg19 : BitVec 32 := Scf.iv c0_i32_71 c1_i32_72 k0_t1
  let c2_i32_632 : BitVec 32 := 2#32
  let v458 : BitVec 32 := Scalar.addi arg19 c2_i32_632
  let c4_i32_633 : BitVec 32 := 4#32
  let v459 : BitVec 32 := Scalar.remsi v458 c4_i32_633
  let c0_i32_714 : BitVec 32 := 0#32
  let c0_i32_715 : BitVec 32 := 0#32
  ![v459.toNat, 0, 0]
def k0_cond3 (k0_t1 : Fin k0_t1_loop.trips) : BitVec 1 :=
  let c0_i32_71 : BitVec 32 := 0#32
  let c1_i32_72 : BitVec 32 := 1#32
  let arg19 : BitVec 32 := Scf.iv c0_i32_71 c1_i32_72 k0_t1
  let c28_i32 : BitVec 32 := 28#32
  let v471 : BitVec 1 := Scalar.cmpi .sle arg19 c28_i32
  let v472 : BitVec 32 := Scalar.extui v471
  let c0_i32_641 : BitVec 32 := 0#32
  let v473 : BitVec 1 := Scalar.cmpi .ne v472 c0_i32_641
  v473

def k0_off9 (k0_t1 : Fin k0_t1_loop.trips) (c2_i32_632 : BitVec 32) : Fin 1 → Nat :=
  let c0_i32_71 : BitVec 32 := 0#32
  let c1_i32_72 : BitVec 32 := 1#32
  let arg19 : BitVec 32 := Scf.iv c0_i32_71 c1_i32_72 k0_t1
  let v458 : BitVec 32 := Scalar.addi arg19 c2_i32_632
  let c4_i32_633 : BitVec 32 := 4#32
  let v459 : BitVec 32 := Scalar.remsi v458 c4_i32_633
  ![v459.toNat]
def k0_off10 (k0_t1 : Fin k0_t1_loop.trips) (c3_i32 : BitVec 32) : Fin 3 → Nat :=
  let c0_i32_71 : BitVec 32 := 0#32
  let c1_i32_72 : BitVec 32 := 1#32
  let arg19 : BitVec 32 := Scf.iv c0_i32_71 c1_i32_72 k0_t1
  let v460 : BitVec 32 := Scalar.addi arg19 c3_i32
  let c4_i32_634 : BitVec 32 := 4#32
  let v461 : BitVec 32 := Scalar.remsi v460 c4_i32_634
  let c0_i32_716 : BitVec 32 := 0#32
  let c0_i32_717 : BitVec 32 := 0#32
  ![v461.toNat, 0, 0]
def k0_dev7 (d0 : Dev nD) : Nat :=
  let c0_i32_715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_714 : BitVec 32 := 1#32
  let v566 : BitVec 32 := Scalar.muli v7 c1_i32_714
  let v567 : BitVec 32 := Scalar.addi c0_i32_715 v566
  v567.toNat
def k0_cond6 (k0_t1 : Fin k0_t1_loop.trips) : BitVec 1 :=
  let c0_i32_71 : BitVec 32 := 0#32
  let c1_i32_72 : BitVec 32 := 1#32
  let arg19 : BitVec 32 := Scf.iv c0_i32_71 c1_i32_72 k0_t1
  let c1_i32_644 : BitVec 32 := 1#32
  let v477 : BitVec 1 := Scalar.cmpi .sge arg19 c1_i32_644
  let v478 : BitVec 32 := Scalar.extui v477
  let c0_i32_645 : BitVec 32 := 0#32
  let v479 : BitVec 1 := Scalar.cmpi .ne v478 c0_i32_645
  v479

def k0_off11 (k0_t1 : Fin k0_t1_loop.trips) : Fin 2 → Nat :=
  let c0_i32_71 : BitVec 32 := 0#32
  let c1_i32_72 : BitVec 32 := 1#32
  let arg19 : BitVec 32 := Scf.iv c0_i32_71 c1_i32_72 k0_t1
  let c2_i32_635 : BitVec 32 := 2#32
  let v462 : BitVec 32 := Scalar.remsi arg19 c2_i32_635
  let c0_i32_714 : BitVec 32 := 0#32
  ![v462.toNat, 0]
def k0_off12 (k0_t1 : Fin k0_t1_loop.trips) : Fin 4 → Nat :=
  let c0_i32_71 : BitVec 32 := 0#32
  let c1_i32_72 : BitVec 32 := 1#32
  let arg19 : BitVec 32 := Scf.iv c0_i32_71 c1_i32_72 k0_t1
  let c2_i32_635 : BitVec 32 := 2#32
  let v462 : BitVec 32 := Scalar.remsi arg19 c2_i32_635
  let c0_i32_713 : BitVec 32 := 0#32
  let c0_i32_718 : BitVec 32 := 0#32
  let c0_i32_719 : BitVec 32 := 0#32
  ![v462.toNat, 0, 0, 0]
def k0_off13 (k0_t1 : Fin k0_t1_loop.trips) : Fin 4 → Nat :=
  let c0_i32_71 : BitVec 32 := 0#32
  let c1_i32_72 : BitVec 32 := 1#32
  let arg19 : BitVec 32 := Scf.iv c0_i32_71 c1_i32_72 k0_t1
  let c2_i32_635 : BitVec 32 := 2#32
  let v462 : BitVec 32 := Scalar.remsi arg19 c2_i32_635
  let v480 : Index := Scalar.indexCast v462
  let c0_646 : Index := 0#32
  let c0_647 : Index := 0#32
  let c0_648 : Index := 0#32
  ![v480.toNat, 0, 0, 0]
def k0_off14 (k0_t1 : Fin k0_t1_loop.trips) : Fin 2 → Nat :=
  let c0_i32_71 : BitVec 32 := 0#32
  let c1_i32_72 : BitVec 32 := 1#32
  let arg19 : BitVec 32 := Scf.iv c0_i32_71 c1_i32_72 k0_t1
  let c2_i32_635 : BitVec 32 := 2#32
  let v462 : BitVec 32 := Scalar.remsi arg19 c2_i32_635
  let c0_i32_662 : BitVec 32 := 0#32
  ![v462.toNat, 0]
def k0_off15 (k0_t1 : Fin k0_t1_loop.trips) : Fin 2 → Nat :=
  let c0_i32_71 : BitVec 32 := 0#32
  let c1_i32_72 : BitVec 32 := 1#32
  let arg19 : BitVec 32 := Scf.iv c0_i32_71 c1_i32_72 k0_t1
  let c1_i32_636 : BitVec 32 := 1#32
  let v463 : BitVec 32 := Scalar.addi arg19 c1_i32_636
  let c2_i32_637 : BitVec 32 := 2#32
  let v464 : BitVec 32 := Scalar.remsi v463 c2_i32_637
  let c0_i32_661 : BitVec 32 := 0#32
  ![v464.toNat, 0]
def k0_off16 (k0_t1 : Fin k0_t1_loop.trips) : Fin 4 → Nat :=
  let c0_i32_71 : BitVec 32 := 0#32
  let c1_i32_72 : BitVec 32 := 1#32
  let arg19 : BitVec 32 := Scf.iv c0_i32_71 c1_i32_72 k0_t1
  let c1_i32_636 : BitVec 32 := 1#32
  let v463 : BitVec 32 := Scalar.addi arg19 c1_i32_636
  let c2_i32_637 : BitVec 32 := 2#32
  let v464 : BitVec 32 := Scalar.remsi v463 c2_i32_637
  let c0_i32_660 : BitVec 32 := 0#32
  let c0_i32_665 : BitVec 32 := 0#32
  let c0_i32_666 : BitVec 32 := 0#32
  ![v464.toNat, 0, 0, 0]
def k0_off17 (k0_t1 : Fin k0_t1_loop.trips) : Fin 4 → Nat :=
  let c0_i32_71 : BitVec 32 := 0#32
  let c1_i32_72 : BitVec 32 := 1#32
  let arg19 : BitVec 32 := Scf.iv c0_i32_71 c1_i32_72 k0_t1
  let c2_i32_635 : BitVec 32 := 2#32
  let v462 : BitVec 32 := Scalar.remsi arg19 c2_i32_635
  let c0_i32_659 : BitVec 32 := 0#32
  let c0_i32_667 : BitVec 32 := 0#32
  let c0_i32_668 : BitVec 32 := 0#32
  ![v462.toNat, 0, 0, 0]
def k0_dev8 (d0 : Dev nD) : Nat :=
  let c0_i32_664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_663 : BitVec 32 := 1#32
  let v496 : BitVec 32 := Scalar.muli v7 c1_i32_663
  let v497 : BitVec 32 := Scalar.addi c0_i32_664 v496
  v497.toNat
def k0_cond7 (k0_t1 : Fin k0_t1_loop.trips) : BitVec 1 :=
  let c0_i32_71 : BitVec 32 := 0#32
  let c1_i32_72 : BitVec 32 := 1#32
  let arg19 : BitVec 32 := Scf.iv c0_i32_71 c1_i32_72 k0_t1
  let c1_i32_669 : BitVec 32 := 1#32
  let v506 : BitVec 1 := Scalar.cmpi .sge arg19 c1_i32_669
  let v507 : BitVec 32 := Scalar.extui v506
  let c0_i32_670 : BitVec 32 := 0#32
  let v508 : BitVec 1 := Scalar.cmpi .ne v507 c0_i32_670
  v508

def k0_off18 (k0_t1 : Fin k0_t1_loop.trips) : Fin 2 → Nat :=
  let c0_i32_71 : BitVec 32 := 0#32
  let c1_i32_72 : BitVec 32 := 1#32
  let arg19 : BitVec 32 := Scf.iv c0_i32_71 c1_i32_72 k0_t1
  let c2_i32_635 : BitVec 32 := 2#32
  let v462 : BitVec 32 := Scalar.remsi arg19 c2_i32_635
  let c1_i32_714 : BitVec 32 := 1#32
  ![v462.toNat, 1]
def k0_off19 (k0_t1 : Fin k0_t1_loop.trips) : Fin 4 → Nat :=
  let c0_i32_71 : BitVec 32 := 0#32
  let c1_i32_72 : BitVec 32 := 1#32
  let arg19 : BitVec 32 := Scf.iv c0_i32_71 c1_i32_72 k0_t1
  let c2_i32_635 : BitVec 32 := 2#32
  let v462 : BitVec 32 := Scalar.remsi arg19 c2_i32_635
  let c1_i32_713 : BitVec 32 := 1#32
  let c0_i32_718 : BitVec 32 := 0#32
  let c0_i32_719 : BitVec 32 := 0#32
  ![v462.toNat, 1, 0, 0]
def k0_off20 (k0_t1 : Fin k0_t1_loop.trips) : Fin 4 → Nat :=
  let c0_i32_71 : BitVec 32 := 0#32
  let c1_i32_72 : BitVec 32 := 1#32
  let arg19 : BitVec 32 := Scf.iv c0_i32_71 c1_i32_72 k0_t1
  let c2_i32_635 : BitVec 32 := 2#32
  let v462 : BitVec 32 := Scalar.remsi arg19 c2_i32_635
  let v509 : Index := Scalar.indexCast v462
  let c1_671 : Index := 1#32
  let c0_672 : Index := 0#32
  let c0_673 : Index := 0#32
  ![v509.toNat, 1, 0, 0]
def k0_off21 (k0_t1 : Fin k0_t1_loop.trips) : Fin 2 → Nat :=
  let c0_i32_71 : BitVec 32 := 0#32
  let c1_i32_72 : BitVec 32 := 1#32
  let arg19 : BitVec 32 := Scf.iv c0_i32_71 c1_i32_72 k0_t1
  let c2_i32_635 : BitVec 32 := 2#32
  let v462 : BitVec 32 := Scalar.remsi arg19 c2_i32_635
  let c1_i32_687 : BitVec 32 := 1#32
  ![v462.toNat, 1]
def k0_off22 (k0_t1 : Fin k0_t1_loop.trips) : Fin 2 → Nat :=
  let c0_i32_71 : BitVec 32 := 0#32
  let c1_i32_72 : BitVec 32 := 1#32
  let arg19 : BitVec 32 := Scf.iv c0_i32_71 c1_i32_72 k0_t1
  let c1_i32_636 : BitVec 32 := 1#32
  let v463 : BitVec 32 := Scalar.addi arg19 c1_i32_636
  let c2_i32_637 : BitVec 32 := 2#32
  let v464 : BitVec 32 := Scalar.remsi v463 c2_i32_637
  let c1_i32_686 : BitVec 32 := 1#32
  ![v464.toNat, 1]
def k0_off23 (k0_t1 : Fin k0_t1_loop.trips) : Fin 4 → Nat :=
  let c0_i32_71 : BitVec 32 := 0#32
  let c1_i32_72 : BitVec 32 := 1#32
  let arg19 : BitVec 32 := Scf.iv c0_i32_71 c1_i32_72 k0_t1
  let c1_i32_636 : BitVec 32 := 1#32
  let v463 : BitVec 32 := Scalar.addi arg19 c1_i32_636
  let c2_i32_637 : BitVec 32 := 2#32
  let v464 : BitVec 32 := Scalar.remsi v463 c2_i32_637
  let c1_i32_685 : BitVec 32 := 1#32
  let c0_i32_690 : BitVec 32 := 0#32
  let c0_i32_691 : BitVec 32 := 0#32
  ![v464.toNat, 1, 0, 0]
def k0_off24 (k0_t1 : Fin k0_t1_loop.trips) : Fin 4 → Nat :=
  let c0_i32_71 : BitVec 32 := 0#32
  let c1_i32_72 : BitVec 32 := 1#32
  let arg19 : BitVec 32 := Scf.iv c0_i32_71 c1_i32_72 k0_t1
  let c2_i32_635 : BitVec 32 := 2#32
  let v462 : BitVec 32 := Scalar.remsi arg19 c2_i32_635
  let c1_i32_684 : BitVec 32 := 1#32
  let c0_i32_692 : BitVec 32 := 0#32
  let c0_i32_693 : BitVec 32 := 0#32
  ![v462.toNat, 1, 0, 0]
def k0_dev9 (d0 : Dev nD) : Nat :=
  let c0_i32_689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_688 : BitVec 32 := 1#32
  let v525 : BitVec 32 := Scalar.muli v7 c1_i32_688
  let v526 : BitVec 32 := Scalar.addi c0_i32_689 v525
  v526.toNat
def k0_off25 (k0_t1 : Fin k0_t1_loop.trips) : Fin 3 → Nat :=
  let c0_i32_71 : BitVec 32 := 0#32
  let c1_i32_72 : BitVec 32 := 1#32
  let arg19 : BitVec 32 := Scf.iv c0_i32_71 c1_i32_72 k0_t1
  let c1_i32_631 : BitVec 32 := 1#32
  let v456 : BitVec 32 := Scalar.addi arg19 c1_i32_631
  let c4_i32 : BitVec 32 := 4#32
  let v457 : BitVec 32 := Scalar.remsi v456 c4_i32
  let v535 : Index := Scalar.indexCast v457
  let c0_694 : Index := 0#32
  let c0_695 : Index := 0#32
  ![v535.toNat, 0, 0]
def k0_off26 (k0_t1 : Fin k0_t1_loop.trips) : Fin 4 → Nat :=
  let c0_i32_71 : BitVec 32 := 0#32
  let c1_i32_72 : BitVec 32 := 1#32
  let arg19 : BitVec 32 := Scf.iv c0_i32_71 c1_i32_72 k0_t1
  let c1_i32_636 : BitVec 32 := 1#32
  let v463 : BitVec 32 := Scalar.addi arg19 c1_i32_636
  let c2_i32_637 : BitVec 32 := 2#32
  let v464 : BitVec 32 := Scalar.remsi v463 c2_i32_637
  let v548 : Index := Scalar.indexCast v464
  let c0_703 : Index := 0#32
  let c0_704 : Index := 0#32
  let c0_705 : Index := 0#32
  ![v548.toNat, 0, 0, 0]
def k0_off27 (k0_t1 : Fin k0_t1_loop.trips) : Fin 4 → Nat :=
  let c0_i32_71 : BitVec 32 := 0#32
  let c1_i32_72 : BitVec 32 := 1#32
  let arg19 : BitVec 32 := Scf.iv c0_i32_71 c1_i32_72 k0_t1
  let c1_i32_636 : BitVec 32 := 1#32
  let v463 : BitVec 32 := Scalar.addi arg19 c1_i32_636
  let c2_i32_637 : BitVec 32 := 2#32
  let v464 : BitVec 32 := Scalar.remsi v463 c2_i32_637
  let v553 : Index := Scalar.indexCast v464
  let c1_706 : Index := 1#32
  let c0_707 : Index := 0#32
  let c0_708 : Index := 0#32
  ![v553.toNat, 1, 0, 0]
def k0_cond8 (k0_t1 : Fin k0_t1_loop.trips) : BitVec 1 :=
  let c0_i32_71 : BitVec 32 := 0#32
  let c1_i32_72 : BitVec 32 := 1#32
  let arg19 : BitVec 32 := Scf.iv c0_i32_71 c1_i32_72 k0_t1
  let c29_i32_709 : BitVec 32 := 29#32
  let v557 : BitVec 1 := Scalar.cmpi .sle arg19 c29_i32_709
  let v558 : BitVec 32 := Scalar.extui v557
  let c0_i32_710 : BitVec 32 := 0#32
  let v559 : BitVec 1 := Scalar.cmpi .ne v558 c0_i32_710
  v559

def k0_off28 (k0_t1 : Fin k0_t1_loop.trips) : Fin 1 → Nat :=
  let c0_i32_71 : BitVec 32 := 0#32
  let c1_i32_72 : BitVec 32 := 1#32
  let arg19 : BitVec 32 := Scf.iv c0_i32_71 c1_i32_72 k0_t1
  let c1_i32_631 : BitVec 32 := 1#32
  let v456 : BitVec 32 := Scalar.addi arg19 c1_i32_631
  let c4_i32 : BitVec 32 := 4#32
  let v457 : BitVec 32 := Scalar.remsi v456 c4_i32
  ![v457.toNat]
def k0_off29 (k0_t1 : Fin k0_t1_loop.trips) (c1_i32_631 : BitVec 32) : Fin 3 → Nat :=
  let c0_i32_71 : BitVec 32 := 0#32
  let c1_i32_72 : BitVec 32 := 1#32
  let arg19 : BitVec 32 := Scf.iv c0_i32_71 c1_i32_72 k0_t1
  let v456 : BitVec 32 := Scalar.addi arg19 c1_i32_631
  let c4_i32 : BitVec 32 := 4#32
  let v457 : BitVec 32 := Scalar.remsi v456 c4_i32
  let c0_i32_713 : BitVec 32 := 0#32
  let c0_i32_714 : BitVec 32 := 0#32
  ![v457.toNat, 0, 0]
def k0_cond9 (k0_t1 : Fin k0_t1_loop.trips) : BitVec 1 :=
  let c0_i32_71 : BitVec 32 := 0#32
  let c1_i32_72 : BitVec 32 := 1#32
  let arg19 : BitVec 32 := Scf.iv c0_i32_71 c1_i32_72 k0_t1
  let c27_i32 : BitVec 32 := 27#32
  let v560 : BitVec 1 := Scalar.cmpi .ne arg19 c27_i32
  let v561 : BitVec 32 := Scalar.extui v560
  let c0_i32_711 : BitVec 32 := 0#32
  let v562 : BitVec 1 := Scalar.cmpi .ne v561 c0_i32_711
  v562

def k0_dev10 (d0 : Dev nD) : Nat :=
  let c0_i32_714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_713 : BitVec 32 := 1#32
  let v563 : BitVec 32 := Scalar.muli v5 c1_i32_713
  let v564 : BitVec 32 := Scalar.addi c0_i32_714 v563
  v564.toNat
def k0_dev11 (d0 : Dev nD) : Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_132 : BitVec 32 := 1#32
  let v102 : BitVec 32 := Scalar.muli v7 c1_i32_132
  let v103 : BitVec 32 := Scalar.addi c0_i32_133 v102
  v103.toNat
def k0_dev12 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_170 : BitVec 32 := 1#32
  let v128 : BitVec 32 := Scalar.muli v7 c1_i32_170
  let v129 : BitVec 32 := Scalar.addi c0_i32_171 v128
  v129.toNat
def k0_dev13 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_230 : BitVec 32 := 1#32
  let v179 : BitVec 32 := Scalar.muli v7 c1_i32_230
  let v180 : BitVec 32 := Scalar.addi c0_i32_231 v179
  v180.toNat
def k0_dev14 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_246 : BitVec 32 := 1#32
  let v195 : BitVec 32 := Scalar.muli v5 c1_i32_246
  let v196 : BitVec 32 := Scalar.addi c0_i32_247 v195
  v196.toNat
def k0_dev15 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_264 : BitVec 32 := 1#32
  let v205 : BitVec 32 := Scalar.muli v7 c1_i32_264
  let v206 : BitVec 32 := Scalar.addi c0_i32_265 v205
  v206.toNat
@[reducible] def k0_t2_loop : Scf.Loop 32 :=
  let c0_i32_270 : BitVec 32 := 0#32
  let c31_i32_271 : BitVec 32 := 31#32
  let v215 : BitVec 32 := Scalar.addi c0_i32_270 c31_i32_271
  let c1_i32_272 : BitVec 32 := 1#32
  ⟨c0_i32_270, v215, c1_i32_272⟩
def k0_off30 (k0_t2 : Fin k0_t2_loop.trips) : Fin 2 → Nat :=
  let c0_i32_270 : BitVec 32 := 0#32
  let c1_i32_272 : BitVec 32 := 1#32
  let arg19 : BitVec 32 := Scf.iv c0_i32_270 c1_i32_272 k0_t2
  let c1_i32_636 : BitVec 32 := 1#32
  let v463 : BitVec 32 := Scalar.addi arg19 c1_i32_636
  let c2_i32_637 : BitVec 32 := 2#32
  let v464 : BitVec 32 := Scalar.remsi v463 c2_i32_637
  let c0_i32_640 : BitVec 32 := 0#32
  ![v464.toNat, 0]
def k0_off31 (k0_t2 : Fin k0_t2_loop.trips) : Fin 4 → Nat :=
  let c0_i32_270 : BitVec 32 := 0#32
  let c1_i32_272 : BitVec 32 := 1#32
  let arg19 : BitVec 32 := Scf.iv c0_i32_270 c1_i32_272 k0_t2
  let c1_i32_636 : BitVec 32 := 1#32
  let v463 : BitVec 32 := Scalar.addi arg19 c1_i32_636
  let c2_i32_637 : BitVec 32 := 2#32
  let v464 : BitVec 32 := Scalar.remsi v463 c2_i32_637
  let c0_i32_639 : BitVec 32 := 0#32
  let c0_i32_643 : BitVec 32 := 0#32
  let c0_i32_644 : BitVec 32 := 0#32
  ![v464.toNat, 0, 0, 0]
def k0_off32 (k0_t2 : Fin k0_t2_loop.trips) : Fin 4 → Nat :=
  let c0_i32_270 : BitVec 32 := 0#32
  let c1_i32_272 : BitVec 32 := 1#32
  let arg19 : BitVec 32 := Scf.iv c0_i32_270 c1_i32_272 k0_t2
  let c2_i32_635 : BitVec 32 := 2#32
  let v462 : BitVec 32 := Scalar.remsi arg19 c2_i32_635
  let c0_i32_638 : BitVec 32 := 0#32
  let c0_i32_645 : BitVec 32 := 0#32
  let c0_i32_646 : BitVec 32 := 0#32
  ![v462.toNat, 0, 0, 0]
def k0_off33 (k0_t2 : Fin k0_t2_loop.trips) : Fin 2 → Nat :=
  let c0_i32_270 : BitVec 32 := 0#32
  let c1_i32_272 : BitVec 32 := 1#32
  let arg19 : BitVec 32 := Scf.iv c0_i32_270 c1_i32_272 k0_t2
  let c1_i32_636 : BitVec 32 := 1#32
  let v463 : BitVec 32 := Scalar.addi arg19 c1_i32_636
  let c2_i32_637 : BitVec 32 := 2#32
  let v464 : BitVec 32 := Scalar.remsi v463 c2_i32_637
  let c1_i32_649 : BitVec 32 := 1#32
  ![v464.toNat, 1]
def k0_off34 (k0_t2 : Fin k0_t2_loop.trips) : Fin 4 → Nat :=
  let c0_i32_270 : BitVec 32 := 0#32
  let c1_i32_272 : BitVec 32 := 1#32
  let arg19 : BitVec 32 := Scf.iv c0_i32_270 c1_i32_272 k0_t2
  let c1_i32_636 : BitVec 32 := 1#32
  let v463 : BitVec 32 := Scalar.addi arg19 c1_i32_636
  let c2_i32_637 : BitVec 32 := 2#32
  let v464 : BitVec 32 := Scalar.remsi v463 c2_i32_637
  let c1_i32_648 : BitVec 32 := 1#32
  let c0_i32_652 : BitVec 32 := 0#32
  let c0_i32_653 : BitVec 32 := 0#32
  ![v464.toNat, 1, 0, 0]
def k0_off35 (k0_t2 : Fin k0_t2_loop.trips) : Fin 4 → Nat :=
  let c0_i32_270 : BitVec 32 := 0#32
  let c1_i32_272 : BitVec 32 := 1#32
  let arg19 : BitVec 32 := Scf.iv c0_i32_270 c1_i32_272 k0_t2
  let c2_i32_635 : BitVec 32 := 2#32
  let v462 : BitVec 32 := Scalar.remsi arg19 c2_i32_635
  let c1_i32_647 : BitVec 32 := 1#32
  let c0_i32_654 : BitVec 32 := 0#32
  let c0_i32_655 : BitVec 32 := 0#32
  ![v462.toNat, 1, 0, 0]
def k0_dev16 (d0 : Dev nD) : Nat :=
  let c0_i32_658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_657 : BitVec 32 := 1#32
  let v477 : BitVec 32 := Scalar.muli v5 c1_i32_657
  let v478 : BitVec 32 := Scalar.addi c0_i32_658 v477
  v478.toNat
def k0_cond10 (k0_t2 : Fin k0_t2_loop.trips) : BitVec 1 :=
  let c0_i32_270 : BitVec 32 := 0#32
  let c1_i32_272 : BitVec 32 := 1#32
  let arg19 : BitVec 32 := Scf.iv c0_i32_270 c1_i32_272 k0_t2
  let c29_i32 : BitVec 32 := 29#32
  let v479 : BitVec 1 := Scalar.cmpi .sle arg19 c29_i32
  let v480 : BitVec 32 := Scalar.extui v479
  let c0_i32_659 : BitVec 32 := 0#32
  let v481 : BitVec 1 := Scalar.cmpi .ne v480 c0_i32_659
  v481

def k0_off36 (k0_t2 : Fin k0_t2_loop.trips) : Fin 1 → Nat :=
  let c0_i32_270 : BitVec 32 := 0#32
  let c1_i32_272 : BitVec 32 := 1#32
  let arg19 : BitVec 32 := Scf.iv c0_i32_270 c1_i32_272 k0_t2
  let c2_i32_632 : BitVec 32 := 2#32
  let v458 : BitVec 32 := Scalar.addi arg19 c2_i32_632
  let c4_i32_633 : BitVec 32 := 4#32
  let v459 : BitVec 32 := Scalar.remsi v458 c4_i32_633
  ![v459.toNat]
def k0_off37 (k0_t2 : Fin k0_t2_loop.trips) : Fin 3 → Nat :=
  let c0_i32_270 : BitVec 32 := 0#32
  let c1_i32_272 : BitVec 32 := 1#32
  let arg19 : BitVec 32 := Scf.iv c0_i32_270 c1_i32_272 k0_t2
  let c2_i32_632 : BitVec 32 := 2#32
  let v458 : BitVec 32 := Scalar.addi arg19 c2_i32_632
  let c4_i32_633 : BitVec 32 := 4#32
  let v459 : BitVec 32 := Scalar.remsi v458 c4_i32_633
  let c0_i32_733 : BitVec 32 := 0#32
  let c0_i32_734 : BitVec 32 := 0#32
  ![v459.toNat, 0, 0]
def k0_cond11 (k0_t2 : Fin k0_t2_loop.trips) : BitVec 1 :=
  let c0_i32_270 : BitVec 32 := 0#32
  let c1_i32_272 : BitVec 32 := 1#32
  let arg19 : BitVec 32 := Scf.iv c0_i32_270 c1_i32_272 k0_t2
  let c28_i32 : BitVec 32 := 28#32
  let v482 : BitVec 1 := Scalar.cmpi .sle arg19 c28_i32
  let v483 : BitVec 32 := Scalar.extui v482
  let c0_i32_660 : BitVec 32 := 0#32
  let v484 : BitVec 1 := Scalar.cmpi .ne v483 c0_i32_660
  v484

def k0_off38 (k0_t2 : Fin k0_t2_loop.trips) (c2_i32_632 : BitVec 32) : Fin 1 → Nat :=
  let c0_i32_270 : BitVec 32 := 0#32
  let c1_i32_272 : BitVec 32 := 1#32
  let arg19 : BitVec 32 := Scf.iv c0_i32_270 c1_i32_272 k0_t2
  let v458 : BitVec 32 := Scalar.addi arg19 c2_i32_632
  let c4_i32_633 : BitVec 32 := 4#32
  let v459 : BitVec 32 := Scalar.remsi v458 c4_i32_633
  ![v459.toNat]
def k0_off39 (k0_t2 : Fin k0_t2_loop.trips) (c3_i32 : BitVec 32) : Fin 3 → Nat :=
  let c0_i32_270 : BitVec 32 := 0#32
  let c1_i32_272 : BitVec 32 := 1#32
  let arg19 : BitVec 32 := Scf.iv c0_i32_270 c1_i32_272 k0_t2
  let v460 : BitVec 32 := Scalar.addi arg19 c3_i32
  let c4_i32_634 : BitVec 32 := 4#32
  let v461 : BitVec 32 := Scalar.remsi v460 c4_i32_634
  let c0_i32_735 : BitVec 32 := 0#32
  let c0_i32_736 : BitVec 32 := 0#32
  ![v461.toNat, 0, 0]
def k0_dev17 (d0 : Dev nD) : Nat :=
  let c0_i32_734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_733 : BitVec 32 := 1#32
  let v571 : BitVec 32 := Scalar.muli v7 c1_i32_733
  let v572 : BitVec 32 := Scalar.addi c0_i32_734 v571
  v572.toNat
def k0_cond12 (k0_t2 : Fin k0_t2_loop.trips) : BitVec 1 :=
  let c0_i32_270 : BitVec 32 := 0#32
  let c1_i32_272 : BitVec 32 := 1#32
  let arg19 : BitVec 32 := Scf.iv c0_i32_270 c1_i32_272 k0_t2
  let c1_i32_663 : BitVec 32 := 1#32
  let v485 : BitVec 1 := Scalar.cmpi .sge arg19 c1_i32_663
  let v486 : BitVec 32 := Scalar.extui v485
  let c0_i32_664 : BitVec 32 := 0#32
  let v487 : BitVec 1 := Scalar.cmpi .ne v486 c0_i32_664
  v487

def k0_off40 (k0_t2 : Fin k0_t2_loop.trips) : Fin 2 → Nat :=
  let c0_i32_270 : BitVec 32 := 0#32
  let c1_i32_272 : BitVec 32 := 1#32
  let arg19 : BitVec 32 := Scf.iv c0_i32_270 c1_i32_272 k0_t2
  let c2_i32_635 : BitVec 32 := 2#32
  let v462 : BitVec 32 := Scalar.remsi arg19 c2_i32_635
  let c0_i32_733 : BitVec 32 := 0#32
  ![v462.toNat, 0]
def k0_off41 (k0_t2 : Fin k0_t2_loop.trips) : Fin 4 → Nat :=
  let c0_i32_270 : BitVec 32 := 0#32
  let c1_i32_272 : BitVec 32 := 1#32
  let arg19 : BitVec 32 := Scf.iv c0_i32_270 c1_i32_272 k0_t2
  let c2_i32_635 : BitVec 32 := 2#32
  let v462 : BitVec 32 := Scalar.remsi arg19 c2_i32_635
  let c0_i32_732 : BitVec 32 := 0#32
  let c0_i32_737 : BitVec 32 := 0#32
  let c0_i32_738 : BitVec 32 := 0#32
  ![v462.toNat, 0, 0, 0]
def k0_off42 (k0_t2 : Fin k0_t2_loop.trips) : Fin 4 → Nat :=
  let c0_i32_270 : BitVec 32 := 0#32
  let c1_i32_272 : BitVec 32 := 1#32
  let arg19 : BitVec 32 := Scf.iv c0_i32_270 c1_i32_272 k0_t2
  let c2_i32_635 : BitVec 32 := 2#32
  let v462 : BitVec 32 := Scalar.remsi arg19 c2_i32_635
  let v488 : Index := Scalar.indexCast v462
  let c0_665 : Index := 0#32
  let c0_666 : Index := 0#32
  let c0_667 : Index := 0#32
  ![v488.toNat, 0, 0, 0]
def k0_off43 (k0_t2 : Fin k0_t2_loop.trips) : Fin 2 → Nat :=
  let c0_i32_270 : BitVec 32 := 0#32
  let c1_i32_272 : BitVec 32 := 1#32
  let arg19 : BitVec 32 := Scf.iv c0_i32_270 c1_i32_272 k0_t2
  let c2_i32_635 : BitVec 32 := 2#32
  let v462 : BitVec 32 := Scalar.remsi arg19 c2_i32_635
  let c0_i32_681 : BitVec 32 := 0#32
  ![v462.toNat, 0]
def k0_dev18 (d0 : Dev nD) : Nat :=
  let c0_i32_683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_682 : BitVec 32 := 1#32
  let v504 : BitVec 32 := Scalar.muli v7 c1_i32_682
  let v505 : BitVec 32 := Scalar.addi c0_i32_683 v504
  v505.toNat
def k0_cond13 (k0_t2 : Fin k0_t2_loop.trips) : BitVec 1 :=
  let c0_i32_270 : BitVec 32 := 0#32
  let c1_i32_272 : BitVec 32 := 1#32
  let arg19 : BitVec 32 := Scf.iv c0_i32_270 c1_i32_272 k0_t2
  let c1_i32_688 : BitVec 32 := 1#32
  let v514 : BitVec 1 := Scalar.cmpi .sge arg19 c1_i32_688
  let v515 : BitVec 32 := Scalar.extui v514
  let c0_i32_689 : BitVec 32 := 0#32
  let v516 : BitVec 1 := Scalar.cmpi .ne v515 c0_i32_689
  v516

def k0_off44 (k0_t2 : Fin k0_t2_loop.trips) : Fin 2 → Nat :=
  let c0_i32_270 : BitVec 32 := 0#32
  let c1_i32_272 : BitVec 32 := 1#32
  let arg19 : BitVec 32 := Scf.iv c0_i32_270 c1_i32_272 k0_t2
  let c2_i32_635 : BitVec 32 := 2#32
  let v462 : BitVec 32 := Scalar.remsi arg19 c2_i32_635
  let c1_i32_733 : BitVec 32 := 1#32
  ![v462.toNat, 1]
def k0_off45 (k0_t2 : Fin k0_t2_loop.trips) : Fin 4 → Nat :=
  let c0_i32_270 : BitVec 32 := 0#32
  let c1_i32_272 : BitVec 32 := 1#32
  let arg19 : BitVec 32 := Scf.iv c0_i32_270 c1_i32_272 k0_t2
  let c2_i32_635 : BitVec 32 := 2#32
  let v462 : BitVec 32 := Scalar.remsi arg19 c2_i32_635
  let c1_i32_732 : BitVec 32 := 1#32
  let c0_i32_737 : BitVec 32 := 0#32
  let c0_i32_738 : BitVec 32 := 0#32
  ![v462.toNat, 1, 0, 0]
def k0_off46 (k0_t2 : Fin k0_t2_loop.trips) : Fin 4 → Nat :=
  let c0_i32_270 : BitVec 32 := 0#32
  let c1_i32_272 : BitVec 32 := 1#32
  let arg19 : BitVec 32 := Scf.iv c0_i32_270 c1_i32_272 k0_t2
  let c2_i32_635 : BitVec 32 := 2#32
  let v462 : BitVec 32 := Scalar.remsi arg19 c2_i32_635
  let v517 : Index := Scalar.indexCast v462
  let c1_690 : Index := 1#32
  let c0_691 : Index := 0#32
  let c0_692 : Index := 0#32
  ![v517.toNat, 1, 0, 0]
def k0_off47 (k0_t2 : Fin k0_t2_loop.trips) : Fin 2 → Nat :=
  let c0_i32_270 : BitVec 32 := 0#32
  let c1_i32_272 : BitVec 32 := 1#32
  let arg19 : BitVec 32 := Scf.iv c0_i32_270 c1_i32_272 k0_t2
  let c2_i32_635 : BitVec 32 := 2#32
  let v462 : BitVec 32 := Scalar.remsi arg19 c2_i32_635
  let c1_i32_706 : BitVec 32 := 1#32
  ![v462.toNat, 1]
def k0_dev19 (d0 : Dev nD) : Nat :=
  let c0_i32_708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_707 : BitVec 32 := 1#32
  let v533 : BitVec 32 := Scalar.muli v7 c1_i32_707
  let v534 : BitVec 32 := Scalar.addi c0_i32_708 v533
  v534.toNat
def k0_off48 (k0_t2 : Fin k0_t2_loop.trips) : Fin 3 → Nat :=
  let c0_i32_270 : BitVec 32 := 0#32
  let c1_i32_272 : BitVec 32 := 1#32
  let arg19 : BitVec 32 := Scf.iv c0_i32_270 c1_i32_272 k0_t2
  let c1_i32_631 : BitVec 32 := 1#32
  let v456 : BitVec 32 := Scalar.addi arg19 c1_i32_631
  let c4_i32 : BitVec 32 := 4#32
  let v457 : BitVec 32 := Scalar.remsi v456 c4_i32
  let v543 : Index := Scalar.indexCast v457
  let c0_713 : Index := 0#32
  let c0_714 : Index := 0#32
  ![v543.toNat, 0, 0]
def k0_off49 (k0_t2 : Fin k0_t2_loop.trips) : Fin 4 → Nat :=
  let c0_i32_270 : BitVec 32 := 0#32
  let c1_i32_272 : BitVec 32 := 1#32
  let arg19 : BitVec 32 := Scf.iv c0_i32_270 c1_i32_272 k0_t2
  let c1_i32_636 : BitVec 32 := 1#32
  let v463 : BitVec 32 := Scalar.addi arg19 c1_i32_636
  let c2_i32_637 : BitVec 32 := 2#32
  let v464 : BitVec 32 := Scalar.remsi v463 c2_i32_637
  let v556 : Index := Scalar.indexCast v464
  let c0_722 : Index := 0#32
  let c0_723 : Index := 0#32
  let c0_724 : Index := 0#32
  ![v556.toNat, 0, 0, 0]
def k0_off50 (k0_t2 : Fin k0_t2_loop.trips) : Fin 4 → Nat :=
  let c0_i32_270 : BitVec 32 := 0#32
  let c1_i32_272 : BitVec 32 := 1#32
  let arg19 : BitVec 32 := Scf.iv c0_i32_270 c1_i32_272 k0_t2
  let c1_i32_636 : BitVec 32 := 1#32
  let v463 : BitVec 32 := Scalar.addi arg19 c1_i32_636
  let c2_i32_637 : BitVec 32 := 2#32
  let v464 : BitVec 32 := Scalar.remsi v463 c2_i32_637
  let v561 : Index := Scalar.indexCast v464
  let c1_725 : Index := 1#32
  let c0_726 : Index := 0#32
  let c0_727 : Index := 0#32
  ![v561.toNat, 1, 0, 0]
def k0_cond14 (k0_t2 : Fin k0_t2_loop.trips) : BitVec 1 :=
  let c0_i32_270 : BitVec 32 := 0#32
  let c1_i32_272 : BitVec 32 := 1#32
  let arg19 : BitVec 32 := Scf.iv c0_i32_270 c1_i32_272 k0_t2
  let c29_i32_728 : BitVec 32 := 29#32
  let v565 : BitVec 1 := Scalar.cmpi .sle arg19 c29_i32_728
  let v566 : BitVec 32 := Scalar.extui v565
  let c0_i32_729 : BitVec 32 := 0#32
  let v567 : BitVec 1 := Scalar.cmpi .ne v566 c0_i32_729
  v567

def k0_off51 (k0_t2 : Fin k0_t2_loop.trips) : Fin 1 → Nat :=
  let c0_i32_270 : BitVec 32 := 0#32
  let c1_i32_272 : BitVec 32 := 1#32
  let arg19 : BitVec 32 := Scf.iv c0_i32_270 c1_i32_272 k0_t2
  let c1_i32_631 : BitVec 32 := 1#32
  let v456 : BitVec 32 := Scalar.addi arg19 c1_i32_631
  let c4_i32 : BitVec 32 := 4#32
  let v457 : BitVec 32 := Scalar.remsi v456 c4_i32
  ![v457.toNat]
def k0_off52 (k0_t2 : Fin k0_t2_loop.trips) (c1_i32_631 : BitVec 32) : Fin 3 → Nat :=
  let c0_i32_270 : BitVec 32 := 0#32
  let c1_i32_272 : BitVec 32 := 1#32
  let arg19 : BitVec 32 := Scf.iv c0_i32_270 c1_i32_272 k0_t2
  let v456 : BitVec 32 := Scalar.addi arg19 c1_i32_631
  let c4_i32 : BitVec 32 := 4#32
  let v457 : BitVec 32 := Scalar.remsi v456 c4_i32
  let c0_i32_732 : BitVec 32 := 0#32
  let c0_i32_733 : BitVec 32 := 0#32
  ![v457.toNat, 0, 0]
def k0_cond15 (k0_t2 : Fin k0_t2_loop.trips) : BitVec 1 :=
  let c0_i32_270 : BitVec 32 := 0#32
  let c1_i32_272 : BitVec 32 := 1#32
  let arg19 : BitVec 32 := Scf.iv c0_i32_270 c1_i32_272 k0_t2
  let c27_i32 : BitVec 32 := 27#32
  let v568 : BitVec 1 := Scalar.cmpi .ne arg19 c27_i32
  let v569 : BitVec 32 := Scalar.extui v568
  let c0_i32_730 : BitVec 32 := 0#32
  let v570 : BitVec 1 := Scalar.cmpi .ne v569 c0_i32_730
  v570

def k0_dev20 (d0 : Dev nD) : Nat :=
  let c0_i32_733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_732 : BitVec 32 := 1#32
  let v571 : BitVec 32 := Scalar.muli v5 c1_i32_732
  let v572 : BitVec 32 := Scalar.addi c0_i32_733 v571
  v572.toNat
def k0_dev21 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_332 : BitVec 32 := 1#32
  let v244 : BitVec 32 := Scalar.muli v7 c1_i32_332
  let v245 : BitVec 32 := Scalar.addi c0_i32_333 v244
  v245.toNat
def k0_dev22 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_370 : BitVec 32 := 1#32
  let v270 : BitVec 32 := Scalar.muli v7 c1_i32_370
  let v271 : BitVec 32 := Scalar.addi c0_i32_371 v270
  v271.toNat
def k0_dev23 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_430 : BitVec 32 := 1#32
  let v321 : BitVec 32 := Scalar.muli v7 c1_i32_430
  let v322 : BitVec 32 := Scalar.addi c0_i32_431 v321
  v322.toNat
def k0_dev24 (d0 : Dev nD) : Nat :=
  let c0_i32_447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_446 : BitVec 32 := 1#32
  let v337 : BitVec 32 := Scalar.muli v5 c1_i32_446
  let v338 : BitVec 32 := Scalar.addi c0_i32_447 v337
  v338.toNat
def k0_dev25 (d0 : Dev nD) : Nat :=
  let c0_i32_465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_464 : BitVec 32 := 1#32
  let v347 : BitVec 32 := Scalar.muli v7 c1_i32_464
  let v348 : BitVec 32 := Scalar.addi c0_i32_465 v347
  v348.toNat
@[reducible] def k0_t3_loop : Scf.Loop 32 :=
  let c0_i32_470 : BitVec 32 := 0#32
  let c31_i32_471 : BitVec 32 := 31#32
  let v357 : BitVec 32 := Scalar.addi c0_i32_470 c31_i32_471
  let c1_i32_472 : BitVec 32 := 1#32
  ⟨c0_i32_470, v357, c1_i32_472⟩
def k0_off53 (k0_t3 : Fin k0_t3_loop.trips) : Fin 2 → Nat :=
  let c0_i32_470 : BitVec 32 := 0#32
  let c1_i32_472 : BitVec 32 := 1#32
  let arg19 : BitVec 32 := Scf.iv c0_i32_470 c1_i32_472 k0_t3
  let c1_i32_636 : BitVec 32 := 1#32
  let v463 : BitVec 32 := Scalar.addi arg19 c1_i32_636
  let c2_i32_637 : BitVec 32 := 2#32
  let v464 : BitVec 32 := Scalar.remsi v463 c2_i32_637
  let c0_i32_640 : BitVec 32 := 0#32
  ![v464.toNat, 0]
def k0_off54 (k0_t3 : Fin k0_t3_loop.trips) : Fin 4 → Nat :=
  let c0_i32_470 : BitVec 32 := 0#32
  let c1_i32_472 : BitVec 32 := 1#32
  let arg19 : BitVec 32 := Scf.iv c0_i32_470 c1_i32_472 k0_t3
  let c1_i32_636 : BitVec 32 := 1#32
  let v463 : BitVec 32 := Scalar.addi arg19 c1_i32_636
  let c2_i32_637 : BitVec 32 := 2#32
  let v464 : BitVec 32 := Scalar.remsi v463 c2_i32_637
  let c0_i32_639 : BitVec 32 := 0#32
  let c0_i32_643 : BitVec 32 := 0#32
  let c0_i32_644 : BitVec 32 := 0#32
  ![v464.toNat, 0, 0, 0]
def k0_off55 (k0_t3 : Fin k0_t3_loop.trips) : Fin 4 → Nat :=
  let c0_i32_470 : BitVec 32 := 0#32
  let c1_i32_472 : BitVec 32 := 1#32
  let arg19 : BitVec 32 := Scf.iv c0_i32_470 c1_i32_472 k0_t3
  let c2_i32_635 : BitVec 32 := 2#32
  let v462 : BitVec 32 := Scalar.remsi arg19 c2_i32_635
  let c0_i32_638 : BitVec 32 := 0#32
  let c0_i32_645 : BitVec 32 := 0#32
  let c0_i32_646 : BitVec 32 := 0#32
  ![v462.toNat, 0, 0, 0]
def k0_off56 (k0_t3 : Fin k0_t3_loop.trips) : Fin 2 → Nat :=
  let c0_i32_470 : BitVec 32 := 0#32
  let c1_i32_472 : BitVec 32 := 1#32
  let arg19 : BitVec 32 := Scf.iv c0_i32_470 c1_i32_472 k0_t3
  let c1_i32_636 : BitVec 32 := 1#32
  let v463 : BitVec 32 := Scalar.addi arg19 c1_i32_636
  let c2_i32_637 : BitVec 32 := 2#32
  let v464 : BitVec 32 := Scalar.remsi v463 c2_i32_637
  let c1_i32_649 : BitVec 32 := 1#32
  ![v464.toNat, 1]
def k0_off57 (k0_t3 : Fin k0_t3_loop.trips) : Fin 4 → Nat :=
  let c0_i32_470 : BitVec 32 := 0#32
  let c1_i32_472 : BitVec 32 := 1#32
  let arg19 : BitVec 32 := Scf.iv c0_i32_470 c1_i32_472 k0_t3
  let c1_i32_636 : BitVec 32 := 1#32
  let v463 : BitVec 32 := Scalar.addi arg19 c1_i32_636
  let c2_i32_637 : BitVec 32 := 2#32
  let v464 : BitVec 32 := Scalar.remsi v463 c2_i32_637
  let c1_i32_648 : BitVec 32 := 1#32
  let c0_i32_652 : BitVec 32 := 0#32
  let c0_i32_653 : BitVec 32 := 0#32
  ![v464.toNat, 1, 0, 0]
def k0_off58 (k0_t3 : Fin k0_t3_loop.trips) : Fin 4 → Nat :=
  let c0_i32_470 : BitVec 32 := 0#32
  let c1_i32_472 : BitVec 32 := 1#32
  let arg19 : BitVec 32 := Scf.iv c0_i32_470 c1_i32_472 k0_t3
  let c2_i32_635 : BitVec 32 := 2#32
  let v462 : BitVec 32 := Scalar.remsi arg19 c2_i32_635
  let c1_i32_647 : BitVec 32 := 1#32
  let c0_i32_654 : BitVec 32 := 0#32
  let c0_i32_655 : BitVec 32 := 0#32
  ![v462.toNat, 1, 0, 0]
def k0_dev26 (d0 : Dev nD) : Nat :=
  let c0_i32_658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_657 : BitVec 32 := 1#32
  let v477 : BitVec 32 := Scalar.muli v5 c1_i32_657
  let v478 : BitVec 32 := Scalar.addi c0_i32_658 v477
  v478.toNat
def k0_cond16 (k0_t3 : Fin k0_t3_loop.trips) : BitVec 1 :=
  let c0_i32_470 : BitVec 32 := 0#32
  let c1_i32_472 : BitVec 32 := 1#32
  let arg19 : BitVec 32 := Scf.iv c0_i32_470 c1_i32_472 k0_t3
  let c29_i32 : BitVec 32 := 29#32
  let v479 : BitVec 1 := Scalar.cmpi .sle arg19 c29_i32
  let v480 : BitVec 32 := Scalar.extui v479
  let c0_i32_659 : BitVec 32 := 0#32
  let v481 : BitVec 1 := Scalar.cmpi .ne v480 c0_i32_659
  v481

def k0_off59 (k0_t3 : Fin k0_t3_loop.trips) : Fin 1 → Nat :=
  let c0_i32_470 : BitVec 32 := 0#32
  let c1_i32_472 : BitVec 32 := 1#32
  let arg19 : BitVec 32 := Scf.iv c0_i32_470 c1_i32_472 k0_t3
  let c2_i32_632 : BitVec 32 := 2#32
  let v458 : BitVec 32 := Scalar.addi arg19 c2_i32_632
  let c4_i32_633 : BitVec 32 := 4#32
  let v459 : BitVec 32 := Scalar.remsi v458 c4_i32_633
  ![v459.toNat]
def k0_off60 (k0_t3 : Fin k0_t3_loop.trips) : Fin 3 → Nat :=
  let c0_i32_470 : BitVec 32 := 0#32
  let c1_i32_472 : BitVec 32 := 1#32
  let arg19 : BitVec 32 := Scf.iv c0_i32_470 c1_i32_472 k0_t3
  let c2_i32_632 : BitVec 32 := 2#32
  let v458 : BitVec 32 := Scalar.addi arg19 c2_i32_632
  let c4_i32_633 : BitVec 32 := 4#32
  let v459 : BitVec 32 := Scalar.remsi v458 c4_i32_633
  let c0_i32_733 : BitVec 32 := 0#32
  let c0_i32_734 : BitVec 32 := 0#32
  ![v459.toNat, 0, 0]
def k0_cond17 (k0_t3 : Fin k0_t3_loop.trips) : BitVec 1 :=
  let c0_i32_470 : BitVec 32 := 0#32
  let c1_i32_472 : BitVec 32 := 1#32
  let arg19 : BitVec 32 := Scf.iv c0_i32_470 c1_i32_472 k0_t3
  let c28_i32 : BitVec 32 := 28#32
  let v482 : BitVec 1 := Scalar.cmpi .sle arg19 c28_i32
  let v483 : BitVec 32 := Scalar.extui v482
  let c0_i32_660 : BitVec 32 := 0#32
  let v484 : BitVec 1 := Scalar.cmpi .ne v483 c0_i32_660
  v484

def k0_off61 (k0_t3 : Fin k0_t3_loop.trips) (c2_i32_632 : BitVec 32) : Fin 1 → Nat :=
  let c0_i32_470 : BitVec 32 := 0#32
  let c1_i32_472 : BitVec 32 := 1#32
  let arg19 : BitVec 32 := Scf.iv c0_i32_470 c1_i32_472 k0_t3
  let v458 : BitVec 32 := Scalar.addi arg19 c2_i32_632
  let c4_i32_633 : BitVec 32 := 4#32
  let v459 : BitVec 32 := Scalar.remsi v458 c4_i32_633
  ![v459.toNat]
def k0_off62 (k0_t3 : Fin k0_t3_loop.trips) (c3_i32 : BitVec 32) : Fin 3 → Nat :=
  let c0_i32_470 : BitVec 32 := 0#32
  let c1_i32_472 : BitVec 32 := 1#32
  let arg19 : BitVec 32 := Scf.iv c0_i32_470 c1_i32_472 k0_t3
  let v460 : BitVec 32 := Scalar.addi arg19 c3_i32
  let c4_i32_634 : BitVec 32 := 4#32
  let v461 : BitVec 32 := Scalar.remsi v460 c4_i32_634
  let c0_i32_735 : BitVec 32 := 0#32
  let c0_i32_736 : BitVec 32 := 0#32
  ![v461.toNat, 0, 0]
def k0_dev27 (d0 : Dev nD) : Nat :=
  let c0_i32_734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_733 : BitVec 32 := 1#32
  let v571 : BitVec 32 := Scalar.muli v7 c1_i32_733
  let v572 : BitVec 32 := Scalar.addi c0_i32_734 v571
  v572.toNat
def k0_cond18 (k0_t3 : Fin k0_t3_loop.trips) : BitVec 1 :=
  let c0_i32_470 : BitVec 32 := 0#32
  let c1_i32_472 : BitVec 32 := 1#32
  let arg19 : BitVec 32 := Scf.iv c0_i32_470 c1_i32_472 k0_t3
  let c1_i32_663 : BitVec 32 := 1#32
  let v485 : BitVec 1 := Scalar.cmpi .sge arg19 c1_i32_663
  let v486 : BitVec 32 := Scalar.extui v485
  let c0_i32_664 : BitVec 32 := 0#32
  let v487 : BitVec 1 := Scalar.cmpi .ne v486 c0_i32_664
  v487

def k0_off63 (k0_t3 : Fin k0_t3_loop.trips) : Fin 2 → Nat :=
  let c0_i32_470 : BitVec 32 := 0#32
  let c1_i32_472 : BitVec 32 := 1#32
  let arg19 : BitVec 32 := Scf.iv c0_i32_470 c1_i32_472 k0_t3
  let c2_i32_635 : BitVec 32 := 2#32
  let v462 : BitVec 32 := Scalar.remsi arg19 c2_i32_635
  let c0_i32_733 : BitVec 32 := 0#32
  ![v462.toNat, 0]
def k0_off64 (k0_t3 : Fin k0_t3_loop.trips) : Fin 4 → Nat :=
  let c0_i32_470 : BitVec 32 := 0#32
  let c1_i32_472 : BitVec 32 := 1#32
  let arg19 : BitVec 32 := Scf.iv c0_i32_470 c1_i32_472 k0_t3
  let c2_i32_635 : BitVec 32 := 2#32
  let v462 : BitVec 32 := Scalar.remsi arg19 c2_i32_635
  let c0_i32_732 : BitVec 32 := 0#32
  let c0_i32_737 : BitVec 32 := 0#32
  let c0_i32_738 : BitVec 32 := 0#32
  ![v462.toNat, 0, 0, 0]
def k0_off65 (k0_t3 : Fin k0_t3_loop.trips) : Fin 4 → Nat :=
  let c0_i32_470 : BitVec 32 := 0#32
  let c1_i32_472 : BitVec 32 := 1#32
  let arg19 : BitVec 32 := Scf.iv c0_i32_470 c1_i32_472 k0_t3
  let c2_i32_635 : BitVec 32 := 2#32
  let v462 : BitVec 32 := Scalar.remsi arg19 c2_i32_635
  let v488 : Index := Scalar.indexCast v462
  let c0_665 : Index := 0#32
  let c0_666 : Index := 0#32
  let c0_667 : Index := 0#32
  ![v488.toNat, 0, 0, 0]
def k0_off66 (k0_t3 : Fin k0_t3_loop.trips) : Fin 2 → Nat :=
  let c0_i32_470 : BitVec 32 := 0#32
  let c1_i32_472 : BitVec 32 := 1#32
  let arg19 : BitVec 32 := Scf.iv c0_i32_470 c1_i32_472 k0_t3
  let c2_i32_635 : BitVec 32 := 2#32
  let v462 : BitVec 32 := Scalar.remsi arg19 c2_i32_635
  let c0_i32_681 : BitVec 32 := 0#32
  ![v462.toNat, 0]
def k0_dev28 (d0 : Dev nD) : Nat :=
  let c0_i32_683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_682 : BitVec 32 := 1#32
  let v504 : BitVec 32 := Scalar.muli v7 c1_i32_682
  let v505 : BitVec 32 := Scalar.addi c0_i32_683 v504
  v505.toNat
def k0_cond19 (k0_t3 : Fin k0_t3_loop.trips) : BitVec 1 :=
  let c0_i32_470 : BitVec 32 := 0#32
  let c1_i32_472 : BitVec 32 := 1#32
  let arg19 : BitVec 32 := Scf.iv c0_i32_470 c1_i32_472 k0_t3
  let c1_i32_688 : BitVec 32 := 1#32
  let v514 : BitVec 1 := Scalar.cmpi .sge arg19 c1_i32_688
  let v515 : BitVec 32 := Scalar.extui v514
  let c0_i32_689 : BitVec 32 := 0#32
  let v516 : BitVec 1 := Scalar.cmpi .ne v515 c0_i32_689
  v516

def k0_off67 (k0_t3 : Fin k0_t3_loop.trips) : Fin 2 → Nat :=
  let c0_i32_470 : BitVec 32 := 0#32
  let c1_i32_472 : BitVec 32 := 1#32
  let arg19 : BitVec 32 := Scf.iv c0_i32_470 c1_i32_472 k0_t3
  let c2_i32_635 : BitVec 32 := 2#32
  let v462 : BitVec 32 := Scalar.remsi arg19 c2_i32_635
  let c1_i32_733 : BitVec 32 := 1#32
  ![v462.toNat, 1]
def k0_off68 (k0_t3 : Fin k0_t3_loop.trips) : Fin 4 → Nat :=
  let c0_i32_470 : BitVec 32 := 0#32
  let c1_i32_472 : BitVec 32 := 1#32
  let arg19 : BitVec 32 := Scf.iv c0_i32_470 c1_i32_472 k0_t3
  let c2_i32_635 : BitVec 32 := 2#32
  let v462 : BitVec 32 := Scalar.remsi arg19 c2_i32_635
  let c1_i32_732 : BitVec 32 := 1#32
  let c0_i32_737 : BitVec 32 := 0#32
  let c0_i32_738 : BitVec 32 := 0#32
  ![v462.toNat, 1, 0, 0]
def k0_off69 (k0_t3 : Fin k0_t3_loop.trips) : Fin 4 → Nat :=
  let c0_i32_470 : BitVec 32 := 0#32
  let c1_i32_472 : BitVec 32 := 1#32
  let arg19 : BitVec 32 := Scf.iv c0_i32_470 c1_i32_472 k0_t3
  let c2_i32_635 : BitVec 32 := 2#32
  let v462 : BitVec 32 := Scalar.remsi arg19 c2_i32_635
  let v517 : Index := Scalar.indexCast v462
  let c1_690 : Index := 1#32
  let c0_691 : Index := 0#32
  let c0_692 : Index := 0#32
  ![v517.toNat, 1, 0, 0]
def k0_off70 (k0_t3 : Fin k0_t3_loop.trips) : Fin 2 → Nat :=
  let c0_i32_470 : BitVec 32 := 0#32
  let c1_i32_472 : BitVec 32 := 1#32
  let arg19 : BitVec 32 := Scf.iv c0_i32_470 c1_i32_472 k0_t3
  let c2_i32_635 : BitVec 32 := 2#32
  let v462 : BitVec 32 := Scalar.remsi arg19 c2_i32_635
  let c1_i32_706 : BitVec 32 := 1#32
  ![v462.toNat, 1]
def k0_dev29 (d0 : Dev nD) : Nat :=
  let c0_i32_708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_707 : BitVec 32 := 1#32
  let v533 : BitVec 32 := Scalar.muli v7 c1_i32_707
  let v534 : BitVec 32 := Scalar.addi c0_i32_708 v533
  v534.toNat
def k0_off71 (k0_t3 : Fin k0_t3_loop.trips) : Fin 3 → Nat :=
  let c0_i32_470 : BitVec 32 := 0#32
  let c1_i32_472 : BitVec 32 := 1#32
  let arg19 : BitVec 32 := Scf.iv c0_i32_470 c1_i32_472 k0_t3
  let c1_i32_631 : BitVec 32 := 1#32
  let v456 : BitVec 32 := Scalar.addi arg19 c1_i32_631
  let c4_i32 : BitVec 32 := 4#32
  let v457 : BitVec 32 := Scalar.remsi v456 c4_i32
  let v543 : Index := Scalar.indexCast v457
  let c0_713 : Index := 0#32
  let c0_714 : Index := 0#32
  ![v543.toNat, 0, 0]
def k0_off72 (k0_t3 : Fin k0_t3_loop.trips) : Fin 4 → Nat :=
  let c0_i32_470 : BitVec 32 := 0#32
  let c1_i32_472 : BitVec 32 := 1#32
  let arg19 : BitVec 32 := Scf.iv c0_i32_470 c1_i32_472 k0_t3
  let c1_i32_636 : BitVec 32 := 1#32
  let v463 : BitVec 32 := Scalar.addi arg19 c1_i32_636
  let c2_i32_637 : BitVec 32 := 2#32
  let v464 : BitVec 32 := Scalar.remsi v463 c2_i32_637
  let v556 : Index := Scalar.indexCast v464
  let c0_722 : Index := 0#32
  let c0_723 : Index := 0#32
  let c0_724 : Index := 0#32
  ![v556.toNat, 0, 0, 0]
def k0_off73 (k0_t3 : Fin k0_t3_loop.trips) : Fin 4 → Nat :=
  let c0_i32_470 : BitVec 32 := 0#32
  let c1_i32_472 : BitVec 32 := 1#32
  let arg19 : BitVec 32 := Scf.iv c0_i32_470 c1_i32_472 k0_t3
  let c1_i32_636 : BitVec 32 := 1#32
  let v463 : BitVec 32 := Scalar.addi arg19 c1_i32_636
  let c2_i32_637 : BitVec 32 := 2#32
  let v464 : BitVec 32 := Scalar.remsi v463 c2_i32_637
  let v561 : Index := Scalar.indexCast v464
  let c1_725 : Index := 1#32
  let c0_726 : Index := 0#32
  let c0_727 : Index := 0#32
  ![v561.toNat, 1, 0, 0]
def k0_cond20 (k0_t3 : Fin k0_t3_loop.trips) : BitVec 1 :=
  let c0_i32_470 : BitVec 32 := 0#32
  let c1_i32_472 : BitVec 32 := 1#32
  let arg19 : BitVec 32 := Scf.iv c0_i32_470 c1_i32_472 k0_t3
  let c29_i32_728 : BitVec 32 := 29#32
  let v565 : BitVec 1 := Scalar.cmpi .sle arg19 c29_i32_728
  let v566 : BitVec 32 := Scalar.extui v565
  let c0_i32_729 : BitVec 32 := 0#32
  let v567 : BitVec 1 := Scalar.cmpi .ne v566 c0_i32_729
  v567

def k0_off74 (k0_t3 : Fin k0_t3_loop.trips) : Fin 1 → Nat :=
  let c0_i32_470 : BitVec 32 := 0#32
  let c1_i32_472 : BitVec 32 := 1#32
  let arg19 : BitVec 32 := Scf.iv c0_i32_470 c1_i32_472 k0_t3
  let c1_i32_631 : BitVec 32 := 1#32
  let v456 : BitVec 32 := Scalar.addi arg19 c1_i32_631
  let c4_i32 : BitVec 32 := 4#32
  let v457 : BitVec 32 := Scalar.remsi v456 c4_i32
  ![v457.toNat]
def k0_off75 (k0_t3 : Fin k0_t3_loop.trips) (c1_i32_631 : BitVec 32) : Fin 3 → Nat :=
  let c0_i32_470 : BitVec 32 := 0#32
  let c1_i32_472 : BitVec 32 := 1#32
  let arg19 : BitVec 32 := Scf.iv c0_i32_470 c1_i32_472 k0_t3
  let v456 : BitVec 32 := Scalar.addi arg19 c1_i32_631
  let c4_i32 : BitVec 32 := 4#32
  let v457 : BitVec 32 := Scalar.remsi v456 c4_i32
  let c0_i32_732 : BitVec 32 := 0#32
  let c0_i32_733 : BitVec 32 := 0#32
  ![v457.toNat, 0, 0]
def k0_cond21 (k0_t3 : Fin k0_t3_loop.trips) : BitVec 1 :=
  let c0_i32_470 : BitVec 32 := 0#32
  let c1_i32_472 : BitVec 32 := 1#32
  let arg19 : BitVec 32 := Scf.iv c0_i32_470 c1_i32_472 k0_t3
  let c26_i32 : BitVec 32 := 26#32
  let v568 : BitVec 1 := Scalar.cmpi .sle arg19 c26_i32
  let v569 : BitVec 32 := Scalar.extui v568
  let c0_i32_730 : BitVec 32 := 0#32
  let v570 : BitVec 1 := Scalar.cmpi .ne v569 c0_i32_730
  v570

def k0_dev30 (d0 : Dev nD) : Nat :=
  let c0_i32_733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_732 : BitVec 32 := 1#32
  let v571 : BitVec 32 := Scalar.muli v5 c1_i32_732
  let v572 : BitVec 32 := Scalar.addi c0_i32_733 v571
  v572.toNat
def k0_dev31 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_532 : BitVec 32 := 1#32
  let v386 : BitVec 32 := Scalar.muli v7 c1_i32_532
  let v387 : BitVec 32 := Scalar.addi c0_i32_533 v386
  v387.toNat
def k0_dev32 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_570 : BitVec 32 := 1#32
  let v412 : BitVec 32 := Scalar.muli v7 c1_i32_570
  let v413 : BitVec 32 := Scalar.addi c0_i32_571 v412
  v413.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2048x1024 : Shape := ⟨2, ![2048, 1024]⟩
abbrev S1024x65536 : Shape := ⟨2, ![1024, 65536]⟩
abbrev S65536x1024 : Shape := ⟨2, ![65536, 1024]⟩
abbrev S2048x65536 : Shape := ⟨2, ![2048, 65536]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x65536, .f32⟩
  | .hbm, ⟨2, _⟩ => ⟨S65536x1024, .f32⟩
  | .hbm, ⟨3, _⟩ => ⟨S1024x65536, .f32⟩
  | .hbm, ⟨4, _⟩ => ⟨S65536x1024, .f32⟩
  | .hbm, ⟨5, _⟩ => ⟨S1024x65536, .f32⟩
  | .hbm, ⟨6, _⟩ => ⟨S65536x1024, .f32⟩
  | .hbm, ⟨7, _⟩ => ⟨S2048x65536, .f32⟩
  | .hbm, ⟨8, _⟩ => ⟨S_, .f32⟩
  | .hbm, ⟨9, _⟩ => ⟨S2048x65536, .f32⟩
  | .hbm, ⟨10, _⟩ => ⟨S2048x65536, .f32⟩
  | .hbm, ⟨11, _⟩ => ⟨S2048x1024, .f32⟩
  | .hbm, ⟨12, _⟩ => ⟨S2048x65536, .f32⟩
  | .hbm, ⟨13, _⟩ => ⟨S_, .f32⟩
  | .hbm, ⟨14, _⟩ => ⟨S2048x65536, .f32⟩
  | .hbm, ⟨15, _⟩ => ⟨S2048x65536, .f32⟩
  | .hbm, ⟨16, _⟩ => ⟨S2048x1024, .f32⟩
  | .hbm, ⟨17, _⟩ => ⟨S2048x65536, .f32⟩
  | .hbm, ⟨18, _⟩ => ⟨S_, .f32⟩
  | .hbm, ⟨19, _⟩ => ⟨S2048x65536, .f32⟩
  | .hbm, ⟨20, _⟩ => ⟨S2048x65536, .f32⟩
  | .hbm, ⟨21, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Base.lean ====
/-
  What every module of the certificate shares: the resource algebra (the pipeline's rounds, the ring's rounds, and the
  release library's slots), the ring's arithmetic, the numbering of the messages, and the kernel's buffers and semaphores
  by slot.
-/
module

public import proofs.«01_k».proof.Defs
public import Idealize.ShloMosaic.Lib.Pipeline.Launch
public import Idealize.ShloMosaic.Lib.Tactic
public import Idealize.ShloMosaic.Lib.Release
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The resource algebra -/

/-- A landing, named by the device that owns the place, the kind (0: an x block, 1 and 2: the two halves of a partial sum)
    and the message's number. -/
abbrev Key : Type := Dev nD × Fin 3 × ℕ

/-- The proof's component: the pipeline's rounds, the ring's rounds and the slots. -/
abbrev UU : Type := URounds (GSem nD τ sig) Unit × (URounds (GSem nD τ sig) ℕ × USlots Key)

local notation "𝕄" => MT nD τ sig ℕ (Elt F) ℕ UU ℕ

/-- The pipeline's copy inside the machine's algebra, -/
def EP : Emb (URounds (GSem nD τ sig) Unit) (MT nD τ sig ℕ (Elt F) ℕ UU ℕ) :=
  (Emb.inl : Emb (URounds (GSem nD τ sig) Unit) UU).trans (uEmb (nD := nD) (sig := sig) (Ix := ℕ) (Val := Elt F) (Name := ℕ) (U := UU) (Lvl := ℕ)).toEmb
/-- the ring's, -/
def ER : Emb (URounds (GSem nD τ sig) ℕ) (MT nD τ sig ℕ (Elt F) ℕ UU ℕ) :=
  ((Emb.inl : Emb (URounds (GSem nD τ sig) ℕ) (URounds (GSem nD τ sig) ℕ × USlots Key)).trans (Emb.inr : Emb _ UU)).trans
    (uEmb (nD := nD) (sig := sig) (Ix := ℕ) (Val := Elt F) (Name := ℕ) (U := UU) (Lvl := ℕ)).toEmb
/-- and the slots'. -/
def ES : Emb (USlots Key) (MT nD τ sig ℕ (Elt F) ℕ UU ℕ) :=
  ((Emb.inr : Emb (USlots Key) (URounds (GSem nD τ sig) ℕ × USlots Key)).trans (Emb.inr : Emb _ UU)).trans
    (uEmb (nD := nD) (sig := sig) (Ix := ℕ) (Val := Elt F) (Name := ℕ) (U := UU) (Lvl := ℕ)).toEmb

instance EP_landsIn : (EP : Emb _ 𝕄).LandsIn (upEmb : UEmb _ 𝕄) := by unfold EP; infer_instance
instance ER_landsIn : (ER : Emb _ 𝕄).LandsIn (upEmb : UEmb _ 𝕄) := by unfold ER; infer_instance
instance ES_landsIn : (ES : Emb _ 𝕄).LandsIn (upEmb : UEmb _ 𝕄) := by unfold ES; infer_instance

/-! ## The ring of devices -/

/-- The device `k` places to the right of `c`. -/
def rgt (c : Dev nD) (k : ℕ) : Dev nD := ⟨(c.val + k) % 32, Nat.mod_lt _ (by decide)⟩
/-- The device `k` places to the left of `c` (for `k` up to 32). -/
def lft (c : Dev nD) (k : ℕ) : Dev nD := ⟨(c.val + 32 - k % 32) % 32, Nat.mod_lt _ (by decide)⟩
/-- The right neighbour, to which a device sends, -/
abbrev nxt (c : Dev nD) : Dev nD := rgt c 1
/-- and the left, to which it grants. -/
abbrev prv (c : Dev nD) : Dev nD := lft c 1

theorem dev_lt (c : Dev nD) : c.val < 32 := c.isLt
theorem prv_nxt (c : Dev nD) : prv (nxt c) = c := by
  apply Fin.ext; have := dev_lt c; simp only [rgt, lft]; omega
theorem nxt_prv (c : Dev nD) : nxt (prv c) = c := by
  apply Fin.ext; have := dev_lt c; simp only [rgt, lft]; omega
theorem nxt_ne (c : Dev nD) : nxt c ≠ c := fun h => by
  have := congrArg Fin.val h; have := dev_lt c; simp only [rgt] at *; omega
theorem lft_nxt (c : Dev nD) (k : ℕ) : lft (nxt c) (k + 1) = lft c k := by
  apply Fin.ext; have := dev_lt c; simp only [rgt, lft]; omega
theorem rgt_lft (c : Dev nD) (k : ℕ) : rgt (lft c k) k = c := by
  apply Fin.ext; have := dev_lt c; simp only [rgt, lft]; omega
theorem lft_zero (c : Dev nD) : lft c 0 = c := by
  apply Fin.ext; have := dev_lt c; simp only [lft]; omega
theorem lft_31 (c : Dev nD) : lft c 31 = nxt c := by
  apply Fin.ext; have := dev_lt c; simp only [lft, rgt]; omega

/-! ## Slots -/

/-- One of the four places for an x block, -/
def f4 (n : ℕ) : Fin 4 := ⟨n % 4, Nat.mod_lt _ (by decide)⟩
/-- one of the two for a partial sum. -/
def f2 (n : ℕ) : Fin 2 := ⟨n % 2, Nat.mod_lt _ (by decide)⟩
theorem f4_eq {a b : ℕ} (h : a % 4 = b % 4) : f4 a = f4 b := Fin.ext h
theorem f2_eq {a b : ℕ} (h : a % 2 = b % 2) : f2 a = f2 b := Fin.ext h
theorem f4_val (i : Fin 4) : f4 i.val = i := Fin.ext (Nat.mod_eq_of_lt i.isLt)
theorem f2_val (i : Fin 2) : f2 i.val = i := Fin.ext (Nat.mod_eq_of_lt i.isLt)

theorem inbX (i : Fin 4) : ∀ a : Fin 3, (![i.val, 0, 0] : Fin 3 → ℕ) a + S1x64x1024.size a ≤ S4x64x1024.size a := by
  revert i; decide
theorem inbA (p h : Fin 2) : ∀ a : Fin 4, (![p.val, h.val, 0, 0] : Fin 4 → ℕ) a + S1x1x64x512.size a ≤ S2x2x64x512.size a := by
  revert p h; decide
theorem inbH (h : Fin 2) : ∀ a : Fin 3, (![h.val, 0, 0] : Fin 3 → ℕ) a + S1x64x512.size a ≤ S2x64x512.size a := by
  revert h; decide

/-- Block `i` of a four-block buffer, -/
abbrev rX (i : Fin 4) : Rect S4x64x1024 := Rect.unit (s := S4x64x1024) ![i.val, 0, 0] S1x64x1024.size (inbX i)
/-- half `h` of place `p` of a two-place buffer, -/
abbrev rA (p h : Fin 2) : Rect S2x2x64x512 := Rect.unit (s := S2x2x64x512) ![p.val, h.val, 0, 0] S1x1x64x512.size (inbA p h)
/-- half `h` of the home buffer. -/
abbrev rH (h : Fin 2) : Rect S2x64x512 := Rect.unit (s := S2x64x512) ![h.val, 0, 0] S1x64x512.size (inbH h)

abbrev xB : Memref sig .tc .vmem S4x64x1024 .bf16 := Memref.whole cc0_scratch0
abbrev aB : Memref sig .tc .vmem S2x2x64x512 .f32 := Memref.whole cc0_scratch1
abbrev cB : Memref sig .tc .vmem S2x2x64x512 .f32 := Memref.whole cc0_scratch2
abbrev hB : Memref sig .tc .vmem S2x64x512 .f32 := Memref.whole cc0_scratch3

/-! ## Semaphores -/

/-- The send and receive counters of the x blocks, of the partial sums, and the home counters, -/
abbrev xsS (i : Fin 4) : SemLoc sig := .dma (⟨8 + i.val, by omega⟩ : Fin 26)
abbrev xrS (i : Fin 4) : SemLoc sig := .dma (⟨12 + i.val, by omega⟩ : Fin 26)
abbrev asS (p h : Fin 2) : SemLoc sig := .dma (⟨16 + 2 * p.val + h.val, by omega⟩ : Fin 26)
abbrev arS (p h : Fin 2) : SemLoc sig := .dma (⟨20 + 2 * p.val + h.val, by omega⟩ : Fin 26)
abbrev hmS (h : Fin 2) : SemLoc sig := .dma (⟨24 + h.val, by omega⟩ : Fin 26)
/-- the two credit counters and the barrier. -/
abbrev xcS : SemLoc sig := .reg (0 : Fin 3)
abbrev acS : SemLoc sig := .reg (1 : Fin 3)
abbrev brS : SemLoc sig := .reg (2 : Fin 3)

/-- A semaphore's role. -/
inductive Role
  | xs (i : Fin 4) | xr (i : Fin 4) | as (p h : Fin 2) | ar (p h : Fin 2) | hm (h : Fin 2) | xc | ac | br | no
  deriving DecidableEq

def role : SemLoc sig → Role
  | .dma (⟨8, _⟩ : Fin 26) => .xs 0 | .dma (⟨9, _⟩ : Fin 26) => .xs 1 | .dma (⟨10, _⟩ : Fin 26) => .xs 2 | .dma (⟨11, _⟩ : Fin 26) => .xs 3
  | .dma (⟨12, _⟩ : Fin 26) => .xr 0 | .dma (⟨13, _⟩ : Fin 26) => .xr 1 | .dma (⟨14, _⟩ : Fin 26) => .xr 2 | .dma (⟨15, _⟩ : Fin 26) => .xr 3
  | .dma (⟨16, _⟩ : Fin 26) => .as 0 0 | .dma (⟨17, _⟩ : Fin 26) => .as 0 1 | .dma (⟨18, _⟩ : Fin 26) => .as 1 0 | .dma (⟨19, _⟩ : Fin 26) => .as 1 1
  | .dma (⟨20, _⟩ : Fin 26) => .ar 0 0 | .dma (⟨21, _⟩ : Fin 26) => .ar 0 1 | .dma (⟨22, _⟩ : Fin 26) => .ar 1 0 | .dma (⟨23, _⟩ : Fin 26) => .ar 1 1
  | .dma (⟨24, _⟩ : Fin 26) => .hm 0 | .dma (⟨25, _⟩ : Fin 26) => .hm 1
  | .reg (⟨0, _⟩ : Fin 3) => .xc | .reg (⟨1, _⟩ : Fin 3) => .ac | .reg (⟨2, _⟩ : Fin 3) => .br
  | _ => .no

theorem role_xs (i : Fin 4) : role (xsS i) = .xs i := by revert i; decide
theorem role_xr (i : Fin 4) : role (xrS i) = .xr i := by revert i; decide
theorem role_as (p h : Fin 2) : role (asS p h) = .as p h := by revert p h; decide
theorem role_ar (p h : Fin 2) : role (arS p h) = .ar p h := by revert p h; decide
theorem role_hm (h : Fin 2) : role (hmS h) = .hm h := by revert h; decide
theorem role_xc : role xcS = .xc := rfl
theorem role_ac : role acS = .ac := rfl
theorem role_br : role brS = .br := rfl

theorem sem_xs {off : Fin 1 → ℕ} (i : Fin 4) (h : off = ![i.val]) (inb) (hq) :
    (SemLoc.dma ((cc0_scratch4 : DmaSems sig S4).slice (Rect.unit (s := S4) off S1.size inb) |>.squeeze S_ hq).sem : SemLoc sig) = xsS i := by
  subst h; revert i; decide
theorem sem_xr {off : Fin 1 → ℕ} (i : Fin 4) (h : off = ![i.val]) (inb) (hq) :
    (SemLoc.dma ((cc0_scratch5 : DmaSems sig S4).slice (Rect.unit (s := S4) off S1.size inb) |>.squeeze S_ hq).sem : SemLoc sig) = xrS i := by
  subst h; revert i; decide
theorem sem_as {off : Fin 2 → ℕ} (p h : Fin 2) (ho : off = ![p.val, h.val]) (inb) (hq) :
    (SemLoc.dma ((cc0_scratch6 : DmaSems sig S2x2).slice (Rect.unit (s := S2x2) off S1x1.size inb) |>.squeeze S_ hq).sem : SemLoc sig) = asS p h := by
  subst ho; revert p h; decide
theorem sem_ar {off : Fin 2 → ℕ} (p h : Fin 2) (ho : off = ![p.val, h.val]) (inb) (hq) :
    (SemLoc.dma ((cc0_scratch7 : DmaSems sig S2x2).slice (Rect.unit (s := S2x2) off S1x1.size inb) |>.squeeze S_ hq).sem : SemLoc sig) = arS p h := by
  subst ho; revert p h; decide
theorem sem_hm {off : Fin 1 → ℕ} (h : Fin 2) (ho : off = ![h.val]) (inb) (hq) :
    (SemLoc.dma ((cc0_scratch8 : DmaSems sig S2).slice (Rect.unit (s := S2) off S1.size inb) |>.squeeze S_ hq).sem : SemLoc sig) = hmS h := by
  subst ho; revert h; decide
theorem sem_xc : (SemLoc.reg (cc0_scratch9 : Sems sig S_).sem : SemLoc sig) = xcS := rfl
theorem sem_ac : (SemLoc.reg (cc0_scratch10 : Sems sig S_).sem : SemLoc sig) = acS := rfl

/-! ## The numbering

A layer's x messages are numbered `32 l + k` with `k ≤ 30`, its partial sums `32 l + s` with `s ≤ 30`; `32 l + 31` is no x
message, and is the home copy's place among the partial sums' sends. -/

/-- The numbers that name a message around the ring. -/
def ok (n : ℕ) : Prop := n % 32 ≠ 31
instance : DecidablePred ok := fun n => inferInstanceAs (Decidable (n % 32 ≠ 31))

/-- How many x messages before `n` have number `i` modulo 4: the round of its counter at which `n` stands. -/
def posX (i n : ℕ) : ℕ := (n + 3 - i) / 4 - (if i = 3 then n / 32 else 0)
/-- How many partial sums before `b` have parity `p`, the home copies left out, -/
def posR (p b : ℕ) : ℕ := (b + 1 - p) / 2 - (if p = 1 then b / 32 else 0)
/-- and counted. -/
def posS (p b : ℕ) : ℕ := (b + 1 - p) / 2

theorem posX_succ {n : ℕ} (h : ok n) : posX (n % 4) (n + 1) = posX (n % 4) n + 1 := by
  unfold ok at h; unfold posX; split <;> omega
theorem posX_other {i n : ℕ} (hi : i < 4) (h : ok n → i ≠ n % 4) : posX i (n + 1) = posX i n := by
  unfold ok at h; unfold posX; split <;> omega
theorem posR_succ {n : ℕ} (h : ok n) : posR (n % 2) (n + 1) = posR (n % 2) n + 1 := by
  unfold ok at h; unfold posR; split <;> omega
theorem posR_other {i n : ℕ} (hi : i < 2) (h : ok n → i ≠ n % 2) : posR i (n + 1) = posR i n := by
  unfold ok at h; unfold posR; split <;> omega
theorem posS_succ (n : ℕ) : posS (n % 2) (n + 1) = posS (n % 2) n + 1 := by unfold posS; omega
theorem posS_other {i n : ℕ} (hi : i < 2) (h : i ≠ n % 2) : posS i (n + 1) = posS i n := by unfold posS; omega
theorem posX_inj {i n n' : ℕ} (h : ok n) (h' : ok n') (hi : n % 4 = i) (hi' : n' % 4 = i) (e : posX i n = posX i n') : n = n' := by
  unfold ok at h h'; unfold posX at e; split at e <;> omega
theorem posR_inj {i n n' : ℕ} (h : ok n) (h' : ok n') (hi : n % 2 = i) (hi' : n' % 2 = i) (e : posR i n = posR i n') : n = n' := by
  unfold ok at h h'; unfold posR at e; split at e <;> omega
theorem posS_inj {i n n' : ℕ} (hi : n % 2 = i) (hi' : n' % 2 = i) (e : posS i n = posS i n') : n = n' := by
  unfold posS at e; omega

end Cert.Proof

end
-- ==== Proof.Piece.lean ====
/-
  A piece of a buffer — the elements under one rectangle — held with its contents, and what the program's operations do to
  one: a load reads it, a store rewrites it, a transfer takes a share of one and rewrites another's.
-/
module

public import proofs.«01_k».proof.Proof.Base
public import Idealize.ShloMosaic.Lib.Pipeline.Value

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

abbrev 𝒱₀ : Variants := Variants.none

variable {s : Shape} {e : EltTy}

/-- Device `c` holds the elements of `M` under `r`, whatever they are. -/
def pcAny (c : Dev nD) (M : Memref sig .tc .vmem s e) (r : Rect s) : sProp 𝕄 :=
  slot (M.view.loc (c : Thread nD τ)) (M.access r).set

/-- Device `c` holds share `q` of the elements of `M` under `r`, which read `X`. -/
def pc (c : Dev nD) (M : Memref sig .tc .vmem s e) (r : Rect s) (q : PosShare TreeShare) (X : r.shape.Idx → Elt F e) : sProp 𝕄 :=
  iprop(∃ f : Buf (Elt F) (M.view.loc (c : Thread nD τ)), ⌜M.view.readAt (Elt F) r.toLoadRect f = X⌝
    ∗ (M.view.loc (c : Thread nD τ) ↦[(M.access r).set]{q} f))

instance pcAny_storable (c : Dev nD) (M : Memref sig .tc .vmem s e) (r : Rect s) : Storable (upEmb : UEmb _ 𝕄) (pcAny (F := F) c M r) := by
  unfold pcAny; infer_instance
instance pc_storable (c : Dev nD) (M : Memref sig .tc .vmem s e) (r : Rect s) (q : PosShare TreeShare) (X : r.shape.Idx → Elt F e) :
    Storable (upEmb : UEmb _ 𝕄) (pc c M r q X) := by
  unfold pc; infer_instance

section Hold
variable (c : Dev nD) (M : Memref sig .tc .vmem s e) (r : Rect s)

omit [FloatOps F] in
/-- Contents forgotten. -/
theorem pc_any (X : r.shape.Idx → Elt F e) : pc c M r fullShare X ⊢ (pcAny c M r : sProp 𝕄) := by
  unfold pc pcAny slot
  iintro ⟨%f, -, H⟩
  iexists f; iexact H

omit [FloatOps F] in
/-- Whatever is held reads as something. -/
theorem pcAny_pc : pcAny c M r ⊢ (iprop(∃ X, pc c M r fullShare X) : sProp 𝕄) := by
  unfold pc pcAny slot
  iintro ⟨%f, H⟩
  iexists _, f
  isplitr; · ipureintro; rfl
  iexact H

omit [FloatOps F] in
/-- A piece held whole splits into two halves, -/
theorem pc_halve (X : r.shape.Idx → Elt F e) :
    pc c M r fullShare X ⊢ (iprop(pc c M r fullShare.left X ∗ pc c M r fullShare.right X) : sProp 𝕄) := by
  unfold pc
  iintro ⟨%f, %hf, H⟩
  ihave H2 := (pointsTo_share (PosShare.mem_left_op_right fullShare)).1 $$ H
  icases H2 with ⟨H1, H2⟩
  isplitl [H1]
  · iexists f; isplitr; · ipureintro; exact hf
    iexact H1
  · iexists f; isplitr; · ipureintro; exact hf
    iexact H2

omit [FloatOps F] in
/-- and two halves make it whole. -/
theorem pc_unhalve (X X' : r.shape.Idx → Elt F e) :
    iprop(pc c M r fullShare.left X ∗ pc c M r fullShare.right X') ⊢ (pc c M r fullShare X : sProp 𝕄) := by
  unfold pc
  iintro ⟨⟨%f, %hf, H1⟩, ⟨%g, -, H2⟩⟩
  ihave #Hag := pointsTo_agree $$ [H1 H2]
  · isplitl [H1] <;> iassumption
  icases Hag with %hag
  ihave H2 := (Entails.of_eq (pointsTo_congr (f := g) (g := f) fun i hi => ((hag i (Finset.mem_inter.mpr ⟨hi, hi⟩)).1).symm)) $$ H2
  iexists f
  isplitr; · ipureintro; exact hf
  iapply (pointsTo_share (PosShare.mem_left_op_right fullShare)).2
  isplitl [H1] <;> iassumption

omit [FloatOps F] in
/-- Nobody holds a nonempty piece twice. -/
theorem pcAny_false (h : 0 < r.shape.numel) : iprop(pcAny c M r ∗ pcAny c M r) ⊢ (False : sProp 𝕄) := by
  unfold pcAny
  refine slot_slot_false ?_
  obtain ⟨i⟩ : Nonempty r.shape.Idx := Fintype.card_pos_iff.mp (by rw [Shape.card_idx]; exact h)
  exact ⟨(M.access r).emb i, by rw [View.set]; simp⟩

/-- A load of a piece continues at its contents. -/
theorem wp_load_pc {q : PosShare TreeShare} {X : r.shape.Idx → Elt F e} {α : Type} {Q : α → sProp 𝕄}
    {hl : M.view.LoadsAt r.toLoadRect} {k : (r.shape.Idx → Elt F e) → Prog (TpuEff nD τ sig (Elt F) Λ₀ .tc) α} :
    pc c M r q X ⊢ iprop((pc c M r q X -∗ wp frame (wpE (defs₀ (F := F)) 𝒱₀ (c : Thread nD τ) none) Set.univ (k X) Q)
      -∗ wp frame (wpE (defs₀ (F := F)) 𝒱₀ (c : Thread nD τ) none) Set.univ (.op (.load M r.toLoadRect hl) k) Q) := by
  unfold pc
  iintro ⟨%f, %hf, H⟩ Hk
  subst hf
  iapply (wp_load_rect 𝒱₀ (c : Thread nD τ) none Set.univ (m := M) (r := r) subset_rfl) $$ H
  iintro H
  iapply Hk
  iexists f
  isplitr; · ipureintro; rfl
  iexact H

/-- A store over a piece leaves the payload there. -/
theorem wp_store_pc {w : r.shape.Idx → Elt F e} {α : Type} {Q : α → sProp 𝕄} {hx : (M.access r).Stores Finset.univ} {hm : Finset.univ = Finset.univ ∨ ∀ a, r.stride a = 1}
    {k : PUnit → Prog (TpuEff nD τ sig (Elt F) Λ₀ .tc) α} :
    pcAny c M r ⊢ iprop((pc c M r fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store M r w Finset.univ hx hm) k) Q) := by
  unfold pc pcAny slot
  iintro ⟨%f, H⟩ Hk
  iapply (wp_store 𝒱₀ (c : Thread nD τ) none Set.univ (m := M) (r := r) (Mk := Finset.univ) (by rw [View.setOn_univ])) $$ H
  iintro H
  iapply Hk
  iexists _
  isplitr
  swap
  · iexact H
  ipureintro
  rw [View.readAt_rect]; exact View.read_write_univ _ _

end Hold

omit [FloatOps F] in
/-- Elements that read `X` are a piece. -/
theorem pc_intro (c : Dev nD) (M : Memref sig .tc .vmem s e) (r : Rect s) (q : PosShare TreeShare) (X : r.shape.Idx → Elt F e)
    (f : Buf (Elt F) (M.view.loc (c : Thread nD τ))) (h : M.view.readAt (Elt F) r.toLoadRect f = X) :
    (M.view.loc (c : Thread nD τ) ↦[(M.access r).set]{q} f : sProp 𝕄) ⊢ pc c M r q X := by
  unfold pc
  iintro H
  iexists f
  isplitr; · ipureintro; exact h
  iexact H

/-- A transfer of a piece to a piece of another device's buffer: it takes the source's share, lent to the send counter's
    duty, and the target's piece, which the receive counter's duty hands on rewritten. -/
theorem wp_send_pc {s₁ s₂ s' : Shape} {e : EltTy} (Rd : Schedule (GSem nD τ sig) ℕ 𝕄) (c n : Dev nD)
    (M₁ : Memref sig .tc .vmem s₁ e) (r₁ : Rect s₁) (h₁ : ∀ a, r₁.stride a = 1) (hq₁ : r₁.shape.Squeezes s')
    (M₂ : Memref sig .tc .vmem s₂ e) (r₂ : Rect s₂) (h₂ : ∀ a, r₂.stride a = 1) (hq₂ : r₂.shape.Squeezes s')
    (X : r₁.shape.Idx → Elt F e) (Y : r₂.shape.Idx → Elt F e) (hY : Y = shapeCast r₂.shape (shapeCast s' X hq₁.numel_eq) hq₂.numel_eq.symm)
    {sS sR : SemLoc sig} {κ₁ κ₂ : ℕ} {R₁ R₂ d₁ d₂ : ℕ} (hd₁ : d₁ ∈ Rd.duties ((c : Thread nD τ), sS) R₁) (hd₂ : d₂ ∈ Rd.duties ((n : Thread nD τ), sR) R₂)
    (ι N : ℕ) (hN : ((M₂.slice r₂ h₂).squeeze s' hq₂).view.amount sR = N)
    (hk₁ : Rd.amount ((c : Thread nD τ), sS) R₁ d₁ = N) (hk₂ : Rd.amount ((n : Thread nD τ), sR) R₂ d₂ = N)
    {O₀ : CellTallies nD τ sig ℕ} (O : CellTallies nD τ sig ℕ) (hO : O₀ = O + tallyAt ((n : Thread nD τ), sR) ι N) {W : Waits sig ℕ}
    {q : PosShare TreeShare} {Fr : sProp 𝕄}
    (hpay₁ : pc c M₁ r₁ q X ⊢ Rd.payload ((c : Thread nD τ), sS) R₁ d₁)
    (hpay₂ : iprop(pc n M₂ r₂ fullShare Y ∗ Fr) ⊢ Rd.payload ((n : Thread nD τ), sR) R₂ d₂)
    {hsc : ((M₂.slice r₂ h₂).squeeze s' hq₂ : Memref sig (Dev.tc n : Thread nD τ).2.kind .vmem s' e).view.ref.isScScratch = false}
    {hsrc : ((M₁.slice r₁ h₁).squeeze s' hq₁).view.WordExact} {hdst : ((M₂.slice r₂ h₂).squeeze s' hq₂).view.WordExact}
    {hsem : DmaTarget.Typed .vmem sR (.remote (Dev.tc n : Thread nD τ) ((M₂.slice r₂ h₂).squeeze s' hq₂) sS hsc)}
    {α : Type} {Q : α → sProp 𝕄} {k : PUnit → Prog (TpuEff nD τ sig (Elt F) Λ₀ .tc) α} :
    iprop(cellInv ER Rd κ₁ ((c : Thread nD τ), sS) ∗ cellInv ER Rd κ₂ ((n : Thread nD τ), sR)
        ∗ pc c M₁ r₁ q X ∗ pcAny n M₂ r₂ ∗ Fr ∗ owes (c : Thread nD τ) O₀ W
        ∗ dutyTok ER ((c : Thread nD τ), sS) R₁ d₁ ∗ reached ER ((c : Thread nD τ), sS) R₁
        ∗ dutyTok ER ((n : Thread nD τ), sR) R₂ d₂ ∗ reached ER ((n : Thread nD τ), sR) R₂)
      ⊢ iprop(((cred (tallyAt ((c : Thread nD τ), sS) 0 N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((M₁.slice r₁ h₁).squeeze s' hq₁) (.remote (Dev.tc n : Thread nD τ) ((M₂.slice r₂ h₂).squeeze s' hq₂) sS hsc) sR hsrc hdst hsem) k) Q) := by
  have hs₁ : ((M₁.slice r₁ h₁).squeeze s' hq₁).view.set = (M₁.access r₁).set := View.set_reshape _ _
  have hs₂ : ((M₂.slice r₂ h₂).squeeze s' hq₂).view.set = (M₂.access r₂).set := View.set_reshape _ _
  iintro ⟨Hi₁, Hi₂, Hsrc, Hdst, HF, HO, Ht₁, Hr₁, Ht₂, Hr₂⟩
  unfold pcAny slot
  ihave Hsrc := (show pc c M₁ r₁ q X ⊢ (iprop(∃ f : Buf (Elt F) (M₁.view.loc (c : Thread nD τ)), ⌜M₁.view.readAt (Elt F) r₁.toLoadRect f = X⌝ ∗ (M₁.view.loc (c : Thread nD τ) ↦[(M₁.access r₁).set]{q} f)) : sProp 𝕄) from .rfl) $$ Hsrc
  icases Hsrc with ⟨%fs, %hfs, Hsrc⟩
  icases Hdst with ⟨%fd, Hdst⟩
  iapply (Rounds.wp_send_pointsTo_with 𝒱₀ ER Rd (c : Thread nD τ) none (κ₁ := κ₁) (κ₂ := κ₂) (c' := (n : Thread nD τ))
    (src := (M₁.slice r₁ h₁).squeeze s' hq₁) (dst := (M₂.slice r₂ h₂).squeeze s' hq₂) (fs := fs) (fd := fd) (q := q) (F := Fr)
    hd₁ hd₂ ι 0 N hN hk₁ hk₂ O hO (W := W) ?_ ?_) $$ [Hi₁ Hi₂ Hsrc Hdst HF HO Ht₁ Hr₁ Ht₂ Hr₂]
  · exact (show _ ⊢ _ from by rw [hs₁]; exact pc_intro c M₁ r₁ q X fs hfs).trans hpay₁
  · refine (sep_mono_left ?_).trans hpay₂
    rw [hs₂]
    refine pc_intro n M₂ r₂ fullShare Y _ ?_
    have hw := View.read_write_univ (Val := Elt F) (v := ((M₂.slice r₂ h₂).squeeze s' hq₂).view) fd (((M₁.slice r₁ h₁).squeeze s' hq₁).view.read (Elt F) fs)
    rw [hY, ← hfs]
    refine Eq.trans (shapeCast_shapeCast _ hq₂.numel_eq hq₂.numel_eq.symm).symm ?_
    exact congrArg (fun z => shapeCast r₂.shape z hq₂.numel_eq.symm) hw
  · isplitl [Hi₁]; · iexact Hi₁
    isplitl [Hi₂]; · iexact Hi₂
    isplitl [Hsrc]; · rw [hs₁]; iexact Hsrc
    isplitl [Hdst HF]
    · isplitl [Hdst]
      · rw [hs₂]; iexact Hdst
      · iexact HF
    isplitl [HO]; · iexact HO
    isplitl [Ht₁]; · iexact Ht₁
    isplitl [Hr₁]; · iexact Hr₁
    isplitl [Ht₂] <;> iassumption

/-! ## What a transfer credits -/

/-- An x block's transfer, -/
abbrev NX : ℕ := ((xB.slice (rX 0) (fun _ => rfl)).squeeze S64x1024 squeezes_S1x64x1024_S64x1024).view.dmaCredit
/-- a partial sum's half's, -/
abbrev NA : ℕ := ((aB.slice (rA 0 0) (fun _ => rfl)).squeeze S64x512 squeezes_S1x1x64x512_S64x512).view.dmaCredit
/-- and a home copy's. -/
abbrev NH : ℕ := ((hB.slice (rH 0) (fun _ => rfl)).squeeze S64x512 squeezes_S1x64x512_S64x512).view.dmaCredit

theorem NX_pos : 0 < NX := View.dmaCredit_pos _ (by decide)
theorem NA_pos : 0 < NA := View.dmaCredit_pos _ (by decide)
theorem NH_eq : NH = NA := rfl

end Cert.Proof

end
-- ==== Proof.Sched.lean ====
/-
  What the kernel's buffers hold at each step, by plain recursion over the layers and around the ring, and the ring's
  protocol: for every semaphore the messages that credit it, each with what it hands to the semaphore's owner.
-/
module

public import proofs.«01_k».proof.Proof.Piece

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The contents -/

/-- What the devices start from: each its block of `x`, and per layer its columns of the first weights and its rows of the
    second. -/
structure Dat (F : FTy → Type) where
  x : Dev nD → Vec F S64x1024 .f32
  wi : ℕ → Dev nD → Vec F S1024x2048 .f32
  wo : ℕ → Dev nD → Vec F S2048x1024 .f32

/-- The left or the right half of a block's columns, as stored. -/
def half (M : FVec F S64x1024 .f32) (h : Fin 2) : FVec F S1x1x64x512 .f32 :=
  match h with
  | 0 => shapeCast S1x1x64x512 (extractStridedSlice S64x512 ![0, 0] M slices_S64x1024_o0_0_S64x512) shapeCasts_S64x512_S1x1x64x512
  | 1 => shapeCast S1x1x64x512 (extractStridedSlice S64x512 ![0, 512] M slices_S64x1024_o0_512_S64x512) shapeCasts_S64x512_S1x1x64x512

section Layer
variable (H : Dev nD → FVec F S64x1024 .f32) (wi : Dev nD → Vec F S1024x2048 .f32) (wo : Dev nD → Vec F S2048x1024 .f32)

/-- The product device `c` makes of the block that came `k` places: of its own block at full width, of the others as they
    travelled. -/
def prod (c : Dev nD) (k : ℕ) : FVec F S64x1024 .f32 :=
  if k = 0 then k0_pay19 (H c) (wi c) (wo c) else k0_pay6 (k0_pay31 (H (lft c k))) (wi c) (wo c)

/-- The partial sum after device `c` has added its product for the block `s` places from home. -/
def psum (h : Fin 2) : ℕ → Dev nD → Vec F S1x1x64x512 .f32
  | 0, c => half (prod H wi wo c 0) h
  | s + 1, c => k0_pay25 (k0_pay24 (psum h s (prv c))) (half (prod H wi wo c (s + 1)) h)

/-- A half of the whole sum, back home. -/
def home (c : Dev nD) (h : Fin 2) : Vec F S1x64x512 .f32 :=
  shapeCast S1x64x512 (shapeCast S64x512 (psum H wi wo h 31 (prv c)) shapeCasts_S1x1x64x512_S64x512) (by decide)

/-- The next layer's block. -/
def nextH (c : Dev nD) : FVec F S64x1024 .f32 := k0_pay27 (home H wi wo c 0) (home H wi wo c 1)
end Layer

namespace Dat
variable (D : Dat F)

/-- Device `c`'s block entering layer `l`. -/
def H : ℕ → Dev nD → FVec F S64x1024 .f32
  | 0 => D.x
  | l + 1 => nextH (H l) (D.wi l) (D.wo l)

/-- The block that has come `k` places to `c`, as it travels. -/
def xc (l : ℕ) (c : Dev nD) (k : ℕ) : FVec F S1x64x1024 .bf16 := k0_pay31 (D.H l (lft c k))
/-- `c`'s product for it, -/
def C (l : ℕ) (c : Dev nD) (k : ℕ) (h : Fin 2) : FVec F S1x1x64x512 .f32 := half (prod (D.H l) (D.wi l) (D.wo l) c k) h
/-- and the partial sum. -/
def A (l : ℕ) (c : Dev nD) (s : ℕ) (h : Fin 2) : Vec F S1x1x64x512 .f32 := psum (D.H l) (D.wi l) (D.wo l) h s c
/-- A half of a layer's result. -/
def hom (l : ℕ) (c : Dev nD) (h : Fin 2) : Vec F S1x64x512 .f32 := home (D.H l) (D.wi l) (D.wo l) c h

theorem xc_nxt (l : ℕ) (c : Dev nD) (k : ℕ) : D.xc l (nxt c) (k + 1) = D.xc l c k := by unfold xc; rw [lft_nxt]
theorem A_zero (l : ℕ) (c : Dev nD) (h : Fin 2) : D.A l c 0 h = D.C l c 0 h := rfl
theorem A_succ (l : ℕ) (c : Dev nD) (s : ℕ) (h : Fin 2) :
    D.A l c (s + 1) h = k0_pay25 (k0_pay24 (D.A l (prv c) s h)) (D.C l c (s + 1) h) := rfl
theorem H_succ (l : ℕ) (c : Dev nD) : D.H (l + 1) c = k0_pay27 (D.hom l c 0) (D.hom l c 1) := rfl
end Dat

/-! ## The protocol -/

/-- Landing `n` on device `d` is free, and its counter stands at the landing's round: what lets the left neighbour send. -/
def factX1 (d : Dev nD) (n : ℕ) : sProp 𝕄 :=
  iprop(released ES (d, 0, n) 1 ∗ reached ER ((d : Thread nD τ), xrS (f4 (n + 1))) (posX (n % 4) n))
/-- The same of both halves of partial sum `b`. -/
def factA1 (d : Dev nD) (b : ℕ) : sProp 𝕄 :=
  iprop((released ES (d, 1, b) 1 ∗ reached ER ((d : Thread nD τ), arS (f2 (b + 1)) 0) (posR (b % 2) b))
    ∗ (released ES (d, 2, b) 1 ∗ reached ER ((d : Thread nD τ), arS (f2 (b + 1)) 1) (posR (b % 2) b)))

/-- Everything up to landing `n`. -/
def factX (d : Dev nD) (n : ℕ) : sProp 𝕄 := bigSep ((Finset.range (n + 1)).filter ok) (factX1 d)
def factA (d : Dev nD) (n : ℕ) : sProp 𝕄 := bigSep ((Finset.range (n + 1)).filter ok) (factA1 d)

/-- What message `n` hands to the owner of the semaphore it credits. -/
def pay (D : Dat F) (c : Dev nD) (n : ℕ) : Role → sProp 𝕄
  | .xs _ => pc c xB (rX (f4 n)) fullShare.right (D.xc (n / 32) c (n % 32))
  | .xr _ => pc c xB (rX (f4 (n + 1))) fullShare (D.xc (n / 32) c (n % 32 + 1))
  | .as p h => pcAny c aB (rA p h)
  | .ar _ h => iprop(pc c aB (rA (f2 (n + 1)) h) fullShare (D.A (n / 32) (prv c) (n % 32) h)
      ∗ pcAny (lft c (n % 32 + 1)) hB (rH h) ∗ reached ER ((lft c (n % 32 + 1) : Thread nD τ), hmS h) (n / 32))
  | .hm h => pc c hB (rH h) fullShare (D.hom n c h)
  | .xc => factX (nxt c) n
  | .ac => factA (nxt c) n
  | .br => if n = 0 then iprop(factX (nxt c) 2 ∗ factA (nxt c) 0) else iprop(emp)
  | .no => iprop(emp)

/-- The messages numbered from `a` up to `b`. -/
abbrev fut (a b : ℕ) : Finset ℕ := (Finset.Ico a b).filter ok

/-- The messages of round `r` of a semaphore. -/
def dut (r : ℕ) : Role → Finset ℕ
  | .xs i => (Finset.range 96).filter fun n => ok n ∧ f4 n = i ∧ posX (n % 4) n = r
  | .xr i => (Finset.range 96).filter fun n => ok n ∧ f4 (n + 1) = i ∧ posX (n % 4) n = r
  | .as p _ => (Finset.range 96).filter fun n => f2 n = p ∧ posS (n % 2) n = r
  | .ar p _ => (Finset.range 96).filter fun n => ok n ∧ f2 (n + 1) = p ∧ posR (n % 2) n = r
  | .hm _ => if r < 3 then {r} else ∅
  | .xc => if r = 0 then fut 3 96 else ∅
  | .ac => if r = 0 then fut 1 96 else ∅
  | .br => if r = 0 then {0, 1} else ∅
  | .no => ∅

/-- The units of a message. -/
def amt : Role → ℕ
  | .xs _ | .xr _ => NX
  | .as _ _ | .ar _ _ | .hm _ => NA
  | _ => 1

theorem amt_pos (ρ : Role) : 0 < amt ρ := by
  cases ρ <;> first | exact NX_pos | exact NA_pos | exact Nat.one_pos

/-- The ring's protocol. -/
def Rd (D : Dat F) : Schedule (GSem nD τ sig) ℕ 𝕄 where
  duties g r := dut r (role g.2)
  amount g _ _ := amt (role g.2)
  payload g _ n := pay D g.1.1 n (role g.2)
  amount_pos g _ _ _ := amt_pos (role g.2)

instance factX1_storable (d : Dev nD) (n : ℕ) : Storable (upEmb : UEmb _ 𝕄) (factX1 d n) := by unfold factX1; infer_instance
instance factA1_storable (d : Dev nD) (n : ℕ) : Storable (upEmb : UEmb _ 𝕄) (factA1 d n) := by unfold factA1; infer_instance
instance factX_storable (d : Dev nD) (n : ℕ) : Storable (upEmb : UEmb _ 𝕄) (factX d n) := by unfold factX; infer_instance
instance factA_storable (d : Dev nD) (n : ℕ) : Storable (upEmb : UEmb _ 𝕄) (factA d n) := by unfold factA; infer_instance
instance factX1_pers (d : Dev nD) (n : ℕ) : Persistent (factX1 d n : sProp 𝕄) := by unfold factX1; infer_instance
instance factA1_pers (d : Dev nD) (n : ℕ) : Persistent (factA1 d n : sProp 𝕄) := by unfold factA1; infer_instance
instance factX_pers (d : Dev nD) (n : ℕ) : Persistent (factX d n : sProp 𝕄) := by unfold factX; infer_instance
instance factA_pers (d : Dev nD) (n : ℕ) : Persistent (factA d n : sProp 𝕄) := by unfold factA; infer_instance

instance pay_storable (D : Dat F) (c : Dev nD) (n : ℕ) (ρ : Role) : Storable (upEmb : UEmb _ 𝕄) (pay D c n ρ) := by
  cases ρ
  case br =>
    by_cases h : n = 0
    · rw [pay, if_pos h]; infer_instance
    · rw [pay, if_neg h]; infer_instance
  all_goals (unfold pay; infer_instance)
instance Rd_storable (D : Dat F) (g r n) : Storable (upEmb : UEmb _ 𝕄) ((Rd D).payload g r n) :=
  pay_storable D g.1.1 n (role g.2)

/-- A round of one message expects that message's units. -/
theorem expect_one (D : Dat F) {g : GSem nD τ sig} {r n : ℕ} (h : dut r (role g.2) = {n}) : (Rd D).expect g r = amt (role g.2) := by
  unfold Schedule.expect Schedule.amountOf
  rw [show (Rd D).duties g r = {n} from h, Finset.sum_singleton]; rfl

theorem dut_xs {n : ℕ} (h : ok n) (hn : n < 96) : dut (posX (n % 4) n) (.xs (f4 n)) = {n} := by
  ext a; simp only [dut, Finset.mem_filter, Finset.mem_range, Finset.mem_singleton]
  constructor
  · rintro ⟨-, ha, h1, h2⟩
    have h1 : a % 4 = n % 4 := congrArg Fin.val h1
    rw [h1] at h2
    exact posX_inj ha h h1 rfl h2
  · rintro rfl; exact ⟨hn, h, rfl, rfl⟩
theorem dut_xr {n : ℕ} (h : ok n) (hn : n < 96) : dut (posX (n % 4) n) (.xr (f4 (n + 1))) = {n} := by
  ext a; simp only [dut, Finset.mem_filter, Finset.mem_range, Finset.mem_singleton]
  constructor
  · rintro ⟨-, ha, h1, h2⟩
    have h1 : (a + 1) % 4 = (n + 1) % 4 := congrArg Fin.val h1
    have h1 : a % 4 = n % 4 := by omega
    rw [h1] at h2
    exact posX_inj ha h h1 rfl h2
  · rintro rfl; exact ⟨hn, h, rfl, rfl⟩
theorem dut_as {n : ℕ} (h : Fin 2) (hn : n < 96) : dut (posS (n % 2) n) (.as (f2 n) h) = {n} := by
  ext a; simp only [dut, Finset.mem_filter, Finset.mem_range, Finset.mem_singleton]
  constructor
  · rintro ⟨-, h1, h2⟩
    have h1 : a % 2 = n % 2 := congrArg Fin.val h1
    rw [h1] at h2
    exact posS_inj h1 rfl h2
  · rintro rfl; exact ⟨hn, rfl, rfl⟩
theorem dut_ar {n : ℕ} (h : ok n) (hn : n < 96) (hf : Fin 2) : dut (posR (n % 2) n) (.ar (f2 (n + 1)) hf) = {n} := by
  ext a; simp only [dut, Finset.mem_filter, Finset.mem_range, Finset.mem_singleton]
  constructor
  · rintro ⟨-, ha, h1, h2⟩
    have h1 : (a + 1) % 2 = (n + 1) % 2 := congrArg Fin.val h1
    have h1 : a % 2 = n % 2 := by omega
    rw [h1] at h2
    exact posR_inj ha h h1 rfl h2
  · rintro rfl; exact ⟨hn, h, rfl, rfl⟩
theorem dut_hm {l : ℕ} (hl : l < 3) (hf : Fin 2) : dut l (.hm hf) = {l} := by simp [dut, hl]

end Cert.Proof

end
-- ==== Proof.Layer.lean ====
/-
  One layer over the reals: what a device's product holds at an index, what the ring adds up, and that the block back home
  is the sum of all the devices' products.
-/
module

public import proofs.«01_k».proof.Proof.Sched
public import Idealize.ShloMosaic.Lib.Pointwise

@[expose] public section

noncomputable section

namespace Cert.Proof

open Cert.KernelIdeal Cert.KernelIdeal.Gen

open Idealize.ShloMosaic
open Idealize.ShloMosaic.TcCoe

/-- Row `r`, column `j` of what a device's two weight blocks make of a block `B`. -/
def part (B : FVec Ideal S64x1024 .f32) (wi : FVec Ideal S1024x2048 .f32) (wo : FVec Ideal S2048x1024 .f32) (r : Fin 64) (j : Fin 1024) : EReal :=
  ∑ q : Fin 2048, max (∑ t : Fin 1024, B (ix2 r t) * wi (ix2 t q)) 0 * wo (ix2 q j)

set_option maxRecDepth 16384 in
/-- The product of a device's own block, at an index; -/
theorem pay19_apply (B : FVec Ideal S64x1024 .f32) (wi : FVec Ideal S1024x2048 .f32) (wo : FVec Ideal S2048x1024 .f32) (r : Fin 64) (j : Fin 1024) :
    k0_pay19 (F := Ideal) B wi wo (ix2 r j) = part B wi wo r j := by
  unfold part
  pointwise [k0_pay19]

set_option maxRecDepth 16384 in
/-- the product of a block that came as it travels, the same. -/
theorem pay6_apply (B : FVec Ideal S64x1024 .f32) (wi : FVec Ideal S1024x2048 .f32) (wo : FVec Ideal S2048x1024 .f32) (r : Fin 64) (j : Fin 1024) :
    k0_pay6 (F := Ideal) (k0_pay31 B) wi wo (ix2 r j) = part B wi wo r j := by
  unfold part
  pointwise [k0_pay6, k0_pay31]

section
variable (H : Dev nD → FVec Ideal S64x1024 .f32) (wi : Dev nD → FVec Ideal S1024x2048 .f32) (wo : Dev nD → FVec Ideal S2048x1024 .f32)

/-- Device `c`'s product of the block that came `k` places. -/
theorem prod_apply (c : Dev nD) (k : ℕ) (r : Fin 64) (j : Fin 1024) :
    prod H wi wo c k (ix2 r j) = part (H (lft c k)) (wi c) (wo c) r j := by
  unfold prod
  split
  · next h => subst h; rw [lft_zero]; exact pay19_apply _ _ _ r j
  · exact pay6_apply _ _ _ r j

/-- The column of the whole row that column `j` of half `h` is. -/
def col (h : Fin 2) (j : Fin 512) : Fin 1024 := ⟨512 * h.val + j.val, by have := h.isLt; have := j.isLt; omega⟩

set_option maxRecDepth 16384 in
/-- Half `h` of a block holds the block's columns of that half. -/
theorem half_apply (M : FVec Ideal S64x1024 .f32) (h : Fin 2) (r : Fin 64) (j : Fin 512) :
    half M h (ix4 0 0 r j) = M (ix2 r (col h j)) := by
  match h with
  | 0 => pointwise [half, col]
  | 1 => pointwise [half, col]

set_option maxRecDepth 16384 in
/-- What a device stores for the next is what came plus its own product. -/
theorem add_apply (A B : FVec Ideal S1x1x64x512 .f32) (r : Fin 64) (j : Fin 512) :
    k0_pay25 (F := Ideal) (k0_pay24 A) B (ix4 0 0 r j) = A (ix4 0 0 r j) + B (ix4 0 0 r j) := by
  pointwise [k0_pay25, k0_pay24]

/-- `k` places left of the left neighbour is `k + 1` places left. -/
theorem lft_prv (c : Dev nD) (k : ℕ) : lft (prv c) k = lft c (k + 1) := by
  apply Fin.ext; have := dev_lt c; simp only [lft]; omega

/-- The partial sum at device `c`, `s` places from home: the products that `c` and the `s` devices to its left make of the
    block at hand. -/
theorem psum_apply (h : Fin 2) (s : ℕ) (c : Dev nD) (r : Fin 64) (j : Fin 512) :
    psum H wi wo h s c (ix4 0 0 r j)
      = ∑ i ∈ Finset.range (s + 1), part (H (lft c s)) (wi (lft c i)) (wo (lft c i)) r (col h j) := by
  induction s generalizing c with
  | zero => rw [psum, half_apply, prod_apply, Finset.sum_range_one, lft_zero]
  | succ s ih =>
    rw [psum, add_apply, ih, half_apply, prod_apply, Finset.sum_range_succ' _ (s + 1), lft_zero]
    simp only [lft_prv]

set_option maxRecDepth 16384 in
/-- What comes home to `c` is the last partial sum of its left neighbour. -/
theorem home_at (c : Dev nD) (h : Fin 2) (r : Fin 64) (j : Fin 512) :
    home H wi wo c h (ix3 0 r j) = psum H wi wo h 31 (prv c) (ix4 0 0 r j) := by
  pointwise [home]

/-- The 32 places left of a device are all the devices, each once. -/
theorem sum_ring (c : Dev nD) (f : Dev nD → EReal) : ∑ i ∈ Finset.range 32, f (lft (prv c) i) = ∑ d : Dev nD, f d := by
  rw [Finset.sum_range]
  refine Fintype.sum_bijective (fun i : Fin 32 => lft (prv c) i.val) ?_ _ _ (fun _ => rfl)
  refine (Finite.injective_iff_bijective).1 fun a b hab => Fin.ext ?_
  have := congrArg Fin.val hab; have := dev_lt c; have := a.isLt; have := b.isLt
  simp only [lft] at *; omega

/-- Back home: the sum of all the devices' products of device `c`'s block. -/
theorem home_apply (c : Dev nD) (h : Fin 2) (r : Fin 64) (j : Fin 512) :
    home H wi wo c h (ix3 0 r j) = ∑ d : Dev nD, part (H c) (wi d) (wo d) r (col h j) := by
  rw [home_at, psum_apply, lft_prv, show lft c (31 + 1) = c by apply Fin.ext; have := dev_lt c; simp only [lft]; omega]
  exact sum_ring c fun d => part (H c) (wi d) (wo d) r (col h j)

set_option maxRecDepth 16384 in
/-- The next block's columns of half `h` are those of the half that came home. -/
theorem join_apply (A B : FVec Ideal S1x64x512 .f32) (h : Fin 2) (r : Fin 64) (j : Fin 512) :
    k0_pay27 (F := Ideal) A B (ix2 r (col h j)) = (if h = 0 then A else B) (ix3 0 r j) := by
  match h with
  | 0 => pointwise [k0_pay27, col]
  | 1 => pointwise [k0_pay27, col]

/-- Every column is in one of the halves. -/
theorem eq_col (j : Fin 1024) : ∃ (h : Fin 2) (i : Fin 512), j = col h i := by
  by_cases hj : j.val < 512
  · exact ⟨0, ⟨j.val, hj⟩, Fin.ext (by simp [col])⟩
  · exact ⟨1, ⟨j.val - 512, by have := j.isLt; omega⟩, Fin.ext (by simp [col]; omega)⟩

/-- The next layer's block: the sum of all the devices' products of this layer's. -/
theorem nextH_apply (c : Dev nD) (r : Fin 64) (j : Fin 1024) :
    nextH H wi wo c (ix2 r j) = ∑ d : Dev nD, part (H c) (wi d) (wo d) r j := by
  obtain ⟨h, i, rfl⟩ := eq_col j
  rw [nextH, join_apply, ← home_apply]
  match h with
  | 0 => rfl
  | 1 => rfl
end

end Cert.Proof

end
-- ==== Proof.Blocks.lean ====
/-
  The layer of the reference over the reals, and that the devices' next blocks are its blocks.
-/
module

public import proofs.«01_k».proof.Proof.Layer
public import proofs.«01_k».proof.Proof.Gen.ReferenceIdeal.Run

@[expose] public section

noncomputable section

namespace Cert.Proof

open Cert.KernelIdeal Cert.KernelIdeal.Gen

open Idealize.ShloMosaic
open Idealize.ShloMosaic.TcCoe

/-- One layer of the reference: the whole activations times the first weights, no less than zero, times the second. -/
abbrev refLayer (X : FVec Ideal Cert.ReferenceIdeal.S2048x1024 .f32) (W : FVec Ideal Cert.ReferenceIdeal.S1024x65536 .f32)
    (O : FVec Ideal Cert.ReferenceIdeal.S65536x1024 .f32) : FVec Ideal Cert.ReferenceIdeal.S2048x1024 .f32 :=
  Host.dotGeneral Cert.ReferenceIdeal.dot_S2048x65536_S65536x1024_S2048x1024_1_0_0_1_n_n none
    (maximumf (Host.dotGeneral Cert.ReferenceIdeal.dot_S2048x1024_S1024x65536_S2048x65536_1_0_0_1_n_n none X W)
      (broadcastInDim Cert.ReferenceIdeal.S2048x65536 ![] Cert.ReferenceIdeal.Gen.bcast_S_S2048x65536 (constant Cert.ReferenceIdeal.S_ .f32 0x00000000#32))) O

set_option maxRecDepth 16384 in
/-- The reference's layer at an index. -/
theorem refLayer_apply (X : FVec Ideal Cert.ReferenceIdeal.S2048x1024 .f32) (W : FVec Ideal Cert.ReferenceIdeal.S1024x65536 .f32)
    (O : FVec Ideal Cert.ReferenceIdeal.S65536x1024 .f32) (r : Fin 2048) (j : Fin 1024) :
    refLayer X W O (ix2 r j) = ∑ k : Fin 65536, max (∑ t : Fin 1024, X (ix2 r t) * W (ix2 t k)) 0 * O (ix2 k j) := by
  pointwise [refLayer]

/-- Device `c`'s rows of whole activations, -/
abbrev rows (c : Dev nD) (X : FVec Ideal Cert.ReferenceIdeal.S2048x1024 .f32) : FVec Ideal S64x1024 .f32 :=
  Layout.block ⟨2, ![64, 1024]⟩ ⟨2, ![2048, 1024]⟩ 0 32 c X
/-- its columns of a layer's first weights, -/
abbrev cols (c : Dev nD) (W : FVec Ideal Cert.ReferenceIdeal.S1024x65536 .f32) : FVec Ideal S1024x2048 .f32 :=
  Layout.block ⟨2, ![1024, 2048]⟩ ⟨2, ![1024, 65536]⟩ 1 32 c W
/-- and its rows of the second. -/
abbrev deep (c : Dev nD) (O : FVec Ideal Cert.ReferenceIdeal.S65536x1024 .f32) : FVec Ideal S2048x1024 .f32 :=
  Layout.block ⟨2, ![2048, 1024]⟩ ⟨2, ![65536, 1024]⟩ 0 32 c O

/-- Row `r` of device `c`'s rows is row `64 c + r` of the whole; -/
theorem rows_apply (c : Dev nD) (X : FVec Ideal Cert.ReferenceIdeal.S2048x1024 .f32) (r : Fin 64) (t : Fin 1024) :
    rows c X (ix2 r t) = X (ix2 ⟨c.val * 64 + r.val, by have := c.isLt; have := r.isLt; change c.val < 32 at *; omega⟩ t) := by
  refine (Layout.block_apply _ _ _ _).trans (congrArg X (funext fun a => ?_))
  fin_cases a <;> rfl
/-- column `q` of its columns is column `2048 c + q`; -/
theorem cols_apply (c : Dev nD) (W : FVec Ideal Cert.ReferenceIdeal.S1024x65536 .f32) (t : Fin 1024) (q : Fin 2048) :
    cols c W (ix2 t q) = W (ix2 t ⟨c.val * 2048 + q.val, by have := c.isLt; have := q.isLt; change c.val < 32 at *; omega⟩) := by
  refine (Layout.block_apply _ _ _ _).trans (congrArg W (funext fun a => ?_))
  fin_cases a <;> rfl
/-- row `q` of its rows of the second weights is row `2048 c + q`. -/
theorem deep_apply (c : Dev nD) (O : FVec Ideal Cert.ReferenceIdeal.S65536x1024 .f32) (q : Fin 2048) (j : Fin 1024) :
    deep c O (ix2 q j) = O (ix2 ⟨c.val * 2048 + q.val, by have := c.isLt; have := q.isLt; change c.val < 32 at *; omega⟩ j) := by
  refine (Layout.block_apply _ _ _ _).trans (congrArg O (funext fun a => ?_))
  fin_cases a <;> rfl

/-- Where the devices hold the blocks of whole arrays, their next blocks are the blocks of the reference's layer. -/
theorem nextH_rows (X : FVec Ideal Cert.ReferenceIdeal.S2048x1024 .f32) (W : FVec Ideal Cert.ReferenceIdeal.S1024x65536 .f32)
    (O : FVec Ideal Cert.ReferenceIdeal.S65536x1024 .f32) (c : Dev nD) :
    nextH (fun d => rows d X) (fun d => cols d W) (fun d => deep d O) c = rows c (refLayer X W O) := by
  funext i
  obtain ⟨r, j, rfl⟩ : ∃ (r : Fin 64) (j : Fin 1024), i = ix2 r j := ⟨i 0, i 1, eq_ix2 i⟩
  refine (nextH_apply _ _ _ c r j).trans ?_
  refine Eq.trans ?_ ((rows_apply c _ r j).trans (refLayer_apply X W O _ j)).symm
  rw [Fin.sum_univ_tiles 32 2048 (by decide : 32 * 2048 = 65536)]
  refine Finset.sum_congr rfl fun d _ => ?_
  unfold part
  refine Finset.sum_congr rfl fun q _ => ?_
  rw [deep_apply]
  refine congrArg (max · 0 * _) (Finset.sum_congr rfl fun t _ => ?_)
  rw [rows_apply, cols_apply]

end Cert.Proof

end
-- ==== Proof.State.lean ====
/-
  What a device carries through the kernel besides its buffers: for every family of messages, the tokens of those still to
  come and where its counters stand, each as one assertion of a count; and what it still owes, with the order of waits.
-/
module

public import proofs.«01_k».proof.Proof.Sched

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Counting -/

theorem fut_pop {a b : ℕ} (h : a < b) (ha : ok a) : fut a b = insert a (fut (a + 1) b) := by
  ext n; simp only [fut, Finset.mem_filter, Finset.mem_Ico, Finset.mem_insert]
  constructor
  · rintro ⟨h1, h2⟩; by_cases e : n = a
    · exact .inl e
    · exact .inr ⟨by omega, h2⟩
  · rintro (rfl | ⟨h1, h2⟩)
    · exact ⟨by omega, ha⟩
    · exact ⟨by omega, h2⟩
theorem fut_notMem (a b : ℕ) : a ∉ fut (a + 1) b := by simp [fut]
theorem fut_skip {a b : ℕ} (ha : ¬ok a) : fut a b = fut (a + 1) b := by
  ext n; simp only [fut, Finset.mem_filter, Finset.mem_Ico]
  constructor
  · rintro ⟨h1, h2⟩
    have : n ≠ a := fun e => ha (e ▸ h2)
    exact ⟨by omega, h2⟩
  · rintro ⟨h1, h2⟩; exact ⟨by omega, h2⟩

omit [FloatOps F] in
/-- What is to come, one taken off. -/
theorem bigSep_fut_pop {a b : ℕ} (h : a < b) (ha : ok a) (Φ : ℕ → sProp 𝕄) : bigSep (fut a b) Φ = iprop(Φ a ∗ bigSep (fut (a + 1) b) Φ) := by
  rw [fut_pop h ha, bigSep_insert (fut_notMem a b)]; rfl

/-! ## Positions -/

section Pos
variable {ι : Type} [Fintype ι] [DecidableEq ι]

/-- The counters `cell i`, each standing at the round its position gives. -/
def posB (cell : ι → GSem nD τ sig) (pos : ι → ℕ) : sProp 𝕄 :=
  bigSep Finset.univ fun i => iprop(atPos ER (cell i) (pos i) ∅ 0 ∗ reached ER (cell i) (pos i))

omit [FloatOps F] in
/-- One of them taken out, to come back a round further. -/
theorem posB_take (cell : ι → GSem nD τ sig) (pos pos' : ι → ℕ) (i : ι) {g : GSem nD τ sig} {r : ℕ} (hg : cell i = g) (hr : pos i = r)
    (hi : pos' i = r + 1) (ho : ∀ j, j ≠ i → pos' j = pos j) :
    posB cell pos ⊢ (iprop((atPos ER g r ∅ 0 ∗ reached ER g r)
      ∗ ((atPos ER g (r + 1) ∅ 0 ∗ reached ER g (r + 1)) -∗ posB cell pos')) : sProp 𝕄) := by
  subst hg hr
  have h1 : posB cell pos ⊢ (iprop((atPos ER (cell i) (pos i) ∅ 0 ∗ reached ER (cell i) (pos i))
      ∗ bigSep (Finset.univ.erase i) fun i => iprop(atPos ER (cell i) (pos i) ∅ 0 ∗ reached ER (cell i) (pos i))) : sProp 𝕄) :=
    Entails.of_eq (bigSep_univ_split i)
  have h2 : (iprop((atPos ER (cell i) (pos i + 1) ∅ 0 ∗ reached ER (cell i) (pos i + 1))
      ∗ bigSep (Finset.univ.erase i) fun i => iprop(atPos ER (cell i) (pos i) ∅ 0 ∗ reached ER (cell i) (pos i))) : sProp 𝕄) ⊢ posB cell pos' := by
    unfold posB
    rw [bigSep_univ_split (Φ := fun i => iprop(atPos ER (cell i) (pos' i) ∅ 0 ∗ reached ER (cell i) (pos' i))) i, hi,
      bigSep_congr (s := Finset.univ.erase i) (Φ := fun i => iprop(atPos ER (cell i) (pos' i) ∅ 0 ∗ reached ER (cell i) (pos' i)))
        (fun j hj => by rw [ho j (Finset.ne_of_mem_erase hj)])]
    exact .rfl
  refine h1.trans ?_
  iintro ⟨H, Hr⟩
  isplitl [H]; · iexact H
  iintro H
  iapply h2
  isplitl [H] <;> iassumption

omit [FloatOps F] in
/-- That a counter has reached its round. -/
theorem posB_reached (cell : ι → GSem nD τ sig) (pos : ι → ℕ) (i : ι) {r : ℕ} (h : pos i = r) :
    posB cell pos ⊢ (iprop(reached ER (cell i) r ∗ posB cell pos) : sProp 𝕄) := by
  subst h
  refine (persistent_entails_right (?_ : _ ⊢ reached ER (cell i) (pos i))).trans ?_
  · unfold posB
    refine (bigSep_elim (Finset.mem_univ i)).trans ?_
    show (iprop(atPos ER (cell i) (pos i) ∅ 0 ∗ reached ER (cell i) (pos i)) : sProp 𝕄) ⊢ reached ER (cell i) (pos i)
    iintro ⟨-, H⟩; iexact H
  · iintro ⟨H, Hr⟩; isplitl [H] <;> iassumption
end Pos

/-! ## The families -/

section Fam
variable (c : Dev nD)

/-- The semaphores of a message. -/
abbrev gXs (c : Dev nD) (n : ℕ) : GSem nD τ sig := ((c : Thread nD τ), xsS (f4 n))
abbrev gXr (c : Dev nD) (n : ℕ) : GSem nD τ sig := ((c : Thread nD τ), xrS (f4 (n + 1)))
abbrev gAs (c : Dev nD) (h : Fin 2) (n : ℕ) : GSem nD τ sig := ((c : Thread nD τ), asS (f2 n) h)
abbrev gAr (c : Dev nD) (h : Fin 2) (n : ℕ) : GSem nD τ sig := ((c : Thread nD τ), arS (f2 (n + 1)) h)
abbrev gHm (c : Dev nD) (h : Fin 2) : GSem nD τ sig := ((c : Thread nD τ), hmS h)
abbrev gXc (c : Dev nD) : GSem nD τ sig := ((c : Thread nD τ), xcS)
abbrev gAc (c : Dev nD) : GSem nD τ sig := ((c : Thread nD τ), acS)
abbrev gBr (c : Dev nD) : GSem nD τ sig := ((c : Thread nD τ), brS)

/-- The kind of a half's landings. -/
abbrev kd (h : Fin 2) : Fin 3 := h.succ

/-- The x blocks to send. -/
def SX (n : ℕ) : sProp 𝕄 := bigSep (fut n 96) fun n =>
  iprop(dutyTok ER (gXs c n) (posX (n % 4) n) n ∗ dutyTok ER (gXr (nxt c) n) (posX (n % 4) n) n ∗ writeTok ES (nxt c, 0, n) 1)
/-- Own x sends waited for. -/
def WX (n : ℕ) : sProp 𝕄 := posB (fun i : Fin 4 => ((c : Thread nD τ), xsS i)) (fun i => posX i.val n)
/-- X blocks received. -/
def RX (n : ℕ) : sProp 𝕄 := iprop(posB (fun i : Fin 4 => gXr c i.val) (fun i => posX i.val n)
  ∗ bigSep (fut n 96) fun n => cred (tallyAt (gXr c n) n NX))
/-- X landings to grant, and those granted. -/
def GX (n : ℕ) : sProp 𝕄 := iprop(factX c (n - 1) ∗ bigSep (fut n 96) fun n => iprop(dutyTok ER (gXc (prv c)) 0 n ∗ readerAt ES (c, 0, n) 0))
/-- X credits, taken and to come. -/
def CX (D : Dat F) (n : ℕ) : sProp 𝕄 := iprop((∃ T : Finset ℕ, ⌜T ⊆ fut 3 96⌝ ∗ atPos ER (gXc c) 0 T (n - 3 - n / 32) ∗ bigSep T (fun d => (Rd D).payload (gXc c) 0 d))
  ∗ bigSep (fut n 96) fun n => cred (tallyAt (gXc c) n 1))
/-- Partial sums to send, by half, -/
def SA (h : Fin 2) (n : ℕ) : sProp 𝕄 := bigSep (fut n 96) fun n =>
  iprop(dutyTok ER (gAs c h n) (posS (n % 2) n) n ∗ dutyTok ER (gAr (nxt c) h n) (posR (n % 2) n) n ∗ writeTok ES (nxt c, kd h, n) 1)
/-- own sends waited for, -/
def WA (h : Fin 2) (n : ℕ) : sProp 𝕄 := posB (fun i : Fin 2 => ((c : Thread nD τ), asS i h)) (fun i => posS i.val n)
/-- received, -/
def RA (h : Fin 2) (n : ℕ) : sProp 𝕄 := iprop(posB (fun i : Fin 2 => gAr c h i.val) (fun i => posR i.val n)
  ∗ bigSep (fut n 96) fun n => cred (tallyAt (gAr c h n) n NA))
/-- to grant and granted, -/
def GA (n : ℕ) : sProp 𝕄 := iprop(factA c (n - 1)
  ∗ bigSep (fut n 96) fun n => iprop(dutyTok ER (gAc (prv c)) 0 n ∗ readerAt ES (c, 1, n) 0 ∗ readerAt ES (c, 2, n) 0))
/-- and the credits. -/
def CA (D : Dat F) (n : ℕ) : sProp 𝕄 := iprop((∃ T : Finset ℕ, ⌜T ⊆ fut 1 96⌝ ∗ atPos ER (gAc c) 0 T (n - 1 - n / 32) ∗ bigSep T (fun d => (Rd D).payload (gAc c) 0 d))
  ∗ bigSep (fut n 96) fun n => cred (tallyAt (gAc c) n 1))
/-- Home copies to send, -/
def SH (h : Fin 2) (l : ℕ) : sProp 𝕄 := bigSep (Finset.Ico l 3) fun l =>
  iprop(dutyTok ER (gAs c h (32 * l + 31)) (posS 1 (32 * l + 31)) (32 * l + 31) ∗ dutyTok ER (gHm (nxt c) h) l l)
/-- and received. -/
def RH (h : Fin 2) (l : ℕ) : sProp 𝕄 := iprop((atPos ER (gHm c h) l ∅ 0 ∗ reached ER (gHm c h) l)
  ∗ bigSep (Finset.Ico l 3) fun l => cred (tallyAt (gHm c h) l NA))

end Fam

omit [FloatOps F] in
theorem SX_skip (c : Dev nD) {n : ℕ} (h : ¬ok n) : (SX c n : sProp 𝕄) = SX c (n + 1) := by unfold SX; rw [fut_skip h]
omit [FloatOps F] in
theorem WX_skip (c : Dev nD) {n : ℕ} (h : ¬ok n) : (WX c n : sProp 𝕄) = WX c (n + 1) := by
  unfold WX; rw [show (fun i : Fin 4 => posX i.val (n + 1)) = fun i => posX i.val n from funext fun i => posX_other i.isLt fun h' => (h h').elim]
omit [FloatOps F] in
theorem RX_skip (c : Dev nD) {n : ℕ} (h : ¬ok n) : (RX c n : sProp 𝕄) = RX c (n + 1) := by
  unfold RX; rw [fut_skip h, show (fun i : Fin 4 => posX i.val (n + 1)) = fun i => posX i.val n from funext fun i => posX_other i.isLt fun h' => (h h').elim]
omit [FloatOps F] in
theorem factX_skip (c : Dev nD) {n : ℕ} (h : ¬ok n) (hn : 0 < n) : (factX c n : sProp 𝕄) = factX c (n - 1) := by
  unfold factX; congr 1
  rw [show n - 1 + 1 = n by omega, Finset.range_add_one, Finset.filter_insert, if_neg h]
omit [FloatOps F] in
theorem GX_skip (c : Dev nD) {n : ℕ} (h : ¬ok n) (hn : 0 < n) : (GX c n : sProp 𝕄) = GX c (n + 1) := by
  unfold GX; rw [fut_skip h, Nat.add_sub_cancel, factX_skip c h hn]
theorem CX_skip (c : Dev nD) (D : Dat F) {n : ℕ} (h : ¬ok n) : CX c D n = CX c D (n + 1) := by
  unfold CX; rw [fut_skip h, show n + 1 - 3 - (n + 1) / 32 = n - 3 - n / 32 by unfold ok at h; omega]
omit [FloatOps F] in
theorem SA_skip (c : Dev nD) (hf : Fin 2) {n : ℕ} (h : ¬ok n) : (SA c hf n : sProp 𝕄) = SA c hf (n + 1) := by unfold SA; rw [fut_skip h]
omit [FloatOps F] in
theorem RA_skip (c : Dev nD) (hf : Fin 2) {n : ℕ} (h : ¬ok n) : (RA c hf n : sProp 𝕄) = RA c hf (n + 1) := by
  unfold RA; rw [fut_skip h, show (fun i : Fin 2 => posR i.val (n + 1)) = fun i => posR i.val n from funext fun i => posR_other i.isLt fun h' => (h h').elim]
omit [FloatOps F] in
theorem factA_skip (c : Dev nD) {n : ℕ} (h : ¬ok n) (hn : 0 < n) : (factA c n : sProp 𝕄) = factA c (n - 1) := by
  unfold factA; congr 1
  rw [show n - 1 + 1 = n by omega, Finset.range_add_one, Finset.filter_insert, if_neg h]
omit [FloatOps F] in
theorem GA_skip (c : Dev nD) {n : ℕ} (h : ¬ok n) (hn : 0 < n) : (GA c n : sProp 𝕄) = GA c (n + 1) := by
  unfold GA; rw [fut_skip h, Nat.add_sub_cancel, factA_skip c h hn]
theorem CA_skip (c : Dev nD) (D : Dat F) {n : ℕ} (h : ¬ok n) : CA c D n = CA c D (n + 1) := by
  unfold CA; rw [fut_skip h, show n + 1 - 1 - (n + 1) / 32 = n - 1 - n / 32 by unfold ok at h; omega]

/-! ## What is owed -/

/-- How far a device is in each family it owes: x blocks, x grants, the halves of the partial sums, their grants, the halves
    of the home copies. -/
structure Cnt where
  nx : ℕ
  gx : ℕ
  a0 : ℕ
  a1 : ℕ
  ga : ℕ
  h0 : ℕ
  h1 : ℕ

def tX (c : Dev nD) (a : ℕ) : CellTallies nD τ sig ℕ := ∑ n ∈ fut a 96, tallyAt (gXr (nxt c) n) n NX
def tGX (c : Dev nD) (a : ℕ) : CellTallies nD τ sig ℕ := ∑ n ∈ fut a 96, tallyAt (gXc (prv c)) n 1
def tA (c : Dev nD) (h : Fin 2) (a : ℕ) : CellTallies nD τ sig ℕ := ∑ n ∈ fut a 96, tallyAt (gAr (nxt c) h n) n NA
def tGA (c : Dev nD) (a : ℕ) : CellTallies nD τ sig ℕ := ∑ n ∈ fut a 96, tallyAt (gAc (prv c)) n 1
def tH (c : Dev nD) (h : Fin 2) (a : ℕ) : CellTallies nD τ sig ℕ := ∑ l ∈ Finset.Ico a 3, tallyAt (gHm (nxt c) h) l NA

/-- What device `c` owes at those counts. -/
def owe (c : Dev nD) (k : Cnt) : CellTallies nD τ sig ℕ :=
  tX c k.nx + tGX c k.gx + tA c 0 k.a0 + tA c 1 k.a1 + tGA c k.ga + tH c 0 k.h0 + tH c 1 k.h1

theorem sum_fut_pop {a b : ℕ} (h : a < b) (ha : ok a) (t : ℕ → CellTallies nD τ sig ℕ) : ∑ n ∈ fut a b, t n = ∑ n ∈ fut (a + 1) b, t n + t a := by
  rw [fut_pop h ha, Finset.sum_insert (fut_notMem a b), add_comm]
theorem tX_pop (c : Dev nD) {a : ℕ} (h : a < 96) (ha : ok a) : tX c a = tX c (a + 1) + tallyAt (gXr (nxt c) a) a NX := sum_fut_pop h ha _
theorem tGX_pop (c : Dev nD) {a : ℕ} (h : a < 96) (ha : ok a) : tGX c a = tGX c (a + 1) + tallyAt (gXc (prv c)) a 1 := sum_fut_pop h ha _
theorem tA_pop (c : Dev nD) (hf : Fin 2) {a : ℕ} (h : a < 96) (ha : ok a) : tA c hf a = tA c hf (a + 1) + tallyAt (gAr (nxt c) hf a) a NA := sum_fut_pop h ha _
theorem tGA_pop (c : Dev nD) {a : ℕ} (h : a < 96) (ha : ok a) : tGA c a = tGA c (a + 1) + tallyAt (gAc (prv c)) a 1 := sum_fut_pop h ha _
theorem tH_pop (c : Dev nD) (hf : Fin 2) {a : ℕ} (h : a < 3) : tH c hf a = tH c hf (a + 1) + tallyAt (gHm (nxt c) hf) a NA := by
  unfold tH; rw [← Finset.insert_Ico_add_one_left_eq_Ico h, Finset.sum_insert (by simp), add_comm]
theorem tX_skip (c : Dev nD) {a : ℕ} (ha : ¬ok a) : tX c a = tX c (a + 1) := by unfold tX; rw [fut_skip ha]
theorem tGX_skip (c : Dev nD) {a : ℕ} (ha : ¬ok a) : tGX c a = tGX c (a + 1) := by unfold tGX; rw [fut_skip ha]
theorem tA_skip (c : Dev nD) (hf : Fin 2) {a : ℕ} (ha : ¬ok a) : tA c hf a = tA c hf (a + 1) := by unfold tA; rw [fut_skip ha]
theorem tGA_skip (c : Dev nD) {a : ℕ} (ha : ¬ok a) : tGA c a = tGA c (a + 1) := by unfold tGA; rw [fut_skip ha]

/-! ## The order of waits -/

/-- The step by which an x block has been sent, -/
def lvX (n : ℕ) : ℕ := if n % 32 = 0 then 8 * n + 2 else if n % 32 = 1 then 8 * n - 4 else 8 * n - 5
/-- a landing granted, -/
def lvGX (n : ℕ) : ℕ := if (n - 3) % 32 = 0 then 8 * (n - 3) + 3 else 8 * (n - 3) + 7
/-- a partial sum sent, -/
def lvA (b : ℕ) : ℕ := 8 * b + 13
/-- its landing granted, -/
def lvGA (b : ℕ) : ℕ := 8 * b + 9
/-- and a layer's home copy sent. -/
def lvH (l : ℕ) : ℕ := 256 * l + 257

def lv (g : GSem nD τ sig) (ι : ℕ) : ℕ :=
  match role g.2 with
  | .xr _ => lvX ι
  | .xc => lvGX ι
  | .ar _ _ => lvA ι
  | .ac => lvGA ι
  | .hm _ => lvH ι
  | .br => 1
  | _ => 0

/-- The indices at which anything is owed or waited for. -/
def LL (g : GSem nD τ sig) : Finset ℕ := if g.1.2 = Proc.tc then Finset.range 97 else ∅

theorem mem_LL (c : Dev nD) (s : SemLoc sig) {n : ℕ} (h : n < 97) : n ∈ LL ((c : Thread nD τ), s) := by
  unfold LL; rw [if_pos rfl]; exact Finset.mem_range.mpr h

/-- Whatever is owed lies above `T`, when the next of each family does. -/
theorem owe_above (c : Dev nD) (k : Cnt) (T : ℕ) (hx : T < lvX k.nx) (hgx : T < lvGX k.gx) (ha0 : T < lvA k.a0) (ha1 : T < lvA k.a1)
    (hga : T < lvGA k.ga) (hh0 : T < lvH k.h0) (hh1 : T < lvH k.h1) :
    ∀ (g : GSem nD τ sig) (i : ℕ), 0 < owe c k g i → i ∈ LL g ∧ T < lv g i := by
  intro g i h
  unfold owe at h
  have key : ∀ {a : ℕ} {cell : ℕ → GSem nD τ sig} {N : ℕ}, 0 < (∑ n ∈ fut a 96, tallyAt (cell n) n N) g i → g = cell i ∧ a ≤ i ∧ i < 96 := by
    intro a cell N h
    obtain ⟨n, hn, hp⟩ := Pipeline.sum_pos_exists h
    obtain ⟨h1, rfl⟩ := Pipeline.tallyAt_pos hp
    simp only [fut, Finset.mem_filter, Finset.mem_Ico] at hn
    exact ⟨h1, hn.1.1, hn.1.2⟩
  have keyH : ∀ {a : ℕ} {cell : GSem nD τ sig} {N : ℕ}, 0 < (∑ n ∈ Finset.Ico a 3, tallyAt cell n N) g i → g = cell ∧ a ≤ i ∧ i < 3 := by
    intro a cell N h
    obtain ⟨n, hn, hp⟩ := Pipeline.sum_pos_exists h
    obtain ⟨h1, rfl⟩ := Pipeline.tallyAt_pos hp
    rw [Finset.mem_Ico] at hn
    exact ⟨h1, hn⟩
  rcases Pipeline.add_pos_cases h with h | h
  on_goal 2 => obtain ⟨rfl, h1, h2⟩ := keyH h; exact ⟨mem_LL _ _ (by omega), by simp only [lv, role_hm]; unfold lvH at *; omega⟩
  rcases Pipeline.add_pos_cases h with h | h
  on_goal 2 => obtain ⟨rfl, h1, h2⟩ := keyH h; exact ⟨mem_LL _ _ (by omega), by simp only [lv, role_hm]; unfold lvH at *; omega⟩
  rcases Pipeline.add_pos_cases h with h | h
  on_goal 2 => obtain ⟨rfl, h1, h2⟩ := key h; exact ⟨mem_LL _ _ (by omega), by simp only [lv, role_ac]; unfold lvGA at *; omega⟩
  rcases Pipeline.add_pos_cases h with h | h
  on_goal 2 => obtain ⟨rfl, h1, h2⟩ := key h; exact ⟨mem_LL _ _ (by omega), by simp only [lv, role_ar]; unfold lvA at *; omega⟩
  rcases Pipeline.add_pos_cases h with h | h
  on_goal 2 => obtain ⟨rfl, h1, h2⟩ := key h; exact ⟨mem_LL _ _ (by omega), by simp only [lv, role_ar]; unfold lvA at *; omega⟩
  rcases Pipeline.add_pos_cases h with h | h
  · obtain ⟨rfl, h1, h2⟩ := key h
    exact ⟨mem_LL _ _ (by omega), by simp only [lv, role_xr]; unfold lvX at *; split_ifs at * <;> omega⟩
  · obtain ⟨rfl, h1, h2⟩ := key h
    exact ⟨mem_LL _ _ (by omega), by simp only [lv, role_xc]; unfold lvGX at *; split_ifs at * <;> omega⟩

/-- The counts' next levels all lie above `T`. -/
def Cnt.above (k : Cnt) (T : ℕ) : Prop :=
  T < lvX k.nx ∧ T < lvGX k.gx ∧ T < lvA k.a0 ∧ T < lvA k.a1 ∧ T < lvGA k.ga ∧ T < lvH k.h0 ∧ T < lvH k.h1

omit [FloatOps F] in
/-- A wait may go ahead when its level lies below everything owed. -/
theorem mayWait (c : Dev nD) (k : Cnt) (s : SemLoc sig) (ι : ℕ) (hι : ι < 97) (h : k.above (lv ((c : Thread nD τ), s) ι)) :
    (levAts LL lv : sProp 𝕄) ⊢ MayWait (c : Thread nD τ) s ι (owe c k) :=
  Pipeline.mayWait_of_levAts (mem_LL c s hι) (owe_above c k _ h.1 h.2.1 h.2.2.1 h.2.2.2.1 h.2.2.2.2.1 h.2.2.2.2.2.1 h.2.2.2.2.2.2)

/-- What device `c` owes, and some record of what it has waited for. -/
def Ow (c : Dev nD) (k : Cnt) : sProp 𝕄 := iprop(∃ W : Waits sig ℕ, owes (c : Thread nD τ) (owe c k) W)

/-! ## What everyone knows -/

/-- The place a landing names. -/
def Sl : Key → sProp 𝕄
  | (d, 0, n) => pcAny d xB (rX (f4 (n + 1)))
  | (d, 1, n) => pcAny d aB (rA (f2 (n + 1)) 0)
  | (d, 2, n) => pcAny d aB (rA (f2 (n + 1)) 1)

instance Sl_storable (k : Key) : Storable (upEmb : UEmb _ 𝕄) (Sl (F := F) k) := by
  obtain ⟨d, i, n⟩ := k; fin_cases i <;> (unfold Sl; infer_instance)

omit [FloatOps F] in
theorem Sl_false (k : Key) : iprop(Sl k ∗ Sl k) ⊢ (False : sProp 𝕄) := by
  obtain ⟨d, i, n⟩ := k
  fin_cases i
  · exact pcAny_false _ _ _ (show 0 < S1x64x1024.numel by decide)
  · exact pcAny_false _ _ _ (show 0 < S1x1x64x512.numel by decide)
  · exact pcAny_false _ _ _ (show 0 < S1x1x64x512.numel by decide)

/-- The semaphores of the protocol. -/
def ringSems : Finset (SemLoc sig) := Finset.univ.filter fun s => role s ≠ .no
/-- The landings. -/
def keys : Finset Key := Finset.univ ×ˢ (Finset.univ ×ˢ fut 0 96)

/-- The invariants of every counter and every landing, and the order of waits. -/
def Know (D : Dat F) (κ : GSem nD τ sig → ℕ) (ιs : Key → ℕ) : sProp 𝕄 :=
  iprop((levAts LL lv : sProp 𝕄) ∗ (bigSep Finset.univ fun d : Dev nD => bigSep ringSems fun s => iprop(cellInv ER (Rd D) (κ ((d : Thread nD τ), s)) ((d : Thread nD τ), s) ∗ reached ER ((d : Thread nD τ), s) 0))
    ∗ bigSep keys fun k => slotInv ES (ιs k) k (Sl k))

instance Know_pers (D : Dat F) (κ ιs) : Persistent (Know D κ ιs) := by unfold Know; infer_instance

theorem Know_lev (D : Dat F) (κ ιs) : Know D κ ιs ⊢ (levAts LL lv : sProp 𝕄) := by
  unfold Know; iintro ⟨H, -⟩; iexact H
theorem Know_both (D : Dat F) (κ ιs) (d : Dev nD) (s : SemLoc sig) (h : role s ≠ .no) :
    Know D κ ιs ⊢ iprop(cellInv ER (Rd D) (κ ((d : Thread nD τ), s)) ((d : Thread nD τ), s) ∗ reached ER ((d : Thread nD τ), s) 0) := by
  unfold Know
  refine (show _ ⊢ _ from ?_ : _ ⊢ (bigSep Finset.univ fun d : Dev nD => bigSep ringSems fun s => iprop(cellInv ER (Rd D) (κ ((d : Thread nD τ), s)) ((d : Thread nD τ), s) ∗ reached ER ((d : Thread nD τ), s) 0))).trans
    ((bigSep_elim (Finset.mem_univ d)).trans (bigSep_elim (Finset.mem_filter.mpr ⟨Finset.mem_univ s, h⟩)))
  iintro ⟨-, H, -⟩; iexact H
theorem Know_cell (D : Dat F) (κ ιs) (d : Dev nD) (s : SemLoc sig) (h : role s ≠ .no) :
    Know D κ ιs ⊢ cellInv ER (Rd D) (κ ((d : Thread nD τ), s)) ((d : Thread nD τ), s) := by
  refine (Know_both D κ ιs d s h).trans ?_
  iintro ⟨H, -⟩; iexact H
theorem Know_reached (D : Dat F) (κ ιs) (d : Dev nD) (s : SemLoc sig) (h : role s ≠ .no) :
    Know D κ ιs ⊢ (reached ER ((d : Thread nD τ), s) 0 : sProp 𝕄) := by
  refine (Know_both D κ ιs d s h).trans ?_
  iintro ⟨-, H⟩; iexact H
theorem Know_slot (D : Dat F) (κ ιs) (k : Key) (h : k.2.2 ∈ fut 0 96) : Know D κ ιs ⊢ slotInv ES (ιs k) k (Sl k) := by
  unfold Know
  refine (show _ ⊢ _ from ?_ : _ ⊢ (bigSep keys fun k => slotInv ES (ιs k) k (Sl k))).trans (bigSep_elim ?_)
  · iintro ⟨-, -, H⟩; iexact H
  · exact Finset.mem_product.mpr ⟨Finset.mem_univ _, Finset.mem_product.mpr ⟨Finset.mem_univ _, h⟩⟩

end Cert.Proof

end
-- ==== Proof.Waits.lean ====
/-
  What each of the program's communication operations does to the families of messages: waits for a message, sends of one,
  grants of a landing, waits for a credit; and the loads and stores of a slot.
-/
module

public import proofs.«01_k».proof.Proof.State

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- A device's own instructions. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The payloads, read off -/

section Pays
variable (D : Dat F) (c : Dev nD) {n l j : ℕ}
theorem pay_xs (hn : n = 32 * l + j) (hj : j < 32) (i : Fin 4) : pay D c n (.xs i) = pc c xB (rX (f4 n)) fullShare.right (D.xc l c j) := by
  obtain rfl : l = n / 32 := by omega
  obtain rfl : j = n % 32 := by omega
  rfl
theorem pay_xr (hn : n = 32 * l + j) (hj : j < 32) (i : Fin 4) : pay D c n (.xr i) = pc c xB (rX (f4 (n + 1))) fullShare (D.xc l c (j + 1)) := by
  obtain rfl : l = n / 32 := by omega
  obtain rfl : j = n % 32 := by omega
  rfl
theorem pay_as (n : ℕ) (p h : Fin 2) : pay D c n (.as p h) = pcAny c aB (rA p h) := rfl
theorem pay_ar (hn : n = 32 * l + j) (hj : j < 32) (p h : Fin 2) : pay D c n (.ar p h) = iprop(pc c aB (rA (f2 (n + 1)) h) fullShare (D.A l (prv c) j h)
    ∗ pcAny (lft c (j + 1)) hB (rH h) ∗ reached ER (gHm (lft c (j + 1)) h) l) := by
  obtain rfl : l = n / 32 := by omega
  obtain rfl : j = n % 32 := by omega
  rfl
theorem pay_hm (l : ℕ) (h : Fin 2) : pay D c l (.hm h) = pc c hB (rH h) fullShare (D.hom l c h) := rfl
end Pays

section Waits
variable (D : Dat F) (κ : GSem nD τ sig → ℕ) (ιs : Key → ℕ) (c : Dev nD) (k : Cnt)

set_option maxRecDepth 20000 in
/-- Whoever knows the order of waits may wait below everything owed. -/
theorem Know_may (s : SemLoc sig) (ι : ℕ) (hι : ι < 97) (h : k.above (lv ((c : Thread nD τ), s) ι)) :
    Know D κ ιs ⊢ MayWait (c : Thread nD τ) s ι (owe c k) :=
by
  exact (Know_lev D κ ιs).trans (mayWait c k s ι hι h)

/-- A wait for the one message of a round hands over that message's payload. -/
theorem wait_one {sem : DmaSem sig} {sm : SemLoc sig} {ρ : Role} {n ι R N : ℕ} (hsm : SemLoc.dma sem = sm) (hr : role sm = ρ) (hρ : ρ ≠ .no)
    (hd : dut R ρ = {n}) (hι : ι < 97) (hk : k.above (lv ((c : Thread nD τ), sm) ι)) (hN : amt ρ = N)
    {sp sp' : Space} {s s' : Shape} {e e' : EltTy} {κ' : Kind} {src : Memref sig .tc sp' s' e'} {dst : Memref sig κ' sp s e}
    {hsrc : src.view.WordExact} {hdst : dst.view.WordExact} (hdN : dst.view.dmaCredit = N)
    {α : Type} {cont : PUnit → Prog (TpuEff nD τ sig (Elt F) Λ₀ .tc) α} {Q : α → sProp 𝕄} :
    Know D κ ιs ⊢ iprop(cred (tallyAt ((c : Thread nD τ), sm) ι N) -∗ Ow c k -∗ atPos ER ((c : Thread nD τ), sm) R ∅ 0
      -∗ ((Ow c k ∗ (atPos ER ((c : Thread nD τ), sm) (R + 1) ∅ 0 ∗ reached ER ((c : Thread nD τ), sm) (R + 1)) ∗ pay D c n ρ) -∗ WP c (cont ⟨⟩) Q)
      -∗ WP c (.op (.waitDma2 sem src dst hsrc hdst) cont) Q) := by
  subst hsm hr hN
  iintro #HK Hc HO Hat Hk
  unfold Ow
  icases HO with ⟨%W, HO⟩
  ihave #Hi := Know_cell D κ ιs c (.dma sem) hρ $$ HK
  iapply (Rounds.wp_wait_rest_token (E := ER) (Rd := Rd D) (κ := κ ((c : Thread nD τ), .dma sem)) 𝒱₀ (c : Thread nD τ) none
    (wpE_waitDma2_eq 𝒱₀ (c : Thread nD τ) none Set.univ) (Set.mem_univ _) ι (O := owe c k) (R := R) (T := ∅) (m := 0)
    (by rw [expect_one D hd, hdN, Nat.zero_add])) $$ [Hc HO Hat]
  · isplitr; · iexact Hi
    isplitl [Hc]; · rw [hdN]; iexact Hc
    isplitl [HO]; · iexact HO
    isplitr
    · iapply (Know_may D κ ιs c k (.dma sem) ι hι hk); iexact HK
    iexact Hat
  iintro ⟨HO, Hat, #Hr, Hp⟩
  iapply Hk
  isplitl [HO]; · iexists _; iexact HO
  isplitl [Hat]
  · isplitl [Hat]; · iexact Hat
    iexact Hr
  ihave Hp := (Entails.of_eq (show bigSep ((Rd D).duties ((c : Thread nD τ), .dma sem) R \ ∅) (fun d => (Rd D).payload ((c : Thread nD τ), .dma sem) R d)
      = pay D c n (role (.dma sem)) from by
    rw [Finset.sdiff_empty, show (Rd D).duties ((c : Thread nD τ), .dma sem) R = {n} from hd, bigSep_singleton]; rfl)) $$ Hp
  iexact Hp

/-- A device's own x send has left: the lent half comes back. -/
theorem wXs (n l j : ℕ) (hn : n = 32 * l + j) (hj : j < 31) (hl : l < 3)
    {sp sp' : Space} {s s' : Shape} {e e' : EltTy} {κ' : Kind} {src : Memref sig .tc sp' s' e'} {dst : Memref sig κ' sp s e}
    {hsrc : src.view.WordExact} {hdst : dst.view.WordExact} {sem : DmaSem sig}
    {α : Type} {cont : PUnit → Prog (TpuEff nD τ sig (Elt F) Λ₀ .tc) α} {Q : α → sProp 𝕄}
    (hS : SemLoc.dma sem = xsS (f4 n)) (hk : k.above 0) (hdN : dst.view.dmaCredit = NX) :
    Know D κ ιs ⊢ iprop(WX c n -∗ cred (tallyAt (gXs c n) 0 NX) -∗ Ow c k
      -∗ ((WX c (n + 1) ∗ pc c xB (rX (f4 n)) fullShare.right (D.xc l c j) ∗ Ow c k) -∗ WP c (cont ⟨⟩) Q)
      -∗ WP c (.op (.waitDma2 sem src dst hsrc hdst) cont) Q) := by
  have ho : ok n := by unfold ok; omega
  have hk' : k.above (lv (gXs c n) 0) := by simpa only [lv, role_xs] using hk
  iintro #HK HW Hc HO Hk
  unfold WX
  ihave HW := (posB_take (g := gXs c n) (r := posX (n % 4) n) (fun i : Fin 4 => ((c : Thread nD τ), xsS i)) (fun i => posX i.val n) (fun i => posX i.val (n + 1)) (f4 n)
    rfl rfl (posX_succ ho) (fun j hj => posX_other j.isLt fun _ e => hj (Fin.ext e))) $$ HW
  icases HW with ⟨⟨Hat, -⟩, Hback⟩
  iapply (wait_one D κ ιs c k hS (role_xs _) (fun h => Role.noConfusion h) (dut_xs ho (by omega)) (ι := 0) (by omega) hk' (N := NX) rfl hdN) $$ HK Hc HO Hat
  iintro ⟨HO, Hat, Hp⟩
  iapply Hk
  isplitl [Hback Hat]; · iapply Hback; iexact Hat
  isplitl [Hp]
  · ihave Hp := (Entails.of_eq (pay_xs D c hn (by omega) _)) $$ Hp
    iexact Hp
  iexact HO

/-- An x block has come. -/
theorem wXr (n l j : ℕ) (hn : n = 32 * l + j) (hj : j < 31) (hl : l < 3)
    {sp sp' : Space} {s s' : Shape} {e e' : EltTy} {κ' : Kind} {src : Memref sig .tc sp' s' e'} {dst : Memref sig κ' sp s e}
    {hsrc : src.view.WordExact} {hdst : dst.view.WordExact} {sem : DmaSem sig}
    {α : Type} {cont : PUnit → Prog (TpuEff nD τ sig (Elt F) Λ₀ .tc) α} {Q : α → sProp 𝕄}
    (hS : SemLoc.dma sem = xrS (f4 (n + 1))) (hk : k.above (lvX n)) (hdN : dst.view.dmaCredit = NX) :
    Know D κ ιs ⊢ iprop(RX c n -∗ Ow c k
      -∗ ((RX c (n + 1) ∗ pc c xB (rX (f4 (n + 1))) fullShare (D.xc l c (j + 1)) ∗ Ow c k) -∗ WP c (cont ⟨⟩) Q)
      -∗ WP c (.op (.waitDma2 sem src dst hsrc hdst) cont) Q) := by
  have ho : ok n := by unfold ok; omega
  have he : (fun i : Fin 4 => gXr c i.val) (f4 n) = gXr c n := by
    show (gXr c (f4 n).val) = gXr c n
    unfold gXr; rw [show f4 ((f4 n).val + 1) = f4 (n + 1) from f4_eq (by show (n % 4 + 1) % 4 = _; omega)]
  have hk' : k.above (lv (gXr c n) n) := by simpa only [lv, role_xr] using hk
  iintro #HK HR HO Hk
  unfold RX
  icases HR with ⟨HW, Hcs⟩
  ihave Hcs := (Entails.of_eq (bigSep_fut_pop (show n < 96 by omega) ho _)) $$ Hcs
  icases Hcs with ⟨Hc, Hcs⟩
  ihave HW := (posB_take (g := gXr c n) (r := posX (n % 4) n) (fun i : Fin 4 => gXr c i.val) (fun i => posX i.val n) (fun i => posX i.val (n + 1)) (f4 n)
    he rfl (posX_succ ho) (fun j hj => posX_other j.isLt fun _ e => hj (Fin.ext e))) $$ HW
  icases HW with ⟨⟨Hat, -⟩, Hback⟩
  iapply (wait_one D κ ιs c k hS (role_xr _) (fun h => Role.noConfusion h) (dut_xr ho (by omega)) (ι := n) (by omega) hk' (N := NX) rfl hdN) $$ HK Hc HO Hat
  iintro ⟨HO, Hat, Hp⟩
  iapply Hk
  isplitl [Hback Hat Hcs]
  · isplitl [Hback Hat]
    · iapply Hback; iexact Hat
    iexact Hcs
  isplitl [Hp]
  · ihave Hp := (Entails.of_eq (pay_xr D c hn (by omega) _)) $$ Hp
    iexact Hp
  iexact HO

/-- A device's own send of a half of a partial sum (or of its home copy) has left: its place is free. -/
theorem wAs (h : Fin 2) (n : ℕ) (hn : n < 96)
    {sp sp' : Space} {s s' : Shape} {e e' : EltTy} {κ' : Kind} {src : Memref sig .tc sp' s' e'} {dst : Memref sig κ' sp s e}
    {hsrc : src.view.WordExact} {hdst : dst.view.WordExact} {sem : DmaSem sig}
    {α : Type} {cont : PUnit → Prog (TpuEff nD τ sig (Elt F) Λ₀ .tc) α} {Q : α → sProp 𝕄}
    (hS : SemLoc.dma sem = asS (f2 n) h) (hk : k.above 0) (hdN : dst.view.dmaCredit = NA) :
    Know D κ ιs ⊢ iprop(WA c h n -∗ cred (tallyAt (gAs c h n) 0 NA) -∗ Ow c k
      -∗ ((WA c h (n + 1) ∗ pcAny c aB (rA (f2 n) h) ∗ Ow c k) -∗ WP c (cont ⟨⟩) Q)
      -∗ WP c (.op (.waitDma2 sem src dst hsrc hdst) cont) Q) := by
  have hk' : k.above (lv (gAs c h n) 0) := by simpa only [lv, role_as] using hk
  iintro #HK HW Hc HO Hk
  unfold WA
  ihave HW := (posB_take (g := gAs c h n) (r := posS (n % 2) n) (fun i : Fin 2 => ((c : Thread nD τ), asS i h)) (fun i => posS i.val n) (fun i => posS i.val (n + 1)) (f2 n)
    rfl rfl (posS_succ n) (fun j hj => posS_other j.isLt fun e => hj (Fin.ext e))) $$ HW
  icases HW with ⟨⟨Hat, -⟩, Hback⟩
  iapply (wait_one D κ ιs c k hS (role_as _ _) (fun h => Role.noConfusion h) (dut_as h hn) (ι := 0) (by omega) hk' (N := NA) rfl hdN) $$ HK Hc HO Hat
  iintro ⟨HO, Hat, Hp⟩
  iapply Hk
  isplitl [Hback Hat]; · iapply Hback; iexact Hat
  ihave Hp := (Entails.of_eq (pay_as D c n _ h)) $$ Hp
  isplitl [Hp]; · iexact Hp
  iexact HO

/-- A half of a partial sum has come, and with it the right to its owner's home place. -/
theorem wAr (h : Fin 2) (n l j : ℕ) (hn : n = 32 * l + j) (hj : j < 31) (hl : l < 3)
    {sp sp' : Space} {s s' : Shape} {e e' : EltTy} {κ' : Kind} {src : Memref sig .tc sp' s' e'} {dst : Memref sig κ' sp s e}
    {hsrc : src.view.WordExact} {hdst : dst.view.WordExact} {sem : DmaSem sig}
    {α : Type} {cont : PUnit → Prog (TpuEff nD τ sig (Elt F) Λ₀ .tc) α} {Q : α → sProp 𝕄}
    (hS : SemLoc.dma sem = arS (f2 (n + 1)) h) (hk : k.above (lvA n))
    (hdN : dst.view.dmaCredit = NA) :
    Know D κ ιs ⊢ iprop(RA c h n -∗ Ow c k
      -∗ ((RA c h (n + 1) ∗ pc c aB (rA (f2 (n + 1)) h) fullShare (D.A l (prv c) j h)
        ∗ (pcAny (lft c (j + 1)) hB (rH h) ∗ reached ER (gHm (lft c (j + 1)) h) l) ∗ Ow c k) -∗ WP c (cont ⟨⟩) Q)
      -∗ WP c (.op (.waitDma2 sem src dst hsrc hdst) cont) Q) := by
  have ho : ok n := by unfold ok; omega
  have he : (fun i : Fin 2 => gAr c h i.val) (f2 n) = gAr c h n := by
    show (gAr c h (f2 n).val) = gAr c h n
    unfold gAr; rw [show f2 ((f2 n).val + 1) = f2 (n + 1) from f2_eq (by show (n % 2 + 1) % 2 = _; omega)]
  have hk' : k.above (lv (gAr c h n) n) := by simpa only [lv, role_ar] using hk
  iintro #HK HR HO Hk
  unfold RA
  icases HR with ⟨HW, Hcs⟩
  ihave Hcs := (Entails.of_eq (bigSep_fut_pop (show n < 96 by omega) ho _)) $$ Hcs
  icases Hcs with ⟨Hc, Hcs⟩
  ihave HW := (posB_take (g := gAr c h n) (r := posR (n % 2) n) (fun i : Fin 2 => gAr c h i.val) (fun i => posR i.val n) (fun i => posR i.val (n + 1)) (f2 n)
    he rfl (posR_succ ho) (fun j hj => posR_other j.isLt fun _ e => hj (Fin.ext e))) $$ HW
  icases HW with ⟨⟨Hat, -⟩, Hback⟩
  iapply (wait_one D κ ιs c k hS (role_ar _ _) (fun h => Role.noConfusion h) (dut_ar ho (by omega) h) (ι := n) (by omega) hk' (N := NA) rfl hdN) $$ HK Hc HO Hat
  iintro ⟨HO, Hat, Hp⟩
  iapply Hk
  isplitl [Hback Hat Hcs]
  · isplitl [Hback Hat]
    · iapply Hback; iexact Hat
    iexact Hcs
  ihave Hp := (Entails.of_eq (pay_ar D c hn (by omega) _ h)) $$ Hp
  icases Hp with ⟨Hp, Hh⟩
  isplitl [Hp]; · iexact Hp
  isplitl [Hh]; · iexact Hh
  iexact HO

/-- A half of the layer's whole sum has come home. -/
theorem wHm (h : Fin 2) (l : ℕ) (hl : l < 3)
    {sp sp' : Space} {s s' : Shape} {e e' : EltTy} {κ' : Kind} {src : Memref sig .tc sp' s' e'} {dst : Memref sig κ' sp s e}
    {hsrc : src.view.WordExact} {hdst : dst.view.WordExact} {sem : DmaSem sig}
    {α : Type} {cont : PUnit → Prog (TpuEff nD τ sig (Elt F) Λ₀ .tc) α} {Q : α → sProp 𝕄}
    (hS : SemLoc.dma sem = hmS h) (hk : k.above (lvH l)) (hdN : dst.view.dmaCredit = NA) :
    Know D κ ιs ⊢ iprop(RH c h l -∗ Ow c k
      -∗ ((RH c h (l + 1) ∗ pc c hB (rH h) fullShare (D.hom l c h) ∗ Ow c k) -∗ WP c (cont ⟨⟩) Q)
      -∗ WP c (.op (.waitDma2 sem src dst hsrc hdst) cont) Q) := by
  have hk' : k.above (lv (gHm c h) l) := by simpa only [lv, role_hm] using hk
  iintro #HK HR HO Hk
  unfold RH
  icases HR with ⟨⟨Hat, -⟩, Hcs⟩
  ihave Hcs := (Entails.of_eq (show (bigSep (Finset.Ico l 3) fun l => cred (tallyAt (gHm c h) l NA) : sProp 𝕄)
      = iprop(cred (tallyAt (gHm c h) l NA) ∗ bigSep (Finset.Ico (l + 1) 3) fun l => cred (tallyAt (gHm c h) l NA)) from by
    rw [← Finset.insert_Ico_add_one_left_eq_Ico hl, bigSep_insert (by simp)]; rfl)) $$ Hcs
  icases Hcs with ⟨Hc, Hcs⟩
  iapply (wait_one D κ ιs c k hS (role_hm _) (fun h => Role.noConfusion h) (dut_hm hl h) (ι := l) (by omega) hk' (N := NA) rfl hdN) $$ HK Hc HO Hat
  iintro ⟨HO, Hat, Hp⟩
  iapply Hk
  isplitl [Hat Hcs]
  · isplitl [Hat]; · iexact Hat
    iexact Hcs
  ihave Hp := (Entails.of_eq (pay_hm D c l h)) $$ Hp
  isplitl [Hp]; · iexact Hp
  iexact HO

end Waits

end Cert.Proof

end
-- ==== Proof.Sends.lean ====
/-
  The sends, the grants and the credit waits, on the families of messages.
-/
module

public import proofs.«01_k».proof.Proof.Waits

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

theorem ok_of {n l j : ℕ} (hn : n = 32 * l + j) (hj : j < 31) : ok n := by unfold ok; omega

section Takes
variable (c : Dev nD)

omit [FloatOps F] in
/-- The next x block's tokens, -/
theorem SX_take {n : ℕ} (ho : ok n) (hn : n < 96) :
    SX c n ⊢ (iprop((dutyTok ER (gXs c n) (posX (n % 4) n) n ∗ dutyTok ER (gXr (nxt c) n) (posX (n % 4) n) n ∗ writeTok ES (nxt c, 0, n) 1) ∗ SX c (n + 1)) : sProp 𝕄) :=
  Entails.of_eq (bigSep_fut_pop hn ho _)
omit [FloatOps F] in
/-- the next half's, -/
theorem SA_take (h : Fin 2) {n : ℕ} (ho : ok n) (hn : n < 96) :
    SA c h n ⊢ (iprop((dutyTok ER (gAs c h n) (posS (n % 2) n) n ∗ dutyTok ER (gAr (nxt c) h n) (posR (n % 2) n) n ∗ writeTok ES (nxt c, kd h, n) 1) ∗ SA c h (n + 1)) : sProp 𝕄) :=
  Entails.of_eq (bigSep_fut_pop hn ho _)
omit [FloatOps F] in
/-- the next home copy's. -/
theorem SH_take (h : Fin 2) {l : ℕ} (hl : l < 3) :
    SH c h l ⊢ (iprop((dutyTok ER (gAs c h (32 * l + 31)) (posS 1 (32 * l + 31)) (32 * l + 31) ∗ dutyTok ER (gHm (nxt c) h) l l) ∗ SH c h (l + 1)) : sProp 𝕄) := by
  unfold SH
  rw [← Finset.insert_Ico_add_one_left_eq_Ico hl, bigSep_insert (by simp)]; exact .rfl
omit [FloatOps F] in
/-- That a send counter stands at a message's round. -/
theorem WX_reached {w n : ℕ} (h : posX (n % 4) w = posX (n % 4) n) : WX c w ⊢ (iprop(reached ER (gXs c n) (posX (n % 4) n) ∗ WX c w) : sProp 𝕄) :=
  posB_reached (fun i : Fin 4 => ((c : Thread nD τ), xsS i)) (fun i => posX i.val w) (f4 n) h
omit [FloatOps F] in
theorem WA_reached (h : Fin 2) (n : ℕ) : WA c h n ⊢ (iprop(reached ER (gAs c h n) (posS (n % 2) n) ∗ WA c h n) : sProp 𝕄) :=
  posB_reached (fun i : Fin 2 => ((c : Thread nD τ), asS i h)) (fun i => posS i.val n) (f2 n) rfl
omit [FloatOps F] in
theorem RX_reached {r n : ℕ} (h : posX (n % 4) r = posX (n % 4) n) : RX c r ⊢ (iprop(reached ER (gXr c n) (posX (n % 4) n) ∗ RX c r) : sProp 𝕄) := by
  have he : gXr c (f4 n).val = gXr c n := by
    unfold gXr; rw [show f4 ((f4 n).val + 1) = f4 (n + 1) from f4_eq (by show (n % 4 + 1) % 4 = _; omega)]
  have hp := posB_reached (F := F) (fun i : Fin 4 => gXr c i.val) (fun i => posX i.val r) (f4 n) h
  rw [he] at hp
  unfold RX
  iintro ⟨H, Hc⟩
  ihave H := hp $$ H
  icases H with ⟨Hr, H⟩
  isplitl [Hr]; · iexact Hr
  isplitl [H] <;> iassumption
omit [FloatOps F] in
theorem RA_reached (hf : Fin 2) {r n : ℕ} (h : posR (n % 2) r = posR (n % 2) n) : RA c hf r ⊢ (iprop(reached ER (gAr c hf n) (posR (n % 2) n) ∗ RA c hf r) : sProp 𝕄) := by
  have he : gAr c hf (f2 n).val = gAr c hf n := by
    unfold gAr; rw [show f2 ((f2 n).val + 1) = f2 (n + 1) from f2_eq (by show (n % 2 + 1) % 2 = _; omega)]
  have hp := posB_reached (F := F) (fun i : Fin 2 => gAr c hf i.val) (fun i => posR i.val r) (f2 n) h
  rw [he] at hp
  unfold RA
  iintro ⟨H, Hc⟩
  ihave H := hp $$ H
  icases H with ⟨Hr, H⟩
  isplitl [Hr]; · iexact Hr
  isplitl [H] <;> iassumption

omit [FloatOps F] in
/-- One more landing granted, -/
theorem factX_add {n : ℕ} (ho : ok n) (h0 : 0 < n) : iprop(factX1 c n ∗ factX c (n - 1)) ⊢ (factX c n : sProp 𝕄) := by
  unfold factX
  rw [show n - 1 + 1 = n by omega, Finset.range_add_one (n := n), Finset.filter_insert, if_pos ho, bigSep_insert (by simp)]
  exact .rfl
omit [FloatOps F] in
theorem factA_add {n : ℕ} (ho : ok n) (h0 : 0 < n) : iprop(factA1 c n ∗ factA c (n - 1)) ⊢ (factA c n : sProp 𝕄) := by
  unfold factA
  rw [show n - 1 + 1 = n by omega, Finset.range_add_one (n := n), Finset.filter_insert, if_pos ho, bigSep_insert (by simp)]
  exact .rfl
omit [FloatOps F] in
/-- and an earlier one read off. -/
theorem factX_elim {n d : ℕ} (ho : ok n) (h : n ≤ d) : factX c d ⊢ (factX1 c n : sProp 𝕄) :=
  bigSep_elim (Finset.mem_filter.mpr ⟨Finset.mem_range.mpr (by omega), ho⟩)
omit [FloatOps F] in
theorem factA_elim {n d : ℕ} (ho : ok n) (h : n ≤ d) : factA c d ⊢ (factA1 c n : sProp 𝕄) :=
  bigSep_elim (Finset.mem_filter.mpr ⟨Finset.mem_range.mpr (by omega), ho⟩)
end Takes

/-! ## What pays what -/

theorem owe_x (c : Dev nD) (k : Cnt) (n : ℕ) (hk : k.nx = n) (ho : ok n) (hn : n < 96) :
    owe c k = owe c { k with nx := n + 1 } + tallyAt (gXr (nxt c) n) n NX := by
  subst hk; unfold owe; simp only; rw [tX_pop c hn ho]; abel
theorem owe_gx (c : Dev nD) (k : Cnt) (n : ℕ) (hk : k.gx = n) (ho : ok n) (hn : n < 96) :
    owe c k = owe c { k with gx := n + 1 } + tallyAt (gXc (prv c)) n 1 := by
  subst hk; unfold owe; simp only; rw [tGX_pop c hn ho]; abel
theorem owe_a0 (c : Dev nD) (k : Cnt) (n : ℕ) (hk : k.a0 = n) (ho : ok n) (hn : n < 96) :
    owe c k = owe c { k with a0 := n + 1 } + tallyAt (gAr (nxt c) 0 n) n NA := by
  subst hk; unfold owe; simp only; rw [tA_pop c 0 hn ho]; abel
theorem owe_a1 (c : Dev nD) (k : Cnt) (n : ℕ) (hk : k.a1 = n) (ho : ok n) (hn : n < 96) :
    owe c k = owe c { k with a1 := n + 1 } + tallyAt (gAr (nxt c) 1 n) n NA := by
  subst hk; unfold owe; simp only; rw [tA_pop c 1 hn ho]; abel
theorem owe_ga (c : Dev nD) (k : Cnt) (n : ℕ) (hk : k.ga = n) (ho : ok n) (hn : n < 96) :
    owe c k = owe c { k with ga := n + 1 } + tallyAt (gAc (prv c)) n 1 := by
  subst hk; unfold owe; simp only; rw [tGA_pop c hn ho]; abel
theorem owe_h0 (c : Dev nD) (k : Cnt) (l : ℕ) (hk : k.h0 = l) (hl : l < 3) :
    owe c k = owe c { k with h0 := l + 1 } + tallyAt (gHm (nxt c) 0) l NA := by
  subst hk; unfold owe; simp only; rw [tH_pop c 0 hl]; abel
theorem owe_h1 (c : Dev nD) (k : Cnt) (l : ℕ) (hk : k.h1 = l) (hl : l < 3) :
    owe c k = owe c { k with h1 := l + 1 } + tallyAt (gHm (nxt c) 1) l NA := by
  subst hk; unfold owe; simp only; rw [tH_pop c 1 hl]; abel

/-- The counts once a half's next partial sum has been sent, -/
def Cnt.sentA (k : Cnt) (h : Fin 2) (n : ℕ) : Cnt := match h with | 0 => { k with a0 := n } | 1 => { k with a1 := n }
/-- its home copy. -/
def Cnt.sentH (k : Cnt) (h : Fin 2) (l : ℕ) : Cnt := match h with | 0 => { k with h0 := l } | 1 => { k with h1 := l }
def Cnt.a (k : Cnt) (h : Fin 2) : ℕ := match h with | 0 => k.a0 | 1 => k.a1
def Cnt.h (k : Cnt) (h : Fin 2) : ℕ := match h with | 0 => k.h0 | 1 => k.h1

theorem owe_a (c : Dev nD) (k : Cnt) (h : Fin 2) (n : ℕ) (hk : k.a h = n) (ho : ok n) (hn : n < 96) :
    owe c k = owe c (k.sentA h (n + 1)) + tallyAt (gAr (nxt c) h n) n NA := by
  match h with
  | 0 => exact owe_a0 c k n hk ho hn
  | 1 => exact owe_a1 c k n hk ho hn
theorem owe_h (c : Dev nD) (k : Cnt) (h : Fin 2) (l : ℕ) (hk : k.h h = l) (hl : l < 3) :
    owe c k = owe c (k.sentH h (l + 1)) + tallyAt (gHm (nxt c) h) l NA := by
  match h with
  | 0 => exact owe_h0 c k l hk hl
  | 1 => exact owe_h1 c k l hk hl

/-- A half's landing, out of the granted pair. -/
theorem factA1_half (d : Dev nD) (n : ℕ) (h : Fin 2) :
    factA1 d n ⊢ (iprop(released ES (d, kd h, n) 1 ∗ reached ER (gAr d h n) (posR (n % 2) n)) : sProp 𝕄) := by
  unfold factA1
  match h with
  | 0 => iintro ⟨H, -⟩; iexact H
  | 1 => iintro ⟨-, H⟩; iexact H

theorem Sl_x (d : Dev nD) (n : ℕ) : Sl (F := F) (d, 0, n) = pcAny d xB (rX (f4 (n + 1))) := rfl
theorem Sl_a (d : Dev nD) (h : Fin 2) (n : ℕ) : Sl (F := F) (d, kd h, n) = pcAny d aB (rA (f2 (n + 1)) h) := by
  match h with
  | 0 => rfl
  | 1 => rfl

theorem mem_fut0 {n : ℕ} (ho : ok n) (hn : n < 96) : n ∈ fut 0 96 := Finset.mem_filter.mpr ⟨Finset.mem_Ico.mpr ⟨by omega, hn⟩, ho⟩

section Sends
variable (D : Dat F) (κ : GSem nD τ sig → ℕ) (ιs : Key → ℕ) (c : Dev nD) (k : Cnt)

/-- Sending an x block: half of the place stays readable, the landing's place is taken. -/
theorem sX (n w l j : ℕ) (hn : n = 32 * l + j) (hj : j < 31) (hl : l < 3) (hw : posX (n % 4) w = posX (n % 4) n) (hk : k.nx = n)
    {off₁ off₂ : Fin 3 → ℕ} (h₁ : off₁ = ![(f4 n).val, 0, 0]) (h₂ : off₂ = ![(f4 (n + 1)).val, 0, 0]) {nn : Dev nD} (hnn : nn = nxt c)
    {sS sR : SemLoc sig} (hS : sS = xsS (f4 n)) (hR : sR = xrS (f4 (n + 1)))
    {inb₁ : ∀ a : Fin 3, off₁ a + S1x64x1024.size a ≤ S4x64x1024.size a} {inb₂ : ∀ a : Fin 3, off₂ a + S1x64x1024.size a ≤ S4x64x1024.size a}
    {hst₁ hst₂} {hq₁ hq₂ : S1x64x1024.Squeezes S64x1024} {hsc hsrc hdst hsem}
    {α : Type} {cont : PUnit → Prog (TpuEff nD τ sig (Elt F) Λ₀ .tc) α} {Q : α → sProp 𝕄} :
    Know D κ ιs ⊢ iprop(SX c n -∗ WX c w -∗ factX1 (nxt c) n -∗ pc c xB (rX (f4 n)) fullShare.right (D.xc l c j) -∗ Ow c k
      -∗ ((SX c (n + 1) ∗ WX c w ∗ cred (tallyAt (gXs c n) 0 NX) ∗ Ow c { k with nx := n + 1 }) -∗ WP c (cont ⟨⟩) Q)
      -∗ WP c (.op (.enqueueDma ((xB.slice (Rect.unit (s := S4x64x1024) off₁ S1x64x1024.size inb₁) hst₁).squeeze S64x1024 hq₁)
          (.remote (Dev.tc nn : Thread nD τ) ((xB.slice (Rect.unit (s := S4x64x1024) off₂ S1x64x1024.size inb₂) hst₂).squeeze S64x1024 hq₂) sS hsc) sR hsrc hdst hsem) cont) Q) := by
  subst h₁ h₂ hnn hS hR
  have ho : ok n := ok_of hn hj
  have hn96 : n < 96 := by omega
  have hp₁ : pc c xB (rX (f4 n)) fullShare.right (D.xc l c j) ⊢ (Rd D).payload (gXs c n) (posX (n % 4) n) n :=
    Entails.of_eq (by rw [← pay_xs D c hn (by omega) (f4 n)]; exact congrArg (pay D c n) (role_xs _).symm)
  have hp₂ : iprop(pc (nxt c) xB (rX (f4 (n + 1))) fullShare (D.xc l (nxt c) (j + 1)) ∗ emp) ⊢ (Rd D).payload (gXr (nxt c) n) (posX (n % 4) n) n := by
    refine (show _ ⊢ pc (nxt c) xB (rX (f4 (n + 1))) fullShare (D.xc l (nxt c) (j + 1)) from ?_).trans
      (Entails.of_eq (by rw [← pay_xr D (nxt c) hn (by omega) (f4 (n + 1))]; exact congrArg (pay D (nxt c) n) (role_xr _).symm))
    iintro ⟨H, -⟩; iexact H
  iintro #HK HS HW #Hf Hp HO Hk
  ihave HS := SX_take c ho hn96 $$ HS
  icases HS with ⟨⟨Ht₁, Ht₂, Hw⟩, HS⟩
  ihave HW := WX_reached c hw $$ HW
  icases HW with ⟨Hr₁, HW⟩
  ihave #Hi₁ := Know_cell D κ ιs c (xsS (f4 n)) (by rw [role_xs]; nofun) $$ HK
  ihave #Hi₂ := Know_cell D κ ιs (nxt c) (xrS (f4 (n + 1))) (by rw [role_xr]; nofun) $$ HK
  ihave #Hsl := Know_slot D κ ιs (nxt c, 0, n) (mem_fut0 ho hn96) $$ HK
  unfold factX1
  icases Hf with ⟨#Hrel, #Hr₂⟩
  iapply fupd_wp
  imod (slot_take (E := ES) (ι := ιs (nxt c, 0, n)) (k := (nxt c, 0, n)) (S := Sl (nxt c, 0, n)) (Set.mem_univ _) 1) $$ [Hw] with Hdst
  · isplitr; · iexact Hsl
    isplitr; · iexact Hrel
    iexact Hw
  imodintro
  ihave Hdst := (Entails.of_eq (Sl_x (nxt c) n)) $$ Hdst
  unfold Ow
  icases HO with ⟨%W, HO⟩
  iapply (wp_send_pc (Rd D) c (nxt c) xB (rX (f4 n)) (fun _ => rfl) hq₁ xB (rX (f4 (n + 1))) (fun _ => rfl) hq₂ (D.xc l c j) (D.xc l (nxt c) (j + 1))
    (by rw [D.xc_nxt]; exact (shapeCast_shapeCast _ _ _).symm) (κ₁ := κ (gXs c n)) (κ₂ := κ (gXr (nxt c) n)) (R₁ := posX (n % 4) n) (R₂ := posX (n % 4) n) (d₁ := n) (d₂ := n)
    (show n ∈ dut _ (role _) by rw [role_xs, dut_xs ho hn96]; exact Finset.mem_singleton_self n)
    (show n ∈ dut _ (role _) by rw [role_xr, dut_xr ho hn96]; exact Finset.mem_singleton_self n)
    n NX rfl (show amt (role _) = NX by rw [role_xs]; rfl) (show amt (role _) = NX by rw [role_xr]; rfl)
    (O₀ := owe c k) (owe c { k with nx := n + 1 }) (owe_x c k n hk ho hn96) (W := W) (Fr := iprop(emp)) hp₁ hp₂) $$ [Hp Hdst HO Ht₁ Hr₁ Ht₂]
  · isplitr; · iexact Hi₁
    isplitr; · iexact Hi₂
    isplitl [Hp]; · iexact Hp
    isplitl [Hdst]; · iexact Hdst
    isplitr; · iempintro
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [HS]; · iexact HS
  isplitl [HW]; · iexact HW
  isplitl [Hc]; · iexact Hc
  iexists W; iexact HO

/-- Sending a half of a partial sum, with the right to its owner's home place. -/
theorem sA (h : Fin 2) (n l j : ℕ) (hn : n = 32 * l + j) (hj : j < 31) (hl : l < 3) (hk : k.a h = n)
    {off₁ off₂ : Fin 4 → ℕ} (h₁ : off₁ = ![(f2 n).val, h.val, 0, 0]) (h₂ : off₂ = ![(f2 (n + 1)).val, h.val, 0, 0]) {nn : Dev nD} (hnn : nn = nxt c)
    {sS sR : SemLoc sig} (hS : sS = asS (f2 n) h) (hR : sR = arS (f2 (n + 1)) h)
    {inb₁ : ∀ a : Fin 4, off₁ a + S1x1x64x512.size a ≤ S2x2x64x512.size a} {inb₂ : ∀ a : Fin 4, off₂ a + S1x1x64x512.size a ≤ S2x2x64x512.size a}
    {hst₁ hst₂} {hq₁ hq₂ : S1x1x64x512.Squeezes S64x512} {hsc hsrc hdst hsem}
    {α : Type} {cont : PUnit → Prog (TpuEff nD τ sig (Elt F) Λ₀ .tc) α} {Q : α → sProp 𝕄} :
    Know D κ ιs ⊢ iprop(SA c h n -∗ WA c h n -∗ factA1 (nxt c) n -∗ pc c aB (rA (f2 n) h) fullShare (D.A l c j h)
      -∗ (pcAny (lft c j) hB (rH h) ∗ reached ER (gHm (lft c j) h) l) -∗ Ow c k
      -∗ ((SA c h (n + 1) ∗ WA c h n ∗ cred (tallyAt (gAs c h n) 0 NA) ∗ Ow c (k.sentA h (n + 1))) -∗ WP c (cont ⟨⟩) Q)
      -∗ WP c (.op (.enqueueDma ((aB.slice (Rect.unit (s := S2x2x64x512) off₁ S1x1x64x512.size inb₁) hst₁).squeeze S64x512 hq₁)
          (.remote (Dev.tc nn : Thread nD τ) ((aB.slice (Rect.unit (s := S2x2x64x512) off₂ S1x1x64x512.size inb₂) hst₂).squeeze S64x512 hq₂) sS hsc) sR hsrc hdst hsem) cont) Q) := by
  subst h₁ h₂ hnn hS hR
  have ho : ok n := ok_of hn hj
  have hn96 : n < 96 := by omega
  have hp₁ : pc c aB (rA (f2 n) h) fullShare (D.A l c j h) ⊢ (Rd D).payload (gAs c h n) (posS (n % 2) n) n :=
    (pc_any c aB (rA (f2 n) h) _).trans (Entails.of_eq (congrArg (pay D c n) (role_as (f2 n) h).symm))
  have hp₂ : iprop(pc (nxt c) aB (rA (f2 (n + 1)) h) fullShare (D.A l c j h) ∗ pcAny (lft c j) hB (rH h) ∗ reached ER (gHm (lft c j) h) l)
      ⊢ (Rd D).payload (gAr (nxt c) h n) (posR (n % 2) n) n :=
    Entails.of_eq (by
      have e := pay_ar D (nxt c) hn (by omega) (f2 (n + 1)) h
      rw [prv_nxt, lft_nxt] at e
      rw [← e]; exact congrArg (pay D (nxt c) n) (role_ar _ _).symm)
  iintro #HK HS HW #Hf Hp Hh HO Hk
  ihave HS := SA_take c h ho hn96 $$ HS
  icases HS with ⟨⟨Ht₁, Ht₂, Hw⟩, HS⟩
  ihave HW := WA_reached c h n $$ HW
  icases HW with ⟨Hr₁, HW⟩
  ihave #Hi₁ := Know_cell D κ ιs c (asS (f2 n) h) (by rw [role_as]; nofun) $$ HK
  ihave #Hi₂ := Know_cell D κ ιs (nxt c) (arS (f2 (n + 1)) h) (by rw [role_ar]; nofun) $$ HK
  ihave #Hsl := Know_slot D κ ιs (nxt c, kd h, n) (mem_fut0 ho hn96) $$ HK
  ihave Hf := factA1_half (nxt c) n h $$ Hf
  icases Hf with ⟨#Hrel, #Hr₂⟩
  iapply fupd_wp
  imod (slot_take (E := ES) (ι := ιs (nxt c, kd h, n)) (k := (nxt c, kd h, n)) (S := Sl (nxt c, kd h, n)) (Set.mem_univ _) 1) $$ [Hw] with Hdst
  · isplitr; · iexact Hsl
    isplitr; · iexact Hrel
    iexact Hw
  imodintro
  ihave Hdst := (Entails.of_eq (Sl_a (nxt c) h n)) $$ Hdst
  unfold Ow
  icases HO with ⟨%W, HO⟩
  iapply (wp_send_pc (Rd D) c (nxt c) aB (rA (f2 n) h) (fun _ => rfl) hq₁ aB (rA (f2 (n + 1)) h) (fun _ => rfl) hq₂ (D.A l c j h) (D.A l c j h)
    (shapeCast_shapeCast _ _ _).symm (κ₁ := κ (gAs c h n)) (κ₂ := κ (gAr (nxt c) h n)) (R₁ := posS (n % 2) n) (R₂ := posR (n % 2) n) (d₁ := n) (d₂ := n)
    (show n ∈ dut _ (role _) by rw [role_as, dut_as h hn96]; exact Finset.mem_singleton_self n)
    (show n ∈ dut _ (role _) by rw [role_ar, dut_ar ho hn96]; exact Finset.mem_singleton_self n)
    n NA rfl (show amt (role _) = NA by rw [role_as]; rfl) (show amt (role _) = NA by rw [role_ar]; rfl)
    (O₀ := owe c k) (owe c (k.sentA h (n + 1))) (owe_a c k h n hk ho hn96) (W := W)
    (Fr := iprop(pcAny (lft c j) hB (rH h) ∗ reached ER (gHm (lft c j) h) l)) hp₁ hp₂) $$ [Hp Hdst Hh HO Ht₁ Hr₁ Ht₂]
  · isplitr; · iexact Hi₁
    isplitr; · iexact Hi₂
    isplitl [Hp]; · iexact Hp
    isplitl [Hdst]; · iexact Hdst
    isplitl [Hh]; · iexact Hh
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [HS]; · iexact HS
  isplitl [HW]; · iexact HW
  isplitl [Hc]; · iexact Hc
  iexists W; iexact HO

/-- Sending a half of the whole sum home. -/
theorem sH (h : Fin 2) (l : ℕ) (hl : l < 3) (hk : k.h h = l)
    {off₁ : Fin 4 → ℕ} {off₂ : Fin 3 → ℕ} (h₁ : off₁ = ![(f2 (32 * l + 31)).val, h.val, 0, 0]) (h₂ : off₂ = ![h.val, 0, 0]) {nn : Dev nD} (hnn : nn = nxt c)
    {sS sR : SemLoc sig} (hS : sS = asS (f2 (32 * l + 31)) h) (hR : sR = hmS h)
    {inb₁ : ∀ a : Fin 4, off₁ a + S1x1x64x512.size a ≤ S2x2x64x512.size a} {inb₂ : ∀ a : Fin 3, off₂ a + S1x64x512.size a ≤ S2x64x512.size a}
    {hst₁ hst₂} {hq₁ : S1x1x64x512.Squeezes S64x512} {hq₂ : S1x64x512.Squeezes S64x512} {hsc hsrc hdst hsem}
    {α : Type} {cont : PUnit → Prog (TpuEff nD τ sig (Elt F) Λ₀ .tc) α} {Q : α → sProp 𝕄} :
    Know D κ ιs ⊢ iprop(SH c h l -∗ WA c h (32 * l + 31) -∗ pc c aB (rA (f2 (32 * l + 31)) h) fullShare (D.A l c 31 h)
      -∗ (pcAny (nxt c) hB (rH h) ∗ reached ER (gHm (nxt c) h) l) -∗ Ow c k
      -∗ ((SH c h (l + 1) ∗ WA c h (32 * l + 31) ∗ cred (tallyAt (gAs c h (32 * l + 31)) 0 NA) ∗ Ow c (k.sentH h (l + 1))) -∗ WP c (cont ⟨⟩) Q)
      -∗ WP c (.op (.enqueueDma ((aB.slice (Rect.unit (s := S2x2x64x512) off₁ S1x1x64x512.size inb₁) hst₁).squeeze S64x512 hq₁)
          (.remote (Dev.tc nn : Thread nD τ) ((hB.slice (Rect.unit (s := S2x64x512) off₂ S1x64x512.size inb₂) hst₂).squeeze S64x512 hq₂) sS hsc) sR hsrc hdst hsem) cont) Q) := by
  subst h₁ h₂ hnn hS hR
  have hn96 : 32 * l + 31 < 96 := by omega
  have hm : (32 * l + 31) % 2 = 1 := by omega
  have hd : dut (posS 1 (32 * l + 31)) (role (asS (f2 (32 * l + 31)) h)) = {32 * l + 31} := by
    have := dut_as h hn96; rw [hm] at this; rw [role_as, this]
  have hp₁ : pc c aB (rA (f2 (32 * l + 31)) h) fullShare (D.A l c 31 h) ⊢ (Rd D).payload (gAs c h (32 * l + 31)) (posS 1 (32 * l + 31)) (32 * l + 31) := by
    refine (pc_any c aB (rA (f2 (32 * l + 31)) h) _).trans ?_
    exact Entails.of_eq (congrArg (pay D c (32 * l + 31)) (role_as (f2 (32 * l + 31)) h).symm)
  have hp₂ : iprop(pc (nxt c) hB (rH h) fullShare (D.hom l (nxt c) h) ∗ emp) ⊢ (Rd D).payload (gHm (nxt c) h) l l := by
    refine (show _ ⊢ pc (nxt c) hB (rH h) fullShare (D.hom l (nxt c) h) from ?_).trans
      (Entails.of_eq (congrArg (pay D (nxt c) l) (role_hm h).symm))
    iintro ⟨H, -⟩; iexact H
  iintro #HK HS HW Hp ⟨Hh, Hr₂⟩ HO Hk
  ihave HS := SH_take c h hl $$ HS
  icases HS with ⟨⟨Ht₁, Ht₂⟩, HS⟩
  ihave HW := WA_reached c h (32 * l + 31) $$ HW
  icases HW with ⟨Hr₁, HW⟩
  ihave #Hi₁ := Know_cell D κ ιs c (asS (f2 (32 * l + 31)) h) (by rw [role_as]; nofun) $$ HK
  ihave #Hi₂ := Know_cell D κ ιs (nxt c) (hmS h) (by rw [role_hm]; nofun) $$ HK
  ihave Hr₁ := (Entails.of_eq (congrArg (fun z => reached ER (gAs c h (32 * l + 31)) (posS z (32 * l + 31))) hm)) $$ Hr₁
  unfold Ow
  icases HO with ⟨%W, HO⟩
  have hY : D.hom l (nxt c) h = shapeCast S1x64x512 (shapeCast S64x512 (D.A l c 31 h) hq₁.numel_eq) hq₂.numel_eq.symm := by
    unfold Dat.hom home Dat.A; rw [prv_nxt]
  iapply (wp_send_pc (Rd D) c (nxt c) aB (rA (f2 (32 * l + 31)) h) (fun _ => rfl) hq₁ hB (rH h) (fun _ => rfl) hq₂ (D.A l c 31 h) (D.hom l (nxt c) h)
    hY (κ₁ := κ (gAs c h (32 * l + 31))) (κ₂ := κ (gHm (nxt c) h)) (R₁ := posS 1 (32 * l + 31)) (R₂ := l) (d₁ := 32 * l + 31) (d₂ := l)
    (show _ ∈ dut _ (role _) by rw [hd]; exact Finset.mem_singleton_self _)
    (show l ∈ dut _ (role _) by rw [role_hm, dut_hm hl]; exact Finset.mem_singleton_self l)
    l NA rfl (show amt (role _) = NA by rw [role_as]; rfl) (show amt (role _) = NA by rw [role_hm]; rfl)
    (O₀ := owe c k) (owe c (k.sentH h (l + 1))) (owe_h c k h l hk hl) (W := W) (Fr := iprop(emp)) hp₁ hp₂) $$ [Hp Hh HO Ht₁ Hr₁ Ht₂ Hr₂]
  · isplitr; · iexact Hi₁
    isplitr; · iexact Hi₂
    isplitl [Hp]; · iexact Hp
    isplitl [Hh]; · iexact Hh
    isplitr; · iempintro
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [HS]; · iexact HS
  isplitl [HW]; · iexact HW
  isplitl [Hc]; · iexact Hc
  iexists W; iexact HO

/-! ## Grants -/

/-- Releasing the place of x landing `n` and granting it to the left neighbour. -/
theorem gX (n r : ℕ) (ho : ok n) (h0 : 3 ≤ n) (hn : n < 96) (hr : posX (n % 4) r = posX (n % 4) n) (hk : k.gx = n) {nn : Dev nD} (hnn : nn = prv c)
    {sem : Sem sig} (hS : sem = (0 : Fin 3)) {k' : ℕ} (hk' : k' = 1)
    {α : Type} {cont : PUnit → Prog (TpuEff nD τ sig (Elt F) Λ₀ .tc) α} {Q : α → sProp 𝕄} :
    Know D κ ιs ⊢ iprop(GX c n -∗ pcAny c xB (rX (f4 (n + 1))) -∗ RX c r -∗ Ow c k
      -∗ ((GX c (n + 1) ∗ RX c r ∗ Ow c { k with gx := n + 1 }) -∗ WP c (cont ⟨⟩) Q)
      -∗ WP c (.op (.semSignal (Dev.tc nn : Thread nD τ) sem k') cont) Q) := by
  subst hnn hS hk'
  have hd : n ∈ (Rd D).duties (gXc (prv c)) 0 := by
    show n ∈ dut 0 (role xcS)
    rw [role_xc]; simp only [dut, if_pos]; exact Finset.mem_filter.mpr ⟨Finset.mem_Ico.mpr ⟨h0, hn⟩, ho⟩
  have hpay : factX c n ⊢ (Rd D).payload (gXc (prv c)) 0 n :=
    Entails.of_eq (show factX c n = factX (nxt (prv c)) n by rw [nxt_prv])
  iintro #HK HG Hp HR HO Hk
  unfold GX
  icases HG with ⟨#Hf, HG⟩
  ihave HG := (Entails.of_eq (bigSep_fut_pop hn ho _)) $$ HG
  icases HG with ⟨⟨Ht, Hrd⟩, HG⟩
  ihave HR := RX_reached c hr $$ HR
  icases HR with ⟨#Hre, HR⟩
  ihave #Hi := Know_cell D κ ιs (prv c) xcS (by rw [role_xc]; nofun) $$ HK
  ihave #Hsl := Know_slot D κ ιs (c, 0, n) (mem_fut0 ho hn) $$ HK
  iapply fupd_wp
  ihave Hp := (Entails.of_eq (Sl_x c n).symm) $$ Hp
  imod (slot_release (E := ES) (ι := ιs (c, 0, n)) (k := (c, 0, n)) (S := Sl (c, 0, n)) (Set.mem_univ _) (Sl_false _) 0) $$ [Hrd Hp] with ⟨-, #Hrel⟩
  · isplitr; · iexact Hsl
    isplitl [Hrd] <;> iassumption
  imodintro
  ihave #Hf' := factX_add c ho (by omega) $$ []
  · isplitr
    · unfold factX1
      isplitr; · iexact Hrel
      iexact Hre
    · iexact Hf
  unfold Ow
  icases HO with ⟨%W, HO⟩
  iapply (Rounds.wp_signal (E := ER) (Rd := Rd D) 𝒱₀ (c : Thread nD τ) none (dst := (prv c : Thread nD τ)) (sem := (0 : Fin 3)) (r := 0) (d := n) (κ := κ (gXc (prv c)))
    hd rfl n (O₀ := owe c k) (owe c { k with gx := n + 1 }) (owe_gx c k n hk ho hn) (W := W)) $$ [HO Ht]
  · isplitr; · iexact Hi
    isplitl [HO]; · iexact HO
    isplitl [Ht]; · iexact Ht
    isplitr; · iapply hpay; iexact Hf'
    iapply (Know_reached D κ ιs (prv c) xcS (by rw [role_xc]; nofun)); iexact HK
  iintro HO
  iapply Hk
  isplitl [HG]
  · isplitr; · iexact Hf'
    iexact HG
  isplitl [HR]; · iexact HR
  iexists W; iexact HO

/-- Releasing both halves' places of partial sum `n` and granting them to the left neighbour. -/
theorem gA (n : ℕ) (ho : ok n) (h0 : 1 ≤ n) (hn : n < 96) (r₀ r₁ : ℕ) (hr₀ : posR (n % 2) r₀ = posR (n % 2) n) (hr₁ : posR (n % 2) r₁ = posR (n % 2) n)
    (hk : k.ga = n) {nn : Dev nD} (hnn : nn = prv c)
    {sem : Sem sig} (hS : sem = (1 : Fin 3)) {k' : ℕ} (hk' : k' = 1)
    {α : Type} {cont : PUnit → Prog (TpuEff nD τ sig (Elt F) Λ₀ .tc) α} {Q : α → sProp 𝕄} :
    Know D κ ιs ⊢ iprop(GA c n -∗ pcAny c aB (rA (f2 (n + 1)) 0) -∗ pcAny c aB (rA (f2 (n + 1)) 1) -∗ RA c 0 r₀ -∗ RA c 1 r₁ -∗ Ow c k
      -∗ ((GA c (n + 1) ∗ RA c 0 r₀ ∗ RA c 1 r₁ ∗ Ow c { k with ga := n + 1 }) -∗ WP c (cont ⟨⟩) Q)
      -∗ WP c (.op (.semSignal (Dev.tc nn : Thread nD τ) sem k') cont) Q) := by
  subst hnn hS hk'
  have hd : n ∈ (Rd D).duties (gAc (prv c)) 0 := by
    show n ∈ dut 0 (role acS)
    rw [role_ac]; simp only [dut, if_pos]; exact Finset.mem_filter.mpr ⟨Finset.mem_Ico.mpr ⟨h0, hn⟩, ho⟩
  have hpay : factA c n ⊢ (Rd D).payload (gAc (prv c)) 0 n :=
    Entails.of_eq (show factA c n = factA (nxt (prv c)) n by rw [nxt_prv])
  iintro #HK HG Hp₀ Hp₁ HR₀ HR₁ HO Hk
  unfold GA
  icases HG with ⟨#Hf, HG⟩
  ihave HG := (Entails.of_eq (bigSep_fut_pop hn ho _)) $$ HG
  icases HG with ⟨⟨Ht, Hrd₀, Hrd₁⟩, HG⟩
  ihave HR₀ := RA_reached c 0 hr₀ $$ HR₀
  icases HR₀ with ⟨#Hre₀, HR₀⟩
  ihave HR₁ := RA_reached c 1 hr₁ $$ HR₁
  icases HR₁ with ⟨#Hre₁, HR₁⟩
  ihave #Hi := Know_cell D κ ιs (prv c) acS (by rw [role_ac]; nofun) $$ HK
  ihave #Hsl₀ := Know_slot D κ ιs (c, 1, n) (mem_fut0 ho hn) $$ HK
  ihave #Hsl₁ := Know_slot D κ ιs (c, 2, n) (mem_fut0 ho hn) $$ HK
  iapply fupd_wp
  ihave Hp₀ := (Entails.of_eq (show pcAny c aB (rA (f2 (n + 1)) 0) = Sl (F := F) (c, 1, n) from (Sl_a c 0 n).symm)) $$ Hp₀
  ihave Hp₁ := (Entails.of_eq (show pcAny c aB (rA (f2 (n + 1)) 1) = Sl (F := F) (c, 2, n) from (Sl_a c 1 n).symm)) $$ Hp₁
  imod (slot_release (E := ES) (ι := ιs (c, 1, n)) (k := (c, 1, n)) (S := Sl (c, 1, n)) (Set.mem_univ _) (Sl_false _) 0) $$ [Hrd₀ Hp₀] with ⟨-, #Hrel₀⟩
  · isplitr; · iexact Hsl₀
    isplitl [Hrd₀] <;> iassumption
  imod (slot_release (E := ES) (ι := ιs (c, 2, n)) (k := (c, 2, n)) (S := Sl (c, 2, n)) (Set.mem_univ _) (Sl_false _) 0) $$ [Hrd₁ Hp₁] with ⟨-, #Hrel₁⟩
  · isplitr; · iexact Hsl₁
    isplitl [Hrd₁] <;> iassumption
  imodintro
  ihave #Hf' := factA_add c ho (by omega) $$ []
  · isplitr
    · unfold factA1
      isplitr
      · isplitr; · iexact Hrel₀
        iexact Hre₀
      · isplitr; · iexact Hrel₁
        iexact Hre₁
    · iexact Hf
  unfold Ow
  icases HO with ⟨%W, HO⟩
  iapply (Rounds.wp_signal (E := ER) (Rd := Rd D) 𝒱₀ (c : Thread nD τ) none (dst := (prv c : Thread nD τ)) (sem := (1 : Fin 3)) (r := 0) (d := n) (κ := κ (gAc (prv c)))
    hd rfl n (O₀ := owe c k) (owe c { k with ga := n + 1 }) (owe_ga c k n hk ho hn) (W := W)) $$ [HO Ht]
  · isplitr; · iexact Hi
    isplitl [HO]; · iexact HO
    isplitl [Ht]; · iexact Ht
    isplitr; · iapply hpay; iexact Hf'
    iapply (Know_reached D κ ιs (prv c) acS (by rw [role_ac]; nofun)); iexact HK
  iintro HO
  iapply Hk
  isplitl [HG]
  · isplitr; · iexact Hf'
    iexact HG
  isplitl [HR₀]; · iexact HR₀
  isplitl [HR₁]; · iexact HR₁
  iexists W; iexact HO

/-! ## Credits -/

/-- The messages of the numbers from `a` on below `n` are `n - a`, less one for each layer ended. -/
theorem card_fut (a : ℕ) (ha : a < 31) (n : ℕ) (hn : a ≤ n) : (fut a n).card = n - a - n / 32 := by
  induction n, hn using Nat.le_induction with
  | base => simp [fut]
  | succ n hn ih =>
    have e : fut a (n + 1) = if ok n then insert n (fut a n) else fut a n := by
      unfold fut
      rw [show Finset.Ico a (n + 1) = insert n (Finset.Ico a n) from by ext x; simp only [Finset.mem_Ico, Finset.mem_insert]; omega, Finset.filter_insert]
    rw [e]; split_ifs with h <;> unfold ok at h
    · rw [Finset.card_insert_of_notMem (by simp [fut]), ih]; omega
    · rw [ih]; omega

/-- Some message not before `n` is among more than there are before it. -/
theorem exists_late {a n : ℕ} {T : Finset ℕ} (ha : a < 31) (hn : a ≤ n) (hT : T ⊆ fut a 96) (hc : n - a - n / 32 < T.card) : ∃ d ∈ T, n ≤ d := by
  by_contra h
  have hlt : ∀ d ∈ T, d < n := fun d hd => by
    by_contra hge
    exact h ⟨d, hd, by omega⟩
  have : T ⊆ fut a n := fun d hd => by
    have := hT hd
    simp only [fut, Finset.mem_filter, Finset.mem_Ico] at this ⊢
    exact ⟨⟨this.1.1, hlt d hd⟩, this.2⟩
  have := Finset.card_le_card this
  rw [card_fut a ha n hn] at this
  omega

/-- A wait for one credit of a counter whose messages are the numbers from `a` on: some message not before `n` is then known. -/
theorem wait_credit {sem : Sem sig} {ρ : Role} {a n : ℕ} (hρ : role (.reg sem) = ρ) (hno : ρ ≠ .no) (ha : a < 31) (hd : dut 0 ρ = fut a 96) (hone : amt ρ = 1)
    (ho : ok n) (han : a ≤ n) (hn : n < 96) (hk : k.above (lv ((c : Thread nD τ), .reg sem) n)) {k' : ℕ} (hk' : k' = 1)
    {α : Type} {cont : PUnit → Prog (TpuEff nD τ sig (Elt F) Λ₀ .tc) α} {Q : α → sProp 𝕄} :
    Know D κ ιs ⊢ iprop((∃ T : Finset ℕ, ⌜T ⊆ fut a 96⌝ ∗ atPos ER ((c : Thread nD τ), .reg sem) 0 T (n - a - n / 32)
          ∗ bigSep T (fun d => (Rd D).payload ((c : Thread nD τ), .reg sem) 0 d))
      -∗ cred (tallyAt ((c : Thread nD τ), .reg sem) n 1) -∗ Ow c k
      -∗ (((∃ T : Finset ℕ, ⌜T ⊆ fut a 96 ∧ ∃ d ∈ T, n ≤ d⌝ ∗ atPos ER ((c : Thread nD τ), .reg sem) 0 T (n + 1 - a - (n + 1) / 32)
          ∗ bigSep T (fun d => (Rd D).payload ((c : Thread nD τ), .reg sem) 0 d)) ∗ Ow c k) -∗ WP c (cont ⟨⟩) Q)
      -∗ WP c (.op (.semWait sem k') cont) Q) := by
  subst hk' hρ
  iintro #HK ⟨%T, %hT, Hat, Hp⟩ Hc HO Hk
  unfold Ow
  icases HO with ⟨%W, HO⟩
  ihave #Hi := Know_cell D κ ιs c (.reg sem) hno $$ HK
  have hd' : (Rd D).duties ((c : Thread nD τ), .reg sem) 0 = fut a 96 := hd
  iapply (Rounds.wp_wait (E := ER) (Rd := Rd D) (κ := κ ((c : Thread nD τ), .reg sem)) 𝒱₀ (c : Thread nD τ) none
    (wpE_semWait_eq 𝒱₀ (c : Thread nD τ) none Set.univ) (Set.mem_univ _) (cr := Finsupp.single n 1) (O := owe c k) (W := W) {(.reg sem, n)}
    (R := 0) (m := n - a - n / 32) (T := T) (by rw [Util.total_single]) (image_single_subset _ n 1)) $$ [Hc HO Hat]
  · isplitr; · iexact Hi
    isplitl [Hc]; · iexact Hc
    isplitl [HO]; · iexact HO
    isplitr
    · iapply (Know_may D κ ιs c k (.reg sem) n (by omega) hk); iexact HK
    iexact Hat
  iintro %S ⟨%hS, HO, Hat, Hp'⟩
  obtain ⟨hTS, hSd, hle⟩ := hS
  rw [hd'] at hSd hle
  have hex : (Rd D).expect ((c : Thread nD τ), .reg sem) 0 = (fut a 96).card := by
    unfold Schedule.expect Schedule.amountOf
    rw [hd', Finset.sum_congr rfl (fun d _ => show (Rd D).amount ((c : Thread nD τ), .reg sem) 0 d = 1 from hone), Finset.sum_const, smul_eq_mul, mul_one]
  rw [hex, Finset.card_sdiff_of_subset hSd] at hle
  have hSc := Finset.card_le_card hSd
  have hm : n - a - n / 32 + 1 = n + 1 - a - (n + 1) / 32 := by unfold ok at ho; omega
  iapply Hk
  isplitr [HO]
  · iexists S
    isplitr; · ipureintro; exact ⟨hSd, exists_late ha han hSd (by omega)⟩
    isplitl [Hat]; · rw [← hm]; iexact Hat
    have hj : iprop(bigSep T (fun d => (Rd D).payload ((c : Thread nD τ), .reg sem) 0 d) ∗ bigSep (S \ T) (fun d => (Rd D).payload ((c : Thread nD τ), .reg sem) 0 d))
        ⊢ bigSep S (fun d => (Rd D).payload ((c : Thread nD τ), .reg sem) 0 d) := Entails.of_eq (bigSep_sdiff_split hTS).symm
    iapply hj
    isplitl [Hp] <;> iassumption
  iexists _; iexact HO

/-- Waiting for an x credit: the landing of x message `n` is free. -/
theorem cX (n : ℕ) (ho : ok n) (h0 : 3 ≤ n) (hn : n < 96) (hk : k.above (lvGX n)) {sem : Sem sig} (hS : sem = (0 : Fin 3)) {k' : ℕ} (hk' : k' = 1)
    {α : Type} {cont : PUnit → Prog (TpuEff nD τ sig (Elt F) Λ₀ .tc) α} {Q : α → sProp 𝕄} :
    Know D κ ιs ⊢ iprop(CX c D n -∗ Ow c k -∗ ((CX c D (n + 1) ∗ factX1 (nxt c) n ∗ Ow c k) -∗ WP c (cont ⟨⟩) Q)
      -∗ WP c (.op (.semWait sem k') cont) Q) := by
  subst hS
  have hd : dut 0 .xc = fut 3 96 := rfl
  have hpay : ∀ d, (Rd D).payload (gXc c) 0 d ⊢ factX (nxt c) d := fun d => .rfl
  iintro #HK HC HO Hk
  unfold CX
  icases HC with ⟨Hat, Hcs⟩
  ihave Hcs := (Entails.of_eq (bigSep_fut_pop hn ho _)) $$ Hcs
  icases Hcs with ⟨Hc, Hcs⟩
  iapply (wait_credit D κ ιs c k (sem := (0 : Fin 3)) (ρ := .xc) role_xc (by nofun) (by omega) hd rfl ho h0 hn (by exact hk) hk') $$ HK Hat Hc HO
  iintro ⟨⟨%S, %hS, Hat, Hp⟩, HO⟩
  obtain ⟨hSd, d, hdS, hnd⟩ := hS
  have hf : (bigSep S (fun d => (Rd D).payload (gXc c) 0 d) : sProp 𝕄) ⊢ factX1 (nxt c) n := (bigSep_elim hdS).trans ((hpay d).trans (factX_elim (nxt c) ho hnd))
  have hf' : (bigSep S (fun d => (Rd D).payload (gXc c) 0 d) : sProp 𝕄) ⊢ iprop(factX1 (nxt c) n ∗ bigSep S (fun d => (Rd D).payload (gXc c) 0 d)) := persistent_entails_right hf
  ihave Hp := hf' $$ Hp
  icases Hp with ⟨#Hf, Hp⟩
  iapply Hk
  isplitl [Hat Hp Hcs]
  · isplitl [Hat Hp]
    · iexists S
      isplitr; · ipureintro; exact hSd
      isplitl [Hat] <;> iassumption
    iexact Hcs
  isplitr; · iexact Hf
  iexact HO

/-- Waiting for a credit of the partial sums: both landings of message `n` are free. -/
theorem cA (n : ℕ) (ho : ok n) (h0 : 1 ≤ n) (hn : n < 96) (hk : k.above (lvGA n)) {sem : Sem sig} (hS : sem = (1 : Fin 3)) {k' : ℕ} (hk' : k' = 1)
    {α : Type} {cont : PUnit → Prog (TpuEff nD τ sig (Elt F) Λ₀ .tc) α} {Q : α → sProp 𝕄} :
    Know D κ ιs ⊢ iprop(CA c D n -∗ Ow c k -∗ ((CA c D (n + 1) ∗ factA1 (nxt c) n ∗ Ow c k) -∗ WP c (cont ⟨⟩) Q)
      -∗ WP c (.op (.semWait sem k') cont) Q) := by
  subst hS
  have hd : dut 0 .ac = fut 1 96 := rfl
  have hpay : ∀ d, (Rd D).payload (gAc c) 0 d ⊢ factA (nxt c) d := fun d => .rfl
  iintro #HK HC HO Hk
  unfold CA
  icases HC with ⟨Hat, Hcs⟩
  ihave Hcs := (Entails.of_eq (bigSep_fut_pop hn ho _)) $$ Hcs
  icases Hcs with ⟨Hc, Hcs⟩
  iapply (wait_credit D κ ιs c k (sem := (1 : Fin 3)) (ρ := .ac) role_ac (by nofun) (by omega) hd rfl ho h0 hn (by exact hk) hk') $$ HK Hat Hc HO
  iintro ⟨⟨%S, %hS, Hat, Hp⟩, HO⟩
  obtain ⟨hSd, d, hdS, hnd⟩ := hS
  have hf : (bigSep S (fun d => (Rd D).payload (gAc c) 0 d) : sProp 𝕄) ⊢ factA1 (nxt c) n := (bigSep_elim hdS).trans ((hpay d).trans (factA_elim (nxt c) ho hnd))
  have hf' : (bigSep S (fun d => (Rd D).payload (gAc c) 0 d) : sProp 𝕄) ⊢ iprop(factA1 (nxt c) n ∗ bigSep S (fun d => (Rd D).payload (gAc c) 0 d)) := persistent_entails_right hf
  ihave Hp := hf' $$ Hp
  icases Hp with ⟨#Hf, Hp⟩
  iapply Hk
  isplitl [Hat Hp Hcs]
  · isplitl [Hat Hp]
    · iexists S
      isplitr; · ipureintro; exact hSd
      isplitl [Hat] <;> iassumption
    iexact Hcs
  isplitr; · iexact Hf
  iexact HO

end Sends

end Cert.Proof

end
-- ==== Proof.Slots.lean ====
/-
  Loads and stores of a slot of a buffer, at offsets given by an equation.
-/
module

public import proofs.«01_k».proof.Proof.Waits

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Loads and stores of a slot -/

section Slots
variable (c : Dev nD)

theorem ldX (i : Fin 4) {off : Fin 3 → ℕ} (h : off = ![i.val, 0, 0]) {inb : ∀ a : Fin 3, off a + S1x64x1024.size a ≤ S4x64x1024.size a}
    {q : PosShare TreeShare} {X : FVec F S1x64x1024 .bf16} {hl} {α : Type} {cont : FVec F S1x64x1024 .bf16 → Prog (TpuEff nD τ sig (Elt F) Λ₀ .tc) α} {Q : α → sProp 𝕄} :
    pc c xB (rX i) q X ⊢ iprop((pc c xB (rX i) q X -∗ WP c (cont X) Q)
      -∗ WP c (.op (.load xB (Rect.unit (s := S4x64x1024) off S1x64x1024.size inb).toLoadRect hl) cont) Q) := by
  subst h; exact wp_load_pc c xB (rX i)
theorem ldA {M : Memref sig .tc .vmem S2x2x64x512 .f32} (p h : Fin 2) {off : Fin 4 → ℕ} (ho : off = ![p.val, h.val, 0, 0])
    {inb : ∀ a : Fin 4, off a + S1x1x64x512.size a ≤ S2x2x64x512.size a}
    {q : PosShare TreeShare} {X : FVec F S1x1x64x512 .f32} {hl} {α : Type} {cont : FVec F S1x1x64x512 .f32 → Prog (TpuEff nD τ sig (Elt F) Λ₀ .tc) α} {Q : α → sProp 𝕄} :
    pc c M (rA p h) q X ⊢ iprop((pc c M (rA p h) q X -∗ WP c (cont X) Q)
      -∗ WP c (.op (.load M (Rect.unit (s := S2x2x64x512) off S1x1x64x512.size inb).toLoadRect hl) cont) Q) := by
  subst ho; exact wp_load_pc c M (rA p h)
theorem ldH (h : Fin 2) {off : Fin 3 → ℕ} (ho : off = ![h.val, 0, 0]) {inb : ∀ a : Fin 3, off a + S1x64x512.size a ≤ S2x64x512.size a}
    {q : PosShare TreeShare} {X : FVec F S1x64x512 .f32} {hl} {α : Type} {cont : FVec F S1x64x512 .f32 → Prog (TpuEff nD τ sig (Elt F) Λ₀ .tc) α} {Q : α → sProp 𝕄} :
    pc c hB (rH h) q X ⊢ iprop((pc c hB (rH h) q X -∗ WP c (cont X) Q)
      -∗ WP c (.op (.load hB (Rect.unit (s := S2x64x512) off S1x64x512.size inb).toLoadRect hl) cont) Q) := by
  subst ho; exact wp_load_pc c hB (rH h)
theorem stX (i : Fin 4) {off : Fin 3 → ℕ} (h : off = ![i.val, 0, 0]) {inb : ∀ a : Fin 3, off a + S1x64x1024.size a ≤ S4x64x1024.size a}
    {w : FVec F S1x64x1024 .bf16} {hx : (xB.access (Rect.unit (s := S4x64x1024) off S1x64x1024.size inb)).Stores Finset.univ}
    {hm : (Finset.univ : Finset (Rect.unit (s := S4x64x1024) off S1x64x1024.size inb).shape.Idx) = Finset.univ ∨ ∀ a, (Rect.unit (s := S4x64x1024) off S1x64x1024.size inb).stride a = 1} {α : Type} {cont : PUnit → Prog (TpuEff nD τ sig (Elt F) Λ₀ .tc) α} {Q : α → sProp 𝕄} :
    pcAny c xB (rX i) ⊢ iprop((pc c xB (rX i) fullShare w -∗ WP c (cont ⟨⟩) Q)
      -∗ WP c (.op (.store xB (Rect.unit (s := S4x64x1024) off S1x64x1024.size inb) w Finset.univ hx hm) cont) Q) := by
  subst h; exact wp_store_pc c xB (rX i) (hx := hx) (hm := hm)
theorem stA {M : Memref sig .tc .vmem S2x2x64x512 .f32} (p h : Fin 2) {off : Fin 4 → ℕ} (ho : off = ![p.val, h.val, 0, 0])
    {inb : ∀ a : Fin 4, off a + S1x1x64x512.size a ≤ S2x2x64x512.size a}
    {w : FVec F S1x1x64x512 .f32} {hx : (M.access (Rect.unit (s := S2x2x64x512) off S1x1x64x512.size inb)).Stores Finset.univ}
    {hm : (Finset.univ : Finset (Rect.unit (s := S2x2x64x512) off S1x1x64x512.size inb).shape.Idx) = Finset.univ ∨ ∀ a, (Rect.unit (s := S2x2x64x512) off S1x1x64x512.size inb).stride a = 1} {α : Type} {cont : PUnit → Prog (TpuEff nD τ sig (Elt F) Λ₀ .tc) α} {Q : α → sProp 𝕄} :
    pcAny c M (rA p h) ⊢ iprop((pc c M (rA p h) fullShare w -∗ WP c (cont ⟨⟩) Q)
      -∗ WP c (.op (.store M (Rect.unit (s := S2x2x64x512) off S1x1x64x512.size inb) w Finset.univ hx hm) cont) Q) := by
  subst ho; exact wp_store_pc c M (rA p h) (hx := hx) (hm := hm)
end Slots

end Cert.Proof

end
-- ==== Proof.Phase.lean ====
/-
  The stages of one step around the ring, each over whatever program surrounds it: what of the device's state a stage
  takes and what it leaves. Step `s` of layer `l` has number `b = 32 l + s`.
-/
module

public import proofs.«01_k».proof.Proof.Sends
public import proofs.«01_k».proof.Proof.Slots

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

theorem WP_bind (c : Dev nD) {α β : Type} (p : Prog (TpuEff nD τ sig (Elt F) Λ₀ .tc) α) (k : α → Prog (TpuEff nD τ sig (Elt F) Λ₀ .tc) β) (Q : β → sProp 𝕄) :
    WP c (p >>= k) Q = WP c p fun a => WP c (k a) Q := wp_bind _ _ _ p k Q
theorem WP_ret (c : Dev nD) {α : Type} (a : α) (Q : α → sProp 𝕄) : Q a ⊢ WP c (.ret a) Q := by
  show _ ⊢ wp _ _ _ (.ret a) Q
  rw [wp_ret]; exact fupd_intro

/-! ## The state -/

/-- How many x blocks have been sent when step `s` starts, -/
def nxc (l s : ℕ) : ℕ := if s ≤ 28 then 32 * l + s + 2 else 32 * l + 32
/-- the next landing to grant, -/
def gxc (l s : ℕ) : ℕ := if l = 2 ∧ 27 ≤ s then 95 else 32 * l + s + 4
/-- and the same as owed: nothing once the last has been granted. -/
def gxo (l s : ℕ) : ℕ := if l = 2 ∧ 27 ≤ s then 1000 else 32 * l + s + 4

section State
variable (D : Dat F) (c : Dev nD) (l : ℕ)

/-- The sends of the last step, not yet waited for. -/
def PendA (c : Dev nD) (b : ℕ) : sProp 𝕄 :=
  iprop(WA c 0 (b - 1) ∗ WA c 1 (b - 1) ∗ (if b = 0 then iprop(emp) else iprop(cred (tallyAt (gAs c 0 (b - 1)) 0 NA) ∗ cred (tallyAt (gAs c 1 (b - 1)) 0 NA))))
/-- A half of the partial sum to come: at a layer's first step the place for it and the home place instead. -/
def RAin (c : Dev nD) (l s : ℕ) (h : Fin 2) : sProp 𝕄 :=
  iprop(RA c h (32 * l + (s - 1)) ∗ (if s = 0 then iprop(pcAny c aB (rA (f2 (32 * l)) h) ∗ pcAny c hB (rH h) ∗ reached ER (gHm c h) l) else iprop(emp)))
/-- The block the step's product is made of, its own sending on not yet waited for. -/
def XN (s : ℕ) : sProp 𝕄 :=
  if s ≤ 29 then iprop(pc c xB (rX (f4 (32 * l + s + 1))) fullShare.left (D.xc l c (s + 1)) ∗ cred (tallyAt (gXs c (32 * l + s + 1)) 0 NX))
  else if s = 30 then pc c xB (rX (f4 (32 * l + s + 1))) fullShare (D.xc l c (s + 1)) else iprop(emp)
/-- The places whose landings are not granted any more. -/
def kept (c : Dev nD) (l s : ℕ) : sProp 𝕄 :=
  bigSep (Finset.univ.filter fun i : Fin 4 => 28 + i.val ≤ s ∧ (l = 2 ∨ i = 0)) fun i => pcAny c xB (rX i)
/-- What the device owes when step `s` starts. -/
abbrev cnt (l s : ℕ) : Cnt := ⟨nxc l s, gxo l s, 32 * l + s, 32 * l + s, max (32 * l + s) 1, l, l⟩
/-- The device's state when step `s` of layer `l` starts. -/
def st (s : ℕ) : sProp 𝕄 :=
  iprop(SX c (nxc l s) ∗ WX c (32 * l + min (s + 1) 31) ∗ RX c (32 * l + min (s + 1) 31) ∗ GX c (gxc l s) ∗ CX c D (max 3 (nxc l s))
    ∗ SA c 0 (32 * l + s) ∗ SA c 1 (32 * l + s) ∗ PendA c (32 * l + s) ∗ RAin c l s 0 ∗ RAin c l s 1
    ∗ GA c (max (32 * l + s) 1) ∗ CA c D (max (32 * l + s) 1)
    ∗ (pc c cB (rA (f2 (32 * l + s)) 0) fullShare (D.C l c s 0) ∗ pc c cB (rA (f2 (32 * l + s)) 1) fullShare (D.C l c s 1))
    ∗ (pcAny c cB (rA (f2 (32 * l + s + 1)) 0) ∗ pcAny c cB (rA (f2 (32 * l + s + 1)) 1))
    ∗ XN D c l s ∗ kept c l s ∗ Ow c (cnt l s))
end State

/-- What everyone knows, with the first landings to the right. -/
def Kn (D : Dat F) (κ : GSem nD τ sig → ℕ) (ιs : Key → ℕ) (c : Dev nD) : sProp 𝕄 := iprop(Know D κ ιs ∗ factX (nxt c) 2 ∗ factA (nxt c) 0)
instance Kn_pers (D : Dat F) (κ ιs) (c : Dev nD) : Persistent (Kn D κ ιs c) := by unfold Kn; infer_instance
theorem Kn_know (D : Dat F) (κ ιs) (c : Dev nD) : Kn D κ ιs c ⊢ Know D κ ιs := by unfold Kn; iintro ⟨H, -⟩; iexact H
theorem Kn_x (D : Dat F) (κ ιs) (c : Dev nD) : Kn D κ ιs c ⊢ factX1 (nxt c) 2 := by
  refine (show _ ⊢ factX (nxt c) 2 from ?_).trans (factX_elim (nxt c) (by decide) le_rfl)
  unfold Kn; iintro ⟨-, H, -⟩; iexact H
theorem Kn_a (D : Dat F) (κ ιs) (c : Dev nD) : Kn D κ ιs c ⊢ factA1 (nxt c) 0 := by
  refine (show _ ⊢ factA (nxt c) 0 from ?_).trans (factA_elim (nxt c) (by decide) le_rfl)
  unfold Kn; iintro ⟨-, -, H⟩; iexact H

theorem Ow_congr (c : Dev nD) {k k' : Cnt} (h : owe c k = owe c k') : Ow c k ⊢ (Ow c k' : sProp 𝕄) := by unfold Ow; rw [h]

theorem tGX_end (c : Dev nD) : tGX c 95 = tGX c 1000 := by
  have : fut 95 96 = fut 1000 96 := by decide +kernel
  unfold tGX; rw [this]

/-! ## What may be waited for when -/

theorem ab_start (l s : ℕ) : (cnt l s).above 0 := by
  simp only [Cnt.above, lvX, lvGX, lvA, lvGA, lvH, nxc, gxo]; split_ifs <;> omega
theorem ab_x {l s : ℕ} (hl : l < 3) (hs : s ≤ 29) : (⟨nxc l s, gxo l s, 32 * l + s, 32 * l + s, 32 * l + s + 1, l, l⟩ : Cnt).above (lvX (32 * l + s + 1)) := by
  simp only [Cnt.above, lvX, lvGX, lvA, lvGA, lvH, nxc, gxo]; split_ifs <;> omega
theorem ab_gx {l s : ℕ} (hl : l < 3) (hs : s ≤ 28) (h1 : 1 ≤ 32 * l + s) : (⟨nxc l s, gxo l s, 32 * l + s, 32 * l + s, 32 * l + s + 1, l, l⟩ : Cnt).above (lvGX (32 * l + s + 2)) := by
  simp only [Cnt.above, lvX, lvGX, lvA, lvGA, lvH, nxc, gxo]; split_ifs <;> omega
theorem ab_ga {l s : ℕ} (hl : l < 3) (hs : s ≤ 30) : (⟨nxc l (s + 1), gxo l s, 32 * l + s, 32 * l + s, 32 * l + s + 1, l, l⟩ : Cnt).above (lvGA (32 * l + s)) := by
  simp only [Cnt.above, lvX, lvGX, lvA, lvGA, lvH, nxc, gxo]; split_ifs <;> omega
theorem ab_a0 {l s : ℕ} (hl : l < 3) (hs : s ≤ 30) (h1 : 1 ≤ s) : (⟨nxc l (s + 1), gxo l s, 32 * l + s, 32 * l + s, 32 * l + s + 1, l, l⟩ : Cnt).above (lvA (32 * l + s - 1)) := by
  simp only [Cnt.above, lvX, lvGX, lvA, lvGA, lvH, nxc, gxo]; split_ifs <;> omega
theorem ab_a1 {l s : ℕ} (hl : l < 3) (hs : s ≤ 30) (h1 : 1 ≤ s) : (⟨nxc l (s + 1), gxo l s, 32 * l + s + 1, 32 * l + s, 32 * l + s + 1, l, l⟩ : Cnt).above (lvA (32 * l + s - 1)) := by
  simp only [Cnt.above, lvX, lvGX, lvA, lvGA, lvH, nxc, gxo]; split_ifs <;> omega
theorem ab_end (l s : ℕ) : (⟨nxc l (s + 1), gxo l s, 32 * l + s + 1, 32 * l + s + 1, 32 * l + s + 1, l, l⟩ : Cnt).above 0 := by
  simp only [Cnt.above, lvX, lvGX, lvA, lvGA, lvH, nxc, gxo]; split_ifs <;> omega

/-- Half a partial sum's place and an x block's, to name in a wait, which only their sizes concern. -/
abbrev aD : Memref sig .tc .vmem S64x512 .f32 := (aB.slice (rA 0 0) (fun _ => rfl)).squeeze S64x512 squeezes_S1x1x64x512_S64x512
theorem aD_exact : aD.view.WordExact := (View.wordExact_bits rfl).reshape _ _
abbrev t₀₀ : Fin k0_t1_loop.trips := ⟨0, by decide +kernel⟩
abbrev xD : Memref sig .tc .vmem S64x1024 .bf16 :=
  (xB.slice (Rect.unit (s := S4x64x1024) (k0_off8 t₀₀) S1x64x1024.size (k0_off8_inb t₀₀ (by decide +kernel))) (fun _ => rfl)).squeeze S64x1024 squeezes_S1x64x1024_S64x1024
theorem xD_exact : xD.view.WordExact :=
  ((Memref.isWhole_whole cc0_scratch0).wordExact_slice rfl _ (k0_off8_wordsbf16 t₀₀ (by decide +kernel))).reshape _ _

section Phases
variable (D : Dat F) (κ : GSem nD τ sig → ℕ) (ιs : Key → ℕ) (c : Dev nD) (k : Cnt)

/-! ## Releasing the last step's places -/

theorem ph1 (b r : ℕ) (ho : ok b) (h1 : 1 ≤ b) (hb : b < 96) (hr : posR (b % 2) r = posR (b % 2) b) (hk0 : k.above 0) (hga : k.ga = b)
    {sem₀ sem₁ : DmaSem sig}
    (hS₀ : SemLoc.dma sem₀ = asS (f2 (b + 1)) 0) (hS₁ : SemLoc.dma sem₁ = asS (f2 (b + 1)) 1)
    {nn : Dev nD} (hnn : nn = prv c) {sem : Sem sig} (hS : sem = (1 : Fin 3)) {k' : ℕ} (hk' : k' = 1)
    {α : Type} {cont : PUnit → Prog (TpuEff nD τ sig (Elt F) Λ₀ .tc) α} {Q : α → sProp 𝕄} :
    Kn D κ ιs c ⊢ iprop(PendA c b -∗ GA c b -∗ RA c 0 r -∗ RA c 1 r -∗ Ow c k
      -∗ ((WA c 0 b ∗ WA c 1 b ∗ GA c (b + 1) ∗ RA c 0 r ∗ RA c 1 r ∗ Ow c { k with ga := b + 1 }) -∗ WP c (cont ⟨⟩) Q)
      -∗ WP c (.op (.waitDma sem₀ aB.view.ref S64x512 .f32 (.inl rfl)) fun _ => .op (.waitDma sem₁ aB.view.ref S64x512 .f32 (.inl rfl)) fun _ =>
          .op (.semSignal (Dev.tc nn : Thread nD τ) sem k') cont) Q) := by
  have e2 : f2 (b + 1) = f2 (b - 1) := f2_eq (by omega)
  rw [e2] at hS₀ hS₁
  have hb1 : b - 1 + 1 = b := by omega
  unfold PendA; rw [if_neg (show b ≠ 0 by omega)]
  iintro #HK ⟨HW₀, HW₁, Hc₀, Hc₁⟩ HG HR₀ HR₁ HO Hk
  ihave #HK' := Kn_know D κ ιs c $$ HK
  iapply (wAs D κ ιs c k 0 (b - 1) (by omega) hS₀ hk0 rfl (src := aD) (dst := aD) (hsrc := aD_exact) (hdst := aD_exact)) $$ HK' HW₀ Hc₀ HO
  iintro ⟨HW₀, Hp₀, HO⟩
  iapply (wAs D κ ιs c k 1 (b - 1) (by omega) hS₁ hk0 rfl (src := aD) (dst := aD) (hsrc := aD_exact) (hdst := aD_exact)) $$ HK' HW₁ Hc₁ HO
  iintro ⟨HW₁, Hp₁, HO⟩
  ihave Hp₀ := (Entails.of_eq (congrArg (fun z => pcAny c aB (rA z 0)) e2.symm)) $$ Hp₀
  ihave Hp₁ := (Entails.of_eq (congrArg (fun z => pcAny c aB (rA z 1)) e2.symm)) $$ Hp₁
  ihave HW₀ := (Entails.of_eq (congrArg (fun z => WA c 0 z) hb1)) $$ HW₀
  ihave HW₁ := (Entails.of_eq (congrArg (fun z => WA c 1 z) hb1)) $$ HW₁
  iapply (gA D κ ιs c k b ho h1 hb r r hr hr hga hnn hS hk') $$ HK' HG Hp₀ Hp₁ HR₀ HR₁ HO
  iintro ⟨HG, HR₀, HR₁, HO⟩
  iapply Hk
  isplitl [HW₀]; · iexact HW₀
  isplitl [HW₁]; · iexact HW₁
  isplitl [HG]; · iexact HG
  isplitl [HR₀]; · iexact HR₀
  isplitl [HR₁]; · iexact HR₁
  iexact HO

/-- The same under a condition that the step is not the first of all. -/
theorem ph1c (b r : ℕ) (ho : ok b) (hb : b < 96) (hr : posR (b % 2) r = posR (b % 2) b) (hk0 : k.above 0) (hga : k.ga = max b 1)
    {C : Prop} {iC : Decidable C} (hC : C ↔ 1 ≤ b)
    {sem₀ sem₁ : C → DmaSem sig}
    (hS₀ : ∀ h, SemLoc.dma (sem₀ h) = asS (f2 (b + 1)) 0) (hS₁ : ∀ h, SemLoc.dma (sem₁ h) = asS (f2 (b + 1)) 1)
    {nn : C → Dev nD} (hnn : ∀ h, nn h = prv c) {sem : Sem sig} (hS : sem = (1 : Fin 3)) {k' : ℕ} (hk' : k' = 1)
    {α : Type} {K : Prog (TpuEff nD τ sig (Elt F) Λ₀ .tc) α} {Q : α → sProp 𝕄} :
    Kn D κ ιs c ⊢ iprop(PendA c b -∗ GA c (max b 1) -∗ RA c 0 r -∗ RA c 1 r -∗ Ow c k
      -∗ ((WA c 0 b ∗ WA c 1 b ∗ GA c (b + 1) ∗ RA c 0 r ∗ RA c 1 r ∗ Ow c { k with ga := b + 1 }) -∗ WP c K Q)
      -∗ WP c (dite C (fun h => .op (.waitDma (sem₀ h) aB.view.ref S64x512 .f32 (.inl rfl)) fun _ => .op (.waitDma (sem₁ h) aB.view.ref S64x512 .f32 (.inl rfl)) fun _ =>
          .op (.semSignal (Dev.tc (nn h) : Thread nD τ) sem k') fun _ => K) (fun _ => K)) Q) := by
  by_cases h : C
  · rw [dif_pos h]
    have h1 := hC.mp h
    have hm : max b 1 = b := by omega
    rw [hm] at hga ⊢
    exact ph1 (cont := fun _ => K) D κ ιs c k b r ho h1 hb hr hk0 hga (hS₀ h) (hS₁ h) (hnn h) hS hk'
  · rw [dif_neg h]
    have h0 : b = 0 := by have := mt hC.mpr h; omega
    subst h0
    have hk1 : ({ k with ga := 0 + 1 } : Cnt) = k := by cases k; simp only at hga; subst hga; rfl
    rw [hk1]
    unfold PendA
    iintro #HK ⟨HW₀, HW₁, -⟩ HG HR₀ HR₁ HO Hk
    iapply Hk
    isplitl [HW₀]; · iexact HW₀
    isplitl [HW₁]; · iexact HW₁
    isplitl [HG]; · iexact HG
    isplitl [HR₀]; · iexact HR₀
    isplitl [HR₁]; · iexact HR₁
    iexact HO

/-! ## The next x block -/

/-- Receiving it. -/
theorem ph2 (l s : ℕ) (hl : l < 3) (hs : s ≤ 30) (hk : s ≤ 29 → k.above (lvX (32 * l + s + 1))) {C : Prop} {iC : Decidable C} (hC : C ↔ s ≤ 29)
    {sem₀ : C → DmaSem sig}
    (hS₀ : ∀ h, SemLoc.dma (sem₀ h) = xrS (f4 (32 * l + s + 2)))
    {α : Type} {K : Prog (TpuEff nD τ sig (Elt F) Λ₀ .tc) α} {Q : α → sProp 𝕄} :
    Kn D κ ιs c ⊢ iprop(RX c (32 * l + min (s + 1) 31) -∗ Ow c k
      -∗ ((RX c (32 * l + min (s + 2) 31) ∗ (if s ≤ 29 then pc c xB (rX (f4 (32 * l + s + 2))) fullShare (D.xc l c (s + 2)) else iprop(emp)) ∗ Ow c k) -∗ WP c K Q)
      -∗ WP c (dite C (fun h => .op (.waitDma (sem₀ h) xB.view.ref S64x1024 .bf16 (.inl rfl)) fun _ => K) (fun _ => K)) Q) := by
  by_cases h : C
  · rw [dif_pos h]
    have h1 := hC.mp h
    rw [if_pos h1, show 32 * l + min (s + 1) 31 = 32 * l + s + 1 by omega, show 32 * l + min (s + 2) 31 = 32 * l + s + 2 by omega]
    exact (Kn_know D κ ιs c).trans (wXr (cont := fun _ => K) D κ ιs c k (32 * l + s + 1) l (s + 1) (by omega) (by omega) hl (hS₀ h) (hk h1) rfl (src := xD) (dst := xD) (hsrc := xD_exact) (hdst := xD_exact))
  · rw [dif_neg h]
    have h0 : ¬s ≤ 29 := mt hC.mpr h
    rw [if_neg h0, show min (s + 1) 31 = min (s + 2) 31 by omega]
    iintro #HK HR HO Hk
    iapply Hk
    isplitl [HR]; · iexact HR
    isplitr; · iempintro
    iexact HO

/-- Sending it on, its landing known to be free. -/
theorem ph3 (l s : ℕ) (hl : l < 3) (hs : s ≤ 28) (hnx : k.nx = nxc l s)
    {off₁ off₂ : Fin 3 → ℕ} (h₁ : off₁ = ![(f4 (32 * l + s + 2)).val, 0, 0]) (h₂ : off₂ = ![(f4 (32 * l + s + 2 + 1)).val, 0, 0]) {nn : Dev nD} (hnn : nn = nxt c)
    {sS sR : SemLoc sig} (hS : sS = xsS (f4 (32 * l + s + 2))) (hR : sR = xrS (f4 (32 * l + s + 2 + 1)))
    {inb₁ : ∀ a : Fin 3, off₁ a + S1x64x1024.size a ≤ S4x64x1024.size a} {inb₂ : ∀ a : Fin 3, off₂ a + S1x64x1024.size a ≤ S4x64x1024.size a}
    {hst₁ hst₂} {hq₁ hq₂ : S1x64x1024.Squeezes S64x1024} {hsc hsrc hdst hsem}
    {α : Type} {cont : PUnit → Prog (TpuEff nD τ sig (Elt F) Λ₀ .tc) α} {Q : α → sProp 𝕄} :
    Kn D κ ιs c ⊢ iprop(factX1 (nxt c) (32 * l + s + 2) -∗ SX c (nxc l s) -∗ WX c (32 * l + min (s + 1) 31) -∗ CX c D (max 3 (nxc l s + 1))
      -∗ pc c xB (rX (f4 (32 * l + s + 2))) fullShare (D.xc l c (s + 2)) -∗ Ow c k
      -∗ ((SX c (nxc l (s + 1)) ∗ WX c (32 * l + min (s + 1) 31) ∗ CX c D (max 3 (nxc l (s + 1))) ∗ XN D c l (s + 1) ∗ Ow c { k with nx := nxc l (s + 1) }) -∗ WP c (cont ⟨⟩) Q)
      -∗ WP c (.op (.enqueueDma ((xB.slice (Rect.unit (s := S4x64x1024) off₁ S1x64x1024.size inb₁) hst₁).squeeze S64x1024 hq₁)
          (.remote (Dev.tc nn : Thread nD τ) ((xB.slice (Rect.unit (s := S4x64x1024) off₂ S1x64x1024.size inb₂) hst₂).squeeze S64x1024 hq₂) sS hsc) sR hsrc hdst hsem) cont) Q) := by
  have en : nxc l s = 32 * l + s + 2 := if_pos hs
  have eS : (SX c (32 * l + s + 2 + 1) : sProp 𝕄) = SX c (nxc l (s + 1)) := by
    unfold nxc; split_ifs with h
    · rw [show 32 * l + (s + 1) + 2 = 32 * l + s + 2 + 1 by omega]
    · rw [show 32 * l + 32 = 32 * l + s + 2 + 1 + 1 by omega]; exact SX_skip c (by unfold ok; omega)
  have eC : CX c D (max 3 (32 * l + s + 2 + 1)) = CX c D (max 3 (nxc l (s + 1))) := by
    unfold nxc; split_ifs with h
    · rw [show 32 * l + (s + 1) + 2 = 32 * l + s + 2 + 1 by omega]
    · rw [show max 3 (32 * l + 32) = max 3 (32 * l + s + 2 + 1) + 1 by omega]; exact CX_skip c D (by unfold ok; omega)
  have eO : owe c { k with nx := 32 * l + s + 2 + 1 } = owe c { k with nx := nxc l (s + 1) } := by
    unfold owe
    have : tX c (32 * l + s + 2 + 1) = tX c (nxc l (s + 1)) := by
      unfold nxc; split_ifs with h
      · rw [show 32 * l + (s + 1) + 2 = 32 * l + s + 2 + 1 by omega]
      · rw [show 32 * l + 32 = 32 * l + s + 2 + 1 + 1 by omega]; exact tX_skip c (by unfold ok; omega)
    rw [this]
  rw [en] at hnx ⊢
  rw [eC, ← eS]
  have eX : XN D c l (s + 1) = iprop(pc c xB (rX (f4 (32 * l + s + 2))) fullShare.left (D.xc l c (s + 2)) ∗ cred (tallyAt (gXs c (32 * l + s + 2)) 0 NX)) := by
    unfold XN; rw [if_pos (by omega), show 32 * l + (s + 1) + 1 = 32 * l + s + 2 by omega]
  rw [eX]
  iintro #HK Hf HS HW HC Hp HO Hk
  ihave #HK' := Kn_know D κ ιs c $$ HK
  ihave Hp := pc_halve c xB (rX (f4 (32 * l + s + 2))) _ $$ Hp
  icases Hp with ⟨Hl, Hr⟩
  iapply (sX D κ ιs c k (32 * l + s + 2) (32 * l + min (s + 1) 31) l (s + 2) (by omega) (by omega) hl (by unfold posX; split <;> omega) hnx h₁ h₂ hnn hS hR) $$ HK' HS HW Hf Hr HO
  iintro ⟨HS, HW, Hc, HO⟩
  ihave HO := Ow_congr c eO $$ HO
  iapply Hk
  isplitl [HS]; · iexact HS
  isplitl [HW]; · iexact HW
  isplitl [HC]; · iexact HC
  isplitl [Hl Hc]
  · isplitl [Hl] <;> iassumption
  iexact HO

/-- The step sends nothing on: its block stays whole. -/
theorem ph3n (l s : ℕ) (hs : ¬s ≤ 28) (hs' : s ≤ 30) (hnx : k.nx = nxc l s) {Q : sProp 𝕄} :
    iprop(SX c (nxc l s) ∗ WX c (32 * l + min (s + 1) 31) ∗ CX c D (max 3 (nxc l s)) ∗ (if s ≤ 29 then pc c xB (rX (f4 (32 * l + s + 2))) fullShare (D.xc l c (s + 2)) else iprop(emp)) ∗ Ow c k
      ∗ ((SX c (nxc l (s + 1)) ∗ WX c (32 * l + min (s + 1) 31) ∗ CX c D (max 3 (nxc l (s + 1))) ∗ XN D c l (s + 1) ∗ Ow c { k with nx := nxc l (s + 1) }) -∗ Q)) ⊢ Q := by
  have en : nxc l (s + 1) = nxc l s := by unfold nxc; rw [if_neg hs, if_neg (by omega)]
  have eX : XN D c l (s + 1) = if s ≤ 29 then pc c xB (rX (f4 (32 * l + s + 2))) fullShare (D.xc l c (s + 2)) else iprop(emp) := by
    unfold XN; rw [if_neg (by omega), show 32 * l + (s + 1) + 1 = 32 * l + s + 2 by omega]
    by_cases h : s ≤ 29
    · rw [if_pos (by omega), if_pos h]
    · rw [if_neg (by omega), if_neg h]
  have ek : ({ k with nx := nxc l (s + 1) } : Cnt) = k := by rw [en, ← hnx]
  rw [ek, en, eX]
  iintro ⟨HS, HW, HC, Hp, HO, Hk⟩
  iapply Hk
  isplitl [HS]; · iexact HS
  isplitl [HW]; · iexact HW
  isplitl [HC]; · iexact HC
  isplitl [Hp]; · iexact Hp
  iexact HO

/-- What sending on takes before `K` can go on. -/
abbrev ph3T (l s : ℕ) (R : sProp 𝕄) : sProp 𝕄 :=
  iprop(SX c (nxc l s) -∗ WX c (32 * l + min (s + 1) 31) -∗ CX c D (max 3 (nxc l s))
      -∗ (if s ≤ 29 then pc c xB (rX (f4 (32 * l + s + 2))) fullShare (D.xc l c (s + 2)) else iprop(emp)) -∗ Ow c k -∗ R)
/-- And what it leaves. -/
abbrev ph3P (l s : ℕ) : sProp 𝕄 :=
  iprop(SX c (nxc l (s + 1)) ∗ WX c (32 * l + min (s + 1) 31) ∗ CX c D (max 3 (nxc l (s + 1))) ∗ XN D c l (s + 1) ∗ Ow c { k with nx := nxc l (s + 1) })

/-- Sending it on after a credit. -/
theorem ph3s (l s : ℕ) (hl : l < 3) (hs : s ≤ 28) (h2 : 1 ≤ 32 * l + s) (hnx : k.nx = nxc l s) (hk : k.above (lvGX (32 * l + s + 2)))
    {off₁ off₂ : Fin 3 → ℕ} (h₁ : off₁ = ![(f4 (32 * l + s + 2)).val, 0, 0]) (h₂ : off₂ = ![(f4 (32 * l + s + 2 + 1)).val, 0, 0]) {nn : Dev nD} (hnn : nn = nxt c)
    {sS sR : SemLoc sig} (hS : sS = xsS (f4 (32 * l + s + 2))) (hR : sR = xrS (f4 (32 * l + s + 2 + 1)))
    {inb₁ : ∀ a : Fin 3, off₁ a + S1x64x1024.size a ≤ S4x64x1024.size a} {inb₂ : ∀ a : Fin 3, off₂ a + S1x64x1024.size a ≤ S4x64x1024.size a}
    {hst₁ hst₂} {hq₁ hq₂ : S1x64x1024.Squeezes S64x1024} {hsc hsrc hdst hsem}
    {sem : Sem sig} (hsem' : sem = (0 : Fin 3)) {k' : ℕ} (hk' : k' = 1)
    {α : Type} {K : Prog (TpuEff nD τ sig (Elt F) Λ₀ .tc) α} {Q : α → sProp 𝕄} :
    Kn D κ ιs c ⊢ ph3T D c k l s iprop((ph3P D c k l s -∗ WP c K Q)
      -∗ WP c (.op (.semWait sem k') fun _ => .op (.enqueueDma ((xB.slice (Rect.unit (s := S4x64x1024) off₁ S1x64x1024.size inb₁) hst₁).squeeze S64x1024 hq₁)
          (.remote (Dev.tc nn : Thread nD τ) ((xB.slice (Rect.unit (s := S4x64x1024) off₂ S1x64x1024.size inb₂) hst₂).squeeze S64x1024 hq₂) sS hsc) sR hsrc hdst hsem) fun _ => K) Q) := by
  have en : nxc l s = 32 * l + s + 2 := if_pos hs
  unfold ph3T ph3P
  rw [if_pos (show s ≤ 29 by omega), show CX c D (max 3 (nxc l s)) = CX c D (32 * l + s + 2) by rw [en, show max 3 (32 * l + s + 2) = 32 * l + s + 2 by omega]]
  iintro #HK HS HW HC Hp HO Hk
  ihave #HK' := Kn_know D κ ιs c $$ HK
  iapply (cX D κ ιs c k (32 * l + s + 2) (by unfold ok; omega) (by omega) (by omega) hk hsem' hk') $$ HK' HC HO
  iintro ⟨HC, Hf, HO⟩
  ihave HC := (Entails.of_eq (show CX c D (32 * l + s + 2 + 1) = CX c D (max 3 (nxc l s + 1)) by rw [en, show max 3 (32 * l + s + 2 + 1) = 32 * l + s + 2 + 1 by omega])) $$ HC
  iapply (ph3 (cont := fun _ => K) D κ ιs c k l s hl hs hnx h₁ h₂ hnn hS hR) $$ HK Hf HS HW HC Hp HO Hk

/-- The same at the very first step, whose landing was free from the start. -/
theorem ph3z (l s : ℕ) (h0 : 32 * l + s = 0) (hnx : k.nx = nxc l s)
    {off₁ off₂ : Fin 3 → ℕ} (h₁ : off₁ = ![(f4 (32 * l + s + 2)).val, 0, 0]) (h₂ : off₂ = ![(f4 (32 * l + s + 2 + 1)).val, 0, 0]) {nn : Dev nD} (hnn : nn = nxt c)
    {sS sR : SemLoc sig} (hS : sS = xsS (f4 (32 * l + s + 2))) (hR : sR = xrS (f4 (32 * l + s + 2 + 1)))
    {inb₁ : ∀ a : Fin 3, off₁ a + S1x64x1024.size a ≤ S4x64x1024.size a} {inb₂ : ∀ a : Fin 3, off₂ a + S1x64x1024.size a ≤ S4x64x1024.size a}
    {hst₁ hst₂} {hq₁ hq₂ : S1x64x1024.Squeezes S64x1024} {hsc hsrc hdst hsem}
    {α : Type} {K : Prog (TpuEff nD τ sig (Elt F) Λ₀ .tc) α} {Q : α → sProp 𝕄} :
    Kn D κ ιs c ⊢ ph3T D c k l s iprop((ph3P D c k l s -∗ WP c K Q)
      -∗ WP c (.op (.enqueueDma ((xB.slice (Rect.unit (s := S4x64x1024) off₁ S1x64x1024.size inb₁) hst₁).squeeze S64x1024 hq₁)
          (.remote (Dev.tc nn : Thread nD τ) ((xB.slice (Rect.unit (s := S4x64x1024) off₂ S1x64x1024.size inb₂) hst₂).squeeze S64x1024 hq₂) sS hsc) sR hsrc hdst hsem) fun _ => K) Q) := by
  have hs : s ≤ 28 := by omega
  have en : nxc l s = 32 * l + s + 2 := if_pos hs
  unfold ph3T ph3P
  rw [if_pos (show s ≤ 29 by omega), show CX c D (max 3 (nxc l s)) = CX c D (max 3 (nxc l s + 1)) by rw [en, h0]; rfl]
  iintro #HK HS HW HC Hp HO Hk
  ihave Hf := (Kn_x D κ ιs c) $$ HK
  ihave Hf := (Entails.of_eq (congrArg (factX1 (nxt c)) (show 2 = 32 * l + s + 2 by omega))) $$ Hf
  iapply (ph3 (cont := fun _ => K) D κ ιs c k l s (by omega) hs hnx h₁ h₂ hnn hS hR) $$ HK Hf HS HW HC Hp HO Hk

/-- A first step that sends straight away, any other only after a credit. -/
theorem ph3zs (l s : ℕ) {C : Prop} {iC : Decidable C} (hC : C ↔ 1 ≤ 32 * l + s)
    {α : Type} {K : Prog (TpuEff nD τ sig (Elt F) Λ₀ .tc) α} {e : C → Prog (TpuEff nD τ sig (Elt F) Λ₀ .tc) α} {Q : α → sProp 𝕄} {R : sProp 𝕄}
    (he : ∀ h : C, 1 ≤ 32 * l + s → Kn D κ ιs c ⊢ ph3T D c k l s iprop(R -∗ WP c (e h) Q))
    (hK : 32 * l + s = 0 → Kn D κ ιs c ⊢ ph3T D c k l s iprop(R -∗ WP c K Q)) :
    Kn D κ ιs c ⊢ ph3T D c k l s iprop(R -∗ WP c (dite C e fun _ => K) Q) := by
  by_cases h : C
  · rw [dif_pos h]; exact he h (hC.mp h)
  · rw [dif_neg h]; exact hK (by have := mt hC.mpr h; omega)

/-- The layer's last blocks are not sent on. -/
theorem ph3c (l s : ℕ) (hs : s ≤ 30) (hnx : k.nx = nxc l s) {C : Prop} {iC : Decidable C} (hC : C ↔ s ≤ 28)
    {α : Type} {K : Prog (TpuEff nD τ sig (Elt F) Λ₀ .tc) α} {e : C → Prog (TpuEff nD τ sig (Elt F) Λ₀ .tc) α} {Q : α → sProp 𝕄}
    (he : ∀ h : C, s ≤ 28 → Kn D κ ιs c ⊢ ph3T D c k l s iprop((ph3P D c k l s -∗ WP c K Q) -∗ WP c (e h) Q)) :
    Kn D κ ιs c ⊢ ph3T D c k l s iprop((ph3P D c k l s -∗ WP c K Q) -∗ WP c (dite C e fun _ => K) Q) := by
  by_cases h : C
  · rw [dif_pos h]; exact he h (hC.mp h)
  · rw [dif_neg h]
    unfold ph3T ph3P
    iintro #HK HS HW HC Hp HO Hk
    iapply (ph3n D c k l s (mt hC.mpr h) hs hnx)
    isplitl [HS]; · iexact HS
    isplitl [HW]; · iexact HW
    isplitl [HC]; · iexact HC
    isplitl [Hp]; · iexact Hp
    isplitl [HO]; · iexact HO
    iexact Hk

/-! ## The partial sum -/

/-- A credit for this step's sends, -/
theorem ph4 (b : ℕ) (ho : ok b) (h1 : 1 ≤ b) (hb : b < 96) (hk : k.above (lvGA b)) {sem : Sem sig} (hS : sem = (1 : Fin 3)) {k' : ℕ} (hk' : k' = 1)
    {α : Type} {cont : PUnit → Prog (TpuEff nD τ sig (Elt F) Λ₀ .tc) α} {Q : α → sProp 𝕄} :
    Kn D κ ιs c ⊢ iprop(CA c D (max b 1) -∗ Ow c k -∗ ((CA c D (b + 1) ∗ factA1 (nxt c) b ∗ Ow c k) -∗ WP c (cont ⟨⟩) Q) -∗ WP c (.op (.semWait sem k') cont) Q) := by
  rw [show max b 1 = b by omega]
  exact (Kn_know D κ ιs c).trans (cA D κ ιs c k b ho h1 hb hk hS hk')

/-- which the very first step does without. -/
theorem ph4c (b : ℕ) (ho : ok b) (hb : b < 96) (hk : k.above (lvGA b)) {C : Prop} {iC : Decidable C} (hC : C ↔ 1 ≤ b) {sem : Sem sig} (hS : sem = (1 : Fin 3)) {k' : ℕ} (hk' : k' = 1)
    {α : Type} {K : Prog (TpuEff nD τ sig (Elt F) Λ₀ .tc) α} {Q : α → sProp 𝕄} :
    Kn D κ ιs c ⊢ iprop(CA c D (max b 1) -∗ Ow c k -∗ ((CA c D (b + 1) ∗ factA1 (nxt c) b ∗ Ow c k) -∗ WP c K Q)
      -∗ WP c (dite C (fun _ => .op (.semWait sem k') fun _ => K) fun _ => K) Q) := by
  by_cases h : C
  · rw [dif_pos h]
    exact ph4 (cont := fun _ => K) D κ ιs c k b ho (hC.mp h) hb hk hS hk'
  · rw [dif_neg h]
    have h0 : b = 0 := by have := mt hC.mpr h; omega
    subst h0
    iintro #HK HC HO Hk
    ihave Hf := (Kn_a D κ ιs c) $$ HK
    iapply Hk
    isplitl [HC]; · iexact HC
    isplitl [Hf]; · iexact Hf
    iexact HO

/-- A half of the partial sum: received, or at a layer's first step nothing but the place for it. -/
theorem ph5 (l s : ℕ) (h : Fin 2) (hl : l < 3) (hs : s ≤ 30) (hk : 1 ≤ s → k.above (lvA (32 * l + s - 1))) {C : Prop} {iC : Decidable C} (hC : C ↔ 1 ≤ s)
    {sem₀ : C → DmaSem sig}
    (hS₀ : ∀ hc, SemLoc.dma (sem₀ hc) = arS (f2 (32 * l + s)) h)
    {α : Type} {K : Prog (TpuEff nD τ sig (Elt F) Λ₀ .tc) α} {Q : α → sProp 𝕄} :
    Kn D κ ιs c ⊢ iprop(RAin c l s h -∗ Ow c k
      -∗ (∀ X, (RA c h (32 * l + s) ∗ pc c aB (rA (f2 (32 * l + s)) h) fullShare X ∗ ⌜1 ≤ s → X = D.A l (prv c) (s - 1) h⌝
        ∗ pcAny (lft c s) hB (rH h) ∗ reached ER (gHm (lft c s) h) l ∗ Ow c k) -∗ WP c K Q)
      -∗ WP c (dite C (fun h => .op (.waitDma (sem₀ h) aB.view.ref S64x512 .f32 (.inl rfl)) fun _ => K) (fun _ => K)) Q) := by
  unfold RAin
  by_cases hc : C
  · rw [dif_pos hc]
    have h1 := hC.mp hc
    rw [if_neg (show s ≠ 0 by omega), show 32 * l + (s - 1) = 32 * l + s - 1 by omega]
    have e1 : 32 * l + s - 1 + 1 = 32 * l + s := by omega
    iintro #HK ⟨HR, -⟩ HO Hk
    ihave #HK' := Kn_know D κ ιs c $$ HK
    iapply (wAr (cont := fun _ => K) D κ ιs c k h (32 * l + s - 1) l (s - 1) (by omega) (by omega) hl (by rw [e1]; exact hS₀ hc) (hk h1) rfl (src := aD) (dst := aD) (hsrc := aD_exact) (hdst := aD_exact)) $$ HK' HR HO
    rw [e1, show s - 1 + 1 = s by omega]
    iintro ⟨HR, Hp, ⟨Hh, Hr⟩, HO⟩
    iapply Hk
    isplitl [HR]; · iexact HR
    isplitl [Hp]; · iexact Hp
    isplitr; · ipureintro; exact fun _ => rfl
    isplitl [Hh]; · iexact Hh
    isplitl [Hr]; · iexact Hr
    iexact HO
  · rw [dif_neg hc]
    have h0 : s = 0 := by have := mt hC.mpr hc; omega
    subst h0
    rw [if_pos rfl, lft_zero]
    iintro #HK ⟨HR, Hp, Hh, Hr⟩ HO Hk
    ihave Hp := (pcAny_pc c aB (rA (f2 (32 * l)) h)) $$ Hp
    icases Hp with ⟨%X, Hp⟩
    iapply Hk
    isplitl [HR]; · iexact HR
    isplitl [Hp]; · iexact Hp
    isplitr; · ipureintro; exact fun h => absurd h (by omega)
    isplitl [Hh]; · iexact Hh
    isplitl [Hr]; · iexact Hr
    iexact HO

/-! ## The place of the block used -/

/-- Waiting for its sending on, if it was sent on. -/
theorem ph7 (l s : ℕ) (hl : l < 3) (hs : s ≤ 30) (hk : k.above 0) {C : Prop} {iC : Decidable C} (hC : C ↔ s ≤ 29)
    {sem₀ : C → DmaSem sig}
    (hS₀ : ∀ hc, SemLoc.dma (sem₀ hc) = xsS (f4 (32 * l + s + 1)))
    {α : Type} {K : Prog (TpuEff nD τ sig (Elt F) Λ₀ .tc) α} {Q : α → sProp 𝕄} :
    Kn D κ ιs c ⊢ iprop(WX c (32 * l + min (s + 1) 31) -∗ XN D c l s -∗ Ow c k
      -∗ ((WX c (32 * l + min (s + 2) 31) ∗ pcAny c xB (rX (f4 (32 * l + s + 1))) ∗ Ow c k) -∗ WP c K Q)
      -∗ WP c (dite C (fun h => .op (.waitDma (sem₀ h) xB.view.ref S64x1024 .bf16 (.inl rfl)) fun _ => K) (fun _ => K)) Q) := by
  unfold XN
  by_cases hc : C
  · rw [dif_pos hc]
    have h1 := hC.mp hc
    rw [if_pos h1, show 32 * l + min (s + 1) 31 = 32 * l + s + 1 by omega, show 32 * l + min (s + 2) 31 = 32 * l + s + 1 + 1 by omega]
    iintro #HK HW ⟨Hp, Hc⟩ HO Hk
    ihave #HK' := Kn_know D κ ιs c $$ HK
    iapply (wXs (cont := fun _ => K) D κ ιs c k (32 * l + s + 1) l (s + 1) (by omega) (by omega) hl (hS₀ hc) hk rfl (src := xD) (dst := xD) (hsrc := xD_exact) (hdst := xD_exact)) $$ HK' HW Hc HO
    iintro ⟨HW, Hr, HO⟩
    iapply Hk
    isplitl [HW]; · iexact HW
    isplitl [Hp Hr]
    · iapply (pc_any c xB (rX (f4 (32 * l + s + 1))))
      iapply (pc_unhalve c xB (rX (f4 (32 * l + s + 1))))
      isplitl [Hp]
      · iexact Hp
      · iexact Hr
    iexact HO
  · rw [dif_neg hc]
    have h0 : s = 30 := by have := mt hC.mpr hc; omega
    subst h0
    rw [if_neg (by omega), if_pos rfl]
    iintro #HK HW Hp HO Hk
    iapply Hk
    isplitl [HW]; · iexact HW
    isplitl [Hp]; · iapply (pc_any c xB (rX (f4 (32 * l + 30 + 1)))) $$ Hp
    iexact HO

/-- Granting it to the left again, or keeping it. -/
theorem ph8 (l s : ℕ) (hl : l < 3) (hs : s ≤ 30) (hk : k.gx = gxo l s) {C : Prop} {iC : Decidable C} (hC : C ↔ if l = 2 then s ≤ 26 else s ≠ 27)
    {nn : C → Dev nD} (hnn : ∀ h, nn h = prv c) {sem : Sem sig} (hS : sem = (0 : Fin 3)) {k' : ℕ} (hk' : k' = 1)
    {α : Type} {K : Prog (TpuEff nD τ sig (Elt F) Λ₀ .tc) α} {Q : α → sProp 𝕄} :
    Kn D κ ιs c ⊢ iprop(GX c (gxc l s) -∗ pcAny c xB (rX (f4 (32 * l + s + 1))) -∗ RX c (32 * l + min (s + 2) 31) -∗ kept c l s -∗ Ow c k
      -∗ ((GX c (gxc l (s + 1)) ∗ RX c (32 * l + min (s + 2) 31) ∗ kept c l (s + 1) ∗ Ow c { k with gx := gxo l (s + 1) }) -∗ WP c K Q)
      -∗ WP c (dite C (fun h => .op (.semSignal (Dev.tc (nn h) : Thread nD τ) sem k') fun _ => K) (fun _ => K)) Q) := by
  by_cases hc : C
  · rw [dif_pos hc]
    have h1 := hC.mp hc
    have eg : gxc l s = 32 * l + s + 4 := if_neg (by rintro ⟨h, h'⟩; rw [if_pos h] at h1; omega)
    have eo : gxo l s = 32 * l + s + 4 := if_neg (by rintro ⟨h, h'⟩; rw [if_pos h] at h1; omega)
    have ek : kept c l (s + 1) = (kept c l s : sProp 𝕄) := by
      unfold kept
      refine congrArg (fun z => bigSep z _) (Finset.filter_congr fun i _ => ?_)
      have hi := i.isLt
      constructor
      · rintro ⟨h, h'⟩
        refine ⟨?_, h'⟩
        split_ifs at h1 with h2
        · omega
        · rcases h' with h' | h'
          · exact absurd h' h2
          · subst h'; simp only [Fin.val_zero] at h ⊢; omega
      · rintro ⟨h, h'⟩; exact ⟨by omega, h'⟩
    have esG : (GX c (32 * l + s + 4 + 1) : sProp 𝕄) = GX c (gxc l (s + 1)) := by
      unfold gxc; split_ifs with h2
      · obtain ⟨h2, h3⟩ := h2
        rw [if_pos h2] at h1
        rw [show 32 * l + s + 4 + 1 = 95 by omega]
      · rw [show 32 * l + (s + 1) + 4 = 32 * l + s + 4 + 1 by omega]
    have eO : owe c { k with gx := 32 * l + s + 4 + 1 } = owe c { k with gx := gxo l (s + 1) } := by
      have : tGX c (32 * l + s + 4 + 1) = tGX c (gxo l (s + 1)) := by
        unfold gxo; split_ifs with h2
        · obtain ⟨h2, h3⟩ := h2
          rw [if_pos h2] at h1
          rw [show 32 * l + s + 4 + 1 = 95 by omega]
          exact tGX_end c
        · rw [show 32 * l + (s + 1) + 4 = 32 * l + s + 4 + 1 by omega]
      unfold owe; rw [this]
    rw [eg, ek, ← esG]
    have e4 : f4 (32 * l + s + 4 + 1) = f4 (32 * l + s + 1) := f4_eq (by omega)
    rw [← e4]
    iintro #HK HG Hp HR Hq HO Hk
    ihave #HK' := Kn_know D κ ιs c $$ HK
    have hok : ok (32 * l + s + 4) := by unfold ok; split_ifs at h1 <;> omega
    have hn : 32 * l + s + 4 < 95 := by split_ifs at h1 <;> omega
    iapply (gX (cont := fun _ => K) D κ ιs c k (32 * l + s + 4) (32 * l + min (s + 2) 31) hok (by omega) (by omega) (by unfold posX; split_ifs <;> omega) (hk.trans eo) (hnn hc) hS hk') $$ HK' HG Hp HR HO
    iintro ⟨HG, HR, HO⟩
    ihave HO := Ow_congr c eO $$ HO
    iapply Hk
    isplitl [HG]; · iexact HG
    isplitl [HR]; · iexact HR
    isplitl [Hq]; · iexact Hq
    iexact HO
  · rw [dif_neg hc]
    have h1 := mt hC.mpr hc
    have eg : (GX c (gxc l s) : sProp 𝕄) = GX c (gxc l (s + 1)) := by
      unfold gxc; split_ifs with h2 h3 h3
      · rfl
      · omega
      · obtain ⟨h3, h4⟩ := h3
        rw [if_pos h3] at h1
        omega
      · have h4 : l ≠ 2 := fun h => by rw [if_pos h] at h1; omega
        rw [if_neg h4] at h1
        rw [show 32 * l + (s + 1) + 4 = 32 * l + s + 4 + 1 by omega]
        exact GX_skip c (by unfold ok; omega) (by omega)
    have eO : owe c k = owe c { k with gx := gxo l (s + 1) } := by
      have : tGX c k.gx = tGX c (gxo l (s + 1)) := by
        rw [hk]; unfold gxo; split_ifs with h2 h3 h3
        · rfl
        · omega
        · obtain ⟨h3, h4⟩ := h3
          rw [if_pos h3] at h1
          omega
        · have h4 : l ≠ 2 := fun h => by rw [if_pos h] at h1; omega
          rw [if_neg h4] at h1
          rw [show 32 * l + (s + 1) + 4 = 32 * l + s + 4 + 1 by omega]
          exact tGX_skip c (by unfold ok; omega)
      unfold owe; rw [this]
    have ek : iprop(kept c l s ∗ pcAny c xB (rX (f4 (32 * l + s + 1)))) ⊢ (kept c l (s + 1) : sProp 𝕄) := by
      have ei : (f4 (32 * l + s + 1)).val + 28 = s + 1 := by
        show (32 * l + s + 1) % 4 + 28 = s + 1
        split_ifs at h1 <;> omega
      have es : (Finset.univ.filter fun i : Fin 4 => 28 + i.val ≤ s + 1 ∧ (l = 2 ∨ i = 0))
          = insert (f4 (32 * l + s + 1)) (Finset.univ.filter fun i : Fin 4 => 28 + i.val ≤ s ∧ (l = 2 ∨ i = 0)) := by
        ext i
        rw [Finset.mem_insert, Finset.mem_filter, Finset.mem_filter, Fin.ext_iff, Fin.ext_iff]
        have := i.isLt
        simp only [Finset.mem_univ, true_and, Fin.val_zero]
        split_ifs at h1 <;> omega
      unfold kept
      rw [es]
      refine .trans ?_ (Entails.of_eq (bigSep_insert (by rw [Finset.mem_filter]; rintro ⟨-, h, -⟩; omega)).symm)
      exact sep_comm.1
    rw [eg]
    iintro #HK HG Hp HR Hq HO Hk
    ihave HO := Ow_congr c eO $$ HO
    iapply Hk
    isplitl [HG]; · iexact HG
    isplitl [HR]; · iexact HR
    isplitl [Hq Hp]
    · iapply ek
      isplitl [Hq]; · iexact Hq
      iexact Hp
    iexact HO

end Phases

end Cert.Proof

end
-- ==== Proof.Vals.lean ====
/-
  What the loops compute: the stored partial sums and products as the contents named in the protocol; and the places their
  offsets name.
-/
module

public import proofs.«01_k».proof.Proof.Phase

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Offsets -/

omit [FloatOps F] in
theorem oA {a n h : ℕ} (e : a % 2 = n % 2) : (![a % 2, h, 0, 0] : Fin 4 → ℕ) = ![(f2 n).val, h, 0, 0] := by rw [e]; rfl
omit [FloatOps F] in
theorem oS {a n h : ℕ} (e : a % 2 = n % 2) : (![a % 2, h] : Fin 2 → ℕ) = ![(f2 n).val, h] := by rw [e]; rfl
omit [FloatOps F] in
theorem oX {a n : ℕ} (e : a % 4 = n % 4) : (![a % 4, 0, 0] : Fin 3 → ℕ) = ![(f4 n).val, 0, 0] := by rw [e]; rfl
omit [FloatOps F] in
theorem oT {a n : ℕ} (e : a % 4 = n % 4) : (![a % 4] : Fin 1 → ℕ) = ![(f4 n).val] := by rw [e]; rfl

/-- A device named by its number is the next one round the ring, -/
theorem dv_nxt {c : Dev nD} {n : ℕ} {h : n < nD} (e : n = (c.val + 1) % 32) : (⟨n, h⟩ : Dev nD) = nxt c := Fin.ext e
/-- or the previous one. -/
theorem dv_prv {c : Dev nD} {n : ℕ} {h : n < nD} (e : n = (c.val + 31) % 32) : (⟨n, h⟩ : Dev nD) = prv c := Fin.ext e

/-! ## Stored values -/

theorem sel_pos (X C : Vec F S1x1x64x512 .f32) (b : BitVec 1) (h : b = 1#1) :
    k0_pay2 (k0_pay1 X) b C C = C := by
  subst h
  exact shapeCast_shapeCast (s := S1x1x64x512) (t := S64x512) C shapeCasts_S1x1x64x512_S64x512 shapeCasts_S64x512_S1x1x64x512
theorem sel_neg (X C : Vec F S1x1x64x512 .f32) (b : BitVec 1) (h : ¬b = 1#1) :
    k0_pay2 (k0_pay1 X) b C C = k0_pay25 (k0_pay24 X) C := by
  have h' : ¬b = 1 := h
  unfold k0_pay2 Scalar.select
  simp only [if_neg h']; rfl

/-- What a step stores as its partial sum: its own product at a layer's first step, else the sum received plus it. -/
theorem stored (D : Dat F) (c : Dev nD) (l s : ℕ) (h : Fin 2) (X : Vec F S1x1x64x512 .f32) (hX : 1 ≤ s → X = D.A l (prv c) (s - 1) h)
    (b : BitVec 1) (hb : b = 1#1 ↔ s = 0) : k0_pay2 (k0_pay1 X) b (D.C l c s h) (D.C l c s h) = D.A l c s h := by
  cases s with
  | zero => rw [sel_pos _ _ _ (hb.mpr rfl), D.A_zero]
  | succ s => rw [sel_neg _ _ _ (fun h => by have := hb.mp h; omega), hX (by omega), D.A_succ]; rfl

/-- The two halves of the product of the block that came next. -/
theorem next0 (D : Dat F) (c : Dev nD) (l s : ℕ) : k0_pay22 (k0_pay7 (D.xc l c (s + 1)) (D.wi l c) (D.wo l c)) = D.C l c (s + 1) 0 := by
  unfold Dat.C prod
  rw [if_neg (Nat.succ_ne_zero s)]; rfl
theorem next1 (D : Dat F) (c : Dev nD) (l s : ℕ) : k0_pay23 (k0_pay6 (D.xc l c (s + 1)) (D.wi l c) (D.wo l c)) = D.C l c (s + 1) 1 := by
  unfold Dat.C prod
  rw [if_neg (Nat.succ_ne_zero s)]; rfl

/-- The block a step works on, at whatever share. -/
theorem XN_open (D : Dat F) (c : Dev nD) (l s : ℕ) (hs : s ≤ 30) :
    XN D c l s ⊢ iprop(∃ q, pc c xB (rX (f4 (32 * l + s + 1))) q (D.xc l c (s + 1))
      ∗ (pc c xB (rX (f4 (32 * l + s + 1))) q (D.xc l c (s + 1)) -∗ XN D c l s)) := by
  unfold XN
  by_cases h : s ≤ 29
  · rw [if_pos h]
    iintro ⟨Hp, Hc⟩
    iexists _
    isplitl [Hp]; · iexact Hp
    iintro Hp
    isplitl [Hp]; · iexact Hp
    iexact Hc
  · rw [if_neg h, if_pos (by omega)]
    iintro Hp
    iexists _
    isplitl [Hp]; · iexact Hp
    iintro Hp
    iexact Hp

end Cert.Proof

end
-- ==== Proof.Mid.lean ====
/-
  The states within one step, and the stages that lead from one to the next.
-/
module

public import proofs.«01_k».proof.Proof.Vals

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Mid
variable (D : Dat F) (c : Dev nD) (l s : ℕ)

/-- What stays the same from the partial sum's arrival to the step's end. -/
def mrest : sProp 𝕄 :=
  iprop(SX c (nxc l (s + 1)) ∗ WX c (32 * l + min (s + 1) 31) ∗ RX c (32 * l + min (s + 2) 31) ∗ CX c D (max 3 (nxc l (s + 1)))
    ∗ GA c (32 * l + s + 1) ∗ CA c D (32 * l + s + 1) ∗ XN D c l (s + 1))
/-- When a step starts, but for its own product and places. -/
def mid0 : sProp 𝕄 :=
  iprop(SX c (nxc l s) ∗ WX c (32 * l + min (s + 1) 31) ∗ RX c (32 * l + min (s + 1) 31) ∗ CX c D (max 3 (nxc l s))
    ∗ PendA c (32 * l + s) ∗ RAin c l s 0 ∗ RAin c l s 1 ∗ GA c (max (32 * l + s) 1) ∗ CA c D (max (32 * l + s) 1) ∗ Ow c (cnt l s))
/-- When the last step's sends have been waited for and their places granted. -/
def midP : sProp 𝕄 :=
  iprop(SX c (nxc l s) ∗ WX c (32 * l + min (s + 1) 31) ∗ RX c (32 * l + min (s + 1) 31) ∗ CX c D (max 3 (nxc l s))
    ∗ WA c 0 (32 * l + s) ∗ WA c 1 (32 * l + s) ∗ RAin c l s 0 ∗ RAin c l s 1 ∗ GA c (32 * l + s + 1) ∗ CA c D (max (32 * l + s) 1)
    ∗ Ow c ⟨nxc l s, gxo l s, 32 * l + s, 32 * l + s, 32 * l + s + 1, l, l⟩)
/-- The home place of the chunk in hand. -/
def homeP (h : Fin 2) : sProp 𝕄 := iprop(pcAny (lft c s) hB (rH h) ∗ reached ER (gHm (lft c s) h) l)
/-- When the first half of the partial sum has come. -/
def midA : sProp 𝕄 :=
  iprop(mrest D c l s ∗ WA c 0 (32 * l + s) ∗ WA c 1 (32 * l + s) ∗ RA c 0 (32 * l + s) ∗ homeP c l s 0 ∗ RAin c l s 1 ∗ factA1 (nxt c) (32 * l + s)
    ∗ Ow c ⟨nxc l (s + 1), gxo l s, 32 * l + s, 32 * l + s, 32 * l + s + 1, l, l⟩)
/-- When it has gone on and the second half has come. -/
def midB : sProp 𝕄 :=
  iprop(mrest D c l s ∗ WA c 0 (32 * l + s) ∗ WA c 1 (32 * l + s) ∗ RA c 0 (32 * l + s) ∗ RA c 1 (32 * l + s) ∗ homeP c l s 1 ∗ factA1 (nxt c) (32 * l + s)
    ∗ cred (tallyAt (gAs c 0 (32 * l + s)) 0 NA) ∗ SA c 0 (32 * l + s + 1)
    ∗ Ow c ⟨nxc l (s + 1), gxo l s, 32 * l + s + 1, 32 * l + s, 32 * l + s + 1, l, l⟩)
/-- When both have gone on. -/
def midC : sProp 𝕄 :=
  iprop(mrest D c l s ∗ WA c 0 (32 * l + s) ∗ WA c 1 (32 * l + s) ∗ RA c 0 (32 * l + s) ∗ RA c 1 (32 * l + s)
    ∗ cred (tallyAt (gAs c 0 (32 * l + s)) 0 NA) ∗ cred (tallyAt (gAs c 1 (32 * l + s)) 0 NA) ∗ SA c 0 (32 * l + s + 1) ∗ SA c 1 (32 * l + s + 1)
    ∗ Ow c ⟨nxc l (s + 1), gxo l s, 32 * l + s + 1, 32 * l + s + 1, 32 * l + s + 1, l, l⟩)
/-- The step's own product and the places it works with. -/
def own0 : sProp 𝕄 :=
  iprop(GX c (gxc l s) ∗ (pcAny c cB (rA (f2 (32 * l + s + 1)) 0) ∗ pcAny c cB (rA (f2 (32 * l + s + 1)) 1)) ∗ XN D c l s ∗ kept c l s)
def ownC : sProp 𝕄 := iprop(pc c cB (rA (f2 (32 * l + s)) 0) fullShare (D.C l c s 0) ∗ pc c cB (rA (f2 (32 * l + s)) 1) fullShare (D.C l c s 1))

theorem st_open : st D c l s ⊢ iprop(mid0 D c l s ∗ (SA c 0 (32 * l + s) ∗ SA c 1 (32 * l + s)) ∗ ownC D c l s ∗ own0 D c l s) := by
  unfold st mid0 own0 ownC
  iintro ⟨H1, H2, H3, H4, H5, H6, H7, H8, H9, H10, H11, H12, H13, H14, H15, H16, H17⟩
  isplitl [H1 H2 H3 H5 H8 H9 H10 H11 H12 H17]
  · isplitl [H1]; · iexact H1
    isplitl [H2]; · iexact H2
    isplitl [H3]; · iexact H3
    isplitl [H5]; · iexact H5
    isplitl [H8]; · iexact H8
    isplitl [H9]; · iexact H9
    isplitl [H10]; · iexact H10
    isplitl [H11]; · iexact H11
    isplitl [H12]; · iexact H12
    iexact H17
  isplitl [H6 H7]
  · isplitl [H6]; · iexact H6
    iexact H7
  isplitl [H13]; · iexact H13
  isplitl [H4]; · iexact H4
  isplitl [H14]; · iexact H14
  isplitl [H15]; · iexact H15
  iexact H16

end Mid

theorem Ow_s0 (c : Dev nD) {nx gx a0 a1 ga h0 h1 n : ℕ} : Ow c (Cnt.sentA ⟨nx, gx, a0, a1, ga, h0, h1⟩ 0 n) ⊢ (Ow c ⟨nx, gx, n, a1, ga, h0, h1⟩ : sProp 𝕄) := .rfl

section Stages
variable (D : Dat F) (κ : GSem nD τ sig → ℕ) (ιs : Key → ℕ) (c : Dev nD) (l s : ℕ)

/-- Sending the first half on and receiving the second. -/
theorem phAB (hl : l < 3) (hs : s ≤ 30)
    {off₁ off₂ : Fin 4 → ℕ} (h₁ : off₁ = ![(f2 (32 * l + s)).val, (0 : Fin 2).val, 0, 0]) (h₂ : off₂ = ![(f2 (32 * l + s + 1)).val, (0 : Fin 2).val, 0, 0]) {nn : Dev nD} (hnn : nn = nxt c)
    {sS sR : SemLoc sig} (hS : sS = asS (f2 (32 * l + s)) 0) (hR : sR = arS (f2 (32 * l + s + 1)) 0)
    {inb₁ : ∀ a : Fin 4, off₁ a + S1x1x64x512.size a ≤ S2x2x64x512.size a} {inb₂ : ∀ a : Fin 4, off₂ a + S1x1x64x512.size a ≤ S2x2x64x512.size a}
    {hst₁ hst₂} {hq₁ hq₂ : S1x1x64x512.Squeezes S64x512} {hsc hsrc hdst hsem}
    {C : Prop} {iC : Decidable C} (hC : C ↔ 1 ≤ s)
    {sem₀ : C → DmaSem sig} (hS₀ : ∀ hc, SemLoc.dma (sem₀ hc) = arS (f2 (32 * l + s)) 1)
    {α : Type} {K : Prog (TpuEff nD τ sig (Elt F) Λ₀ .tc) α} {Q : α → sProp 𝕄} :
    Kn D κ ιs c ⊢ iprop(midA D c l s -∗ pc c aB (rA (f2 (32 * l + s)) 0) fullShare (D.A l c s 0) -∗ SA c 0 (32 * l + s)
      -∗ (∀ X, ⌜1 ≤ s → X = D.A l (prv c) (s - 1) 1⌝ -∗ midB D c l s -∗ pc c aB (rA (f2 (32 * l + s)) 1) fullShare X -∗ WP c K Q)
      -∗ WP c (.op (.enqueueDma ((aB.slice (Rect.unit (s := S2x2x64x512) off₁ S1x1x64x512.size inb₁) hst₁).squeeze S64x512 hq₁)
          (.remote (Dev.tc nn : Thread nD τ) ((aB.slice (Rect.unit (s := S2x2x64x512) off₂ S1x1x64x512.size inb₂) hst₂).squeeze S64x512 hq₂) sS hsc) sR hsrc hdst hsem)
          fun _ => dite C (fun h => .op (.waitDma (sem₀ h) aB.view.ref S64x512 .f32 (.inl rfl)) fun _ => K) (fun _ => K)) Q) := by
  unfold midA midB homeP
  iintro #HK ⟨Hm, HW0, HW1, HR0, Hh, HI, #Hf, HO⟩ Hp HS Hk
  ihave #HK' := Kn_know D κ ιs c $$ HK
  iapply (sA (cont := fun _ => dite C (fun h => .op (.waitDma (sem₀ h) aB.view.ref S64x512 .f32 (.inl rfl)) fun _ => K) (fun _ => K)) D κ ιs c
    ⟨nxc l (s + 1), gxo l s, 32 * l + s, 32 * l + s, 32 * l + s + 1, l, l⟩ 0 (32 * l + s) l s rfl (by omega) hl rfl h₁ h₂ hnn hS hR) $$ HK' HS HW0 Hf Hp Hh HO
  iintro ⟨HS, HW0, Hc, HO⟩
  ihave HO := Ow_s0 c $$ HO
  iapply (ph5 D κ ιs c ⟨nxc l (s + 1), gxo l s, 32 * l + s + 1, 32 * l + s, 32 * l + s + 1, l, l⟩ l s 1 hl hs
    (fun h => ab_a1 hl hs h) hC hS₀) $$ HK HI HO
  iintro %X ⟨HR1, Hpa, %hX, Hh, Hr, HO⟩
  iapply Hk $$ %X %hX [Hm HW0 HW1 HR0 HR1 Hh Hr Hc HS HO] Hpa
  isplitl [Hm]; · iexact Hm
  isplitl [HW0]; · iexact HW0
  isplitl [HW1]; · iexact HW1
  isplitl [HR0]; · iexact HR0
  isplitl [HR1]; · iexact HR1
  isplitl [Hh Hr]
  · isplitl [Hh]; · iexact Hh
    iexact Hr
  isplitr; · iexact Hf
  isplitl [Hc]; · iexact Hc
  isplitl [HS]; · iexact HS
  iexact HO

/-- Sending the second half on. -/
theorem phBC (hl : l < 3) (hs : s ≤ 30)
    {off₁ off₂ : Fin 4 → ℕ} (h₁ : off₁ = ![(f2 (32 * l + s)).val, (1 : Fin 2).val, 0, 0]) (h₂ : off₂ = ![(f2 (32 * l + s + 1)).val, (1 : Fin 2).val, 0, 0]) {nn : Dev nD} (hnn : nn = nxt c)
    {sS sR : SemLoc sig} (hS : sS = asS (f2 (32 * l + s)) 1) (hR : sR = arS (f2 (32 * l + s + 1)) 1)
    {inb₁ : ∀ a : Fin 4, off₁ a + S1x1x64x512.size a ≤ S2x2x64x512.size a} {inb₂ : ∀ a : Fin 4, off₂ a + S1x1x64x512.size a ≤ S2x2x64x512.size a}
    {hst₁ hst₂} {hq₁ hq₂ : S1x1x64x512.Squeezes S64x512} {hsc hsrc hdst hsem}
    {α : Type} {cont : PUnit → Prog (TpuEff nD τ sig (Elt F) Λ₀ .tc) α} {Q : α → sProp 𝕄} :
    Kn D κ ιs c ⊢ iprop(midB D c l s -∗ pc c aB (rA (f2 (32 * l + s)) 1) fullShare (D.A l c s 1) -∗ SA c 1 (32 * l + s)
      -∗ (midC D c l s -∗ WP c (cont ⟨⟩) Q)
      -∗ WP c (.op (.enqueueDma ((aB.slice (Rect.unit (s := S2x2x64x512) off₁ S1x1x64x512.size inb₁) hst₁).squeeze S64x512 hq₁)
          (.remote (Dev.tc nn : Thread nD τ) ((aB.slice (Rect.unit (s := S2x2x64x512) off₂ S1x1x64x512.size inb₂) hst₂).squeeze S64x512 hq₂) sS hsc) sR hsrc hdst hsem) cont) Q) := by
  unfold midB midC homeP
  iintro #HK ⟨Hm, HW0, HW1, HR0, HR1, Hh, #Hf, Hc0, HS0, HO⟩ Hp HS Hk
  ihave #HK' := Kn_know D κ ιs c $$ HK
  iapply (sA (cont := cont) D κ ιs c
    ⟨nxc l (s + 1), gxo l s, 32 * l + s + 1, 32 * l + s, 32 * l + s + 1, l, l⟩ 1 (32 * l + s) l s rfl (by omega) hl rfl h₁ h₂ hnn hS hR) $$ HK' HS HW1 Hf Hp Hh HO
  iintro ⟨HS, HW1, Hc, HO⟩
  iapply Hk
  isplitl [Hm]; · iexact Hm
  isplitl [HW0]; · iexact HW0
  isplitl [HW1]; · iexact HW1
  isplitl [HR0]; · iexact HR0
  isplitl [HR1]; · iexact HR1
  isplitl [Hc0]; · iexact Hc0
  isplitl [Hc]; · iexact Hc
  isplitl [HS0]; · iexact HS0
  isplitl [HS]; · iexact HS
  iexact HO

/-- The weights of a layer, in their windows. -/
abbrev rWi : Rect S1024x2048 := Rect.unit (s := S1024x2048) ![0, 0] S1024x2048.size inb_S1024x2048_S1024x2048_0_0
abbrev rWo : Rect S2048x1024 := Rect.unit (s := S2048x1024) ![0, 0] S2048x1024.size inb_S2048x1024_S2048x1024_0_0
def Wt (c : Dev nD) (M : Memref sig .tc .vmem S1024x2048 .f32) (N : Memref sig .tc .vmem S2048x1024 .f32) (X : Vec F S1024x2048 .f32) (Y : Vec F S2048x1024 .f32) : sProp 𝕄 :=
  iprop(pc c M rWi fullShare X ∗ pc c N rWo fullShare Y)

/-- Loading the block and the weights of the next product. -/
theorem phX (hs : s ≤ 30) {off : Fin 3 → ℕ} (h : off = ![(f4 (32 * l + s + 1)).val, 0, 0]) {inb : ∀ a : Fin 3, off a + S1x64x1024.size a ≤ S4x64x1024.size a}
    {M : Memref sig .tc .vmem S1024x2048 .f32} {N : Memref sig .tc .vmem S2048x1024 .f32} {X : Vec F S1024x2048 .f32} {Y : Vec F S2048x1024 .f32} {hl₁ hl₂ hl₃}
    {α : Type} {cont : FVec F S1x64x1024 .bf16 → Vec F S1024x2048 .f32 → Vec F S2048x1024 .f32 → Prog (TpuEff nD τ sig (Elt F) Λ₀ .tc) α} {Q : α → sProp 𝕄} :
    XN D c l s ⊢ iprop(Wt c M N X Y -∗ ((XN D c l s ∗ Wt c M N X Y) -∗ WP c (cont (D.xc l c (s + 1)) X Y) Q)
      -∗ WP c (.op (.load xB (Rect.unit (s := S4x64x1024) off S1x64x1024.size inb).toLoadRect hl₁) fun (v : FVec F S1x64x1024 .bf16) =>
        .op (.load M rWi.toLoadRect hl₂) fun (w : Vec F S1024x2048 .f32) => .op (.load N rWo.toLoadRect hl₃) fun (u : Vec F S2048x1024 .f32) => cont v w u) Q) := by
  refine (XN_open D c l s hs).trans ?_
  unfold Wt
  iintro ⟨%q, Hp, Hback⟩ ⟨HX, HY⟩ Hk
  iapply (ldX c (f4 (32 * l + s + 1)) h) $$ Hp
  iintro Hp
  iapply (wp_load_pc c M rWi) $$ HX
  iintro HX
  iapply (wp_load_pc c N rWo) $$ HY
  iintro HY
  iapply Hk
  isplitl [Hback Hp]; · iapply Hback $$ Hp
  isplitl [HX] <;> iassumption

/-- Storing the next product and finishing the step. -/
theorem phT (hl : l < 3) (hs : s ≤ 30)
    {off₀ off₁ : Fin 4 → ℕ} (h₀ : off₀ = ![(f2 (32 * l + s + 1)).val, (0 : Fin 2).val, 0, 0]) (h₁ : off₁ = ![(f2 (32 * l + s + 1)).val, (1 : Fin 2).val, 0, 0])
    {inb₀ : ∀ a : Fin 4, off₀ a + S1x1x64x512.size a ≤ S2x2x64x512.size a} {inb₁ : ∀ a : Fin 4, off₁ a + S1x1x64x512.size a ≤ S2x2x64x512.size a}
    {hl₀ hl₁} {w₀ w₁ : Vec F S1x1x64x512 .f32} (hw₀ : w₀ = D.C l c (s + 1) 0) (hw₁ : w₁ = D.C l c (s + 1) 1)
    {hx₀ : (cB.access (Rect.unit (s := S2x2x64x512) off₀ S1x1x64x512.size inb₀)).Stores Finset.univ}
    {hm₀ : (Finset.univ : Finset (Rect.unit (s := S2x2x64x512) off₀ S1x1x64x512.size inb₀).shape.Idx) = Finset.univ ∨ ∀ a, (Rect.unit (s := S2x2x64x512) off₀ S1x1x64x512.size inb₀).stride a = 1}
    {hx₁ : (cB.access (Rect.unit (s := S2x2x64x512) off₁ S1x1x64x512.size inb₁)).Stores Finset.univ}
    {hm₁ : (Finset.univ : Finset (Rect.unit (s := S2x2x64x512) off₁ S1x1x64x512.size inb₁).shape.Idx) = Finset.univ ∨ ∀ a, (Rect.unit (s := S2x2x64x512) off₁ S1x1x64x512.size inb₁).stride a = 1}
    {C : Prop} {iC : Decidable C} (hC : C ↔ s ≤ 29)
    {sem₀ : C → DmaSem sig} (hS₀ : ∀ hc, SemLoc.dma (sem₀ hc) = xsS (f4 (32 * l + s + 1)))
    {G : Prop} {iG : Decidable G} (hG : G ↔ if l = 2 then s ≤ 26 else s ≠ 27)
    {nn : G → Dev nD} (hnn : ∀ h, nn h = prv c) {sem : Sem sig} (hS : sem = (0 : Fin 3)) {k' : ℕ} (hk' : k' = 1)
    {α : Type} {K : Prog (TpuEff nD τ sig (Elt F) Λ₀ .tc) α} {Q : α → sProp 𝕄} :
    Kn D κ ιs c ⊢ iprop(midC D c l s -∗ ownC D c l s -∗ own0 D c l s -∗ (st D c l (s + 1) -∗ WP c K Q)
      -∗ WP c (.op (.load cB (Rect.unit (s := S2x2x64x512) off₀ S1x1x64x512.size inb₀).toLoadRect hl₀) fun _ =>
        .op (.store cB (Rect.unit (s := S2x2x64x512) off₀ S1x1x64x512.size inb₀) w₀ Finset.univ hx₀ hm₀) fun _ =>
        .op (.load cB (Rect.unit (s := S2x2x64x512) off₁ S1x1x64x512.size inb₁).toLoadRect hl₁) fun _ =>
        .op (.store cB (Rect.unit (s := S2x2x64x512) off₁ S1x1x64x512.size inb₁) w₁ Finset.univ hx₁ hm₁) fun _ =>
        dite C (fun h => .op (.waitDma (sem₀ h) xB.view.ref S64x1024 .bf16 (.inl rfl)) fun _ =>
            dite G (fun h => .op (.semSignal (Dev.tc (nn h) : Thread nD τ) sem k') fun _ => K) (fun _ => K))
          (fun _ => dite G (fun h => .op (.semSignal (Dev.tc (nn h) : Thread nD τ) sem k') fun _ => K) (fun _ => K))) Q) := by
  subst hw₀ hw₁
  unfold midC ownC own0 mrest
  iintro #HK ⟨⟨HSX, HWX, HRX, HCX, HGA, HCA, HXN⟩, HW0, HW1, HR0, HR1, Hc0, Hc1, HS0, HS1, HO⟩ ⟨HC0, HC1⟩ ⟨HGX, ⟨HD0, HD1⟩, HX, Hkp⟩ Hk
  ihave HD0 := (pcAny_pc c cB (rA (f2 (32 * l + s + 1)) 0)) $$ HD0
  icases HD0 with ⟨%X0, HD0⟩
  ihave HD1 := (pcAny_pc c cB (rA (f2 (32 * l + s + 1)) 1)) $$ HD1
  icases HD1 with ⟨%X1, HD1⟩
  iapply (ldA c (f2 (32 * l + s + 1)) 0 h₀) $$ HD0
  iintro HD0
  ihave HD0 := (pc_any c cB (rA (f2 (32 * l + s + 1)) 0)) $$ HD0
  iapply (stA c (f2 (32 * l + s + 1)) 0 h₀) $$ HD0
  iintro HD0
  iapply (ldA c (f2 (32 * l + s + 1)) 1 h₁) $$ HD1
  iintro HD1
  ihave HD1 := (pc_any c cB (rA (f2 (32 * l + s + 1)) 1)) $$ HD1
  iapply (stA c (f2 (32 * l + s + 1)) 1 h₁) $$ HD1
  iintro HD1
  iapply (ph7 D κ ιs c _ l s hl hs (ab_end l s) hC hS₀) $$ HK HWX HX HO
  iintro ⟨HWX, Hp, HO⟩
  iapply (ph8 D κ ιs c ⟨nxc l (s + 1), gxo l s, 32 * l + s + 1, 32 * l + s + 1, 32 * l + s + 1, l, l⟩ l s hl hs rfl hG hnn hS hk') $$ HK HGX Hp HRX Hkp HO
  iintro ⟨HGX, HRX, Hkp, HO⟩
  iapply Hk
  unfold st PendA RAin
  rw [if_neg (show 32 * l + (s + 1) ≠ 0 by omega), if_neg (show s + 1 ≠ 0 by omega), show 32 * l + (s + 1) = 32 * l + s + 1 by omega, Nat.add_sub_cancel, Nat.add_sub_cancel,
    show max (32 * l + s + 1) 1 = 32 * l + s + 1 by omega, show f2 (32 * l + s + 1 + 1) = f2 (32 * l + s) from f2_eq (by omega),
    show s + 1 + 1 = s + 2 by omega, show cnt l (s + 1) = ⟨nxc l (s + 1), gxo l (s + 1), 32 * l + s + 1, 32 * l + s + 1, 32 * l + s + 1, l, l⟩ by
      unfold cnt; rw [show 32 * l + (s + 1) = 32 * l + s + 1 by omega, show max (32 * l + s + 1) 1 = 32 * l + s + 1 by omega]]
  isplitl [HSX]; · iexact HSX
  isplitl [HWX]; · iexact HWX
  isplitl [HRX]; · iexact HRX
  isplitl [HGX]; · iexact HGX
  isplitl [HCX]; · iexact HCX
  isplitl [HS0]; · iexact HS0
  isplitl [HS1]; · iexact HS1
  isplitl [HW0 HW1 Hc0 Hc1]
  · isplitl [HW0]; · iexact HW0
    isplitl [HW1]; · iexact HW1
    isplitl [Hc0]; · iexact Hc0
    iexact Hc1
  isplitl [HR0]
  · isplitl [HR0]; · iexact HR0
    iempintro
  isplitl [HR1]
  · isplitl [HR1]; · iexact HR1
    iempintro
  isplitl [HGA]; · iexact HGA
  isplitl [HCA]; · iexact HCA
  isplitl [HD0 HD1]
  · isplitl [HD0]; · iexact HD0
    iexact HD1
  isplitl [HC0 HC1]
  · isplitl [HC0]
    · iapply (pc_any c cB (rA (f2 (32 * l + s)) 0)) $$ HC0
    · iapply (pc_any c cB (rA (f2 (32 * l + s)) 1)) $$ HC1
  isplitl [HXN]; · iexact HXN
  isplitl [Hkp]; · iexact Hkp
  iexact HO

end Stages

end Cert.Proof

end
-- ==== Proof.Step2.lean ====
/-
  One step of the later layers' loops, in the parts its text comes in. The two loops' parts have the same text, so they are
  run once, for either layer.
-/
module

public import proofs.«01_k».proof.Proof.Mid

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Parts
variable (m0 : Memref sig .tc .vmem S64x1024 .f32) (hm0 : m0.IsWhole) (m1 : Memref sig .tc .vmem S1024x2048 .f32) (hm1 : m1.IsWhole) (m2 : Memref sig .tc .vmem S2048x1024 .f32) (hm2 : m2.IsWhole) (m3 : Memref sig .tc .vmem S1024x2048 .f32) (hm3 : m3.IsWhole) (m4 : Memref sig .tc .vmem S2048x1024 .f32) (hm4 : m4.IsWhole) (m5 : Memref sig .tc .vmem S1024x2048 .f32) (hm5 : m5.IsWhole) (m6 : Memref sig .tc .vmem S2048x1024 .f32) (hm6 : m6.IsWhole) (m7 : Memref sig .tc .vmem S64x1024 .f32) (hm7 : m7.IsWhole)
variable (D : Dat F) (κ : GSem nD τ sig → ℕ) (ιs : Key → ℕ) (c : Dev nD) (l : ℕ) (v5 v7 : BitVec 32) (t : Fin k0_t2_loop.trips)

theorem t2_lt (t : Fin k0_t2_loop.trips) : t.val ≤ 30 := by revert t; decide +kernel
theorem t2_b (t : Fin k0_t2_loop.trips) : Scalar.cmpi .eq (Scf.iv 0#32 1#32 t) 0#32 = 1#1 ↔ t.val = 0 := by revert t; decide +kernel

set_option maxHeartbeats 400000 in
theorem part4_spec (h1 : 1 ≤ l) (hl : l < 3) {Q : (Σ' (_ : BitVec 32) (_ : BitVec 32) (_ : BitVec 32) (_ : BitVec 32), BitVec 32) → sProp 𝕄} :
    Kn D κ ιs c ⊢ iprop(mid0 D c l t.val -∗ (∀ u v w z, midP D c l t.val -∗ Q ⟨Scf.iv 0#32 1#32 t, u, v, w, z⟩)
      -∗ WP c (k0_part4 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v5 0#32 1#32 t) Q) := by
  have ht := t2_lt t
  rw [k0_part4_eq_skeleton]
  unfold k0_part4_skel mid0 RAin
  simp -zeta only [semSignalWord, semWaitWord, Prog.lift, Prog.bind_op, Prog.bind_ret, Prog.pure_eq_ret]
  rw [show max (32 * l + t.val) 1 = 32 * l + t.val by omega]
  iintro #HK ⟨HSX, HWX, HRX, HCX, HP, ⟨HR0, HI0⟩, ⟨HR1, HI1⟩, HGA, HCA, HO⟩ HQ
  iapply (ph1 D κ ιs c (cnt l t.val) (32 * l + t.val) (32 * l + (t.val - 1)) (by unfold ok; omega) (by omega) (by omega)
    (by unfold posR; split_ifs <;> omega)
    (ab_start l t.val) (show max (32 * l + t.val) 1 = 32 * l + t.val by omega)
    (sem_as (f2 (32 * l + t.val + 1)) 0 ((k0_off30_eq t).trans (oS (by omega))) _ _)
    (sem_as (f2 (32 * l + t.val + 1)) 1 ((k0_off33_eq t).trans (oS (by omega))) _ _)
    (dv_prv (k0_dev16_eq c)) rfl rfl) $$ HK HP HGA HR0 HR1 HO
  iintro ⟨HW0, HW1, HGA, HR0, HR1, HO⟩
  iapply (WP_ret c)
  iapply HQ
  unfold midP RAin
  rw [show max (32 * l + t.val) 1 = 32 * l + t.val by omega]
  isplitl [HSX]; · iexact HSX
  isplitl [HWX]; · iexact HWX
  isplitl [HRX]; · iexact HRX
  isplitl [HCX]; · iexact HCX
  isplitl [HW0]; · iexact HW0
  isplitl [HW1]; · iexact HW1
  isplitl [HR0 HI0]
  · isplitl [HR0]; · iexact HR0
    iexact HI0
  isplitl [HR1 HI1]
  · isplitl [HR1]; · iexact HR1
    iexact HI1
  isplitl [HGA]; · iexact HGA
  isplitl [HCA]; · iexact HCA
  iexact HO

set_option maxHeartbeats 400000 in
theorem part5_spec (h1 : 1 ≤ l) (hl : l < 3) (v z : BitVec 32) {Q : PUnit → sProp 𝕄} :
    Kn D κ ιs c ⊢ iprop(midP D c l t.val -∗ ownC D c l t.val
      -∗ (midA D c l t.val -∗ pc c aB (rA (f2 (32 * l + t.val)) 0) fullShare (D.A l c t.val 0) -∗ ownC D c l t.val -∗ Q ⟨⟩)
      -∗ WP c (k0_part5 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v5 v7 t (Scf.iv 0#32 1#32 t) v z) Q) := by
  have ht := t2_lt t
  rw [k0_part5_eq_skeleton]
  unfold k0_part5_skel midP ownC
  simp -zeta only [semSignalWord, semWaitWord, Prog.lift, Prog.bind_op, Prog.bind_ret, Prog.pure_eq_ret]
  iintro #HK ⟨HSX, HWX, HRX, HCX, HW0, HW1, HI0, HI1, HGA, HCA, HO⟩ ⟨HC0, HC1⟩ HQ
  iapply (ph2 D κ ιs c ⟨nxc l t.val, gxo l t.val, 32 * l + t.val, 32 * l + t.val, 32 * l + t.val + 1, l, l⟩ l t.val hl ht
    (fun h => ab_x hl h)
    (by clear ht; revert t; decide +kernel)
    (fun _ => sem_xr (f4 (32 * l + t.val + 2)) ((k0_off36_eq t).trans (oT (by omega))) _ _)) $$ HK HRX HO
  iintro ⟨HRX, Hp, HO⟩
  iapply (ph3c D κ ιs c ⟨nxc l t.val, gxo l t.val, 32 * l + t.val, 32 * l + t.val, 32 * l + t.val + 1, l, l⟩ l t.val ht rfl (by clear ht; revert t; decide +kernel) ?_) $$ HK HSX HWX HCX Hp HO
  · intro h3 hs
    exact ph3s D κ ιs c _ l t.val hl hs (by omega) rfl (ab_gx hl hs (by omega))
        ((show k0_off39 t 2#32 = ![(t.val + 0 + 2) % 4, 0, 0] from k0_off39_eq t 0).trans (oX (by omega)))
        ((show k0_off39 t 3#32 = ![(t.val + 1 + 2) % 4, 0, 0] from k0_off39_eq t 1).trans (oX (by omega))) (dv_nxt (k0_dev17_eq c))
        (sem_xs _ ((show k0_off38 t 2#32 = ![(t.val + 0 + 2) % 4] from k0_off38_eq t 0).trans (oT (by omega))) _ _)
        (sem_xr _ ((show k0_off38 t 3#32 = ![(t.val + 1 + 2) % 4] from k0_off38_eq t 1).trans (oT (by omega))) _ _) rfl rfl
  iintro ⟨HSX, HWX, HCX, HXN, HO⟩
  iapply (ph4 D κ ιs c ⟨nxc l (t.val + 1), gxo l t.val, 32 * l + t.val, 32 * l + t.val, 32 * l + t.val + 1, l, l⟩ (32 * l + t.val) (by unfold ok; omega) (by omega) (by omega)
    (ab_ga hl ht) rfl rfl) $$ HK HCA HO
  iintro ⟨HCA, Hf, HO⟩
  iapply (ph5 D κ ιs c ⟨nxc l (t.val + 1), gxo l t.val, 32 * l + t.val, 32 * l + t.val, 32 * l + t.val + 1, l, l⟩ l t.val 0 hl ht
    (fun h => ab_a0 hl ht h) (by clear ht; revert t; decide +kernel)
    (fun _ => sem_ar (f2 (32 * l + t.val)) 0 ((k0_off40_eq t).trans (oS (by omega))) _ _)) $$ HK HI0 HO
  iintro %X ⟨HR0, Hpa, %hX, Hh, Hr, HO⟩
  iapply (ldA c (f2 (32 * l + t.val)) 0 ((k0_off42_eq t).trans (oA (by omega)))) $$ Hpa
  iintro Hpa
  iapply (ldA c (f2 (32 * l + t.val)) 0 ((k0_off42_eq t).trans (oA (by omega)))) $$ HC0
  iintro HC0
  iapply (ldA c (f2 (32 * l + t.val)) 0 ((k0_off42_eq t).trans (oA (by omega)))) $$ HC0
  iintro HC0
  iapply (ldA c (f2 (32 * l + t.val)) 0 ((k0_off42_eq t).trans (oA (by omega)))) $$ Hpa
  iintro Hpa
  ihave Hpa := (pc_any c aB (rA (f2 (32 * l + t.val)) 0)) $$ Hpa
  iapply (stA c (f2 (32 * l + t.val)) 0 ((k0_off42_eq t).trans (oA (by omega)))) $$ Hpa
  iintro Hpa
  ihave Hpa := (Entails.of_eq (congrArg (fun z => pc c aB (rA (f2 (32 * l + t.val)) 0) fullShare z) (show k0_pay8 (Scf.iv 0#32 1#32 t) X (D.C l c t.val 0) (D.C l c t.val 0) = D.A l c t.val 0 from stored D c l t.val 0 X hX _ (t2_b t)))) $$ Hpa
  iapply (WP_ret c)
  iapply HQ $$ [HSX HWX HRX HCX HW0 HW1 HR0 Hh Hr HI1 HGA HCA Hf HXN HO] Hpa [HC0 HC1]
  · unfold midA mrest homeP
    isplitl [HSX HWX HRX HCX HGA HCA HXN]
    · isplitl [HSX]; · iexact HSX
      isplitl [HWX]; · iexact HWX
      isplitl [HRX]; · iexact HRX
      isplitl [HCX]; · iexact HCX
      isplitl [HGA]; · iexact HGA
      isplitl [HCA]; · iexact HCA
      iexact HXN
    isplitl [HW0]; · iexact HW0
    isplitl [HW1]; · iexact HW1
    isplitl [HR0]; · iexact HR0
    isplitl [Hh Hr]
    · isplitl [Hh]; · iexact Hh
      iexact Hr
    isplitl [HI1]; · iexact HI1
    isplitl [Hf]; · iexact Hf
    iexact HO
  · isplitl [HC0]; · iexact HC0
    iexact HC1

set_option maxHeartbeats 400000 in
theorem part6_spec (h1 : 1 ≤ l) (hl : l < 3) (v : BitVec 32) {Q : PUnit → sProp 𝕄} :
    Kn D κ ιs c ⊢ iprop(midA D c l t.val -∗ pc c aB (rA (f2 (32 * l + t.val)) 0) fullShare (D.A l c t.val 0) -∗ SA c 0 (32 * l + t.val) -∗ ownC D c l t.val
      -∗ (midB D c l t.val -∗ pc c aB (rA (f2 (32 * l + t.val)) 1) fullShare (D.A l c t.val 1) -∗ ownC D c l t.val -∗ Q ⟨⟩)
      -∗ WP c (k0_part6 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v5 v7 t (Scf.iv 0#32 1#32 t) v) Q) := by
  have ht := t2_lt t
  rw [k0_part6_eq_skeleton]
  unfold k0_part6_skel ownC
  simp -zeta only [semSignalWord, semWaitWord, Prog.lift, Prog.bind_op, Prog.bind_ret, Prog.pure_eq_ret]
  iintro #HK HA Hp HS ⟨HC0, HC1⟩ HQ
  iapply (phAB D κ ιs c l t.val hl ht ((k0_off32_eq t).trans (oA (by omega))) ((k0_off31_eq t).trans (oA (by omega))) (dv_nxt (k0_dev18_eq c))
    (sem_as (f2 (32 * l + t.val)) 0 ((k0_off43_eq t).trans (oS (by omega))) _ _) (sem_ar (f2 (32 * l + t.val + 1)) 0 ((k0_off30_eq t).trans (oS (by omega))) _ _)
    (by clear ht; revert t; decide +kernel) (fun _ => sem_ar (f2 (32 * l + t.val)) 1 ((k0_off44_eq t).trans (oS (by omega))) _ _)) $$ HK HA Hp HS
  iintro %Y %hY HB Hp
  iapply (ldA c (f2 (32 * l + t.val)) 1 ((k0_off46_eq t).trans (oA (by omega)))) $$ Hp
  iintro Hp
  iapply (ldA c (f2 (32 * l + t.val)) 1 ((k0_off46_eq t).trans (oA (by omega)))) $$ HC1
  iintro HC1
  iapply (ldA c (f2 (32 * l + t.val)) 1 ((k0_off46_eq t).trans (oA (by omega)))) $$ HC1
  iintro HC1
  iapply (ldA c (f2 (32 * l + t.val)) 1 ((k0_off46_eq t).trans (oA (by omega)))) $$ Hp
  iintro Hp
  ihave Hp := (pc_any c aB (rA (f2 (32 * l + t.val)) 1)) $$ Hp
  iapply (stA c (f2 (32 * l + t.val)) 1 ((k0_off46_eq t).trans (oA (by omega)))) $$ Hp
  iintro Hp
  ihave Hp := (Entails.of_eq (congrArg (fun z => pc c aB (rA (f2 (32 * l + t.val)) 1) fullShare z) (show k0_pay9 (Scf.iv 0#32 1#32 t) Y (D.C l c t.val 1) (D.C l c t.val 1) = D.A l c t.val 1 from stored D c l t.val 1 Y hY _ (t2_b t)))) $$ Hp
  iapply (WP_ret c)
  iapply HQ $$ HB Hp [HC0 HC1]
  isplitl [HC0]; · iexact HC0
  iexact HC1

set_option maxHeartbeats 400000 in
/-- One step of the second layer. -/
theorem part7_spec {Q : PUnit → sProp 𝕄} :
    Kn D κ ιs c ⊢ iprop(st D c 1 t.val -∗ Wt c m3 m4 (D.wi 1 c) (D.wo 1 c) -∗ ((st D c 1 (t.val + 1) ∗ Wt c m3 m4 (D.wi 1 c) (D.wo 1 c)) -∗ Q ⟨⟩)
      -∗ WP c (k0_part7 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v5 v7 0#32 1#32 t) Q) := by
  have ht := t2_lt t
  rw [k0_part7_eq_skeleton]
  unfold k0_part7_skel
  rw [WP_bind]
  iintro #HK Hst HW HQ
  ihave Hst := st_open D c 1 t.val $$ Hst
  unfold own0
  icases Hst with ⟨H0, ⟨HS0, HS1⟩, HC, ⟨HGX, HD, HX, Hkp⟩⟩
  iapply (part4_spec m0 hm0 m1 hm1 m2 hm2 m3 hm3 m4 hm4 m5 hm5 m6 hm6 m7 hm7 D κ ιs c 1 v5 t (by omega) (by omega)) $$ HK H0
  iintro %u %v %w %z HP
  dsimp only
  rw [WP_bind]
  iapply (part5_spec m0 hm0 m1 hm1 m2 hm2 m3 hm3 m4 hm4 m5 hm5 m6 hm6 m7 hm7 D κ ιs c 1 v5 v7 t (by omega) (by omega) v z) $$ HK HP HC
  iintro HA Hp HC
  rw [WP_bind]
  iapply (part6_spec m0 hm0 m1 hm1 m2 hm2 m3 hm3 m4 hm4 m5 hm5 m6 hm6 m7 hm7 D κ ιs c 1 v5 v7 t (by omega) (by omega) v) $$ HK HA Hp HS0 HC
  iintro HB Hp HC
  simp -zeta only [semSignalWord, semWaitWord, Prog.lift, Prog.bind_op, Prog.bind_ret, Prog.pure_eq_ret]
  iapply (phBC D κ ιs c 1 t.val (by omega) ht ((k0_off35_eq t).trans (oA (by omega))) ((k0_off34_eq t).trans (oA (by omega))) (dv_nxt (k0_dev19_eq c))
    (sem_as (f2 (32 * 1 + t.val)) 1 ((k0_off47_eq t).trans (oS (by omega))) _ _) (sem_ar (f2 (32 * 1 + t.val + 1)) 1 ((k0_off33_eq t).trans (oS (by omega))) _ _)) $$ HK HB Hp HS1
  iintro HM
  iapply (phX D c 1 t.val ht ((k0_off48_eq t).trans (oX (by omega)))) $$ HX HW
  iintro ⟨HX, HW⟩
  iapply (phT D κ ιs c 1 t.val (by omega) ht ((k0_off49_eq t).trans (oA (by omega))) ((k0_off50_eq t).trans (oA (by omega)))
    (next0 D c 1 t.val) (next1 D c 1 t.val) (by clear ht; revert t; decide +kernel)
    (fun _ => sem_xs (f4 (32 * 1 + t.val + 1)) ((k0_off51_eq t).trans (oT (by omega))) _ _)
    (by rw [if_neg (by decide)]; clear ht; revert t; decide +kernel) (fun _ => dv_prv (k0_dev20_eq c)) rfl rfl) $$ HK HM HC [HGX HD HX Hkp]
  · unfold own0
    isplitl [HGX]; · iexact HGX
    isplitl [HD]; · iexact HD
    isplitl [HX]; · iexact HX
    iexact Hkp
  iintro Hst
  iapply (WP_ret c)
  iapply HQ
  isplitl [Hst]; · iexact Hst
  iexact HW

theorem part8_eq : @k0_part8 F _ = @k0_part4 F _ := rfl
theorem part9_eq : @k0_part9 F _ = @k0_part5 F _ := rfl
theorem part10_eq : @k0_part10 F _ = @k0_part6 F _ := rfl

set_option maxHeartbeats 400000 in
/-- One step of the third layer. -/
theorem part11_spec {Q : PUnit → sProp 𝕄} :
    Kn D κ ιs c ⊢ iprop(st D c 2 t.val -∗ Wt c m5 m6 (D.wi 2 c) (D.wo 2 c) -∗ ((st D c 2 (t.val + 1) ∗ Wt c m5 m6 (D.wi 2 c) (D.wo 2 c)) -∗ Q ⟨⟩)
      -∗ WP c (k0_part11 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v5 v7 0#32 1#32 t) Q) := by
  have ht := t2_lt t
  rw [k0_part11_eq_skeleton]
  unfold k0_part11_skel
  rw [part8_eq, part9_eq, part10_eq]
  rw [WP_bind]
  iintro #HK Hst HW HQ
  ihave Hst := st_open D c 2 t.val $$ Hst
  unfold own0
  icases Hst with ⟨H0, ⟨HS0, HS1⟩, HC, ⟨HGX, HD, HX, Hkp⟩⟩
  iapply (part4_spec m0 hm0 m1 hm1 m2 hm2 m3 hm3 m4 hm4 m5 hm5 m6 hm6 m7 hm7 D κ ιs c 2 v5 t (by omega) (by omega)) $$ HK H0
  iintro %u %v %w %z HP
  dsimp only
  rw [WP_bind]
  iapply (part5_spec m0 hm0 m1 hm1 m2 hm2 m3 hm3 m4 hm4 m5 hm5 m6 hm6 m7 hm7 D κ ιs c 2 v5 v7 t (by omega) (by omega) v z) $$ HK HP HC
  iintro HA Hp HC
  rw [WP_bind]
  iapply (part6_spec m0 hm0 m1 hm1 m2 hm2 m3 hm3 m4 hm4 m5 hm5 m6 hm6 m7 hm7 D κ ιs c 2 v5 v7 t (by omega) (by omega) v) $$ HK HA Hp HS0 HC
  iintro HB Hp HC
  simp -zeta only [semSignalWord, semWaitWord, Prog.lift, Prog.bind_op, Prog.bind_ret, Prog.pure_eq_ret]
  iapply (phBC D κ ιs c 2 t.val (by omega) ht ((k0_off58_eq t).trans (oA (by omega))) ((k0_off57_eq t).trans (oA (by omega))) (dv_nxt (k0_dev29_eq c))
    (sem_as (f2 (32 * 2 + t.val)) 1 ((k0_off70_eq t).trans (oS (by omega))) _ _) (sem_ar (f2 (32 * 2 + t.val + 1)) 1 ((k0_off56_eq t).trans (oS (by omega))) _ _)) $$ HK HB Hp HS1
  iintro HM
  iapply (phX D c 2 t.val ht ((k0_off71_eq t).trans (oX (by omega)))) $$ HX HW
  iintro ⟨HX, HW⟩
  iapply (phT D κ ιs c 2 t.val (by omega) ht ((k0_off72_eq t).trans (oA (by omega))) ((k0_off73_eq t).trans (oA (by omega)))
    (next0 D c 2 t.val) (next1 D c 2 t.val) (by clear ht; revert t; decide +kernel)
    (fun _ => sem_xs (f4 (32 * 2 + t.val + 1)) ((k0_off74_eq t).trans (oT (by omega))) _ _)
    (by rw [if_pos (by decide)]; clear ht; revert t; decide +kernel) (fun _ => dv_prv (k0_dev30_eq c)) rfl rfl) $$ HK HM HC [HGX HD HX Hkp]
  · unfold own0
    isplitl [HGX]; · iexact HGX
    isplitl [HD]; · iexact HD
    isplitl [HX]; · iexact HX
    iexact Hkp
  iintro Hst
  iapply (WP_ret c)
  iapply HQ
  isplitl [Hst]; · iexact Hst
  iexact HW

end Parts

end Cert.Proof

end
-- ==== Proof.Tail.lean ====
/-
  From a layer's loop to its end: the last product is added to the partial sum that comes home, and each half is copied to
  the device it belongs to. The three layers do the same, so it is run once for all.
-/
module

public import proofs.«01_k».proof.Proof.Step2

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## What a device owes at a layer's end -/

/-- After the loop, some of the home copies sent, -/
abbrev ct (l h0 h1 : ℕ) : Cnt := ⟨32 * l + 32, gxo l 31, 32 * l + 31, 32 * l + 31, 32 * l + 31, h0, h1⟩
/-- and when the next layer's first block is ready to be sent, `nx` x blocks sent and `gx` the next landing to grant. -/
abbrev cn (l nx gx : ℕ) : Cnt := ⟨nx, gx, 32 * l + 32, 32 * l + 32, 32 * l + 32, l + 1, l + 1⟩

theorem ct_zero (l h0 h1 : ℕ) : (ct l h0 h1).above 0 := by
  simp only [Cnt.above, lvX, lvGX, lvA, lvGA, lvH, gxo]; split_ifs <;> omega
theorem ct_a {l h0 h1 : ℕ} (hl : l < 3) (h0' : l ≤ h0) (h1' : l ≤ h1) : (ct l h0 h1).above (lvA (32 * l + 30)) := by
  simp only [Cnt.above, lvX, lvGX, lvA, lvGA, lvH, gxo]; split_ifs <;> omega
theorem cn_zero (l : ℕ) {nx gx : ℕ} (hx : 32 * l + 32 ≤ nx) (hg : 32 * l + 35 ≤ gx) : (cn l nx gx).above 0 := by
  simp only [Cnt.above, lvX, lvGX, lvA, lvGA, lvH]; split_ifs <;> omega
theorem cn_h (l : ℕ) {gx : ℕ} (hg : 32 * l + 35 ≤ gx) : (cn l (32 * l + 32) gx).above (lvH l) := by
  simp only [Cnt.above, lvX, lvGX, lvA, lvGA, lvH]; split_ifs <;> omega

/-- The last of each family before a layer's end is none. -/
theorem ct_cn (c : Dev nD) (l : ℕ) : Ow c (ct l (l + 1) (l + 1)) ⊢ (Ow c (cn l (32 * l + 32) (gxo l 31)) : sProp 𝕄) := by
  have hn : ¬ok (32 * l + 31) := by unfold ok; omega
  refine Ow_congr c ?_
  unfold owe
  dsimp only
  rw [tA_skip c 0 hn, tA_skip c 1 hn, tGA_skip c hn]

/-- Waits name a place only for its size, which all half blocks share. -/
theorem credA (dst : Memref sig .tc .vmem S64x512 .f32) : dst.view.dmaCredit = NA := rfl
theorem credX (dst : Memref sig .tc .vmem S64x1024 .bf16) : dst.view.dmaCredit = NX := rfl

/-! ## The states -/

section States
variable (D : Dat F) (c : Dev nD) (l : ℕ)

/-- The home place of the chunk the device adds to last: its right neighbour's. -/
def hpl (h : Fin 2) : sProp 𝕄 := iprop(pcAny (nxt c) hB (rH h) ∗ reached ER (gHm (nxt c) h) l)
/-- The places the layer's last ring sends left. -/
def tlA : sProp 𝕄 := iprop(pcAny c aB (rA (f2 (32 * l + 30)) 0) ∗ pcAny c aB (rA (f2 (32 * l + 30)) 1))
/-- The last ring sends waited for and the first half of the last partial sum here. -/
def tl1 : sProp 𝕄 := iprop(WA c 0 (32 * l + 31) ∗ WA c 1 (32 * l + 31) ∗ RA c 0 (32 * l + 31) ∗ hpl c l 0 ∗ tlA c l ∗ Ow c (ct l l l))
/-- The first half sent home. -/
def tl2 : sProp 𝕄 := iprop(WA c 0 (32 * l + 31) ∗ WA c 1 (32 * l + 31) ∗ RA c 0 (32 * l + 31) ∗ tlA c l ∗ SH c 0 (l + 1)
  ∗ cred (tallyAt (gAs c 0 (32 * l + 31)) 0 NA) ∗ Ow c (ct l (l + 1) l))
/-- The second half here. -/
def tl3 : sProp 𝕄 := iprop(tl2 c l ∗ RA c 1 (32 * l + 31) ∗ hpl c l 1)
/-- Both sent home. -/
def tl4 : sProp 𝕄 := iprop((WA c 0 (32 * l + 31) ∗ WA c 1 (32 * l + 31) ∗ cred (tallyAt (gAs c 0 (32 * l + 31)) 0 NA) ∗ cred (tallyAt (gAs c 1 (32 * l + 31)) 0 NA))
  ∗ (RA c 0 (32 * l + 31) ∗ RA c 1 (32 * l + 31)) ∗ tlA c l ∗ (SH c 0 (l + 1) ∗ SH c 1 (l + 1)) ∗ Ow c (cn l (32 * l + 32) (gxo l 31)))
/-- The last partial sum, received and added to. -/
abbrev pcR (h : Fin 2) : sProp 𝕄 := pc c aB (rA (f2 (32 * l + 31)) h) fullShare (D.A l (prv c) 30 h)
abbrev pcC (h : Fin 2) : sProp 𝕄 := pc c cB (rA (f2 (32 * l + 31)) h) fullShare (D.C l c 31 h)
end States

/-! ## The stages -/

section Stages
variable (D : Dat F) (κ : GSem nD τ sig → ℕ) (ιs : Key → ℕ) (c : Dev nD) (l : ℕ)

/-- A half of the last partial sum arrives. -/
theorem phR (h : Fin 2) (hl : l < 3) {h0 h1 : ℕ} (h0' : l ≤ h0) (h1' : l ≤ h1)
    {sp sp' : Space} {s s' : Shape} {e e' : EltTy} {κ' : Kind} {src : Memref sig .tc sp' s' e'} {dst : Memref sig κ' sp s e}
    {hsrc : src.view.WordExact} {hdst : dst.view.WordExact} {sem : DmaSem sig}
    {α : Type} {cont : PUnit → Prog (TpuEff nD τ sig (Elt F) Λ₀ .tc) α} {Q : α → sProp 𝕄}
    (hS : SemLoc.dma sem = arS (f2 (32 * l + 31)) h) (hdN : dst.view.dmaCredit = NA) :
    Kn D κ ιs c ⊢ iprop(RA c h (32 * l + 30) -∗ Ow c (ct l h0 h1)
      -∗ ((RA c h (32 * l + 31) ∗ pcR D c l h ∗ hpl c l h ∗ Ow c (ct l h0 h1)) -∗ WP c (cont ⟨⟩) Q)
      -∗ WP c (.op (.waitDma2 sem src dst hsrc hdst) cont) Q) := by
  have e := wAr (cont := cont) (Q := Q) (hsrc := hsrc) (hdst := hdst) D κ ιs c (ct l h0 h1) h (32 * l + 30) l 30 rfl (by decide) hl hS (ct_a hl h0' h1') hdN
  rw [lft_31] at e
  exact (Kn_know D κ ιs c).trans e

/-- It is added to and sent home. -/
theorem phH (h : Fin 2) (hl : l < 3) {k : Cnt} (hk : k.h h = l)
    {off₁ off₂ off₃ : Fin 4 → ℕ} {off₄ : Fin 3 → ℕ} (h₁ : off₁ = ![(f2 (32 * l + 31)).val, h.val, 0, 0]) (h₂ : off₂ = ![(f2 (32 * l + 31)).val, h.val, 0, 0])
    (h₃ : off₃ = ![(f2 (32 * l + 31)).val, h.val, 0, 0]) (h₄ : off₄ = ![h.val, 0, 0]) {nn : Dev nD} (hnn : nn = nxt c)
    {sS sR : SemLoc sig} (hS : sS = asS (f2 (32 * l + 31)) h) (hR : sR = hmS h)
    {inb₁ : ∀ a : Fin 4, off₁ a + S1x1x64x512.size a ≤ S2x2x64x512.size a} {inb₂ : ∀ a : Fin 4, off₂ a + S1x1x64x512.size a ≤ S2x2x64x512.size a}
    {inb₃ : ∀ a : Fin 4, off₃ a + S1x1x64x512.size a ≤ S2x2x64x512.size a} {inb₄ : ∀ a : Fin 3, off₄ a + S1x64x512.size a ≤ S2x64x512.size a}
    {hl₁ hl₂} {w : FVec F S1x1x64x512 .f32 → FVec F S1x1x64x512 .f32} (hw : w (D.C l c 31 h) = D.A l c 31 h)
    {hx : (aB.access (Rect.unit (s := S2x2x64x512) off₂ S1x1x64x512.size inb₂)).Stores Finset.univ}
    {hm : (Finset.univ : Finset (Rect.unit (s := S2x2x64x512) off₂ S1x1x64x512.size inb₂).shape.Idx) = Finset.univ ∨ ∀ a, (Rect.unit (s := S2x2x64x512) off₂ S1x1x64x512.size inb₂).stride a = 1}
    {hst₁ hst₂} {hq₁ : S1x1x64x512.Squeezes S64x512} {hq₂ : S1x64x512.Squeezes S64x512} {hsc hsrc hdst hsem}
    {α : Type} {cont : PUnit → Prog (TpuEff nD τ sig (Elt F) Λ₀ .tc) α} {Q : α → sProp 𝕄} :
    Kn D κ ιs c ⊢ iprop(pcR D c l h -∗ pcC D c l h -∗ SH c h l -∗ WA c h (32 * l + 31) -∗ hpl c l h -∗ Ow c k
      -∗ ((pcC D c l h ∗ SH c h (l + 1) ∗ WA c h (32 * l + 31) ∗ cred (tallyAt (gAs c h (32 * l + 31)) 0 NA) ∗ Ow c (k.sentH h (l + 1))) -∗ WP c (cont ⟨⟩) Q)
      -∗ WP c (.op (.load cB (Rect.unit (s := S2x2x64x512) off₁ S1x1x64x512.size inb₁).toLoadRect hl₁) fun (v : FVec F S1x1x64x512 .f32) =>
        .op (.load aB (Rect.unit (s := S2x2x64x512) off₂ S1x1x64x512.size inb₂).toLoadRect hl₂) fun _ =>
        .op (.store aB (Rect.unit (s := S2x2x64x512) off₂ S1x1x64x512.size inb₂) (w v) Finset.univ hx hm) fun _ =>
        .op (.enqueueDma ((aB.slice (Rect.unit (s := S2x2x64x512) off₃ S1x1x64x512.size inb₃) hst₁).squeeze S64x512 hq₁)
          (.remote (Dev.tc nn : Thread nD τ) ((hB.slice (Rect.unit (s := S2x64x512) off₄ S1x64x512.size inb₄) hst₂).squeeze S64x512 hq₂) sS hsc) sR hsrc hdst hsem) cont) Q) := by
  unfold hpl
  iintro #HK HR HC HS HW Hh HO Hk
  ihave #HK' := Kn_know D κ ιs c $$ HK
  iapply (ldA c (f2 (32 * l + 31)) h h₁) $$ HC
  iintro HC
  iapply (ldA c (f2 (32 * l + 31)) h h₂) $$ HR
  iintro HR
  ihave HR := (pc_any c aB (rA (f2 (32 * l + 31)) h)) $$ HR
  rw [hw]
  iapply (stA c (f2 (32 * l + 31)) h h₂) $$ HR
  iintro HR
  iapply (sH (cont := cont) D κ ιs c k h l hl hk h₃ h₄ hnn hS hR) $$ HK' HS HW HR Hh HO
  iintro ⟨HS, HW, Hc, HO⟩
  iapply Hk
  isplitl [HC]; · iexact HC
  isplitl [HS]; · iexact HS
  isplitl [HW]; · iexact HW
  isplitl [Hc]; · iexact Hc
  iexact HO

/-- The last ring sends are waited for, and the first half of the last partial sum arrives. -/
theorem phW (hl : l < 3)
    {src₀ src₁ src₂ dst₀ dst₁ dst₂ : Memref sig .tc .vmem S64x512 .f32}
    {hsrc₀ : src₀.view.WordExact} {hdst₀ : dst₀.view.WordExact} {hsrc₁ : src₁.view.WordExact} {hdst₁ : dst₁.view.WordExact}
    {hsrc₂ : src₂.view.WordExact} {hdst₂ : dst₂.view.WordExact} {sem₀ sem₁ sem₂ : DmaSem sig}
    (hS₀ : SemLoc.dma sem₀ = asS (f2 (32 * l + 30)) 0) (hS₁ : SemLoc.dma sem₁ = asS (f2 (32 * l + 30)) 1) (hS₂ : SemLoc.dma sem₂ = arS (f2 (32 * l + 31)) 0)
    (hd₀ : dst₀.view.dmaCredit = NA) (hd₁ : dst₁.view.dmaCredit = NA) (hd₂ : dst₂.view.dmaCredit = NA)
    {α : Type} {cont : PUnit → Prog (TpuEff nD τ sig (Elt F) Λ₀ .tc) α} {Q : α → sProp 𝕄} :
    Kn D κ ιs c ⊢ iprop(PendA c (32 * l + 31) -∗ RA c 0 (32 * l + 30) -∗ Ow c (ct l l l)
      -∗ ((tl1 c l ∗ pcR D c l 0) -∗ WP c (cont ⟨⟩) Q)
      -∗ WP c (.op (.waitDma2 sem₀ src₀ dst₀ hsrc₀ hdst₀) fun _ => .op (.waitDma2 sem₁ src₁ dst₁ hsrc₁ hdst₁) fun _ => .op (.waitDma2 sem₂ src₂ dst₂ hsrc₂ hdst₂) cont) Q) := by
  unfold PendA tl1 tlA
  rw [if_neg (show 32 * l + 31 ≠ 0 by omega), show 32 * l + 31 - 1 = 32 * l + 30 from rfl]
  iintro #HK ⟨HW0, HW1, Hc0, Hc1⟩ HR HO Hk
  ihave #HK' := Kn_know D κ ιs c $$ HK
  iapply (wAs D κ ιs c (ct l l l) 0 (32 * l + 30) (by omega) hS₀ (ct_zero l l l) hd₀) $$ HK' HW0 Hc0 HO
  iintro ⟨HW0, Ha0, HO⟩
  iapply (wAs D κ ιs c (ct l l l) 1 (32 * l + 30) (by omega) hS₁ (ct_zero l l l) hd₁) $$ HK' HW1 Hc1 HO
  iintro ⟨HW1, Ha1, HO⟩
  iapply (phR D κ ιs c l 0 hl le_rfl le_rfl hS₂ hd₂) $$ HK HR HO
  iintro ⟨HR, Hp, Hh, HO⟩
  iapply Hk
  isplitl [HW0 HW1 Ha0 Ha1 HR Hh HO]
  · isplitl [HW0]; · iexact HW0
    isplitl [HW1]; · iexact HW1
    isplitl [HR]; · iexact HR
    isplitl [Hh]; · iexact Hh
    isplitl [Ha0 Ha1]
    · isplitl [Ha0] <;> iassumption
    iexact HO
  iexact Hp
end Stages

/-! ## The parts -/

section Parts
variable (m0 : Memref sig .tc .vmem S64x1024 .f32) (hm0 : m0.IsWhole) (m1 : Memref sig .tc .vmem S1024x2048 .f32) (hm1 : m1.IsWhole) (m2 : Memref sig .tc .vmem S2048x1024 .f32) (hm2 : m2.IsWhole) (m3 : Memref sig .tc .vmem S1024x2048 .f32) (hm3 : m3.IsWhole) (m4 : Memref sig .tc .vmem S2048x1024 .f32) (hm4 : m4.IsWhole) (m5 : Memref sig .tc .vmem S1024x2048 .f32) (hm5 : m5.IsWhole) (m6 : Memref sig .tc .vmem S2048x1024 .f32) (hm6 : m6.IsWhole) (m7 : Memref sig .tc .vmem S64x1024 .f32) (hm7 : m7.IsWhole)
variable (D : Dat F) (κ : GSem nD τ sig → ℕ) (ιs : Key → ℕ) (c : Dev nD) (l : ℕ) (v5 v7 : BitVec 32)

omit [FloatOps F] in
theorem o1 (l h : ℕ) : (![1, h, 0, 0] : Fin 4 → ℕ) = ![(f2 (32 * l + 31)).val, h, 0, 0] := oA (a := 1) (by omega)
omit [FloatOps F] in
theorem s1 (l h : ℕ) : (![1, h] : Fin 2 → ℕ) = ![(f2 (32 * l + 31)).val, h] := oS (a := 1) (by omega)
omit [FloatOps F] in
theorem s0 (l h : ℕ) : (![0, h] : Fin 2 → ℕ) = ![(f2 (32 * l + 30)).val, h] := oS (a := 0) (by omega)

theorem part15_spec {Q : FVec F S64x512 .f32 → sProp 𝕄} :
    Kn D κ ιs c ⊢ iprop(PendA c 31 -∗ RA c 0 30 -∗ Ow c (ct 0 0 0) -∗ ((tl1 c 0 ∗ pcR D c 0 0) -∗ Q (k0_pay24 (D.A 0 (prv c) 30 0)))
      -∗ WP c (k0_part15 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 v5) Q) := by
  rw [k0_part15_eq_skeleton]
  unfold k0_part15_skel
  simp -zeta only [semSignalWord, semWaitWord, Prog.lift, Prog.bind_op, Prog.bind_ret, Prog.pure_eq_ret]
  iintro #HK HP HR HO HQ
  iapply (phW D κ ιs c 0 (by decide) (sem_as (f2 30) 0 (s0 0 0) _ _) (sem_as (f2 30) 1 (s0 0 1) _ _) (sem_ar (f2 31) 0 (s1 0 0) _ _) (credA _) (credA _) (credA _)) $$ HK HP HR HO
  iintro ⟨HT, Hp⟩
  iapply (ldA c (f2 (32 * 0 + 31)) 0 (o1 0 0)) $$ Hp
  iintro Hp
  iapply (WP_ret c)
  iapply HQ
  isplitl [HT] <;> iassumption

theorem part16_spec {Q : PUnit → sProp 𝕄} :
    Kn D κ ιs c ⊢ iprop(tl1 c 0 -∗ pcR D c 0 0 -∗ pcC D c 0 0 -∗ SH c 0 0 -∗ RA c 1 30
      -∗ ((tl3 c 0 ∗ pcR D c 0 1 ∗ pcC D c 0 0) -∗ Q ⟨⟩)
      -∗ WP c (k0_part16 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v5 v7 (k0_pay24 (D.A 0 (prv c) 30 0))) Q) := by
  rw [k0_part16_eq_skeleton]
  unfold k0_part16_skel tl1 tl3 tl2
  simp -zeta only [semSignalWord, semWaitWord, Prog.lift, Prog.bind_op, Prog.bind_ret, Prog.pure_eq_ret]
  iintro #HK ⟨HW0, HW1, HR0, Hh, Ha, HO⟩ Hp HC HS HR1 HQ
  iapply (phH D κ ιs c 0 0 (by decide) (k := ct 0 0 0) rfl (o1 0 0) (o1 0 0) (o1 0 0) rfl (dv_nxt (k0_dev11_eq c))
    (sem_as (f2 31) 0 (s1 0 0) _ _) (sem_hm 0 rfl _ _) rfl) $$ HK Hp HC HS HW0 Hh HO
  iintro ⟨HC, HS, HW0, Hc, HO⟩
  ihave HO := (show Ow c ((ct 0 0 0).sentH 0 (0 + 1)) ⊢ (Ow c (ct 0 1 0) : sProp 𝕄) from .rfl) $$ HO
  iapply (phR D κ ιs c 0 1 (by decide) (h0 := 1) (h1 := 0) (by decide) le_rfl (sem_ar (f2 31) 1 (s1 0 1) _ _) (credA _)) $$ HK HR1 HO
  iintro ⟨HR1, Hp, Hh, HO⟩
  iapply (WP_ret c)
  iapply HQ
  isplitl [HW0 HW1 HR0 Ha HS Hc HO HR1 Hh]
  · isplitl [HW0 HW1 HR0 Ha HS Hc HO]
    · isplitl [HW0]; · iexact HW0
      isplitl [HW1]; · iexact HW1
      isplitl [HR0]; · iexact HR0
      isplitl [Ha]; · iexact Ha
      isplitl [HS]; · iexact HS
      isplitl [Hc]; · iexact Hc
      iexact HO
    isplitl [HR1] <;> iassumption
  isplitl [Hp] <;> iassumption

/-- The second half added to and sent home, in whatever text. -/
theorem phE (hl : l < 3)
    {off₁ off₂ off₃ : Fin 4 → ℕ} {off₄ : Fin 3 → ℕ} (h₁ : off₁ = ![(f2 (32 * l + 31)).val, (1 : Fin 2).val, 0, 0]) (h₂ : off₂ = ![(f2 (32 * l + 31)).val, (1 : Fin 2).val, 0, 0])
    (h₃ : off₃ = ![(f2 (32 * l + 31)).val, (1 : Fin 2).val, 0, 0]) (h₄ : off₄ = ![(1 : Fin 2).val, 0, 0]) {nn : Dev nD} (hnn : nn = nxt c)
    {sS sR : SemLoc sig} (hS : sS = asS (f2 (32 * l + 31)) 1) (hR : sR = hmS 1)
    {inb₁ : ∀ a : Fin 4, off₁ a + S1x1x64x512.size a ≤ S2x2x64x512.size a} {inb₂ : ∀ a : Fin 4, off₂ a + S1x1x64x512.size a ≤ S2x2x64x512.size a}
    {inb₃ : ∀ a : Fin 4, off₃ a + S1x1x64x512.size a ≤ S2x2x64x512.size a} {inb₄ : ∀ a : Fin 3, off₄ a + S1x64x512.size a ≤ S2x64x512.size a}
    {hl₁ hl₂} {w : FVec F S1x1x64x512 .f32 → FVec F S1x1x64x512 .f32} (hw : w (D.C l c 31 1) = D.A l c 31 1)
    {hx : (aB.access (Rect.unit (s := S2x2x64x512) off₂ S1x1x64x512.size inb₂)).Stores Finset.univ}
    {hm : (Finset.univ : Finset (Rect.unit (s := S2x2x64x512) off₂ S1x1x64x512.size inb₂).shape.Idx) = Finset.univ ∨ ∀ a, (Rect.unit (s := S2x2x64x512) off₂ S1x1x64x512.size inb₂).stride a = 1}
    {hst₁ hst₂} {hq₁ : S1x1x64x512.Squeezes S64x512} {hq₂ : S1x64x512.Squeezes S64x512} {hsc hsrc hdst hsem}
    {α : Type} {cont : PUnit → Prog (TpuEff nD τ sig (Elt F) Λ₀ .tc) α} {Q : α → sProp 𝕄} :
    Kn D κ ιs c ⊢ iprop(tl3 c l -∗ pcR D c l 1 -∗ pcC D c l 1 -∗ SH c 1 l
      -∗ ((tl4 c l ∗ pcC D c l 1) -∗ WP c (cont ⟨⟩) Q)
      -∗ WP c (.op (.load cB (Rect.unit (s := S2x2x64x512) off₁ S1x1x64x512.size inb₁).toLoadRect hl₁) fun (v : FVec F S1x1x64x512 .f32) =>
        .op (.load aB (Rect.unit (s := S2x2x64x512) off₂ S1x1x64x512.size inb₂).toLoadRect hl₂) fun _ =>
        .op (.store aB (Rect.unit (s := S2x2x64x512) off₂ S1x1x64x512.size inb₂) (w v) Finset.univ hx hm) fun _ =>
        .op (.enqueueDma ((aB.slice (Rect.unit (s := S2x2x64x512) off₃ S1x1x64x512.size inb₃) hst₁).squeeze S64x512 hq₁)
          (.remote (Dev.tc nn : Thread nD τ) ((hB.slice (Rect.unit (s := S2x64x512) off₄ S1x64x512.size inb₄) hst₂).squeeze S64x512 hq₂) sS hsc) sR hsrc hdst hsem) cont) Q) := by
  unfold tl3 tl2 tl4
  iintro #HK ⟨⟨HW0, HW1, HR0, Ha, HS0, Hc0, HO⟩, HR1, Hh⟩ Hp HC HS HQ
  iapply (phH (cont := cont) D κ ιs c l 1 hl (k := ct l (l + 1) l) rfl h₁ h₂ h₃ h₄ hnn hS hR hw) $$ HK Hp HC HS HW1 Hh HO
  iintro ⟨HC, HS, HW1, Hc, HO⟩
  ihave HO := (show Ow c ((ct l (l + 1) l).sentH 1 (l + 1)) ⊢ (Ow c (cn l (32 * l + 32) (gxo l 31)) : sProp 𝕄) from ct_cn c l) $$ HO
  iapply HQ
  isplitl [HW0 HW1 Hc0 Hc HR0 HR1 Ha HS0 HS HO]
  · isplitl [HW0 HW1 Hc0 Hc]
    · isplitl [HW0]; · iexact HW0
      isplitl [HW1]; · iexact HW1
      isplitl [Hc0] <;> iassumption
    isplitl [HR0 HR1]
    · isplitl [HR0] <;> iassumption
    isplitl [Ha]; · iexact Ha
    isplitl [HS0 HS]
    · isplitl [HS0] <;> iassumption
    iexact HO
  iexact HC

theorem part17_spec {Q : PUnit → sProp 𝕄} :
    Kn D κ ιs c ⊢ iprop(tl3 c 0 -∗ pcR D c 0 1 -∗ pcC D c 0 1 -∗ SH c 1 0 -∗ ((tl4 c 0 ∗ pcC D c 0 1) -∗ Q ⟨⟩)
      -∗ WP c (k0_part17 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v7) Q) := by
  rw [k0_part17_eq_skeleton]
  unfold k0_part17_skel
  simp -zeta only [semSignalWord, semWaitWord, Prog.lift, Prog.bind_op, Prog.bind_ret, Prog.pure_eq_ret]
  iintro #HK HT Hp HC HS HQ
  iapply (ldA c (f2 (32 * 0 + 31)) 1 (o1 0 1)) $$ Hp
  iintro Hp
  iapply (phE D κ ιs c 0 (by decide) (o1 0 1) (o1 0 1) (o1 0 1) rfl (dv_nxt (k0_dev12_eq c)) (sem_as (f2 31) 1 (s1 0 1) _ _) (sem_hm 1 rfl _ _) rfl) $$ HK HT Hp HC HS
  iintro HT
  iapply (WP_ret c)
  iapply HQ $$ HT

theorem part21_spec (hl : l < 3) {Q : PUnit → sProp 𝕄} :
    Kn D κ ιs c ⊢ iprop(PendA c (32 * l + 31) -∗ RA c 0 (32 * l + 30) -∗ Ow c (ct l l l) -∗ ((tl1 c l ∗ pcR D c l 0) -∗ Q ⟨⟩)
      -∗ WP c (k0_part21 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 v5) Q) := by
  rw [k0_part21_eq_skeleton]
  unfold k0_part21_skel
  simp -zeta only [semSignalWord, semWaitWord, Prog.lift, Prog.bind_op, Prog.bind_ret, Prog.pure_eq_ret]
  iintro #HK HP HR HO HQ
  iapply (phW D κ ιs c l hl (sem_as (f2 (32 * l + 30)) 0 (s0 l 0) _ _) (sem_as (f2 (32 * l + 30)) 1 (s0 l 1) _ _) (sem_ar (f2 (32 * l + 31)) 0 (s1 l 0) _ _) (credA _) (credA _) (credA _)) $$ HK HP HR HO
  iintro HT
  iapply (WP_ret c)
  iapply HQ $$ HT

theorem part22_spec (hl : l < 3) {Q : PUnit → sProp 𝕄} :
    Kn D κ ιs c ⊢ iprop(tl1 c l -∗ pcR D c l 0 -∗ pcC D c l 0 -∗ SH c 0 l -∗ ((tl2 c l ∗ pcC D c l 0) -∗ Q ⟨⟩)
      -∗ WP c (k0_part22 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v5 v7) Q) := by
  rw [k0_part22_eq_skeleton]
  unfold k0_part22_skel tl1 tl2
  simp -zeta only [semSignalWord, semWaitWord, Prog.lift, Prog.bind_op, Prog.bind_ret, Prog.pure_eq_ret]
  iintro #HK ⟨HW0, HW1, HR0, Hh, Ha, HO⟩ Hp HC HS HQ
  iapply (ldA c (f2 (32 * l + 31)) 0 (o1 l 0)) $$ Hp
  iintro Hp
  iapply (phH D κ ιs c l 0 hl (k := ct l l l) rfl (o1 l 0) (o1 l 0) (o1 l 0) rfl (dv_nxt (k0_dev21_eq c))
    (sem_as (f2 (32 * l + 31)) 0 (s1 l 0) _ _) (sem_hm 0 rfl _ _) rfl) $$ HK Hp HC HS HW0 Hh HO
  iintro ⟨HC, HS, HW0, Hc, HO⟩
  iapply (WP_ret c)
  iapply HQ
  isplitl [HW0 HW1 HR0 Ha HS Hc HO]
  · isplitl [HW0]; · iexact HW0
    isplitl [HW1]; · iexact HW1
    isplitl [HR0]; · iexact HR0
    isplitl [Ha]; · iexact Ha
    isplitl [HS]; · iexact HS
    isplitl [Hc]; · iexact Hc
    iexact HO
  iexact HC

theorem part23_spec (hl : l < 3) {Q : PUnit → sProp 𝕄} :
    Kn D κ ιs c ⊢ iprop(tl2 c l -∗ RA c 1 (32 * l + 30) -∗ pcC D c l 1 -∗ SH c 1 l -∗ ((tl4 c l ∗ pcC D c l 1) -∗ Q ⟨⟩)
      -∗ WP c (k0_part23 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v7) Q) := by
  rw [k0_part23_eq_skeleton]
  unfold k0_part23_skel tl2
  simp -zeta only [semSignalWord, semWaitWord, Prog.lift, Prog.bind_op, Prog.bind_ret, Prog.pure_eq_ret]
  iintro #HK ⟨HW0, HW1, HR0, Ha, HS0, Hc0, HO⟩ HR1 HC HS HQ
  iapply (phR D κ ιs c l 1 hl (h0 := l + 1) (h1 := l) (by omega) le_rfl (sem_ar (f2 (32 * l + 31)) 1 (s1 l 1) _ _) (credA _)) $$ HK HR1 HO
  iintro ⟨HR1, Hp, Hh, HO⟩
  iapply (ldA c (f2 (32 * l + 31)) 1 (o1 l 1)) $$ Hp
  iintro Hp
  iapply (phE D κ ιs c l hl (o1 l 1) (o1 l 1) (o1 l 1) rfl (dv_nxt (k0_dev22_eq c)) (sem_as (f2 (32 * l + 31)) 1 (s1 l 1) _ _) (sem_hm 1 rfl _ _) rfl) $$ HK [HW0 HW1 HR0 Ha HS0 Hc0 HO HR1 Hh] Hp HC HS
  · unfold tl3 tl2
    isplitl [HW0 HW1 HR0 Ha HS0 Hc0 HO]
    · isplitl [HW0]; · iexact HW0
      isplitl [HW1]; · iexact HW1
      isplitl [HR0]; · iexact HR0
      isplitl [Ha]; · iexact Ha
      isplitl [HS0]; · iexact HS0
      isplitl [Hc0]; · iexact Hc0
      iexact HO
    isplitl [HR1] <;> iassumption
  iintro HT
  iapply (WP_ret c)
  iapply HQ $$ HT

/-! The last layer's parts have the second's text. -/

theorem part27_eq : k0_part27 (F := F) m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 v5 = k0_part21 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 v5 := rfl
theorem part28_eq : k0_part28 (F := F) m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v5 v7 = k0_part22 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v5 v7 := rfl
theorem part29_eq : k0_part29 (F := F) m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v7 = k0_part23 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v7 := rfl

end Parts

end Cert.Proof

end
-- ==== Proof.Next.lean ====
/-
  From a layer's end to the next layer's loop: the result comes home, its first product is made and its own block starts
  around the ring. Both later layers do the same, so it is run once for both.
-/
module

public import proofs.«01_k».proof.Proof.Tail

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Above
variable {l : ℕ}
theorem cn_gx0 : (cn l (32 * l + 32) (32 * l + 35)).above (lvGX (32 * l + 32)) := by
  simp only [Cnt.above, lvX, lvGX, lvA, lvGA, lvH]; split_ifs <;> omega
theorem cn_xr : (cn l (32 * l + 33) (32 * l + 36)).above (lvX (32 * l + 32)) := by
  simp only [Cnt.above, lvX, lvGX, lvA, lvGA, lvH]; split_ifs <;> omega
theorem cn_gx1 : (cn l (32 * l + 33) (32 * l + 36)).above (lvGX (32 * l + 33)) := by
  simp only [Cnt.above, lvX, lvGX, lvA, lvGA, lvH]; split_ifs <;> omega
end Above

/-! ## The states -/

section States
variable (D : Dat F) (c : Dev nD) (l : ℕ)

/-- What a layer's last part leaves alone. -/
def lend : sProp 𝕄 :=
  iprop(SX c (32 * l + 32) ∗ WX c (32 * l + 31) ∗ RX c (32 * l + 31) ∗ GX c (gxc l 31) ∗ CX c D (32 * l + 32) ∗ (SA c 0 (32 * l + 31) ∗ SA c 1 (32 * l + 31))
    ∗ GA c (32 * l + 31) ∗ CA c D (32 * l + 31) ∗ (pcAny c cB (rA (f2 (32 * l + 32)) 0) ∗ pcAny c cB (rA (f2 (32 * l + 32)) 1)) ∗ kept c l 31)

/-- The loop's last state, taken apart. -/
theorem st_end : st D c l 31 ⊢ iprop(lend D c l ∗ (PendA c (32 * l + 31) ∗ RA c 0 (32 * l + 30) ∗ RA c 1 (32 * l + 30) ∗ Ow c (ct l l l)) ∗ pcC D c l 0 ∗ pcC D c l 1) := by
  unfold st lend RAin XN
  rw [show nxc l 31 = 32 * l + 32 from rfl, show max 3 (32 * l + 32) = 32 * l + 32 by omega, show max (32 * l + 31) 1 = 32 * l + 31 by omega,
    show 32 * l + min (31 + 1) 31 = 32 * l + 31 from rfl, show 32 * l + (31 - 1) = 32 * l + 30 from rfl, show 32 * l + 31 + 1 = 32 * l + 32 from rfl]
  iintro ⟨H1, H2, H3, H4, H5, H6, H7, H8, ⟨H9, -⟩, ⟨H10, -⟩, H11, H12, ⟨H13, H14⟩, H15, -, H16, H17⟩
  isplitl [H1 H2 H3 H4 H5 H6 H7 H11 H12 H15 H16]
  · isplitl [H1]; · iexact H1
    isplitl [H2]; · iexact H2
    isplitl [H3]; · iexact H3
    isplitl [H4]; · iexact H4
    isplitl [H5]; · iexact H5
    isplitl [H6 H7]
    · isplitl [H6] <;> iassumption
    isplitl [H11]; · iexact H11
    isplitl [H12]; · iexact H12
    isplitl [H15]; · iexact H15
    iexact H16
  isplitl [H8 H9 H10 H17]
  · isplitl [H8]; · iexact H8
    isplitl [H9]; · iexact H9
    isplitl [H10]; · iexact H10
    ihave H := (Ow_congr (F := F) c (k := cnt l 31) (k' := ct l l l) (by unfold cnt; rw [show max (32 * l + 31) 1 = 32 * l + 31 by omega]; rfl)) $$ H17
    iexact H
  isplitl [H13] <;> iassumption

/-- What the next layer's start works with: the x family, -/
def nb : sProp 𝕄 := iprop(SX c (32 * l + 32) ∗ WX c (32 * l + 32) ∗ CX c D (32 * l + 32) ∗ Ow c (cn l (32 * l + 32) (32 * l + 35)))
/-- its first block sent, -/
def nb1 : sProp 𝕄 :=
  iprop(SX c (32 * l + 33) ∗ WX c (32 * l + 32) ∗ CX c D (32 * l + 33) ∗ (pc c xB (rX (f4 (32 * l + 32))) fullShare.left (D.xc (l + 1) c 0) ∗ cred (tallyAt (gXs c (32 * l + 32)) 0 NX))
    ∗ Ow c (cn l (32 * l + 33) (32 * l + 35)))
/-- that send waited for, -/
def nb2 : sProp 𝕄 := iprop(SX c (32 * l + 33) ∗ WX c (32 * l + 33) ∗ CX c D (32 * l + 33) ∗ pcAny c xB (rX (f4 (32 * l + 32))) ∗ Ow c (cn l (32 * l + 33) (32 * l + 35)))
/-- its place granted and the first block received and sent on. -/
def nb3 : sProp 𝕄 :=
  iprop(SX c (32 * l + 34) ∗ WX c (32 * l + 33) ∗ CX c D (32 * l + 34) ∗ GX c (32 * l + 36) ∗ RX c (32 * l + 33)
    ∗ (pc c xB (rX (f4 (32 * l + 33))) fullShare.left (D.xc (l + 1) c 1) ∗ cred (tallyAt (gXs c (32 * l + 33)) 0 NX)) ∗ Ow c (cn l (32 * l + 34) (32 * l + 36)))
/-- Its first product. -/
abbrev pcN (h : Fin 2) : sProp 𝕄 := pc c cB (rA (f2 (32 * l + 32)) h) fullShare (D.C (l + 1) c 0 h)
/-- What stays of a layer's end for the next one. -/
def lrest : sProp 𝕄 := iprop((SA c 0 (32 * l + 32) ∗ SA c 1 (32 * l + 32)) ∗ GA c (32 * l + 32) ∗ CA c D (32 * l + 32))

theorem lend_next (hl : l < 2) : lend D c l ⊢ iprop((SX c (32 * l + 32) ∗ WX c (32 * l + 32) ∗ CX c D (32 * l + 32)) ∗ (GX c (32 * l + 35) ∗ RX c (32 * l + 32))
    ∗ lrest D c l ∗ (pcAny c cB (rA (f2 (32 * l + 32)) 0) ∗ pcAny c cB (rA (f2 (32 * l + 32)) 1)) ∗ pcAny c xB (rX (f4 (32 * l + 32)))) := by
  have hn : ¬ok (32 * l + 31) := by unfold ok; omega
  have hk : (kept c l 31 : sProp 𝕄) = pcAny c xB (rX (f4 (32 * l + 32))) := by
    unfold kept
    rw [show (Finset.univ.filter fun i : Fin 4 => 28 + i.val ≤ 31 ∧ (l = 2 ∨ i = 0)) = {f4 (32 * l + 32)} from ?_, bigSep_singleton]
    rw [show f4 (32 * l + 32) = 0 from f4_eq (b := 0) (by omega)]
    ext i; simp only [Finset.mem_filter, Finset.mem_univ, true_and, Finset.mem_singleton]
    constructor
    · rintro ⟨-, h | h⟩
      · omega
      · exact h
    · rintro rfl; exact ⟨by decide, .inr rfl⟩
  unfold lend lrest
  rw [hk, WX_skip c hn, RX_skip c hn, SA_skip c 0 hn, SA_skip c 1 hn, GA_skip c hn (by omega), CA_skip c D hn,
    show gxc l 31 = 32 * l + 35 from if_neg (by omega), show 32 * l + 31 + 1 = 32 * l + 32 from rfl]
  iintro ⟨H1, H2, H3, H4, H5, H6, H7, H8, H9, H10⟩
  isplitl [H1 H2 H5]
  · isplitl [H1]; · iexact H1
    isplitl [H2] <;> iassumption
  isplitl [H4 H3]
  · isplitl [H4] <;> iassumption
  isplitl [H6 H7 H8]
  · isplitl [H6]; · iexact H6
    isplitl [H7] <;> iassumption
  isplitl [H9] <;> iassumption

/-- The next layer's first state, put together. -/
theorem st_next : iprop(nb3 D c l ∗ lrest D c l ∗ (pcN D c l 0 ∗ pcN D c l 1) ∗ (pcC D c l 0 ∗ pcC D c l 1)
      ∗ (WA c 0 (32 * l + 31) ∗ WA c 1 (32 * l + 31) ∗ cred (tallyAt (gAs c 0 (32 * l + 31)) 0 NA) ∗ cred (tallyAt (gAs c 1 (32 * l + 31)) 0 NA))
      ∗ (RA c 0 (32 * l + 31) ∗ RA c 1 (32 * l + 31)) ∗ tlA c l
      ∗ (pcAny c hB (rH 0) ∗ pcAny c hB (rH 1)) ∗ reached ER (gHm c 0) (l + 1) ∗ reached ER (gHm c 1) (l + 1))
    ⊢ st D c (l + 1) 0 := by
  have hn : ¬ok (32 * l + 31) := by unfold ok; omega
  have hk : (iprop(emp) : sProp 𝕄) ⊢ kept c (l + 1) 0 := by
    unfold kept
    rw [show (Finset.univ.filter fun i : Fin 4 => 28 + i.val ≤ 0 ∧ (l + 1 = 2 ∨ i = 0)) = ∅ from Finset.filter_eq_empty_iff.mpr fun i _ h => by omega, bigSep_empty]
    exact .rfl
  unfold st nb3 lrest tlA PendA RAin XN
  rw [if_pos (show (0 : ℕ) = 0 from rfl), if_pos (show (0 : ℕ) = 0 from rfl), if_pos (show (0 : ℕ) ≤ 29 by decide), if_neg (show 32 * (l + 1) + 0 ≠ 0 by omega), RA_skip c 0 hn, RA_skip c 1 hn,
    show nxc (l + 1) 0 = 32 * l + 34 by unfold nxc; rw [if_pos (by decide)]; omega, show gxc (l + 1) 0 = 32 * l + 36 by unfold gxc; rw [if_neg (by omega)]; omega,
    show max 3 (32 * l + 34) = 32 * l + 34 by omega, show min (0 + 1) 31 = 1 from rfl, show 32 * (l + 1) + 1 = 32 * l + 33 by omega,
    show 32 * (l + 1) + (0 - 1) = 32 * l + 32 by omega,
    show max (32 * l + 32) 1 = 32 * l + 32 by omega, show 32 * l + 32 - 1 = 32 * l + 31 by omega, show 32 * (l + 1) = 32 * l + 32 by omega, show 32 * l + 31 + 1 = 32 * l + 32 from rfl,
    show f2 (32 * l + 33) = f2 (32 * l + 31) from f2_eq (by omega), show f2 (32 * l + 30) = f2 (32 * l + 32) from f2_eq (by omega), show 0 + 1 = 1 from rfl]
  have hO : Ow c (cn l (32 * l + 34) (32 * l + 36)) ⊢ (Ow c (cnt (l + 1) 0) : sProp 𝕄) := Ow_congr c (by
    unfold cnt
    rw [show nxc (l + 1) 0 = 32 * l + 34 by unfold nxc; rw [if_pos (by decide)]; omega, show gxo (l + 1) 0 = 32 * l + 36 by unfold gxo; rw [if_neg (by omega)]; omega,
      show 32 * (l + 1) + 0 = 32 * l + 32 by omega, show max (32 * l + 32) 1 = 32 * l + 32 by omega])
  iintro ⟨⟨HSX, HWX, HCX, HGX, HRX, HX, HO⟩, ⟨⟨HS0, HS1⟩, HGA, HCA⟩, HN, ⟨HC0, HC1⟩, HP, ⟨HR0, HR1⟩, ⟨Ha0, Ha1⟩, ⟨Hh0, Hh1⟩, Hr0, Hr1⟩
  isplitl [HSX]; · iexact HSX
  isplitl [HWX]; · iexact HWX
  isplitl [HRX]; · iexact HRX
  isplitl [HGX]; · iexact HGX
  isplitl [HCX]; · iexact HCX
  isplitl [HS0]; · iexact HS0
  isplitl [HS1]; · iexact HS1
  isplitl [HP]; · iexact HP
  isplitl [HR0 Ha0 Hh0 Hr0]
  · isplitl [HR0]; · iexact HR0
    isplitl [Ha0]; · iexact Ha0
    isplitl [Hh0] <;> iassumption
  isplitl [HR1 Ha1 Hh1 Hr1]
  · isplitl [HR1]; · iexact HR1
    isplitl [Ha1]; · iexact Ha1
    isplitl [Hh1] <;> iassumption
  isplitl [HGA]; · iexact HGA
  isplitl [HCA]; · iexact HCA
  isplitl [HN]; · iexact HN
  isplitl [HC0 HC1]
  · isplitl [HC0]
    · iapply (pc_any c cB (rA (f2 (32 * l + 31)) 0)) $$ HC0
    · iapply (pc_any c cB (rA (f2 (32 * l + 31)) 1)) $$ HC1
  isplitl [HX]; · iexact HX
  isplitr [HO]
  · iapply hk; iempintro
  · iapply hO $$ HO
end States

/-! ## The stages -/

section Stages
variable (D : Dat F) (κ : GSem nD τ sig → ℕ) (ιs : Key → ℕ) (c : Dev nD) (l : ℕ)

/-- The first product and the own block are stored, and the block is sent. -/
theorem phN1 (hl : l < 2)
    {off₀ off₁ : Fin 4 → ℕ} {off₂ off₃ off₄ : Fin 3 → ℕ} (h₀ : off₀ = ![(f2 (32 * l + 32)).val, (0 : Fin 2).val, 0, 0]) (h₁ : off₁ = ![(f2 (32 * l + 32)).val, (1 : Fin 2).val, 0, 0])
    (h₂ : off₂ = ![(f4 (32 * l + 32)).val, 0, 0]) (h₃ : off₃ = ![(f4 (32 * l + 32)).val, 0, 0]) (h₄ : off₄ = ![(f4 (32 * l + 32 + 1)).val, 0, 0]) {nn : Dev nD} (hnn : nn = nxt c)
    {inb₀ : ∀ a : Fin 4, off₀ a + S1x1x64x512.size a ≤ S2x2x64x512.size a} {inb₁ : ∀ a : Fin 4, off₁ a + S1x1x64x512.size a ≤ S2x2x64x512.size a}
    {inb₂ : ∀ a : Fin 3, off₂ a + S1x64x1024.size a ≤ S4x64x1024.size a} {inb₃ : ∀ a : Fin 3, off₃ a + S1x64x1024.size a ≤ S4x64x1024.size a} {inb₄ : ∀ a : Fin 3, off₄ a + S1x64x1024.size a ≤ S4x64x1024.size a}
    {hl₁ hl₂} {w₀ w₁ : Vec F S1x1x64x512 .f32} (hw₀ : w₀ = D.C (l + 1) c 0 0) (hw₁ : w₁ = D.C (l + 1) c 0 1) {w₂ : FVec F S1x64x1024 .bf16} (hw₂ : w₂ = D.xc (l + 1) c 0)
    {hx₀ : (cB.access (Rect.unit (s := S2x2x64x512) off₀ S1x1x64x512.size inb₀)).Stores Finset.univ}
    {hm₀ : (Finset.univ : Finset (Rect.unit (s := S2x2x64x512) off₀ S1x1x64x512.size inb₀).shape.Idx) = Finset.univ ∨ ∀ a, (Rect.unit (s := S2x2x64x512) off₀ S1x1x64x512.size inb₀).stride a = 1}
    {hx₁ : (cB.access (Rect.unit (s := S2x2x64x512) off₁ S1x1x64x512.size inb₁)).Stores Finset.univ}
    {hm₁ : (Finset.univ : Finset (Rect.unit (s := S2x2x64x512) off₁ S1x1x64x512.size inb₁).shape.Idx) = Finset.univ ∨ ∀ a, (Rect.unit (s := S2x2x64x512) off₁ S1x1x64x512.size inb₁).stride a = 1}
    {hx₂ : (xB.access (Rect.unit (s := S4x64x1024) off₂ S1x64x1024.size inb₂)).Stores Finset.univ}
    {hm₂ : (Finset.univ : Finset (Rect.unit (s := S4x64x1024) off₂ S1x64x1024.size inb₂).shape.Idx) = Finset.univ ∨ ∀ a, (Rect.unit (s := S4x64x1024) off₂ S1x64x1024.size inb₂).stride a = 1}
    {sem : Sem sig} (hsem' : sem = (0 : Fin 3)) {k' : ℕ} (hk' : k' = 1)
    {sS sR : SemLoc sig} (hS : sS = xsS (f4 (32 * l + 32))) (hR : sR = xrS (f4 (32 * l + 32 + 1)))
    {hst₁ hst₂} {hq₁ hq₂ : S1x64x1024.Squeezes S64x1024} {hsc hsrc hdst hsem}
    {α : Type} {K : Prog (TpuEff nD τ sig (Elt F) Λ₀ .tc) α} {Q : α → sProp 𝕄} :
    Kn D κ ιs c ⊢ iprop(pcAny c cB (rA (f2 (32 * l + 32)) 0) -∗ pcAny c cB (rA (f2 (32 * l + 32)) 1) -∗ pcAny c xB (rX (f4 (32 * l + 32))) -∗ nb D c l
      -∗ (((pcN D c l 0 ∗ pcN D c l 1) ∗ nb1 D c l) -∗ WP c K Q)
      -∗ WP c (.op (.store cB (Rect.unit (s := S2x2x64x512) off₀ S1x1x64x512.size inb₀) w₀ Finset.univ hx₀ hm₀) fun _ =>
        .op (.load cB (Rect.unit (s := S2x2x64x512) off₁ S1x1x64x512.size inb₁).toLoadRect hl₁) fun _ =>
        .op (.store cB (Rect.unit (s := S2x2x64x512) off₁ S1x1x64x512.size inb₁) w₁ Finset.univ hx₁ hm₁) fun _ =>
        .op (.load xB (Rect.unit (s := S4x64x1024) off₂ S1x64x1024.size inb₂).toLoadRect hl₂) fun _ =>
        .op (.store xB (Rect.unit (s := S4x64x1024) off₂ S1x64x1024.size inb₂) w₂ Finset.univ hx₂ hm₂) fun _ =>
        .op (.semWait sem k') fun _ =>
        .op (.enqueueDma ((xB.slice (Rect.unit (s := S4x64x1024) off₃ S1x64x1024.size inb₃) hst₁).squeeze S64x1024 hq₁)
          (.remote (Dev.tc nn : Thread nD τ) ((xB.slice (Rect.unit (s := S4x64x1024) off₄ S1x64x1024.size inb₄) hst₂).squeeze S64x1024 hq₂) sS hsc) sR hsrc hdst hsem) fun _ => K) Q) := by
  subst hw₀ hw₁ hw₂
  unfold nb nb1
  iintro #HK HD0 HD1 HX ⟨HSX, HWX, HCX, HO⟩ Hk
  ihave #HK' := Kn_know D κ ιs c $$ HK
  iapply (stA c (f2 (32 * l + 32)) 0 h₀) $$ HD0
  iintro HD0
  ihave HD1 := (pcAny_pc c cB (rA (f2 (32 * l + 32)) 1)) $$ HD1
  icases HD1 with ⟨%X1, HD1⟩
  iapply (ldA c (f2 (32 * l + 32)) 1 h₁) $$ HD1
  iintro HD1
  ihave HD1 := (pc_any c cB (rA (f2 (32 * l + 32)) 1)) $$ HD1
  iapply (stA c (f2 (32 * l + 32)) 1 h₁) $$ HD1
  iintro HD1
  ihave HX := (pcAny_pc c xB (rX (f4 (32 * l + 32)))) $$ HX
  icases HX with ⟨%X2, HX⟩
  iapply (ldX c (f4 (32 * l + 32)) h₂) $$ HX
  iintro HX
  ihave HX := (pc_any c xB (rX (f4 (32 * l + 32)))) $$ HX
  iapply (stX c (f4 (32 * l + 32)) h₂) $$ HX
  iintro HX
  iapply (cX D κ ιs c (cn l (32 * l + 32) (32 * l + 35)) (32 * l + 32) (by unfold ok; omega) (by omega) (by omega) cn_gx0 hsem' hk') $$ HK' HCX HO
  iintro ⟨HCX, Hf, HO⟩
  ihave HX := (pc_halve c xB (rX (f4 (32 * l + 32))) (D.xc (l + 1) c 0)) $$ HX
  icases HX with ⟨HXl, HXr⟩
  iapply (sX (cont := fun _ => K) D κ ιs c (cn l (32 * l + 32) (32 * l + 35)) (32 * l + 32) (32 * l + 32) (l + 1) 0 (by omega) (by decide) (by omega) rfl rfl h₃ h₄ hnn hS hR) $$ HK' HSX HWX Hf HXr HO
  iintro ⟨HSX, HWX, Hc, HO⟩
  iapply Hk
  isplitl [HD0 HD1]
  · isplitl [HD0] <;> iassumption
  isplitl [HSX]; · iexact HSX
  isplitl [HWX]; · iexact HWX
  isplitl [HCX]; · iexact HCX
  isplitl [HXl Hc]
  · isplitl [HXl] <;> iassumption
  iexact HO

/-- The own block's send is waited for. -/
theorem phN2 (hl : l < 2) {src dst : Memref sig .tc .vmem S64x1024 .bf16}
    {hsrc : src.view.WordExact} {hdst : dst.view.WordExact} {sem : DmaSem sig} (hS : SemLoc.dma sem = xsS (f4 (32 * l + 32)))
    {α : Type} {cont : PUnit → Prog (TpuEff nD τ sig (Elt F) Λ₀ .tc) α} {Q : α → sProp 𝕄} :
    Kn D κ ιs c ⊢ iprop(nb1 D c l -∗ (nb2 D c l -∗ WP c (cont ⟨⟩) Q) -∗ WP c (.op (.waitDma2 sem src dst hsrc hdst) cont) Q) := by
  unfold nb1 nb2
  iintro #HK ⟨HSX, HWX, HCX, ⟨HXl, Hc⟩, HO⟩ Hk
  ihave #HK' := Kn_know D κ ιs c $$ HK
  iapply (wXs D κ ιs c (cn l (32 * l + 33) (32 * l + 35)) (32 * l + 32) (l + 1) 0 (by omega) (by decide) (by omega) hS (cn_zero l (by omega) (by omega)) (credX dst)) $$ HK' HWX Hc HO
  iintro ⟨HWX, HXr, HO⟩
  iapply Hk
  isplitl [HSX]; · iexact HSX
  isplitl [HWX]; · iexact HWX
  isplitl [HCX]; · iexact HCX
  isplitl [HXl HXr]
  · ihave H := (pc_unhalve c xB (rX (f4 (32 * l + 32))) (D.xc (l + 1) c 0) (D.xc (l + 1) c 0)) $$ [HXl HXr]
    · isplitl [HXl] <;> iassumption
    iapply (pc_any c xB (rX (f4 (32 * l + 32)))) $$ H
  iexact HO

/-- Its place is granted, the first block around the ring arrives and is sent on. -/
theorem phN3 (hl : l < 2) {dd : Dev nD} (hdd : dd = prv c) {sem₀ : Sem sig} (hs₀ : sem₀ = (0 : Fin 3)) {k₀ : ℕ} (hk₀ : k₀ = 1)
    {src dst : Memref sig .tc .vmem S64x1024 .bf16}
    {hsrc₀ : src.view.WordExact} {hdst₀ : dst.view.WordExact} {sem₁ : DmaSem sig} (hs₁ : SemLoc.dma sem₁ = xrS (f4 (32 * l + 32 + 1)))
    {sem : Sem sig} (hsem' : sem = (0 : Fin 3)) {k' : ℕ} (hk' : k' = 1)
    {off₃ off₄ : Fin 3 → ℕ} (h₃ : off₃ = ![(f4 (32 * l + 33)).val, 0, 0]) (h₄ : off₄ = ![(f4 (32 * l + 33 + 1)).val, 0, 0]) {nn : Dev nD} (hnn : nn = nxt c)
    {inb₃ : ∀ a : Fin 3, off₃ a + S1x64x1024.size a ≤ S4x64x1024.size a} {inb₄ : ∀ a : Fin 3, off₄ a + S1x64x1024.size a ≤ S4x64x1024.size a}
    {sS sR : SemLoc sig} (hS : sS = xsS (f4 (32 * l + 33))) (hR : sR = xrS (f4 (32 * l + 33 + 1)))
    {hst₁ hst₂} {hq₁ hq₂ : S1x64x1024.Squeezes S64x1024} {hsc hsrc hdst hsem}
    {α : Type} {K : Prog (TpuEff nD τ sig (Elt F) Λ₀ .tc) α} {Q : α → sProp 𝕄} :
    Kn D κ ιs c ⊢ iprop(nb2 D c l -∗ (GX c (32 * l + 35) ∗ RX c (32 * l + 32)) -∗ (nb3 D c l -∗ WP c K Q)
      -∗ WP c (.op (.semSignal (Dev.tc dd : Thread nD τ) sem₀ k₀) fun _ => .op (.waitDma2 sem₁ src dst hsrc₀ hdst₀) fun _ => .op (.semWait sem k') fun _ =>
        .op (.enqueueDma ((xB.slice (Rect.unit (s := S4x64x1024) off₃ S1x64x1024.size inb₃) hst₁).squeeze S64x1024 hq₁)
          (.remote (Dev.tc nn : Thread nD τ) ((xB.slice (Rect.unit (s := S4x64x1024) off₄ S1x64x1024.size inb₄) hst₂).squeeze S64x1024 hq₂) sS hsc) sR hsrc hdst hsem) fun _ => K) Q) := by
  unfold nb2 nb3
  iintro #HK ⟨HSX, HWX, HCX, HX, HO⟩ ⟨HGX, HRX⟩ Hk
  ihave #HK' := Kn_know D κ ιs c $$ HK
  rw [show f4 (32 * l + 32) = f4 (32 * l + 35 + 1) from f4_eq (by omega)]
  iapply (gX D κ ιs c (cn l (32 * l + 33) (32 * l + 35)) (32 * l + 35) (32 * l + 32) (by unfold ok; omega) (by omega) (by omega) (by unfold posX; split_ifs <;> omega) rfl hdd hs₀ hk₀) $$ HK' HGX HX HRX HO
  iintro ⟨HGX, HRX, HO⟩
  iapply (wXr D κ ιs c (cn l (32 * l + 33) (32 * l + 36)) (32 * l + 32) (l + 1) 0 (by omega) (by decide) (by omega) hs₁ cn_xr (credX dst)) $$ HK' HRX HO
  iintro ⟨HRX, HX, HO⟩
  iapply (cX D κ ιs c (cn l (32 * l + 33) (32 * l + 36)) (32 * l + 33) (by unfold ok; omega) (by omega) (by omega) cn_gx1 hsem' hk') $$ HK' HCX HO
  iintro ⟨HCX, Hf, HO⟩
  ihave HX := (pc_halve c xB (rX (f4 (32 * l + 33))) (D.xc (l + 1) c 1)) $$ HX
  icases HX with ⟨HXl, HXr⟩
  iapply (sX (cont := fun _ => K) D κ ιs c (cn l (32 * l + 33) (32 * l + 36)) (32 * l + 33) (32 * l + 33) (l + 1) 1 (by omega) (by decide) (by omega) rfl rfl h₃ h₄ hnn hS hR) $$ HK' HSX HWX Hf HXr HO
  iintro ⟨HSX, HWX, Hc, HO⟩
  iapply Hk
  isplitl [HSX]; · iexact HSX
  isplitl [HWX]; · iexact HWX
  isplitl [HCX]; · iexact HCX
  isplitl [HGX]; · iexact HGX
  isplitl [HRX]; · iexact HRX
  isplitl [HXl Hc]
  · isplitl [HXl] <;> iassumption
  iexact HO

/-- A layer's result has come home. -/
def hbk : sProp 𝕄 := iprop((RH c 0 (l + 1) ∗ RH c 1 (l + 1)) ∗ pc c hB (rH 0) fullShare (D.hom l c 0) ∗ pc c hB (rH 1) fullShare (D.hom l c 1) ∗ Ow c (cn l (32 * l + 32) (gxo l 31)))

/-- It comes home. -/
theorem phB (hl : l < 3) {src₀ dst₀ src₁ dst₁ : Memref sig .tc .vmem S64x512 .f32}
    {hsrc₀ : src₀.view.WordExact} {hdst₀ : dst₀.view.WordExact} {hsrc₁ : src₁.view.WordExact} {hdst₁ : dst₁.view.WordExact}
    {sem₀ sem₁ : DmaSem sig} (hS₀ : SemLoc.dma sem₀ = hmS 0) (hS₁ : SemLoc.dma sem₁ = hmS 1)
    {α : Type} {cont : PUnit → Prog (TpuEff nD τ sig (Elt F) Λ₀ .tc) α} {Q : α → sProp 𝕄} :
    Kn D κ ιs c ⊢ iprop((RH c 0 l ∗ RH c 1 l) -∗ Ow c (cn l (32 * l + 32) (gxo l 31)) -∗ (hbk D c l -∗ WP c (cont ⟨⟩) Q)
      -∗ WP c (.op (.waitDma2 sem₀ src₀ dst₀ hsrc₀ hdst₀) fun _ => .op (.waitDma2 sem₁ src₁ dst₁ hsrc₁ hdst₁) cont) Q) := by
  have hg : 32 * l + 35 ≤ gxo l 31 := by unfold gxo; split_ifs <;> omega
  unfold hbk
  iintro #HK ⟨H0, H1⟩ HO Hk
  ihave #HK' := Kn_know D κ ιs c $$ HK
  iapply (wHm D κ ιs c (cn l (32 * l + 32) (gxo l 31)) 0 l hl hS₀ (cn_h l hg) (credA dst₀)) $$ HK' H0 HO
  iintro ⟨H0, Hp0, HO⟩
  iapply (wHm (cont := cont) D κ ιs c (cn l (32 * l + 32) (gxo l 31)) 1 l hl hS₁ (cn_h l hg) (credA dst₁)) $$ HK' H1 HO
  iintro ⟨H1, Hp1, HO⟩
  iapply Hk
  isplitl [H0 H1]
  · isplitl [H0] <;> iassumption
  isplitl [Hp0]; · iexact Hp0
  isplitl [Hp1] <;> iassumption

/-- A home counter has reached its round. -/
theorem RH_reached (h : Fin 2) : RH c h l ⊢ (iprop(reached ER (gHm c h) l ∗ RH c h l) : sProp 𝕄) := by
  unfold RH
  iintro ⟨⟨Hp, #Hr⟩, Hc⟩
  isplitr; · iexact Hr
  isplitl [Hp]
  · isplitl [Hp]; · iexact Hp
    iexact Hr
  iexact Hc

/-- A counted loop keeps what each of its trips keeps. -/
theorem wp_loop (L : Scf.Loop 32) (ok : L.OK) (body : Fin L.trips → Unit → Prog (TpuEff nD τ sig (Elt F) Λ₀ .tc) Unit) (I : ℕ → sProp 𝕄)
    (h : ∀ (t : Fin L.trips) (z : Unit), I t.val ⊢ WP c (body t z) fun _ => I (t.val + 1)) {n : ℕ} (hn : L.trips = n) {Q : Unit → sProp 𝕄} :
    I 0 ⊢ iprop((I n -∗ Q ()) -∗ WP c (Scf.Loop.for L ok () body) Q) := by
  subst hn
  iintro HI HQ
  iapply (Scf.wp_for frame (wpE (defs₀ (F := F)) 𝒱₀ (c : Thread nD τ) none) Set.univ L.lb L.ub L.st ok () body (fun n _ => I n) h)
  isplitl [HI]; · iexact HI
  iintro %z HI
  iapply HQ $$ HI
end Stages

end Cert.Proof

end
-- ==== Proof.Step1.lean ====
/-
  One step of the first layer's loop, in the parts its text comes in.
-/
module

public import proofs.«01_k».proof.Proof.Mid

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Parts
variable (m0 : Memref sig .tc .vmem S64x1024 .f32) (hm0 : m0.IsWhole) (m1 : Memref sig .tc .vmem S1024x2048 .f32) (hm1 : m1.IsWhole) (m2 : Memref sig .tc .vmem S2048x1024 .f32) (hm2 : m2.IsWhole) (m3 : Memref sig .tc .vmem S1024x2048 .f32) (hm3 : m3.IsWhole) (m4 : Memref sig .tc .vmem S2048x1024 .f32) (hm4 : m4.IsWhole) (m5 : Memref sig .tc .vmem S1024x2048 .f32) (hm5 : m5.IsWhole) (m6 : Memref sig .tc .vmem S2048x1024 .f32) (hm6 : m6.IsWhole) (m7 : Memref sig .tc .vmem S64x1024 .f32) (hm7 : m7.IsWhole)
variable (D : Dat F) (κ : GSem nD τ sig → ℕ) (ιs : Key → ℕ) (c : Dev nD) (v5 v7 : BitVec 32) (t : Fin k0_t1_loop.trips)

theorem t1_lt (t : Fin k0_t1_loop.trips) : t.val ≤ 30 := by revert t; decide +kernel

set_option maxHeartbeats 400000 in
theorem part1_spec {Q : (Σ' (_ : BitVec 32) (_ : BitVec 32) (_ : BitVec 32) (_ : BitVec 32) (_ : FVec F S64x512 .f32), BitVec 1) → sProp 𝕄} :
    Kn D κ ιs c ⊢ iprop(mid0 D c 0 t.val
      -∗ (∀ X u v w, ⌜1 ≤ t.val → X = D.A 0 (prv c) (t.val - 1) 0⌝ -∗ midA D c 0 t.val -∗ pc c aB (rA (f2 (32 * 0 + t.val)) 0) fullShare X -∗ Q ⟨Scf.iv 0#32 1#32 t, u, v, w, k0_pay1 X, Scalar.cmpi .eq (Scf.iv 0#32 1#32 t) 0#32⟩)
      -∗ WP c (k0_part1 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v5 v7 0#32 1#32 t) Q) := by
  have ht := t1_lt t
  rw [k0_part1_eq_skeleton]
  unfold k0_part1_skel mid0 RAin
  simp -zeta only [semSignalWord, semWaitWord, Prog.lift, Prog.bind_op, Prog.bind_ret, Prog.pure_eq_ret]
  iintro #HK ⟨HSX, HWX, HRX, HCX, HP, ⟨HR0, HI0⟩, ⟨HR1, HI1⟩, HGA, HCA, HO⟩ HQ
  iapply (ph1c D κ ιs c (cnt 0 t.val) (32 * 0 + t.val) (32 * 0 + (t.val - 1)) (by unfold ok; omega) (by omega)
    (by unfold posR; split_ifs <;> omega)
    (ab_start 0 t.val) rfl
    (by revert t; decide +kernel)
    (fun _ => sem_as (f2 (32 * 0 + t.val + 1)) 0 ((k0_off1_eq t).trans (oS (by omega))) _ _)
    (fun _ => sem_as (f2 (32 * 0 + t.val + 1)) 1 ((k0_off4_eq t).trans (oS (by omega))) _ _)
    (fun _ => dv_prv (k0_dev6_eq c)) rfl rfl) $$ HK HP HGA HR0 HR1 HO
  iintro ⟨HW0, HW1, HGA, HR0, HR1, HO⟩
  iapply (ph2 D κ ιs c ⟨nxc 0 t.val, gxo 0 t.val, 32 * 0 + t.val, 32 * 0 + t.val, 32 * 0 + t.val + 1, 0, 0⟩ 0 t.val (by omega) ht
    (fun h => ab_x (by omega) h)
    (by revert t; decide +kernel)
    (fun _ => sem_xr (f4 (32 * 0 + t.val + 2)) ((k0_off7_eq t).trans (oT (by omega))) _ _)) $$ HK HRX HO
  iintro ⟨HRX, Hp, HO⟩
  iapply (ph3c D κ ιs c ⟨nxc 0 t.val, gxo 0 t.val, 32 * 0 + t.val, 32 * 0 + t.val, 32 * 0 + t.val + 1, 0, 0⟩ 0 t.val ht rfl (by revert t; decide +kernel) ?_) $$ HK HSX HWX HCX Hp HO
  · intro h3 hs
    refine ph3zs D κ ιs c _ 0 t.val (by revert t; decide +kernel) (fun h4 h1 => ?_) (fun h0 => ?_)
    · exact ph3s D κ ιs c _ 0 t.val (by omega) hs h1 rfl (ab_gx (by omega) hs h1)
        ((show k0_off10 t 2#32 = ![(t.val + 0 + 2) % 4, 0, 0] from k0_off10_eq t 0).trans (oX (by omega)))
        ((show k0_off10 t 3#32 = ![(t.val + 1 + 2) % 4, 0, 0] from k0_off10_eq t 1).trans (oX (by omega))) (dv_nxt (k0_dev7_eq c))
        (sem_xs _ ((show k0_off9 t 2#32 = ![(t.val + 0 + 2) % 4] from k0_off9_eq t 0).trans (oT (by omega))) _ _)
        (sem_xr _ ((show k0_off9 t 3#32 = ![(t.val + 1 + 2) % 4] from k0_off9_eq t 1).trans (oT (by omega))) _ _) rfl rfl
    · exact ph3z D κ ιs c _ 0 t.val h0 rfl
        ((show k0_off10 t 2#32 = ![(t.val + 0 + 2) % 4, 0, 0] from k0_off10_eq t 0).trans (oX (by omega)))
        ((show k0_off10 t 3#32 = ![(t.val + 1 + 2) % 4, 0, 0] from k0_off10_eq t 1).trans (oX (by omega))) (dv_nxt (k0_dev7_eq c))
        (sem_xs _ ((show k0_off9 t 2#32 = ![(t.val + 0 + 2) % 4] from k0_off9_eq t 0).trans (oT (by omega))) _ _)
        (sem_xr _ ((show k0_off9 t 3#32 = ![(t.val + 1 + 2) % 4] from k0_off9_eq t 1).trans (oT (by omega))) _ _)
  iintro ⟨HSX, HWX, HCX, HXN, HO⟩
  iapply (ph4c D κ ιs c ⟨nxc 0 (t.val + 1), gxo 0 t.val, 32 * 0 + t.val, 32 * 0 + t.val, 32 * 0 + t.val + 1, 0, 0⟩ (32 * 0 + t.val) (by unfold ok; omega) (by omega)
    (ab_ga (by omega) ht) (by revert t; decide +kernel) rfl rfl) $$ HK HCA HO
  iintro ⟨HCA, Hf, HO⟩
  iapply (ph5 D κ ιs c ⟨nxc 0 (t.val + 1), gxo 0 t.val, 32 * 0 + t.val, 32 * 0 + t.val, 32 * 0 + t.val + 1, 0, 0⟩ 0 t.val 0 (by omega) ht
    (fun h => ab_a0 (by omega) ht h) (by revert t; decide +kernel)
    (fun _ => sem_ar (f2 (32 * 0 + t.val)) 0 ((k0_off11_eq t).trans (oS (by omega))) _ _)) $$ HK [HR0 HI0] HO
  · unfold RAin
    isplitl [HR0]; · iexact HR0
    iexact HI0
  iintro %X ⟨HR0, Hpa, %hX, Hh, Hr, HO⟩
  iapply (ldA c (f2 (32 * 0 + t.val)) 0 ((k0_off13_eq t).trans (oA (by omega)))) $$ Hpa
  iintro Hpa
  iapply (WP_ret c)
  iapply HQ $$ %X %_ %_ %_ %hX [HSX HWX HRX HCX HW0 HW1 HR0 Hh Hr HR1 HI1 HGA HCA Hf HXN HO] Hpa
  unfold midA mrest homeP RAin
  isplitl [HSX HWX HRX HCX HGA HCA HXN]
  · isplitl [HSX]; · iexact HSX
    isplitl [HWX]; · iexact HWX
    isplitl [HRX]; · iexact HRX
    isplitl [HCX]; · iexact HCX
    isplitl [HGA]; · iexact HGA
    isplitl [HCA]; · iexact HCA
    iexact HXN
  isplitl [HW0]; · iexact HW0
  isplitl [HW1]; · iexact HW1
  isplitl [HR0]; · iexact HR0
  isplitl [Hh Hr]
  · isplitl [Hh]; · iexact Hh
    iexact Hr
  isplitl [HR1 HI1]
  · isplitl [HR1]; · iexact HR1
    iexact HI1
  isplitl [Hf]; · iexact Hf
  iexact HO

theorem t1_b (t : Fin k0_t1_loop.trips) : Scalar.cmpi .eq (Scf.iv 0#32 1#32 t) 0#32 = 1#1 ↔ t.val = 0 := by revert t; decide +kernel

set_option maxHeartbeats 400000 in
theorem part2_spec (X : Vec F S1x1x64x512 .f32) (w : BitVec 32) {Q : (Σ' (_ : FVec F S64x512 .f32) (_ : BitVec 1), FVec F S64x512 .f32) → sProp 𝕄}
    (hX : 1 ≤ t.val → X = D.A 0 (prv c) (t.val - 1) 0) :
    Kn D κ ιs c ⊢ iprop(midA D c 0 t.val -∗ pc c aB (rA (f2 (32 * 0 + t.val)) 0) fullShare X -∗ SA c 0 (32 * 0 + t.val) -∗ ownC D c 0 t.val
      -∗ (∀ Y, ⌜1 ≤ t.val → Y = D.A 0 (prv c) (t.val - 1) 1⌝ -∗ midB D c 0 t.val -∗ pc c aB (rA (f2 (32 * 0 + t.val)) 1) fullShare Y -∗ ownC D c 0 t.val
        -∗ Q ⟨k0_pay3 Y, Scalar.cmpi .eq (Scf.iv 0#32 1#32 t) 0#32, k0_pay4 (D.C 0 c t.val 1)⟩)
      -∗ WP c (k0_part2 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v5 v7 t (Scf.iv 0#32 1#32 t) w (k0_pay1 X) (Scalar.cmpi .eq (Scf.iv 0#32 1#32 t) 0#32)) Q) := by
  have ht := t1_lt t
  rw [k0_part2_eq_skeleton]
  unfold k0_part2_skel ownC
  simp -zeta only [semSignalWord, semWaitWord, Prog.lift, Prog.bind_op, Prog.bind_ret, Prog.pure_eq_ret]
  iintro #HK HA Hp HS ⟨HC0, HC1⟩ HQ
  iapply (ldA c (f2 (32 * 0 + t.val)) 0 ((k0_off13_eq t).trans (oA (by omega)))) $$ HC0
  iintro HC0
  iapply (ldA c (f2 (32 * 0 + t.val)) 0 ((k0_off13_eq t).trans (oA (by omega)))) $$ HC0
  iintro HC0
  iapply (ldA c (f2 (32 * 0 + t.val)) 0 ((k0_off13_eq t).trans (oA (by omega)))) $$ Hp
  iintro Hp
  ihave Hp := (pc_any c aB (rA (f2 (32 * 0 + t.val)) 0)) $$ Hp
  iapply (stA c (f2 (32 * 0 + t.val)) 0 ((k0_off13_eq t).trans (oA (by omega)))) $$ Hp
  iintro Hp
  ihave Hp := (Entails.of_eq (congrArg (fun z => pc c aB (rA (f2 (32 * 0 + t.val)) 0) fullShare z) (stored D c 0 t.val 0 X hX _ (t1_b t)))) $$ Hp
  iapply (phAB D κ ιs c 0 t.val (by omega) ht ((k0_off17_eq t).trans (oA (by omega))) ((k0_off16_eq t).trans (oA (by omega))) (dv_nxt (k0_dev8_eq c))
    (sem_as (f2 (32 * 0 + t.val)) 0 ((k0_off14_eq t).trans (oS (by omega))) _ _) (sem_ar (f2 (32 * 0 + t.val + 1)) 0 ((k0_off15_eq t).trans (oS (by omega))) _ _)
    (by clear hX ht; revert t; decide +kernel) (fun _ => sem_ar (f2 (32 * 0 + t.val)) 1 ((k0_off18_eq t).trans (oS (by omega))) _ _)) $$ HK HA Hp HS
  iintro %Y %hY HB Hp
  iapply (ldA c (f2 (32 * 0 + t.val)) 1 ((k0_off20_eq t).trans (oA (by omega)))) $$ Hp
  iintro Hp
  iapply (ldA c (f2 (32 * 0 + t.val)) 1 ((k0_off20_eq t).trans (oA (by omega)))) $$ HC1
  iintro HC1
  iapply (WP_ret c)
  iapply HQ $$ %Y %hY HB Hp [HC0 HC1]
  isplitl [HC0]; · iexact HC0
  iexact HC1

set_option maxHeartbeats 400000 in
theorem part3_spec (Y : Vec F S1x1x64x512 .f32) (u v w : BitVec 32) {Q : (Σ' (_ : FVec F S64x1024 .f32), FVec F S64x512 .f32) → sProp 𝕄}
    (hY : 1 ≤ t.val → Y = D.A 0 (prv c) (t.val - 1) 1) :
    Kn D κ ιs c ⊢ iprop(midB D c 0 t.val -∗ pc c aB (rA (f2 (32 * 0 + t.val)) 1) fullShare Y -∗ SA c 1 (32 * 0 + t.val) -∗ ownC D c 0 t.val -∗ XN D c 0 t.val
      -∗ Wt c m1 m2 (D.wi 0 c) (D.wo 0 c)
      -∗ ((midC D c 0 t.val ∗ ownC D c 0 t.val ∗ XN D c 0 t.val ∗ Wt c m1 m2 (D.wi 0 c) (D.wo 0 c))
        -∗ Q ⟨k0_pay6 (D.xc 0 c (t.val + 1)) (D.wi 0 c) (D.wo 0 c), k0_pay7 (D.xc 0 c (t.val + 1)) (D.wi 0 c) (D.wo 0 c)⟩)
      -∗ WP c (k0_part3 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v7 t u v w (k0_pay3 Y) (Scalar.cmpi .eq (Scf.iv 0#32 1#32 t) 0#32) (k0_pay4 (D.C 0 c t.val 1))) Q) := by
  have ht := t1_lt t
  rw [k0_part3_eq_skeleton]
  unfold k0_part3_skel ownC
  simp -zeta only [semSignalWord, semWaitWord, Prog.lift, Prog.bind_op, Prog.bind_ret, Prog.pure_eq_ret]
  iintro #HK HB Hp HS ⟨HC0, HC1⟩ HX HW HQ
  iapply (ldA c (f2 (32 * 0 + t.val)) 1 ((k0_off20_eq t).trans (oA (by omega)))) $$ HC1
  iintro HC1
  iapply (ldA c (f2 (32 * 0 + t.val)) 1 ((k0_off20_eq t).trans (oA (by omega)))) $$ Hp
  iintro Hp
  ihave Hp := (pc_any c aB (rA (f2 (32 * 0 + t.val)) 1)) $$ Hp
  iapply (stA c (f2 (32 * 0 + t.val)) 1 ((k0_off20_eq t).trans (oA (by omega)))) $$ Hp
  iintro Hp
  ihave Hp := (Entails.of_eq (congrArg (fun z => pc c aB (rA (f2 (32 * 0 + t.val)) 1) fullShare z) (show k0_pay5 (k0_pay3 Y) (Scalar.cmpi .eq (Scf.iv 0#32 1#32 t) 0#32) (k0_pay4 (D.C 0 c t.val 1)) (D.C 0 c t.val 1) = D.A 0 c t.val 1 from stored D c 0 t.val 1 Y hY _ (t1_b t)))) $$ Hp
  iapply (phBC D κ ιs c 0 t.val (by omega) ht ((k0_off24_eq t).trans (oA (by omega))) ((k0_off23_eq t).trans (oA (by omega))) (dv_nxt (k0_dev9_eq c))
    (sem_as (f2 (32 * 0 + t.val)) 1 ((k0_off21_eq t).trans (oS (by omega))) _ _) (sem_ar (f2 (32 * 0 + t.val + 1)) 1 ((k0_off22_eq t).trans (oS (by omega))) _ _)) $$ HK HB Hp HS
  iintro HC
  iapply (phX D c 0 t.val ht ((k0_off25_eq t).trans (oX (by omega)))) $$ HX HW
  iintro ⟨HX, HW⟩
  iapply (WP_ret c)
  iapply HQ
  isplitl [HC]; · iexact HC
  isplitl [HC0 HC1]
  · isplitl [HC0]; · iexact HC0
    iexact HC1
  isplitl [HX]; · iexact HX
  iexact HW

set_option maxHeartbeats 400000 in
/-- One step of the first layer. -/
theorem body1_spec (z : BitVec 32) {Q : Unit → sProp 𝕄} :
    Kn D κ ιs c ⊢ iprop(st D c 0 t.val -∗ Wt c m1 m2 (D.wi 0 c) (D.wo 0 c) -∗ ((st D c 0 (t.val + 1) ∗ Wt c m1 m2 (D.wi 0 c) (D.wo 0 c)) -∗ Q ())
      -∗ WP c (k0_t1_body m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v5 v7 z t ()) Q) := by
  have ht := t1_lt t
  unfold k0_t1_body
  rw [WP_bind]
  iintro #HK Hst HW HQ
  ihave Hst := st_open D c 0 t.val $$ Hst
  unfold own0
  icases Hst with ⟨H0, ⟨HS0, HS1⟩, HC, ⟨HGX, HD, HX, Hkp⟩⟩
  iapply (part1_spec m0 hm0 m1 hm1 m2 hm2 m3 hm3 m4 hm4 m5 hm5 m6 hm6 m7 hm7 D κ ιs c v5 v7 t) $$ HK H0
  iintro %X %u %v %w %hX HA Hp
  dsimp only
  rw [WP_bind]
  iapply (part2_spec m0 hm0 m1 hm1 m2 hm2 m3 hm3 m4 hm4 m5 hm5 m6 hm6 m7 hm7 D κ ιs c v5 v7 t X v hX) $$ HK HA Hp HS0 HC
  iintro %Y %hY HB Hp HC
  dsimp only
  rw [WP_bind]
  iapply (part3_spec m0 hm0 m1 hm1 m2 hm2 m3 hm3 m4 hm4 m5 hm5 m6 hm6 m7 hm7 D κ ιs c v7 t Y u v w hY) $$ HK HB Hp HS1 HC HX HW
  iintro ⟨HM, HC, HX, HW⟩
  dsimp only
  simp -zeta only [semSignalWord, semWaitWord, Prog.lift, Prog.bind_op, Prog.bind_ret, Prog.pure_eq_ret]
  iapply (phT D κ ιs c 0 t.val (by omega) ht ((k0_off26_eq t).trans (oA (by omega))) ((k0_off27_eq t).trans (oA (by omega)))
    (next0 D c 0 t.val) (next1 D c 0 t.val) (by clear hX hY ht; revert t; decide +kernel)
    (fun _ => sem_xs (f4 (32 * 0 + t.val + 1)) ((k0_off28_eq t).trans (oT (by omega))) _ _)
    (by rw [if_neg (by decide)]; clear hX hY ht; revert t; decide +kernel) (fun _ => dv_prv (k0_dev10_eq c)) rfl rfl) $$ HK HM HC [HGX HD HX Hkp]
  · unfold own0
    isplitl [HGX]; · iexact HGX
    isplitl [HD]; · iexact HD
    isplitl [HX]; · iexact HX
    iexact Hkp
  iintro Hst
  iapply (WP_ret c)
  iapply HQ
  isplitl [Hst]; · iexact Hst
  iexact HW

end Parts

end Cert.Proof

end
-- ==== Proof.Turn.lean ====
/-
  From one layer to the next: the results come home, become the next block, and the next layer's loop runs.
-/
module

public import proofs.«01_k».proof.Proof.Next
public import proofs.«01_k».proof.Proof.Step2
public import proofs.«01_k».proof.Proof.Step1

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The stored values -/

theorem pay28_eq (a b : Vec F S1x64x512 .f32) (x : Vec F S1024x2048 .f32) (y : Vec F S2048x1024 .f32) : k0_pay28 a b x y = k0_pay19 (k0_pay27 a b) x y := by
  unfold k0_pay28 k0_pay19
  rw [shapeCast_self (k0_pay27 a b)]
theorem prod_zero (D : Dat F) (l : ℕ) (c : Dev nD) (h : Fin 2) : half (k0_pay19 (D.H l c) (D.wi l c) (D.wo l c)) h = D.C l c 0 h := by
  unfold Dat.C prod; rw [if_pos rfl]
theorem xc_zero (D : Dat F) (l : ℕ) (c : Dev nD) : k0_pay31 (D.H l c) = D.xc l c 0 := by unfold Dat.xc; rw [lft_zero]

/-! ## The parts -/

/-- The rest of the next layer's first state. -/
def nxR (D : Dat F) (c : Dev nD) (l : ℕ) : sProp 𝕄 :=
  iprop(lrest D c l ∗ (pcN D c l 0 ∗ pcN D c l 1) ∗ (pcC D c l 0 ∗ pcC D c l 1)
      ∗ (WA c 0 (32 * l + 31) ∗ WA c 1 (32 * l + 31) ∗ cred (tallyAt (gAs c 0 (32 * l + 31)) 0 NA) ∗ cred (tallyAt (gAs c 1 (32 * l + 31)) 0 NA))
      ∗ (RA c 0 (32 * l + 31) ∗ RA c 1 (32 * l + 31)) ∗ tlA c l
      ∗ (pcAny c hB (rH 0) ∗ pcAny c hB (rH 1)) ∗ reached ER (gHm c 0) (l + 1) ∗ reached ER (gHm c 1) (l + 1))
theorem st_nxR (D : Dat F) (c : Dev nD) (l : ℕ) : iprop(nb3 D c l ∗ nxR D c l) ⊢ st D c (l + 1) 0 := st_next D c l

section Turn
variable (m0 : Memref sig .tc .vmem S64x1024 .f32) (hm0 : m0.IsWhole) (m1 : Memref sig .tc .vmem S1024x2048 .f32) (hm1 : m1.IsWhole) (m2 : Memref sig .tc .vmem S2048x1024 .f32) (hm2 : m2.IsWhole) (m3 : Memref sig .tc .vmem S1024x2048 .f32) (hm3 : m3.IsWhole) (m4 : Memref sig .tc .vmem S2048x1024 .f32) (hm4 : m4.IsWhole) (m5 : Memref sig .tc .vmem S1024x2048 .f32) (hm5 : m5.IsWhole) (m6 : Memref sig .tc .vmem S2048x1024 .f32) (hm6 : m6.IsWhole) (m7 : Memref sig .tc .vmem S64x1024 .f32) (hm7 : m7.IsWhole)
variable (D : Dat F) (κ : GSem nD τ sig → ℕ) (ιs : Key → ℕ) (c : Dev nD) (v5 v7 : BitVec 32)

/-- What part 18 returns. -/
abbrev ret18 : Σ' (v158 : FVec F S64x1024 .f32) (v166 : FVec F S64x1024 .f32), FVec F S1x1x64x512 .f32 :=
  ⟨D.H 1 c, k0_pay19 (D.H 1 c) (D.wi 1 c) (D.wo 1 c), D.C 1 c 0 0⟩

/-- The first layer's result comes home and the second's first product is made. -/
theorem part18_spec {Q : (Σ' (v158 : FVec F S64x1024 .f32) (v166 : FVec F S64x1024 .f32), FVec F S1x1x64x512 .f32) → sProp 𝕄} :
    Kn D κ ιs c ⊢ iprop((RH c 0 0 ∗ RH c 1 0) -∗ Ow c (cn 0 (32 * 0 + 32) (gxo 0 31)) -∗ Wt c m3 m4 (D.wi 1 c) (D.wo 1 c) -∗ pcAny c cB (rA (f2 (32 * 0 + 32)) 0)
      -∗ ((hbk D c 0 ∗ Wt c m3 m4 (D.wi 1 c) (D.wo 1 c) ∗ pcAny c cB (rA (f2 (32 * 0 + 32)) 0)) -∗ Q (ret18 D c))
      -∗ WP c (k0_part18 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 v7) Q) := by
  rw [k0_part18_eq_skeleton]
  unfold k0_part18_skel
  simp -zeta only [semSignalWord, semWaitWord, Prog.lift, Prog.bind_op, Prog.bind_ret, Prog.pure_eq_ret]
  iintro #HK HR HO HW HC HQ
  iapply (phB D κ ιs c 0 (by decide) (sem_hm 0 rfl _ _) (sem_hm 1 rfl _ _)) $$ HK HR HO
  unfold hbk
  iintro ⟨HR, Hp0, Hp1, HO⟩
  iapply (ldH c 0 rfl) $$ Hp0
  iintro Hp0
  iapply (ldH c 1 rfl) $$ Hp1
  iintro Hp1
  unfold Wt
  icases HW with ⟨HX, HY⟩
  iapply (wp_load_pc c m3 rWi) $$ HX
  iintro HX
  iapply (wp_load_pc c m4 rWo) $$ HY
  iintro HY
  ihave HC := (pcAny_pc c cB (rA (f2 (32 * 0 + 32)) 0)) $$ HC
  icases HC with ⟨%X1, HC⟩
  iapply (ldA c (f2 (32 * 0 + 32)) 0 rfl) $$ HC
  iintro HC
  ihave HC := (pc_any c cB (rA (f2 (32 * 0 + 32)) 0)) $$ HC
  iapply (WP_ret c)
  ihave H := HQ $$ [HR Hp0 Hp1 HO HX HY HC]
  · isplitl [HR Hp0 Hp1 HO]
    · isplitl [HR]; · iexact HR
      isplitl [Hp0]; · iexact Hp0
      isplitl [Hp1]; · iexact Hp1
      iexact HO
    isplitl [HX HY]
    · isplitl [HX] <;> iassumption
    iexact HC
  ihave H' := (Entails.of_eq (show Q (ret18 D c) = Q ⟨k0_pay27 (D.hom 0 c 0) (D.hom 0 c 1), k0_pay28 (D.hom 0 c 0) (D.hom 0 c 1) (D.wi 1 c) (D.wo 1 c), k0_pay29 (D.hom 0 c 0) (D.hom 0 c 1) (D.wi 1 c) (D.wo 1 c)⟩ from by
    unfold ret18
    rw [← prod_zero, show k0_pay29 (D.hom 0 c 0) (D.hom 0 c 1) (D.wi 1 c) (D.wo 1 c) = half (k0_pay28 (D.hom 0 c 0) (D.hom 0 c 1) (D.wi 1 c) (D.wo 1 c)) 0 from rfl, pay28_eq]; rfl)) $$ H
  iexact H'

/-- Its two halves and the block are stored, the block is sent. -/
theorem part19_spec {Q : BitVec 32 → sProp 𝕄} :
    Kn D κ ιs c ⊢ iprop(pcAny c cB (rA (f2 (32 * 0 + 32)) 0) -∗ pcAny c cB (rA (f2 (32 * 0 + 32)) 1) -∗ pcAny c xB (rX (f4 (32 * 0 + 32))) -∗ nb D c 0
      -∗ (((pcN D c 0 0 ∗ pcN D c 0 1) ∗ nb2 D c 0) -∗ Q 1#32)
      -∗ WP c (k0_part19 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v7 (ret18 D c).1 (ret18 D c).2.1 (ret18 D c).2.2) Q) := by
  rw [k0_part19_eq_skeleton]
  unfold k0_part19_skel
  simp -zeta only [semSignalWord, semWaitWord, Prog.lift, Prog.bind_op, Prog.bind_ret, Prog.pure_eq_ret]
  iintro #HK HC0 HC1 HX Hn HQ
  iapply (phN1 D κ ιs c 0 (by decide) rfl rfl rfl rfl rfl (dv_nxt (k0_dev13_eq c)) rfl (prod_zero D 1 c 1) (xc_zero D 1 c) rfl rfl
    (sem_xs (f4 (32 * 0 + 32)) rfl _ _) (sem_xr (f4 (32 * 0 + 32 + 1)) rfl _ _)) $$ HK HC0 HC1 HX Hn
  iintro ⟨HC, Hn⟩
  iapply (phN2 D κ ιs c 0 (by decide) (sem_xs (f4 (32 * 0 + 32)) rfl _ _)) $$ HK Hn
  iintro Hn
  iapply (WP_ret c)
  iapply HQ
  isplitl [HC] <;> iassumption

/-- The second layer's loop. -/
theorem part20_spec (c1 : BitVec 32) {Q : PUnit → sProp 𝕄} :
    Kn D κ ιs c ⊢ iprop(nb2 D c 0 -∗ (GX c (32 * 0 + 35) ∗ RX c (32 * 0 + 32)) -∗ nxR D c 0 -∗ Wt c m3 m4 (D.wi 1 c) (D.wo 1 c)
      -∗ ((st D c 1 31 ∗ Wt c m3 m4 (D.wi 1 c) (D.wo 1 c)) -∗ Q ⟨⟩)
      -∗ WP c (k0_part20 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v5 v7 c1) Q) := by
  rw [k0_part20_eq_skeleton]
  unfold k0_part20_skel
  simp -zeta only [semSignalWord, semWaitWord, Prog.lift, Prog.bind_op, Prog.bind_ret, Prog.pure_eq_ret]
  iintro #HK Hn HG HR HW HQ
  iapply (phN3 D κ ιs c 0 (by decide) (dv_prv (k0_dev14_eq c)) rfl rfl (sem_xr (f4 (32 * 0 + 32 + 1)) rfl _ _) rfl rfl rfl rfl (dv_nxt (k0_dev15_eq c))
    (sem_xs (f4 (32 * 0 + 33)) rfl _ _) (sem_xr (f4 (32 * 0 + 33 + 1)) rfl _ _)) $$ HK Hn HG
  iintro Hn
  ihave Hst := (st_nxR D c 0) $$ [Hn HR]
  · isplitl [Hn] <;> iassumption
  rw [WP_bind]
  iapply (wp_loop c k0_t2_loop k0_t2_ok _ (fun n => iprop(Kn D κ ιs c ∗ st D c 1 n ∗ Wt c m3 m4 (D.wi 1 c) (D.wo 1 c))) ?_ (n := 31) (by decide +kernel)) $$ [Hst HW]
  · intro t z
    unfold k0_t2_body
    rw [WP_bind]
    iintro ⟨#HK, Hst, HW⟩
    iapply (part7_spec m0 hm0 m1 hm1 m2 hm2 m3 hm3 m4 hm4 m5 hm5 m6 hm6 m7 hm7 D κ ιs c v5 v7 t) $$ HK Hst HW
    iintro H
    iapply (WP_ret c)
    isplitr; · iexact HK
    iexact H
  · isplitr; · iexact HK
    isplitl [Hst] <;> iassumption
  iintro ⟨-, H⟩
  iapply (WP_ret c)
  iapply HQ $$ H

/-- What part 24 returns. -/
abbrev ret24 : Σ' (v300 : FVec F S64x1024 .f32) (v308 : FVec F S64x1024 .f32), FVec F S64x512 .f32 :=
  ⟨k0_pay34 (D.hom 1 c 0) (D.hom 1 c 1), k0_pay35 (D.hom 1 c 0) (D.hom 1 c 1) (D.wi 2 c) (D.wo 2 c), k0_pay36 (D.hom 1 c 0) (D.hom 1 c 1) (D.wi 2 c) (D.wo 2 c)⟩

/-- The second layer's result comes home and the third's first product is made. -/
theorem part24_spec {Q : (Σ' (v300 : FVec F S64x1024 .f32) (v308 : FVec F S64x1024 .f32), FVec F S64x512 .f32) → sProp 𝕄} :
    Kn D κ ιs c ⊢ iprop((RH c 0 1 ∗ RH c 1 1) -∗ Ow c (cn 1 (32 * 1 + 32) (gxo 1 31)) -∗ Wt c m5 m6 (D.wi 2 c) (D.wo 2 c)
      -∗ ((hbk D c 1 ∗ Wt c m5 m6 (D.wi 2 c) (D.wo 2 c)) -∗ Q (ret24 D c))
      -∗ WP c (k0_part24 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 v7) Q) := by
  rw [k0_part24_eq_skeleton]
  unfold k0_part24_skel
  simp -zeta only [semSignalWord, semWaitWord, Prog.lift, Prog.bind_op, Prog.bind_ret, Prog.pure_eq_ret]
  iintro #HK HR HO HW HQ
  iapply (phB D κ ιs c 1 (by decide) (sem_hm 0 rfl _ _) (sem_hm 1 rfl _ _)) $$ HK HR HO
  unfold hbk
  iintro ⟨HR, Hp0, Hp1, HO⟩
  iapply (ldH c 0 rfl) $$ Hp0
  iintro Hp0
  iapply (ldH c 1 rfl) $$ Hp1
  iintro Hp1
  unfold Wt
  icases HW with ⟨HX, HY⟩
  iapply (wp_load_pc c m5 rWi) $$ HX
  iintro HX
  iapply (wp_load_pc c m6 rWo) $$ HY
  iintro HY
  iapply (WP_ret c)
  iapply HQ
  isplitl [HR Hp0 Hp1 HO]
  · isplitl [HR]; · iexact HR
    isplitl [Hp0]; · iexact Hp0
    isplitl [Hp1]; · iexact Hp1
    iexact HO
  isplitl [HX] <;> iassumption

/-- Its two halves and the block are stored, the block is sent. -/
theorem part25_spec {Q : PUnit → sProp 𝕄} :
    Kn D κ ιs c ⊢ iprop(pcAny c cB (rA (f2 (32 * 1 + 32)) 0) -∗ pcAny c cB (rA (f2 (32 * 1 + 32)) 1) -∗ pcAny c xB (rX (f4 (32 * 1 + 32))) -∗ nb D c 1
      -∗ (((pcN D c 1 0 ∗ pcN D c 1 1) ∗ nb1 D c 1) -∗ Q ⟨⟩)
      -∗ WP c (k0_part25 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v7 (ret24 D c).1 (ret24 D c).2.1 (ret24 D c).2.2) Q) := by
  rw [k0_part25_eq_skeleton]
  unfold k0_part25_skel
  simp -zeta only [semSignalWord, semWaitWord, Prog.lift, Prog.bind_op, Prog.bind_ret, Prog.pure_eq_ret]
  have h35 : k0_pay35 (D.hom 1 c 0) (D.hom 1 c 1) (D.wi 2 c) (D.wo 2 c) = k0_pay19 (D.H 2 c) (D.wi 2 c) (D.wo 2 c) := pay28_eq _ _ _ _
  have h0 : k0_pay37 (k0_pay36 (D.hom 1 c 0) (D.hom 1 c 1) (D.wi 2 c) (D.wo 2 c)) = D.C 2 c 0 0 := by
    rw [← prod_zero, ← h35]; rfl
  have h1 : k0_pay38 (k0_pay35 (D.hom 1 c 0) (D.hom 1 c 1) (D.wi 2 c) (D.wo 2 c)) = D.C 2 c 0 1 := by
    rw [← prod_zero, ← h35]; rfl
  iintro #HK HC0 HC1 HX Hn HQ
  ihave HC0 := (pcAny_pc c cB (rA (f2 (32 * 1 + 32)) 0)) $$ HC0
  icases HC0 with ⟨%X1, HC0⟩
  iapply (ldA c (f2 (32 * 1 + 32)) 0 rfl) $$ HC0
  iintro HC0
  ihave HC0 := (pc_any c cB (rA (f2 (32 * 1 + 32)) 0)) $$ HC0
  iapply (phN1 D κ ιs c 1 (by decide) rfl rfl rfl rfl rfl (dv_nxt (k0_dev23_eq c)) h0 h1 (xc_zero D 2 c) rfl rfl
    (sem_xs (f4 (32 * 1 + 32)) rfl _ _) (sem_xr (f4 (32 * 1 + 32 + 1)) rfl _ _)) $$ HK HC0 HC1 HX Hn
  iintro ⟨HC, Hn⟩
  iapply (WP_ret c)
  iapply HQ
  isplitl [HC] <;> iassumption

/-- The third layer's loop. -/
theorem part26_spec {Q : PUnit → sProp 𝕄} :
    Kn D κ ιs c ⊢ iprop(nb1 D c 1 -∗ (GX c (32 * 1 + 35) ∗ RX c (32 * 1 + 32)) -∗ nxR D c 1 -∗ Wt c m5 m6 (D.wi 2 c) (D.wo 2 c)
      -∗ ((st D c 2 31 ∗ Wt c m5 m6 (D.wi 2 c) (D.wo 2 c)) -∗ Q ⟨⟩)
      -∗ WP c (k0_part26 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v5 v7) Q) := by
  rw [k0_part26_eq_skeleton]
  unfold k0_part26_skel
  simp -zeta only [semSignalWord, semWaitWord, Prog.lift, Prog.bind_op, Prog.bind_ret, Prog.pure_eq_ret]
  iintro #HK Hn HG HR HW HQ
  iapply (phN2 D κ ιs c 1 (by decide) (sem_xs (f4 (32 * 1 + 32)) rfl _ _)) $$ HK Hn
  iintro Hn
  iapply (phN3 D κ ιs c 1 (by decide) (dv_prv (k0_dev24_eq c)) rfl rfl (sem_xr (f4 (32 * 1 + 32 + 1)) rfl _ _) rfl rfl rfl rfl (dv_nxt (k0_dev25_eq c))
    (sem_xs (f4 (32 * 1 + 33)) rfl _ _) (sem_xr (f4 (32 * 1 + 33 + 1)) rfl _ _)) $$ HK Hn HG
  iintro Hn
  ihave Hst := (st_nxR D c 1) $$ [Hn HR]
  · isplitl [Hn] <;> iassumption
  rw [WP_bind]
  iapply (wp_loop c k0_t3_loop k0_t3_ok _ (fun n => iprop(Kn D κ ιs c ∗ st D c 2 n ∗ Wt c m5 m6 (D.wi 2 c) (D.wo 2 c))) ?_ (n := 31) (by decide +kernel)) $$ [Hst HW]
  · intro t z
    unfold k0_t3_body
    rw [WP_bind]
    iintro ⟨#HK, Hst, HW⟩
    iapply (part11_spec m0 hm0 m1 hm1 m2 hm2 m3 hm3 m4 hm4 m5 hm5 m6 hm6 m7 hm7 D κ ιs c v5 v7 t) $$ HK Hst HW
    iintro H
    iapply (WP_ret c)
    isplitr; · iexact HK
    iexact H
  · isplitr; · iexact HK
    isplitl [Hst] <;> iassumption
  iintro ⟨-, H⟩
  iapply (WP_ret c)
  iapply HQ $$ H

/-- The output's two halves. -/
abbrev ro0 : Rect S64x1024 := Rect.unit (s := S64x1024) ![0, 0] S64x512.size inb_S64x1024_S64x512_0_0
abbrev ro1 : Rect S64x1024 := Rect.unit (s := S64x1024) ![0, 512] S64x512.size inb_S64x1024_S64x512_0_512

/-- The third layer's result comes home and is stored as the output. -/
theorem part30_spec {Q : PUnit → sProp 𝕄} :
    Kn D κ ιs c ⊢ iprop((RH c 0 2 ∗ RH c 1 2) -∗ Ow c (cn 2 (32 * 2 + 32) (gxo 2 31)) -∗ pcAny c m7 ro0 -∗ pcAny c m7 ro1
      -∗ ((hbk D c 2 ∗ pc c m7 ro0 fullShare (k0_pay42 (D.hom 2 c 0)) ∗ pc c m7 ro1 fullShare (k0_pay43 (D.hom 2 c 1))) -∗ Q ⟨⟩)
      -∗ WP c (k0_part30 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 v7) Q) := by
  rw [k0_part30_eq_skeleton]
  unfold k0_part30_skel
  simp -zeta only [semSignalWord, semWaitWord, Prog.lift, Prog.bind_op, Prog.bind_ret, Prog.pure_eq_ret]
  iintro #HK HR HO HA HB HQ
  iapply (phB D κ ιs c 2 (by decide) (sem_hm 0 rfl _ _) (sem_hm 1 rfl _ _)) $$ HK HR HO
  unfold hbk
  iintro ⟨HR, Hp0, Hp1, HO⟩
  iapply (ldH c 0 rfl) $$ Hp0
  iintro Hp0
  ihave HA := (pcAny_pc c m7 ro0) $$ HA
  icases HA with ⟨%X0, HA⟩
  iapply (wp_load_pc c m7 ro0) $$ HA
  iintro HA
  ihave HA := (pc_any c m7 ro0) $$ HA
  iapply (wp_store_pc c m7 ro0) $$ HA
  iintro HA
  iapply (ldH c 1 rfl) $$ Hp1
  iintro Hp1
  ihave HB := (pcAny_pc c m7 ro1) $$ HB
  icases HB with ⟨%X1, HB⟩
  iapply (wp_load_pc c m7 ro1) $$ HB
  iintro HB
  ihave HB := (pc_any c m7 ro1) $$ HB
  iapply (wp_store_pc c m7 ro1) $$ HB
  iintro HB
  iapply (WP_ret c)
  iapply HQ
  isplitl [HR Hp0 Hp1 HO]
  · isplitl [HR]; · iexact HR
    isplitl [Hp0]; · iexact Hp0
    isplitl [Hp1]; · iexact Hp1
    iexact HO
  isplitl [HA] <;> iassumption
end Turn

end Cert.Proof

end
-- ==== Proof.Pro.lean ====
/-
  The start: the first landings are released and the neighbours told, the first block goes out, the first product is made,
  and the first layer's loop runs.
-/
module

public import proofs.«01_k».proof.Proof.Turn

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## What a device starts with -/

section Start
variable (c : Dev nD)

/-- Its places' reader tokens, x blocks' -/
def rdX : sProp 𝕄 := bigSep (fut 0 96) fun n => readerAt ES (c, (0 : Fin 3), n) 0
/-- and a half of the partial sums'. -/
def rdA (h : Fin 2) : sProp 𝕄 := bigSep (fut 0 96) fun n => readerAt ES (c, kd h, n) 0
/-- The tokens to grant with. -/
def dkX : sProp 𝕄 := bigSep (fut 3 96) fun n => dutyTok ER (gXc (prv c)) 0 n
def dkA : sProp 𝕄 := bigSep (fut 1 96) fun n => dutyTok ER (gAc (prv c)) 0 n
/-- The barrier: its own counter, the two units to come, the neighbours' tokens. -/
def brT : sProp 𝕄 := iprop(atPos ER (gBr c) 0 ∅ 0 ∗ cred (tallyAt (gBr c) 0 2) ∗ dutyTok ER (gBr (prv c)) 0 0 ∗ dutyTok ER (gBr (nxt c)) 0 1)
/-- The places. -/
def plX : sProp 𝕄 := iprop(pcAny c xB (rX (f4 0)) ∗ pcAny c xB (rX (f4 1)) ∗ pcAny c xB (rX (f4 2)) ∗ pcAny c xB (rX (f4 3)))
def plA (M : Memref sig .tc .vmem S2x2x64x512 .f32) : sProp 𝕄 :=
  iprop((pcAny c M (rA (f2 0) 0) ∗ pcAny c M (rA (f2 0) 1)) ∗ (pcAny c M (rA (f2 1) 0) ∗ pcAny c M (rA (f2 1) 1)))

/-- The counts a device starts from, -/
abbrev k₀ : Cnt := ⟨0, 3, 0, 0, 1, 0, 0⟩
/-- and what it owes then. -/
def oweB : CellTallies nD τ sig ℕ := owe c k₀ + tallyAt (gBr (nxt c)) 0 1 + tallyAt (gBr (prv c)) 0 1

/-- The x block's window. -/
abbrev r0 : Rect S64x1024 := Rect.unit (s := S64x1024) ![0, 0] S64x1024.size inb_S64x1024_S64x1024_0_0

theorem k0_above : k₀.above 1 := by
  unfold Cnt.above; decide
end Start

section Rel
variable (D : Dat F) (κ : GSem nD τ sig → ℕ) (ιs : Key → ℕ) (c : Dev nD)

/-- One of the first x landings is released: a place not yet used. -/
theorem relX1 (n : ℕ) (h3 : n < 3) {E : Set ℕ} (hE : E = Set.univ) :
    Know D κ ιs ⊢ iprop(readerAt ES (c, (0 : Fin 3), n) 0 -∗ pcAny c xB (rX (f4 (n + 1))) -∗ |={E}=> factX1 c n) := by
  subst hE
  have ho : ok n := by unfold ok; omega
  have hp : posX (n % 4) n = 0 := by unfold posX; split_ifs <;> omega
  iintro #HK Hrd Hp
  ihave #Hsl := Know_slot D κ ιs (c, 0, n) (show n ∈ fut 0 96 from mem_fut0 ho (by omega)) $$ HK
  ihave Hp := (Entails.of_eq (Sl_x c n).symm) $$ Hp
  imod (slot_release (E := ES) (ι := ιs (c, 0, n)) (k := (c, 0, n)) (S := Sl (c, 0, n)) (Set.mem_univ _) (Sl_false _) 0) $$ [Hrd Hp] with ⟨-, #Hrel⟩
  · isplitr; · iexact Hsl
    isplitl [Hrd] <;> iassumption
  imodintro
  unfold factX1
  isplitr; · iexact Hrel
  rw [hp]
  iapply (Know_reached D κ ιs c (xrS (f4 (n + 1))) (by rw [role_xr]; nofun)); iexact HK

/-- The first three x landings, -/
theorem relX {E : Set ℕ} (hE : E = Set.univ) :
    Know D κ ιs ⊢ iprop(rdX c -∗ (pcAny c xB (rX (f4 1)) ∗ pcAny c xB (rX (f4 2)) ∗ pcAny c xB (rX (f4 3)))
      -∗ |={E}=> (factX c 2 ∗ bigSep (fut 3 96) fun n => readerAt ES (c, (0 : Fin 3), n) 0)) := by
  have h0 : ok 0 := by decide
  have h1 : ok (0 + 1) := by decide
  have h2 : ok (0 + 1 + 1) := by decide
  have e : (factX c 2 : sProp 𝕄) = iprop(factX1 c 2 ∗ factX1 c 1 ∗ factX1 c 0) := by
    unfold factX
    rw [show (Finset.range (2 + 1)).filter ok = {2, 1, 0} by decide, bigSep_insert (by decide), bigSep_insert (by decide), bigSep_singleton]; rfl
  iintro #HK Hr ⟨H1, H2, H3⟩
  unfold rdX
  ihave Hr := (Entails.of_eq (bigSep_fut_pop (by omega) h0 _)) $$ Hr
  icases Hr with ⟨Hr0, Hr⟩
  ihave Hr := (Entails.of_eq (bigSep_fut_pop (by omega) h1 _)) $$ Hr
  icases Hr with ⟨Hr1, Hr⟩
  ihave Hr := (Entails.of_eq (bigSep_fut_pop (by omega) h2 _)) $$ Hr
  icases Hr with ⟨Hr2, Hr⟩
  imod (relX1 D κ ιs c 0 (by omega) hE) $$ HK Hr0 H1 with H1
  imod (relX1 D κ ιs c 1 (by omega) hE) $$ HK Hr1 H2 with H2
  imod (relX1 D κ ιs c 2 (by omega) hE) $$ HK Hr2 H3 with H3
  imodintro
  isplitl [H1 H2 H3]
  · rw [e]
    isplitl [H3]; · iexact H3
    isplitl [H2] <;> iassumption
  iexact Hr

/-- and the first partial sum's, both halves. -/
theorem relA {E : Set ℕ} (hE : E = Set.univ) :
    Know D κ ιs ⊢ iprop(rdA c 0 -∗ rdA c 1 -∗ (pcAny c aB (rA (f2 1) 0) ∗ pcAny c aB (rA (f2 1) 1))
      -∗ |={E}=> (factA c 0 ∗ (bigSep (fut 1 96) fun n => readerAt ES (c, (1 : Fin 3), n) 0) ∗ bigSep (fut 1 96) fun n => readerAt ES (c, (2 : Fin 3), n) 0)) := by
  subst hE
  have h0 : ok 0 := by decide
  have hp : posR (0 % 2) 0 = 0 := by decide
  have e : (factA c 0 : sProp 𝕄) = factA1 c 0 := by
    unfold factA
    rw [show (Finset.range (0 + 1)).filter ok = {0} by decide, bigSep_singleton]
  iintro #HK Hr Hs ⟨H1, H2⟩
  unfold rdA
  ihave Hr := (Entails.of_eq (bigSep_fut_pop (by omega) h0 _)) $$ Hr
  icases Hr with ⟨Hr0, Hr⟩
  ihave Hs := (Entails.of_eq (bigSep_fut_pop (by omega) h0 _)) $$ Hs
  icases Hs with ⟨Hs0, Hs⟩
  ihave #Hsl := Know_slot D κ ιs (c, kd 0, 0) (show 0 ∈ fut 0 96 from mem_fut0 h0 (by omega)) $$ HK
  ihave #Hsm := Know_slot D κ ιs (c, kd 1, 0) (show 0 ∈ fut 0 96 from mem_fut0 h0 (by omega)) $$ HK
  ihave H1 := (Entails.of_eq (Sl_a c 0 0).symm) $$ H1
  ihave H2 := (Entails.of_eq (Sl_a c 1 0).symm) $$ H2
  imod (slot_release (E := ES) (ι := ιs (c, kd 0, 0)) (k := (c, kd 0, 0)) (S := Sl (c, kd 0, 0)) (Set.mem_univ _) (Sl_false _) 0) $$ [Hr0 H1] with ⟨-, #Hrel⟩
  · isplitr; · iexact Hsl
    isplitl [Hr0] <;> iassumption
  imod (slot_release (E := ES) (ι := ιs (c, kd 1, 0)) (k := (c, kd 1, 0)) (S := Sl (c, kd 1, 0)) (Set.mem_univ _) (Sl_false _) 0) $$ [Hs0 H2] with ⟨-, #Hrem⟩
  · isplitr; · iexact Hsm
    isplitl [Hs0] <;> iassumption
  imodintro
  isplitr
  · rw [e]
    unfold factA1
    rw [hp]
    isplitr
    · isplitr; · iexact Hrel
      iapply (Know_reached D κ ιs c (arS (f2 (0 + 1)) 0) (by rw [role_ar]; nofun)); iexact HK
    · isplitr; · iexact Hrem
      iapply (Know_reached D κ ιs c (arS (f2 (0 + 1)) 1) (by rw [role_ar]; nofun)); iexact HK
  isplitl [Hr]; · iexact Hr
  iexact Hs

omit [FloatOps F] in
theorem GX_start : iprop(factX c 2 ∗ dkX c ∗ bigSep (fut 3 96) fun n => readerAt ES (c, (0 : Fin 3), n) 0) ⊢ (GX c 3 : sProp 𝕄) := by
  unfold GX dkX
  rw [show (bigSep (fut 3 96) fun n => (iprop(dutyTok ER (gXc (prv c)) 0 n ∗ readerAt ES (c, (0 : Fin 3), n) 0) : sProp 𝕄)) = _ from bigSep_sep _ _ _]; exact .rfl
omit [FloatOps F] in
theorem GA_start : iprop(factA c 0 ∗ dkA c ∗ (bigSep (fut 1 96) fun n => readerAt ES (c, (1 : Fin 3), n) 0) ∗ bigSep (fut 1 96) fun n => readerAt ES (c, (2 : Fin 3), n) 0)
    ⊢ (GA c 1 : sProp 𝕄) := by
  unfold GA dkA
  rw [show (bigSep (fut 1 96) fun n => (iprop(dutyTok ER (gAc (prv c)) 0 n ∗ readerAt ES (c, (1 : Fin 3), n) 0 ∗ readerAt ES (c, (2 : Fin 3), n) 0) : sProp 𝕄)) = _ from bigSep_sep _ _ _,
    show (bigSep (fut 1 96) fun n => (iprop(readerAt ES (c, (1 : Fin 3), n) 0 ∗ readerAt ES (c, (2 : Fin 3), n) 0) : sProp 𝕄)) = _ from bigSep_sep _ _ _]; exact .rfl

/-- Telling a neighbour. -/
theorem sBr {dd : Dev nD} {n : ℕ} (hn : n = 0 ∨ n = 1) {sem : Sem sig} (hs : sem = (2 : Fin 3)) {k' : ℕ} (hk : k' = 1) (O : CellTallies nD τ sig ℕ)
    {nn : Dev nD} (hnn : nn = dd) {α : Type} {cont : PUnit → Prog (TpuEff nD τ sig (Elt F) Λ₀ .tc) α} {Q : α → sProp 𝕄} {W : Waits sig ℕ} :
    Know D κ ιs ⊢ iprop(dutyTok ER (gBr dd) 0 n -∗ pay D dd n .br -∗ owes (c : Thread nD τ) (O + tallyAt (gBr dd) 0 1) W
      -∗ (owes (c : Thread nD τ) O W -∗ WP c (cont ⟨⟩) Q)
      -∗ WP c (.op (.semSignal (Dev.tc nn : Thread nD τ) sem k') cont) Q) := by
  subst hs hk hnn
  have hd : n ∈ (Rd D).duties (gBr nn) 0 := by
    show n ∈ dut 0 (role brS)
    rw [role_br]; simp only [dut, if_pos]; rcases hn with rfl | rfl <;> simp
  have hpay : pay D nn n .br ⊢ (Rd D).payload (gBr nn) 0 n := .rfl
  iintro #HK Ht Hp HO Hk
  ihave #Hi := Know_cell D κ ιs nn brS (by rw [role_br]; nofun) $$ HK
  iapply (Rounds.wp_signal (E := ER) (Rd := Rd D) 𝒱₀ (c : Thread nD τ) none (dst := (nn : Thread nD τ)) (sem := (2 : Fin 3)) (r := 0) (d := n) (κ := κ (gBr nn))
    hd rfl 0 (O₀ := O + tallyAt (gBr nn) 0 1) O rfl (W := W)) $$ [HO Ht Hp]
  · isplitr; · iexact Hi
    isplitl [HO]; · iexact HO
    isplitl [Ht]; · iexact Ht
    isplitl [Hp]
    · iapply hpay $$ Hp
    iapply (Know_reached D κ ιs nn brS (by rw [role_br]; nofun)); iexact HK
  iexact Hk

/-- Waiting for both neighbours: the first landings to the right are free. -/
theorem wBr {sem : Sem sig} (hs : sem = (2 : Fin 3)) {k' : ℕ} (hk : k' = 2)
    {α : Type} {cont : PUnit → Prog (TpuEff nD τ sig (Elt F) Λ₀ .tc) α} {Q : α → sProp 𝕄} {W : Waits sig ℕ} :
    Know D κ ιs ⊢ iprop(atPos ER (gBr c) 0 ∅ 0 -∗ cred (tallyAt (gBr c) 0 2) -∗ owes (c : Thread nD τ) (owe c k₀) W
      -∗ ((Ow c k₀ ∗ atPos ER (gBr c) 1 ∅ 0 ∗ factX (nxt c) 2 ∗ factA (nxt c) 0) -∗ WP c (cont ⟨⟩) Q)
      -∗ WP c (.op (.semWait sem k') cont) Q) := by
  subst hs hk
  have hex : (Rd D).expect (gBr c) 0 = 2 := by
    unfold Schedule.expect Schedule.amountOf
    rw [show (Rd D).duties (gBr c) 0 = {0, 1} from rfl, Finset.sum_insert (by decide), Finset.sum_singleton]; rfl
  iintro #HK Hat Hc HO Hk
  ihave #Hi := Know_cell D κ ιs c brS (by rw [role_br]; nofun) $$ HK
  iapply (Rounds.wp_wait_rest_token (E := ER) (Rd := Rd D) (κ := κ (gBr c)) 𝒱₀ (c : Thread nD τ) none
    (wpE_semWait_eq 𝒱₀ (c : Thread nD τ) none Set.univ) (Set.mem_univ _) 0 (O := owe c k₀) (R := 0) (T := ∅) (m := 0) (by rw [hex])) $$ [Hc HO Hat]
  · isplitr; · iexact Hi
    isplitl [Hc]; · iexact Hc
    isplitl [HO]; · iexact HO
    isplitr
    · iapply (Know_may D κ ιs c k₀ brS 0 (by omega) k0_above); iexact HK
    iexact Hat
  iintro ⟨HO, Hat, -, Hp⟩
  iapply Hk
  isplitl [HO]; · unfold Ow; iexists _; iexact HO
  isplitl [Hat]; · iexact Hat
  ihave Hp := (Entails.of_eq (show bigSep ((Rd D).duties (gBr c) 0 \ ∅) (fun d => (Rd D).payload (gBr c) 0 d)
      = iprop(iprop(factX (nxt c) 2 ∗ factA (nxt c) 0) ∗ iprop(emp)) from by
    rw [Finset.sdiff_empty, show (Rd D).duties (gBr c) 0 = {0, 1} from rfl, bigSep_insert (by decide), bigSep_singleton]; rfl)) $$ Hp
  icases Hp with ⟨Hp, -⟩
  iexact Hp
end Rel

/-! ## The parts -/

section Parts
variable (m0 : Memref sig .tc .vmem S64x1024 .f32) (hm0 : m0.IsWhole) (m1 : Memref sig .tc .vmem S1024x2048 .f32) (hm1 : m1.IsWhole) (m2 : Memref sig .tc .vmem S2048x1024 .f32) (hm2 : m2.IsWhole) (m3 : Memref sig .tc .vmem S1024x2048 .f32) (hm3 : m3.IsWhole) (m4 : Memref sig .tc .vmem S2048x1024 .f32) (hm4 : m4.IsWhole) (m5 : Memref sig .tc .vmem S1024x2048 .f32) (hm5 : m5.IsWhole) (m6 : Memref sig .tc .vmem S2048x1024 .f32) (hm6 : m6.IsWhole) (m7 : Memref sig .tc .vmem S64x1024 .f32) (hm7 : m7.IsWhole)
variable (D : Dat F) (κ : GSem nD τ sig → ℕ) (ιs : Key → ℕ) (c : Dev nD) (v5 v7 : BitVec 32)

/-- The tokens, counters and credits a device starts with, the handshake's apart. -/
def fam0 : sProp 𝕄 :=
  iprop((SX c 0 ∗ WX c 0 ∗ RX c 0 ∗ CX c D 3) ∗ (SA c 0 0 ∗ SA c 1 0) ∗ (WA c 0 0 ∗ WA c 1 0) ∗ (RA c 0 0 ∗ RA c 1 0) ∗ CA c D 1)

/-- The first layer's stores: its own block, ready to go. -/
theorem part12_spec {W : Waits sig ℕ} {Q : (Σ' (_ : Dev nD) (_ : BitVec 32), BitVec 32) → sProp 𝕄} :
    Know D κ ιs ⊢ iprop(rdX c -∗ (rdA c 0 ∗ rdA c 1) -∗ (dkX c ∗ dkA c) -∗ brT c -∗ plX c -∗ (pcAny c aB (rA (f2 1) 0) ∗ pcAny c aB (rA (f2 1) 1))
      -∗ pc c m0 r0 fullShare (D.x c) -∗ owes (c : Thread nD τ) (oweB c) W
      -∗ (∀ (w v : BitVec 32), (Kn D κ ιs c ∗ (GX c 3 ∗ GA c 1) ∗ atPos ER (gBr c) 1 ∅ 0 ∗ pc c xB (rX (f4 0)) fullShare (D.xc 0 c 0) ∗ pc c m0 r0 fullShare (D.x c) ∗ Ow c k₀)
        -∗ Q ⟨c, w, v⟩)
      -∗ WP c (k0_part12 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10) Q) := by
  have hx : k0_pay18 (D.x c) = D.xc 0 c 0 := by
    rw [← xc_zero]; unfold k0_pay18 k0_pay31
    rw [shapeCast_self (D.x c)]; rfl
  rw [k0_part12_eq_skeleton]
  unfold k0_part12_skel
  simp -zeta only [semSignalWord, semWaitWord, Prog.lift, Prog.bind_op, Prog.bind_ret, Prog.pure_eq_ret]
  rw [show ∀ (k : Dev nD → Prog (TpuEff nD τ sig (Elt F) Λ₀ .tc) (Σ' (_ : Dev nD) (_ : BitVec 32), BitVec 32)), WP c (.op .deviceId k) Q = WP c (k c) Q from fun k => wp_deviceId ..]
  dsimp only
  unfold brT plX
  iintro #HK HrX ⟨HrA, HrB⟩ ⟨HdX, HdA⟩ ⟨Hat, Hc, Ht0, Ht1⟩ ⟨HX0, HX⟩ HA Hm HO HQ
  iapply fupd_wp
  imod (relX D κ ιs c rfl) $$ HK HrX HX with ⟨#HfX, HrX⟩
  imod (relA D κ ιs c rfl) $$ HK HrA HrB HA with ⟨#HfA, HrA, HrB⟩
  imodintro
  unfold oweB
  iapply (sBr D κ ιs c (.inl rfl) rfl rfl (owe c k₀ + tallyAt (gBr (nxt c)) 0 1) (W := W) (dv_prv (k0_dev1_eq c))) $$ HK Ht0 [] [HO]
  · ihave H := (Entails.of_eq (show iprop(factX c 2 ∗ factA c 0) = pay D (prv c) 0 .br from by rw [pay, if_pos rfl, nxt_prv])) $$ []
    · isplitr; · iexact HfX
      iexact HfA
    iexact H
  · iexact HO
  iintro HO
  iapply (sBr D κ ιs c (.inr rfl) rfl rfl (owe c k₀) (W := W) (dv_nxt (k0_dev2_eq c))) $$ HK Ht1 [] [HO]
  · ihave H := (Entails.of_eq (show iprop(emp) = pay D (nxt c) 1 .br from by rw [pay, if_neg (by decide)])) $$ []
    · iempintro
    iexact H
  · iexact HO
  iintro HO
  iapply (wBr D κ ιs c rfl rfl) $$ HK Hat Hc HO
  iintro ⟨HO, Hat, #Hf⟩
  iapply (wp_load_pc c m0 r0) $$ Hm
  iintro Hm
  ihave HX0 := (pcAny_pc c xB (rX (f4 0))) $$ HX0
  icases HX0 with ⟨%X, HX0⟩
  iapply (ldX c (f4 0) rfl) $$ HX0
  iintro HX0
  ihave HX0 := (pc_any c xB (rX (f4 0))) $$ HX0
  iapply (stX c (f4 0) rfl) $$ HX0
  iintro HX0
  iapply (WP_ret c)
  iapply HQ
  isplitr
  · unfold Kn
    isplitr; · iexact HK
    iexact Hf
  isplitl [HdX HdA HrX HrA HrB]
  · isplitl [HdX HrX]
    · iapply (GX_start c)
      isplitr; · iexact HfX
      isplitl [HdX] <;> iassumption
    · iapply (GA_start c)
      isplitr; · iexact HfA
      isplitl [HdA]; · iexact HdA
      isplitl [HrA] <;> iassumption
  isplitl [Hat]; · iexact Hat
  isplitl [HX0]; · rw [← hx]; iexact HX0
  isplitl [Hm] <;> iassumption

theorem Kn_xn (n : ℕ) (hn : n < 3) : Kn D κ ιs c ⊢ factX1 (nxt c) n := by
  refine (show _ ⊢ _ from ?_ : Kn D κ ιs c ⊢ factX (nxt c) 2).trans (factX_elim (nxt c) (by unfold ok; omega) (by omega))
  unfold Kn; iintro ⟨-, H, -⟩; iexact H

/-- When the first block has been sent and its place is the device's again. -/
def p13 : sProp 𝕄 :=
  iprop((SX c 1 ∗ WX c 1) ∗ pcAny c xB (rX (f4 0)) ∗ (pc c cB (rA (f2 0) 0) fullShare (D.C 0 c 0 0) ∗ pc c cB (rA (f2 0) 1) fullShare (D.C 0 c 0 1)) ∗ Ow c ⟨1, 3, 0, 0, 1, 0, 0⟩)

/-- The first block goes out and the first product is made. -/
theorem part13_spec {Q : BitVec 32 → sProp 𝕄} :
    Kn D κ ιs c ⊢ iprop((SX c 0 ∗ WX c 0) -∗ pc c xB (rX (f4 0)) fullShare (D.xc 0 c 0) -∗ pc c m0 r0 fullShare (D.x c) -∗ Wt c m1 m2 (D.wi 0 c) (D.wo 0 c)
      -∗ (pcAny c cB (rA (f2 0) 0) ∗ pcAny c cB (rA (f2 0) 1)) -∗ Ow c k₀
      -∗ ((p13 D c ∗ pc c m0 r0 fullShare (D.x c) ∗ Wt c m1 m2 (D.wi 0 c) (D.wo 0 c)) -∗ Q 1#32)
      -∗ WP c (k0_part13 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c) Q) := by
  have h0 : k0_pay20 (D.x c) (D.wi 0 c) (D.wo 0 c) = D.C 0 c 0 0 := by rw [← prod_zero]; rfl
  have h1 : k0_pay21 (D.x c) (D.wi 0 c) (D.wo 0 c) = D.C 0 c 0 1 := by rw [← prod_zero]; rfl
  rw [k0_part13_eq_skeleton]
  unfold k0_part13_skel
  simp -zeta only [semSignalWord, semWaitWord, Prog.lift, Prog.bind_op, Prog.bind_ret, Prog.pure_eq_ret]
  iintro #HK ⟨HS, HW⟩ HX Hm HWt ⟨HC0, HC1⟩ HO HQ
  ihave #HK' := Kn_know D κ ιs c $$ HK
  ihave #Hf := Kn_xn D κ ιs c 0 (by omega) $$ HK
  ihave HX := (pc_halve c xB (rX (f4 0)) (D.xc 0 c 0)) $$ HX
  icases HX with ⟨HXl, HXr⟩
  iapply (sX D κ ιs c k₀ 0 0 0 0 rfl (by decide) (by decide) rfl rfl rfl rfl (dv_nxt (k0_dev3_eq c)) (sem_xs (f4 0) rfl _ _) (sem_xr (f4 (0 + 1)) rfl _ _)) $$ HK' HS HW Hf HXr HO
  iintro ⟨HS, HW, Hc, HO⟩
  iapply (wp_load_pc c m0 r0) $$ Hm
  iintro Hm
  unfold Wt
  icases HWt with ⟨HA, HB⟩
  iapply (wp_load_pc c m1 rWi) $$ HA
  iintro HA
  iapply (wp_load_pc c m2 rWo) $$ HB
  iintro HB
  ihave HC0 := (pcAny_pc c cB (rA (f2 0) 0)) $$ HC0
  icases HC0 with ⟨%X0, HC0⟩
  iapply (ldA c (f2 0) 0 rfl) $$ HC0
  iintro HC0
  ihave HC0 := (pc_any c cB (rA (f2 0) 0)) $$ HC0
  iapply (stA c (f2 0) 0 rfl) $$ HC0
  iintro HC0
  ihave HC1 := (pcAny_pc c cB (rA (f2 0) 1)) $$ HC1
  icases HC1 with ⟨%X1, HC1⟩
  iapply (ldA c (f2 0) 1 rfl) $$ HC1
  iintro HC1
  ihave HC1 := (pc_any c cB (rA (f2 0) 1)) $$ HC1
  iapply (stA c (f2 0) 1 rfl) $$ HC1
  iintro HC1
  iapply (wXs D κ ιs c ⟨1, 3, 0, 0, 1, 0, 0⟩ 0 0 0 rfl (by decide) (by decide) (sem_xs (f4 0) rfl _ _) (by unfold Cnt.above; decide) (credX _)) $$ HK' HW Hc HO
  iintro ⟨HW, HXr, HO⟩
  iapply (WP_ret c)
  iapply HQ
  unfold p13
  isplitl [HS HW HXl HXr HC0 HC1 HO]
  · isplitl [HS HW]
    · isplitl [HS] <;> iassumption
    isplitl [HXl HXr]
    · ihave H := (pc_unhalve c xB (rX (f4 0)) (D.xc 0 c 0) (D.xc 0 c 0)) $$ [HXl HXr]
      · isplitl [HXl] <;> iassumption
      iapply (pc_any c xB (rX (f4 0))) $$ H
    isplitl [HC0 HC1]
    · rw [← h0, ← h1]
      isplitl [HC0] <;> iassumption
    iexact HO
  isplitl [Hm]; · iexact Hm
  isplitl [HA] <;> iassumption

/-- What else the first layer's first state holds. -/
def p14R : sProp 𝕄 :=
  iprop(CX c D 3 ∗ (SA c 0 0 ∗ SA c 1 0) ∗ (WA c 0 0 ∗ WA c 1 0) ∗ (RA c 0 0 ∗ RA c 1 0) ∗ GA c 1 ∗ CA c D 1
    ∗ (pcAny c aB (rA (f2 0) 0) ∗ pcAny c aB (rA (f2 0) 1)) ∗ (pcAny c hB (rH 0) ∗ pcAny c hB (rH 1)) ∗ (pcAny c cB (rA (f2 1) 0) ∗ pcAny c cB (rA (f2 1) 1)))

theorem st_start : iprop(Know D κ ιs ∗ (SX c 2 ∗ WX c 1 ∗ RX c 1 ∗ GX c 4 ∗ Ow c ⟨2, 4, 0, 0, 1, 0, 0⟩)
      ∗ (pc c xB (rX (f4 1)) fullShare.left (D.xc 0 c 1) ∗ cred (tallyAt (gXs c 1) 0 NX))
      ∗ (pc c cB (rA (f2 0) 0) fullShare (D.C 0 c 0 0) ∗ pc c cB (rA (f2 0) 1) fullShare (D.C 0 c 0 1)) ∗ p14R D c)
    ⊢ st D c 0 0 := by
  have hk : (iprop(emp) : sProp 𝕄) ⊢ kept c 0 0 := by
    unfold kept
    rw [show (Finset.univ.filter fun i : Fin 4 => 28 + i.val ≤ 0 ∧ (0 = 2 ∨ i = 0)) = ∅ from Finset.filter_eq_empty_iff.mpr fun i _ h => by omega, bigSep_empty]
    exact .rfl
  unfold st p14R PendA RAin XN
  rw [if_pos (show (0 : ℕ) = 0 from rfl), if_pos (show (0 : ℕ) = 0 from rfl), if_pos (show 32 * 0 + 0 = 0 from rfl), if_pos (show (0 : ℕ) ≤ 29 by decide)]
  iintro ⟨#HK, ⟨HSX, HWX, HRX, HGX, HO⟩, HX, HC, ⟨HCX, ⟨HS0, HS1⟩, ⟨HW0, HW1⟩, ⟨HR0, HR1⟩, HGA, HCA, ⟨Ha0, Ha1⟩, ⟨Hh0, Hh1⟩, HCo⟩⟩
  isplitl [HSX]; · iexact HSX
  isplitl [HWX]; · iexact HWX
  isplitl [HRX]; · iexact HRX
  isplitl [HGX]; · iexact HGX
  isplitl [HCX]; · iexact HCX
  isplitl [HS0]; · iexact HS0
  isplitl [HS1]; · iexact HS1
  isplitl [HW0 HW1]
  · isplitl [HW0]; · iexact HW0
    isplitl [HW1]; · iexact HW1
    iempintro
  isplitl [HR0 Ha0 Hh0]
  · isplitl [HR0]; · iexact HR0
    isplitl [Ha0]; · iexact Ha0
    isplitl [Hh0]; · iexact Hh0
    iapply (Know_reached D κ ιs c (hmS 0) (by rw [role_hm]; nofun)); iexact HK
  isplitl [HR1 Ha1 Hh1]
  · isplitl [HR1]; · iexact HR1
    isplitl [Ha1]; · iexact Ha1
    isplitl [Hh1]; · iexact Hh1
    iapply (Know_reached D κ ιs c (hmS 1) (by rw [role_hm]; nofun)); iexact HK
  isplitl [HGA]; · iexact HGA
  isplitl [HCA]; · iexact HCA
  isplitl [HC]; · iexact HC
  isplitl [HCo]; · iexact HCo
  isplitl [HX]; · iexact HX
  isplitr [HO]
  · iapply hk; iempintro
  · iexact HO

/-- The first layer's loop. -/
theorem part14_spec (c1 : BitVec 32) {Q : PUnit → sProp 𝕄} :
    Kn D κ ιs c ⊢ iprop(p13 D c -∗ (GX c 3 ∗ RX c 0) -∗ p14R D c -∗ Wt c m1 m2 (D.wi 0 c) (D.wo 0 c)
      -∗ ((st D c 0 31 ∗ Wt c m1 m2 (D.wi 0 c) (D.wo 0 c)) -∗ Q ⟨⟩)
      -∗ WP c (k0_part14 m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10 c v5 v7 c1) Q) := by
  rw [k0_part14_eq_skeleton]
  unfold k0_part14_skel p13
  simp -zeta only [semSignalWord, semWaitWord, Prog.lift, Prog.bind_op, Prog.bind_ret, Prog.pure_eq_ret]
  iintro #HK ⟨⟨HS, HW⟩, HX, HC, HO⟩ ⟨HG, HR⟩ Hr HWt HQ
  ihave #HK' := Kn_know D κ ιs c $$ HK
  ihave #Hf := Kn_xn D κ ιs c 1 (by omega) $$ HK
  rw [show f4 0 = f4 (3 + 1) from rfl]
  iapply (gX D κ ιs c ⟨1, 3, 0, 0, 1, 0, 0⟩ 3 0 (by decide) (by omega) (by omega) (by decide) rfl (dv_prv (k0_dev4_eq c)) rfl rfl) $$ HK' HG HX HR HO
  iintro ⟨HG, HR, HO⟩
  iapply (wXr D κ ιs c ⟨1, 4, 0, 0, 1, 0, 0⟩ 0 0 0 rfl (by decide) (by decide) (sem_xr (f4 (0 + 1)) rfl _ _) (by unfold Cnt.above; decide) (credX _)) $$ HK' HR HO
  iintro ⟨HR, HX, HO⟩
  ihave HX := (pc_halve c xB (rX (f4 (0 + 1))) (D.xc 0 c 1)) $$ HX
  icases HX with ⟨HXl, HXr⟩
  iapply (sX D κ ιs c ⟨1, 4, 0, 0, 1, 0, 0⟩ 1 1 0 1 rfl (by decide) (by decide) rfl rfl rfl rfl (dv_nxt (k0_dev5_eq c)) (sem_xs (f4 1) rfl _ _) (sem_xr (f4 (1 + 1)) rfl _ _)) $$ HK' HS HW Hf HXr HO
  iintro ⟨HS, HW, Hc, HO⟩
  ihave Hst := (st_start D κ ιs c) $$ [HS HW HR HG HO HXl Hc HC Hr]
  · isplitr; · iexact HK'
    isplitl [HS HW HR HG HO]
    · isplitl [HS]; · iexact HS
      isplitl [HW]; · iexact HW
      isplitl [HR]; · iexact HR
      isplitl [HG] <;> iassumption
    isplitl [HXl Hc]
    · isplitl [HXl] <;> iassumption
    isplitl [HC] <;> iassumption
  rw [WP_bind]
  iapply (wp_loop c k0_t1_loop k0_t1_ok _ (fun n => iprop(Kn D κ ιs c ∗ st D c 0 n ∗ Wt c m1 m2 (D.wi 0 c) (D.wo 0 c))) ?_ (n := 31) (by decide +kernel)) $$ [Hst HWt]
  · intro t z
    iintro ⟨#HK, Hst, HW⟩
    iapply (body1_spec m0 hm0 m1 hm1 m2 hm2 m3 hm3 m4 hm4 m5 hm5 m6 hm6 m7 hm7 D κ ιs c v5 v7 t c1) $$ HK Hst HW
    iintro H
    isplitr; · iexact HK
    iexact H
  · isplitr; · iexact HK
    isplitl [Hst] <;> iassumption
  iintro ⟨-, H⟩
  iapply (WP_ret c)
  iapply HQ $$ H
end Parts

end Cert.Proof

end
-- ==== Proof.Whole.lean ====
/-
  The whole body: the parts one after another, from what a device starts with to what it ends with.
-/
module

public import proofs.«01_k».proof.Proof.Pro

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Start and end -/

section Ends
variable (D : Dat F) (c : Dev nD)

/-- What a device starts with beside its windows: tokens, counters, credits and places. -/
def bst : sProp 𝕄 :=
  iprop((rdX c ∗ (rdA c 0 ∗ rdA c 1) ∗ (dkX c ∗ dkA c) ∗ brT c) ∗ (plX c ∗ plA c aB ∗ plA c cB ∗ (pcAny c hB (rH 0) ∗ pcAny c hB (rH 1))) ∗ fam0 D c
    ∗ (RH c 0 0 ∗ RH c 1 0) ∗ (SH c 0 0 ∗ SH c 1 0))

/-- What it ends with. -/
def bend : sProp 𝕄 :=
  iprop((atPos ER (gBr c) 1 ∅ 0 ∗ lend D c 2 ∗ (WA c 0 (32 * 2 + 31 + 1) ∗ WA c 1 (32 * 2 + 31 + 1)) ∗ (RA c 0 (32 * 2 + 31) ∗ RA c 1 (32 * 2 + 31)) ∗ (RH c 0 3 ∗ RH c 1 3))
    ∗ (tlA c 2 ∗ (pcAny c aB (rA (f2 (32 * 2 + 31)) 0) ∗ pcAny c aB (rA (f2 (32 * 2 + 31)) 1)) ∗ (pcAny c cB (rA (f2 (32 * 2 + 31)) 0) ∗ pcAny c cB (rA (f2 (32 * 2 + 31)) 1))
      ∗ (pcAny c hB (rH 0) ∗ pcAny c hB (rH 1))) ∗ Ow c (cn 2 (32 * 2 + 32) (gxo 2 31)))
end Ends

section Whole
variable (m0 : Memref sig .tc .vmem S64x1024 .f32) (hm0 : m0.IsWhole) (m1 : Memref sig .tc .vmem S1024x2048 .f32) (hm1 : m1.IsWhole) (m2 : Memref sig .tc .vmem S2048x1024 .f32) (hm2 : m2.IsWhole) (m3 : Memref sig .tc .vmem S1024x2048 .f32) (hm3 : m3.IsWhole) (m4 : Memref sig .tc .vmem S2048x1024 .f32) (hm4 : m4.IsWhole) (m5 : Memref sig .tc .vmem S1024x2048 .f32) (hm5 : m5.IsWhole) (m6 : Memref sig .tc .vmem S2048x1024 .f32) (hm6 : m6.IsWhole) (m7 : Memref sig .tc .vmem S64x1024 .f32) (hm7 : m7.IsWhole)
variable (D : Dat F) (κ : GSem nD τ sig → ℕ) (ιs : Key → ℕ) (c : Dev nD)

/-- The input windows, read. -/
def wins : sProp 𝕄 := iprop(pc c m0 r0 fullShare (D.x c) ∗ Wt c m1 m2 (D.wi 0 c) (D.wo 0 c) ∗ Wt c m3 m4 (D.wi 1 c) (D.wo 1 c) ∗ Wt c m5 m6 (D.wi 2 c) (D.wo 2 c))

/-- Between two layers: what comes home goes into the next layer's start. -/
theorem turn_rest (l : ℕ) (hl : l < 2) : iprop(lrest D c l ∗ (pcN D c l 0 ∗ pcN D c l 1) ∗ (pcC D c l 0 ∗ pcC D c l 1)
      ∗ (WA c 0 (32 * l + 31) ∗ WA c 1 (32 * l + 31) ∗ cred (tallyAt (gAs c 0 (32 * l + 31)) 0 NA) ∗ cred (tallyAt (gAs c 1 (32 * l + 31)) 0 NA))
      ∗ (RA c 0 (32 * l + 31) ∗ RA c 1 (32 * l + 31)) ∗ tlA c l ∗ (RH c 0 (l + 1) ∗ RH c 1 (l + 1)) ∗ pc c hB (rH 0) fullShare (D.hom l c 0) ∗ pc c hB (rH 1) fullShare (D.hom l c 1))
    ⊢ iprop(nxR D c l ∗ (RH c 0 (l + 1) ∗ RH c 1 (l + 1))) := by
  unfold nxR
  iintro ⟨H1, H2, H3, H4, H5, H6, ⟨HR0, HR1⟩, Hh0, Hh1⟩
  ihave HR0 := (RH_reached c (l + 1) 0) $$ HR0
  icases HR0 with ⟨#Hr0, HR0⟩
  ihave HR1 := (RH_reached c (l + 1) 1) $$ HR1
  icases HR1 with ⟨#Hr1, HR1⟩
  isplitr [HR0 HR1]
  · isplitl [H1]; · iexact H1
    isplitl [H2]; · iexact H2
    isplitl [H3]; · iexact H3
    isplitl [H4]; · iexact H4
    isplitl [H5]; · iexact H5
    isplitl [H6]; · iexact H6
    isplitl [Hh0 Hh1]
    · isplitl [Hh0]
      · iapply (pc_any c hB (rH 0)) $$ Hh0
      · iapply (pc_any c hB (rH 1)) $$ Hh1
    isplitr; · iexact Hr0
    iexact Hr1
  isplitl [HR0] <;> iassumption

/-- The body, from start to end. -/
theorem body_spec {W : Waits sig ℕ} {Q : PUnit → sProp 𝕄} :
    Know D κ ιs ⊢ iprop(bst D c -∗ owes (c : Thread nD τ) (oweB c) W -∗ wins m0 m1 m2 m3 m4 m5 m6 D c -∗ (pcAny c m7 ro0 ∗ pcAny c m7 ro1)
      -∗ ((bend D c ∗ wins m0 m1 m2 m3 m4 m5 m6 D c ∗ pc c m7 ro0 fullShare (k0_pay42 (D.hom 2 c 0)) ∗ pc c m7 ro1 fullShare (k0_pay43 (D.hom 2 c 1))) -∗ Q ⟨⟩)
      -∗ WP c (cc0_body m0 hm0 m1 hm1 m2 hm2 m3 hm3 m4 hm4 m5 hm5 m6 hm6 m7 hm7 xB (Memref.isWhole_whole _) aB (Memref.isWhole_whole _) cB (Memref.isWhole_whole _) hB (Memref.isWhole_whole _) cc0_scratch4 cc0_scratch5 cc0_scratch6 cc0_scratch7 cc0_scratch8 cc0_scratch9 cc0_scratch10) Q) := by
  rw [cc0_body_eq_skeleton]
  unfold cc0_body_skel
  simp -zeta only [Prog.lift, Prog.bind_op, Prog.bind_ret, Prog.pure_eq_ret]
  unfold bst wins plA fam0
  iintro #HW ⟨⟨HrX, HrA, Hdk, Hbr⟩, ⟨HpX, ⟨Ha0, Ha1⟩, ⟨Hc0, Hc1⟩, Hh⟩, ⟨⟨HSX, HWX, HRX, HCX⟩, HSA, HWA, HRA, HCA⟩, HRH, ⟨HSH0, HSH1⟩⟩ HO ⟨Hx, HW1, HW2, HW3⟩ ⟨Hq0, Hq1⟩ HQ
  rw [WP_bind]
  iapply (part12_spec m0 hm0 m1 hm1 m2 hm2 m3 hm3 m4 hm4 m5 hm5 m6 hm6 m7 hm7 D κ ιs c) $$ HW HrX HrA Hdk Hbr HpX Ha1 Hx HO
  iintro %v5 %v7 ⟨#HK, ⟨HGX, HGA⟩, Hat, HX, Hx, HO⟩
  dsimp only
  rw [WP_bind]
  iapply (part13_spec m0 hm0 m1 hm1 m2 hm2 m3 hm3 m4 hm4 m5 hm5 m6 hm6 m7 hm7 D κ ιs c) $$ HK [HSX HWX] HX Hx HW1 Hc0 HO
  · isplitl [HSX] <;> iassumption
  iintro ⟨Hp, Hx, HW1⟩
  rw [WP_bind]
  iapply (part14_spec m0 hm0 m1 hm1 m2 hm2 m3 hm3 m4 hm4 m5 hm5 m6 hm6 m7 hm7 D κ ιs c v5 v7) $$ HK Hp [HGX HRX] [HCX HSA HWA HRA HGA HCA Ha0 Hh Hc1] HW1
  · isplitl [HGX] <;> iassumption
  · unfold p14R
    isplitl [HCX]; · iexact HCX
    isplitl [HSA]; · iexact HSA
    isplitl [HWA]; · iexact HWA
    isplitl [HRA]; · iexact HRA
    isplitl [HGA]; · iexact HGA
    isplitl [HCA]; · iexact HCA
    isplitl [Ha0]; · iexact Ha0
    isplitl [Hh]; · iexact Hh
    iexact Hc1
  iintro ⟨Hst, HW1⟩
  ihave Hst := (st_end D c 0) $$ Hst
  icases Hst with ⟨Hl, ⟨HP, HR0, HR1, HO⟩, HC0, HC1⟩
  rw [WP_bind]
  iapply (part15_spec m0 hm0 m1 hm1 m2 hm2 m3 hm3 m4 hm4 m5 hm5 m6 hm6 m7 hm7 D κ ιs c v5) $$ HK HP HR0 HO
  iintro ⟨HT, Hp⟩
  rw [WP_bind]
  iapply (part16_spec m0 hm0 m1 hm1 m2 hm2 m3 hm3 m4 hm4 m5 hm5 m6 hm6 m7 hm7 D κ ιs c v5 v7) $$ HK HT Hp HC0 HSH0 HR1
  iintro ⟨HT, Hp, HC0⟩
  rw [WP_bind]
  iapply (part17_spec m0 hm0 m1 hm1 m2 hm2 m3 hm3 m4 hm4 m5 hm5 m6 hm6 m7 hm7 D κ ιs c v7) $$ HK HT Hp HC1 HSH1
  unfold tl4
  iintro ⟨⟨HWc, HRR, HtA, ⟨HSH0, HSH1⟩, HO⟩, HC1⟩
  ihave Hl := (lend_next D c 0 (by decide)) $$ Hl
  icases Hl with ⟨⟨HSX, HWX, HCX⟩, HGR, Hlr, ⟨Hcc0, Hcc1⟩, Hpx⟩
  rw [WP_bind]
  iapply (part18_spec m0 hm0 m1 hm1 m2 hm2 m3 hm3 m4 hm4 m5 hm5 m6 hm6 m7 hm7 D κ ιs c v7) $$ HK HRH HO HW2 Hcc0
  unfold hbk
  iintro ⟨⟨HRH, Hh0, Hh1, HO⟩, HW2, Hcc0⟩
  rw [WP_bind]
  iapply (part19_spec m0 hm0 m1 hm1 m2 hm2 m3 hm3 m4 hm4 m5 hm5 m6 hm6 m7 hm7 D κ ιs c v7) $$ HK Hcc0 Hcc1 Hpx [HSX HWX HCX HO]
  · unfold nb
    isplitl [HSX]; · iexact HSX
    isplitl [HWX]; · iexact HWX
    isplitl [HCX]; · iexact HCX
    iexact HO
  iintro ⟨HN, Hnb⟩
  ihave Hn := (turn_rest D c 0 (by decide)) $$ [Hlr HN HC0 HC1 HWc HRR HtA HRH Hh0 Hh1]
  · isplitl [Hlr]; · iexact Hlr
    isplitl [HN]; · iexact HN
    isplitl [HC0 HC1]
    · isplitl [HC0] <;> iassumption
    isplitl [HWc]; · iexact HWc
    isplitl [HRR]; · iexact HRR
    isplitl [HtA]; · iexact HtA
    isplitl [HRH]; · iexact HRH
    isplitl [Hh0] <;> iassumption
  icases Hn with ⟨Hn, HRH⟩
  rw [WP_bind]
  iapply (part20_spec m0 hm0 m1 hm1 m2 hm2 m3 hm3 m4 hm4 m5 hm5 m6 hm6 m7 hm7 D κ ιs c v5 v7) $$ HK Hnb HGR Hn HW2
  iintro ⟨Hst, HW2⟩
  ihave Hst := (st_end D c 1) $$ Hst
  icases Hst with ⟨Hl, ⟨HP, HR0, HR1, HO⟩, HC0, HC1⟩
  rw [WP_bind]
  iapply (part21_spec m0 hm0 m1 hm1 m2 hm2 m3 hm3 m4 hm4 m5 hm5 m6 hm6 m7 hm7 D κ ιs c 1 v5 (by decide)) $$ HK HP HR0 HO
  iintro ⟨HT, Hp⟩
  rw [WP_bind]
  iapply (part22_spec m0 hm0 m1 hm1 m2 hm2 m3 hm3 m4 hm4 m5 hm5 m6 hm6 m7 hm7 D κ ιs c 1 v5 v7 (by decide)) $$ HK HT Hp HC0 HSH0
  iintro ⟨HT, HC0⟩
  rw [WP_bind]
  iapply (part23_spec m0 hm0 m1 hm1 m2 hm2 m3 hm3 m4 hm4 m5 hm5 m6 hm6 m7 hm7 D κ ιs c 1 v7 (by decide)) $$ HK HT HR1 HC1 HSH1
  unfold tl4
  iintro ⟨⟨HWc, HRR, HtA, ⟨HSH0, HSH1⟩, HO⟩, HC1⟩
  ihave Hl := (lend_next D c 1 (by decide)) $$ Hl
  icases Hl with ⟨⟨HSX, HWX, HCX⟩, HGR, Hlr, ⟨Hcc0, Hcc1⟩, Hpx⟩
  rw [WP_bind]
  iapply (part24_spec m0 hm0 m1 hm1 m2 hm2 m3 hm3 m4 hm4 m5 hm5 m6 hm6 m7 hm7 D κ ιs c v7) $$ HK HRH HO HW3
  unfold hbk
  iintro ⟨⟨HRH, Hh0, Hh1, HO⟩, HW3⟩
  rw [WP_bind]
  iapply (part25_spec m0 hm0 m1 hm1 m2 hm2 m3 hm3 m4 hm4 m5 hm5 m6 hm6 m7 hm7 D κ ιs c v7) $$ HK Hcc0 Hcc1 Hpx [HSX HWX HCX HO]
  · unfold nb
    isplitl [HSX]; · iexact HSX
    isplitl [HWX]; · iexact HWX
    isplitl [HCX]; · iexact HCX
    iexact HO
  iintro ⟨HN, Hnb⟩
  ihave Hn := (turn_rest D c 1 (by decide)) $$ [Hlr HN HC0 HC1 HWc HRR HtA HRH Hh0 Hh1]
  · isplitl [Hlr]; · iexact Hlr
    isplitl [HN]; · iexact HN
    isplitl [HC0 HC1]
    · isplitl [HC0] <;> iassumption
    isplitl [HWc]; · iexact HWc
    isplitl [HRR]; · iexact HRR
    isplitl [HtA]; · iexact HtA
    isplitl [HRH]; · iexact HRH
    isplitl [Hh0] <;> iassumption
  icases Hn with ⟨Hn, HRH⟩
  rw [WP_bind]
  iapply (part26_spec m0 hm0 m1 hm1 m2 hm2 m3 hm3 m4 hm4 m5 hm5 m6 hm6 m7 hm7 D κ ιs c v5 v7) $$ HK Hnb HGR Hn HW3
  iintro ⟨Hst, HW3⟩
  ihave Hst := (st_end D c 2) $$ Hst
  icases Hst with ⟨Hl, ⟨HP, HR0, HR1, HO⟩, HC0, HC1⟩
  rw [part27_eq, part28_eq, part29_eq]
  rw [WP_bind]
  iapply (part21_spec m0 hm0 m1 hm1 m2 hm2 m3 hm3 m4 hm4 m5 hm5 m6 hm6 m7 hm7 D κ ιs c 2 v5 (by decide)) $$ HK HP HR0 HO
  iintro ⟨HT, Hp⟩
  rw [WP_bind]
  iapply (part22_spec m0 hm0 m1 hm1 m2 hm2 m3 hm3 m4 hm4 m5 hm5 m6 hm6 m7 hm7 D κ ιs c 2 v5 v7 (by decide)) $$ HK HT Hp HC0 HSH0
  iintro ⟨HT, HC0⟩
  rw [WP_bind]
  iapply (part23_spec m0 hm0 m1 hm1 m2 hm2 m3 hm3 m4 hm4 m5 hm5 m6 hm6 m7 hm7 D κ ιs c 2 v7 (by decide)) $$ HK HT HR1 HC1 HSH1
  unfold tl4
  iintro ⟨⟨⟨HWA0, HWA1, Hcr0, Hcr1⟩, HRR, HtA, -, HO⟩, HC1⟩
  rw [WP_bind]
  iapply (part30_spec m0 hm0 m1 hm1 m2 hm2 m3 hm3 m4 hm4 m5 hm5 m6 hm6 m7 hm7 D κ ιs c v7) $$ HK HRH HO Hq0 Hq1
  unfold hbk
  iintro ⟨⟨HRH, Hh0, Hh1, HO⟩, Hq0, Hq1⟩
  iapply (wAs D κ ιs c (cn 2 (32 * 2 + 32) (gxo 2 31)) 0 (32 * 2 + 31) (by decide) (sem_as (f2 (32 * 2 + 31)) 0 rfl _ _) (cn_zero 2 (by omega) (by decide)) (credA _)) $$ HW HWA0 Hcr0 HO
  iintro ⟨HWA0, Hb0, HO⟩
  iapply (wAs D κ ιs c (cn 2 (32 * 2 + 32) (gxo 2 31)) 1 (32 * 2 + 31) (by decide) (sem_as (f2 (32 * 2 + 31)) 1 rfl _ _) (cn_zero 2 (by omega) (by decide)) (credA _)) $$ HW HWA1 Hcr1 HO
  iintro ⟨HWA1, Hb1, HO⟩
  iapply (WP_ret c)
  iapply HQ
  unfold bend
  isplitr [Hx HW1 HW2 HW3 Hq0 Hq1]
  · isplitl [Hat Hl HWA0 HWA1 HRR HRH]
    · isplitl [Hat]; · iexact Hat
      isplitl [Hl]; · iexact Hl
      isplitl [HWA0 HWA1]
      · isplitl [HWA0] <;> iassumption
      isplitl [HRR]; · iexact HRR
      iexact HRH
    isplitr [HO]
    · isplitl [HtA]; · iexact HtA
      isplitl [Hb0 Hb1]
      · isplitl [Hb0] <;> iassumption
      isplitl [HC0 HC1]
      · isplitl [HC0]
        · iapply (pc_any c cB (rA (f2 (32 * 2 + 31)) 0)) $$ HC0
        · iapply (pc_any c cB (rA (f2 (32 * 2 + 31)) 1)) $$ HC1
      isplitl [Hh0]
      · iapply (pc_any c hB (rH 0)) $$ Hh0
      · iapply (pc_any c hB (rH 1)) $$ Hh1
    iexact HO
  isplitl [Hx HW1 HW2 HW3]
  · isplitl [Hx]; · iexact Hx
    isplitl [HW1]; · iexact HW1
    isplitl [HW2]; · iexact HW2
    iexact HW3
  isplitl [Hq0] <;> iassumption

end Whole

end Cert.Proof

end
-- ==== Proof.Close.lean ====
/-
  The end: every counter of the protocol has had all its messages, so each is closed and its semaphore read zero; and the
  kernel's semaphores, by family.
-/
module

public import proofs.«01_k».proof.Proof.Whole

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The semaphores by family -/

/-- The kernel's own scoped semaphores. -/
abbrev osem : Fin 20 → SemLoc sig := fun i =>
  if h : i.val < 18 then .dma (⟨8 + i.val, by omega⟩ : Fin 26) else .reg (⟨i.val - 18, by omega⟩ : Fin 3)

theorem osem_injective : Function.Injective osem := by decide
theorem ringSems_eq : ringSems = insert brS (Finset.univ.map ⟨osem, osem_injective⟩) := by decide

section Split

/-- A family of assertions over the protocol's semaphores, family by family. -/
def famSep (Φ : SemLoc sig → sProp 𝕄) : sProp 𝕄 :=
  iprop((bigSep (Finset.univ : Finset (Fin 4)) fun i => Φ (xsS i)) ∗ (bigSep (Finset.univ : Finset (Fin 4)) fun i => Φ (xrS (f4 (i.val + 1))))
    ∗ ((bigSep Finset.univ fun i : Fin 2 => Φ (asS i 0)) ∗ (bigSep Finset.univ fun i : Fin 2 => Φ (asS i 1)))
    ∗ ((bigSep Finset.univ fun i : Fin 2 => Φ (arS (f2 (i.val + 1)) 0)) ∗ (bigSep Finset.univ fun i : Fin 2 => Φ (arS (f2 (i.val + 1)) 1)))
    ∗ (Φ (hmS 0) ∗ Φ (hmS 1)) ∗ Φ xcS ∗ Φ acS ∗ Φ brS)

omit [FloatOps F] in
theorem bigSep_two (Φ : Fin 2 → sProp 𝕄) : bigSep Finset.univ Φ = iprop(Φ 0 ∗ Φ 1) := bigSep_univ_eq_bigSepL [0, 1] (by decide) (by decide) Φ
omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem sep_flat (P Q R : sProp 𝕄) : (iprop((P ∗ Q) ∗ R) : sProp 𝕄) = iprop(P ∗ Q ∗ R) := BI.Entails.antisymm BI.sep_assoc BI.sep_assoc'

omit [FloatOps F] in
theorem ring_split (Φ : SemLoc sig → sProp 𝕄) : bigSep ringSems Φ = famSep Φ := by
  unfold famSep
  simp only [bigSep_two, bigSep_four]
  rw [bigSep_eq_bigSepL_of_eq [xsS 0, xsS 1, xsS 2, xsS 3, xrS 1, xrS 2, xrS 3, xrS 0, asS 0 0, asS 1 0, asS 0 1, asS 1 1,
    arS 1 0, arS 0 0, arS 1 1, arS 0 1, hmS 0, hmS 1, xcS, acS, brS] (by decide) (by decide)]
  simp only [sep_flat]
  rfl
end Split

omit [FloatOps F] in
/-- The semaphores at zero, as the launch hands them over and wants them back. -/
theorem sems0_eq (c : Dev nD) :
    iprop(Pipeline.ownSems0 (Ix := ℕ) (Name := ℕ) (U := UU) (Lvl := ℕ) (Val := Elt F) (τ := τ) osem c ∗ unscopedSems0 c)
      = (bigSep ringSems fun s => semVal ((c : Thread nD τ), s) 0 : sProp 𝕄) := by
  have hu : (unscopedSems0 c : sProp 𝕄) = semVal (gBr c) 0 := by
    unfold unscopedSems0; rw [bigSep_eq_bigSepL_of_eq [brS] (by decide) (by decide)]; rfl
  rw [hu, ringSems_eq, bigSep_insert (by decide), bigSep_map]
  exact BI.Entails.antisymm BI.sep_comm BI.sep_comm

/-! ## Closing -/

section Close
variable (D : Dat F) (κ : GSem nD τ sig → ℕ) (ιs : Key → ℕ) (c : Dev nD)

/-- A counter past its last round reads zero. -/
theorem close_one (s : SemLoc sig) (R : ℕ) (h : role s ≠ .no) (hR : ∀ r, R ≤ r → dut r (role s) = ∅) :
    Know D κ ιs ⊢ iprop(atPos ER ((c : Thread nD τ), s) R ∅ 0 -∗ |={Set.univ}=> semVal ((c : Thread nD τ), s) 0) := by
  iintro #HK Hat
  iapply (cell_close ER (Rd D) (κ := κ ((c : Thread nD τ), s)) (g := ((c : Thread nD τ), s)) (Set.mem_univ _) (fun h => h) (R := R) hR)
  isplitr
  · iapply (Know_cell D κ ιs c s h); iexact HK
  · iexact Hat

/-- A family of them. -/
theorem close_fam {ι : Type} [Fintype ι] [DecidableEq ι] (sm : ι → SemLoc sig) (pos : ι → ℕ) (h : ∀ i, role (sm i) ≠ .no)
    (hR : ∀ i r, pos i ≤ r → dut r (role (sm i)) = ∅) :
    Know D κ ιs ⊢ iprop(posB (fun i => ((c : Thread nD τ), sm i)) pos -∗ |={Set.univ}=> bigSep (Finset.univ : Finset ι) fun i => semVal ((c : Thread nD τ), sm i) 0) := by
  have key : iprop(Know D κ ιs ∗ posB (fun i => ((c : Thread nD τ), sm i)) pos)
      ⊢ bigSep Finset.univ fun i => iprop(|={Set.univ}=> semVal ((c : Thread nD τ), sm i) 0) := by
    unfold posB
    refine (sep_mono_left (BI.bigSep_of_persistent (Finset.univ : Finset ι) (Know D κ ιs))).trans ?_
    rw [← bigSep_sep']
    refine bigSep_mono fun i _ => ?_
    show iprop(Know D κ ιs ∗ atPos ER ((c : Thread nD τ), sm i) (pos i) ∅ 0 ∗ reached ER ((c : Thread nD τ), sm i) (pos i)) ⊢ (iprop(|={Set.univ}=> semVal ((c : Thread nD τ), sm i) 0) : sProp 𝕄)
    iintro ⟨#HK, Hat, -⟩
    iapply (close_one D κ ιs c (sm i) (pos i) (h i) (hR i)) $$ HK Hat
  iintro #HK Hp
  iapply (key.trans (bigSep_fupd _ _))
  isplitr; · iexact HK
  iexact Hp

/-- A counter whose one round has been consumed to the last unit reads zero. -/
theorem close_cred (s : SemLoc sig) (m : ℕ) (h : role s ≠ .no) (hm : m = (Rd D).expect ((c : Thread nD τ), s) 0)
    (hR : ∀ r, 1 ≤ r → dut r (role s) = ∅) (T : Finset ℕ) :
    Know D κ ιs ⊢ iprop(atPos ER ((c : Thread nD τ), s) 0 T m -∗ |={Set.univ}=> semVal ((c : Thread nD τ), s) 0) := by
  iintro #HK Hat
  imod (fupd_roundState ER (Rd D) (κ := κ ((c : Thread nD τ), s)) (g := ((c : Thread nD τ), s)) (Es := Set.univ) (Set.mem_univ _)
      (X := atPos ER ((c : Thread nD τ), s) 0 T m) (Y := atPos ER ((c : Thread nD τ), s) 1 ∅ 0)
      (closed_atPos_false ER (Rd D)) (dormant_atPos_false ER (Rd D)) (fun v => by
        refine (roundState_wait_rest ER (Rd D) (k := 0) (show m + 0 = _ from hm) (Nat.zero_le v)).trans (BI.bupd_mono ?_)
        rw [Nat.sub_zero]
        show iprop(roundState ER (Rd D) ((c : Thread nD τ), s) v ∗ atPos ER ((c : Thread nD τ), s) (0 + 1) ∅ 0 ∗ reached ER ((c : Thread nD τ), s) (0 + 1)
            ∗ bigSep ((Rd D).duties ((c : Thread nD τ), s) 0 \ T) fun d => (Rd D).payload ((c : Thread nD τ), s) 0 d) ⊢ (_ : sProp 𝕄)
        iintro ⟨H1, H2, -⟩
        isplitl [H1] <;> iassumption)) $$ [Hat] with Hat
  · isplitr
    · iapply (Know_cell D κ ιs c s h); iexact HK
    · iexact Hat
  iapply (close_one D κ ιs c s 1 h hR) $$ HK Hat

theorem expect_xc : (Rd D).expect (gXc c) 0 = 90 := by
  show ∑ n ∈ dut 0 (role xcS), amt (role xcS) = 90
  rw [role_xc, show dut 0 .xc = fut 3 96 from rfl, Finset.sum_const, show (fut 3 96).card = 90 by decide]; rfl
theorem expect_ac : (Rd D).expect (gAc c) 0 = 92 := by
  show ∑ n ∈ dut 0 (role acS), amt (role acS) = 92
  rw [role_ac, show dut 0 .ac = fut 1 96 from rfl, Finset.sum_const, show (fut 1 96).card = 92 by decide]; rfl

theorem last_xs (i : Fin 4) (r : ℕ) (h : posX i.val 95 ≤ r) : dut r (.xs i) = ∅ := by
  refine Finset.filter_eq_empty_iff.mpr fun n hn ⟨ho, h1, h2⟩ => ?_
  have h1 : n % 4 = i.val := congrArg Fin.val h1
  rw [h1] at h2; rw [Finset.mem_range] at hn
  have := i.isLt
  unfold ok at ho; unfold posX at h h2; split_ifs at h h2 <;> omega
theorem last_xr (i : Fin 4) (r : ℕ) (h : posX i.val 95 ≤ r) : dut r (.xr (f4 (i.val + 1))) = ∅ := by
  refine Finset.filter_eq_empty_iff.mpr fun n hn ⟨ho, h1, h2⟩ => ?_
  have h1 : (n + 1) % 4 = (i.val + 1) % 4 := congrArg Fin.val h1
  have := i.isLt
  have h1 : n % 4 = i.val := by omega
  rw [h1] at h2; rw [Finset.mem_range] at hn
  unfold ok at ho; unfold posX at h h2; split_ifs at h h2 <;> omega
theorem last_as (i hf : Fin 2) (r : ℕ) (h : posS i.val 96 ≤ r) : dut r (.as i hf) = ∅ := by
  refine Finset.filter_eq_empty_iff.mpr fun n hn ⟨h1, h2⟩ => ?_
  have h1 : n % 2 = i.val := congrArg Fin.val h1
  rw [h1] at h2; rw [Finset.mem_range] at hn
  have := i.isLt
  unfold posS at h h2; omega
theorem last_ar (i hf : Fin 2) (r : ℕ) (h : posR i.val 95 ≤ r) : dut r (.ar (f2 (i.val + 1)) hf) = ∅ := by
  refine Finset.filter_eq_empty_iff.mpr fun n hn ⟨ho, h1, h2⟩ => ?_
  have h1 : (n + 1) % 2 = (i.val + 1) % 2 := congrArg Fin.val h1
  have := i.isLt
  have h1 : n % 2 = i.val := by omega
  rw [h1] at h2; rw [Finset.mem_range] at hn
  unfold ok at ho; unfold posR at h h2; split_ifs at h h2 <;> omega
theorem last_one (r : ℕ) (h : 1 ≤ r) : dut r .xc = ∅ ∧ dut r .ac = ∅ ∧ dut r .br = ∅ := by
  have : r ≠ 0 := by omega
  simp [dut, this]

/-- Every counter closed: the semaphores read zero. -/
theorem close_all : Know D κ ιs ⊢ iprop((WX c 95 ∗ RX c 95 ∗ (WA c 0 96 ∗ WA c 1 96) ∗ (RA c 0 95 ∗ RA c 1 95) ∗ (RH c 0 3 ∗ RH c 1 3) ∗ CX c D 96 ∗ CA c D 95
      ∗ atPos ER (gBr c) 1 ∅ 0) -∗ |={Set.univ}=> bigSep ringSems fun s => semVal ((c : Thread nD τ), s) 0) := by
  rw [ring_split]
  unfold famSep WX RX WA RA RH CX CA
  iintro #HK ⟨H1, ⟨H2, -⟩, ⟨H3, H4⟩, ⟨⟨H5, -⟩, ⟨H6, -⟩⟩, ⟨⟨⟨H7, -⟩, -⟩, ⟨⟨H8, -⟩, -⟩⟩, ⟨⟨%T, -, H9, -⟩, -⟩, ⟨⟨%T', -, H10, -⟩, -⟩, H11⟩
  imod (close_fam D κ ιs c (fun i : Fin 4 => xsS i) _ (fun i => by rw [role_xs]; nofun) (fun i r h => by rw [role_xs]; exact last_xs i r h)) $$ HK H1 with H1
  imod (close_fam D κ ιs c (fun i : Fin 4 => xrS (f4 (i.val + 1))) _ (fun i => by rw [role_xr]; nofun) (fun i r h => by rw [role_xr]; exact last_xr i r h)) $$ HK H2 with H2
  imod (close_fam D κ ιs c (fun i : Fin 2 => asS i 0) _ (fun i => by rw [role_as]; nofun) (fun i r h => by rw [role_as]; exact last_as i 0 r h)) $$ HK H3 with H3
  imod (close_fam D κ ιs c (fun i : Fin 2 => asS i 1) _ (fun i => by rw [role_as]; nofun) (fun i r h => by rw [role_as]; exact last_as i 1 r h)) $$ HK H4 with H4
  imod (close_fam D κ ιs c (fun i : Fin 2 => arS (f2 (i.val + 1)) 0) _ (fun i => by rw [role_ar]; nofun) (fun i r h => by rw [role_ar]; exact last_ar i 0 r h)) $$ HK H5 with H5
  imod (close_fam D κ ιs c (fun i : Fin 2 => arS (f2 (i.val + 1)) 1) _ (fun i => by rw [role_ar]; nofun) (fun i r h => by rw [role_ar]; exact last_ar i 1 r h)) $$ HK H6 with H6
  have hh (hf : Fin 2) (r : ℕ) (h : 3 ≤ r) : dut r (.hm hf) = ∅ := if_neg (by omega)
  imod (close_one D κ ιs c (hmS 0) 3 (by rw [role_hm]; nofun) (fun r h => by rw [role_hm]; exact hh 0 r h)) $$ HK H7 with H7
  imod (close_one D κ ιs c (hmS 1) 3 (by rw [role_hm]; nofun) (fun r h => by rw [role_hm]; exact hh 1 r h)) $$ HK H8 with H8
  imod (close_cred D κ ιs c xcS _ (by rw [role_xc]; nofun) (expect_xc D c).symm (fun r h => by rw [role_xc]; exact (last_one r h).1) T) $$ HK H9 with H9
  imod (close_cred D κ ιs c acS _ (by rw [role_ac]; nofun) (expect_ac D c).symm (fun r h => by rw [role_ac]; exact (last_one r h).2.1) T') $$ HK H10 with H10
  imod (close_one D κ ιs c brS 1 (by rw [role_br]; nofun) (fun r h => by rw [role_br]; exact (last_one r h).2.2)) $$ HK H11 with H11
  imodintro
  isplitl [H1]; · iexact H1
  isplitl [H2]; · iexact H2
  isplitl [H3 H4]
  · isplitl [H3] <;> iassumption
  isplitl [H5 H6]
  · isplitl [H5] <;> iassumption
  isplitl [H7 H8]
  · isplitl [H7] <;> iassumption
  isplitl [H9]; · iexact H9
  isplitl [H10] <;> iassumption

/-- Nothing is owed at the end. -/
theorem owe_end : owe c (cn 2 (32 * 2 + 32) (gxo 2 31)) = 0 := by
  have hf : ∀ a, 96 ≤ a → fut a 96 = ∅ := fun a h => by
    unfold fut; rw [Finset.Ico_eq_empty (by omega)]; rfl
  unfold owe cn tX tGX tA tGA tH
  simp only [show gxo 2 31 = 1000 from rfl, hf _ (show 96 ≤ 32 * 2 + 32 by omega), hf 1000 (by omega), hf 95, Finset.Ico_self, Finset.sum_empty, add_zero]

end Close

end Cert.Proof

end
-- ==== Proof.Start.lean ====
/-
  The launch: the ring's counters, tokens and landings are made for all devices at once, the tokens dealt around the ring,
  and each device gets what its run starts from.
-/
module

public import proofs.«01_k».proof.Proof.Close

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Counters and tokens -/

def ringE : Dev nD ≃ Dev nD := ⟨nxt, prv, prv_nxt, nxt_prv⟩

def cellOf' (x : Dev nD × SemLoc sig) : GSem nD τ sig := ((x.1 : Thread nD τ), x.2)
theorem cellOf'_injective : Function.Injective cellOf' := by
  rintro ⟨d, s⟩ ⟨d', s'⟩ h
  have h1 : d = d' := congrArg (fun g : GSem nD τ sig => g.1.1) h
  have h2 : s = s' := congrArg Prod.snd h
  rw [h1, h2]
/-- All devices' counters. -/
def ringCells : Finset (GSem nD τ sig) := (Finset.univ ×ˢ ringSems).map ⟨cellOf', cellOf'_injective⟩

/-- The messages of a family: x blocks by sender and by receiver, partial sums' halves by sender and by receiver, home
    copies, and the units of the credit counters and the barrier. -/
def famRange (j : Fin 11) : Finset ℕ :=
  match j with
  | 0 | 1 | 4 | 5 => fut 0 96
  | 2 | 3 => Finset.range 96
  | 6 | 7 => Finset.Ico 0 3
  | 8 => fut 3 96
  | 9 => fut 1 96
  | 10 => {0, 1}
/-- A message's token on device `d`'s counter. -/
def famTok (d : Dev nD) (j : Fin 11) (n : ℕ) : GSem nD τ sig × ℕ × ℕ :=
  match j with
  | 0 => (gXs d n, posX (n % 4) n, n)
  | 1 => (gXr d n, posX (n % 4) n, n)
  | 2 => (gAs d 0 n, posS (n % 2) n, n)
  | 3 => (gAs d 1 n, posS (n % 2) n, n)
  | 4 => (gAr d 0 n, posR (n % 2) n, n)
  | 5 => (gAr d 1 n, posR (n % 2) n, n)
  | 6 => (gHm d 0, n, n)
  | 7 => (gHm d 1, n, n)
  | 8 => (gXc d, 0, n)
  | 9 => (gAc d, 0, n)
  | 10 => (gBr d, 0, n)
/-- The family a role belongs to. -/
def roleFam : Role → Fin 11
  | .xs _ => 0
  | .xr _ => 1
  | .as _ h => if h = 0 then 2 else 3
  | .ar _ h => if h = 0 then 4 else 5
  | .hm h => if h = 0 then 6 else 7
  | .xc => 8
  | .ac => 9
  | _ => 10

theorem famTok_fam (d : Dev nD) (j : Fin 11) (n : ℕ) : roleFam (role (famTok d j n).1.2) = j := by
  fin_cases j <;> simp only [famTok, role_xs, role_xr, role_as, role_ar, role_hm, role_xc, role_ac, role_br, roleFam] <;> rfl
theorem famTok_dev (d : Dev nD) (j : Fin 11) (n : ℕ) : (famTok d j n).1.1.1 = d := by fin_cases j <;> rfl
theorem famTok_num (d : Dev nD) (j : Fin 11) (n : ℕ) : (famTok d j n).2.2 = n := by fin_cases j <;> rfl

def tokOf (x : Dev nD × (Σ _ : Fin 11, ℕ)) : GSem nD τ sig × ℕ × ℕ := famTok x.1 x.2.1 x.2.2
theorem tokOf_injective : Function.Injective tokOf := by
  rintro ⟨d, j, n⟩ ⟨d', j', n'⟩ h
  have h1 : d = d' := by rw [← famTok_dev d j n, ← famTok_dev d' j' n']; exact congrArg (fun x : GSem nD τ sig × ℕ × ℕ => x.1.1.1) h
  have h2 : j = j' := by rw [← famTok_fam d j n, ← famTok_fam d' j' n']; exact congrArg (fun x : GSem nD τ sig × ℕ × ℕ => roleFam (role x.1.2)) h
  have h3 : n = n' := by rw [← famTok_num d j n, ← famTok_num d' j' n']; exact congrArg (fun x : GSem nD τ sig × ℕ × ℕ => x.2.2) h
  rw [h1, h2, h3]
/-- All tokens. -/
def ringToks : Finset (GSem nD τ sig × ℕ × ℕ) := (Finset.univ ×ˢ (Finset.univ : Finset (Fin 11)).sigma famRange).map ⟨tokOf, tokOf_injective⟩

/-- A token. -/
abbrev tk (x : GSem nD τ sig × ℕ × ℕ) : sProp 𝕄 := dutyTok ER x.1 x.2.1 x.2.2

/-- The tokens on a device's own counters. -/
def toks (c : Dev nD) : sProp 𝕄 := bigSep (Finset.univ : Finset (Fin 11)) fun j => bigSep (famRange j) fun n => tk (famTok c j n)
/-- The tokens of its home copies' sends. -/
def SHt (c : Dev nD) (h : Fin 2) : sProp 𝕄 := bigSep (Finset.Ico 0 3) fun l => dutyTok ER (gAs c h (32 * l + 31)) (posS 1 (32 * l + 31)) (32 * l + 31)
/-- The tokens a device spends: on its own send counters, on its right neighbour's receive and home counters, on its left
    neighbour's credit counters, and on both neighbours' barriers. -/
def spend (c : Dev nD) : sProp 𝕄 :=
  iprop((bigSep (fut 0 96) fun n => tk (famTok c 0 n)) ∗ (bigSep (fut 0 96) fun n => tk (famTok (nxt c) 1 n))
    ∗ (((bigSep (fut 0 96) fun n => tk (famTok c 2 n)) ∗ (SHt c 0)) ∗ ((bigSep (fut 0 96) fun n => tk (famTok c 3 n)) ∗ (SHt c 1)))
    ∗ ((bigSep (fut 0 96) fun n => tk (famTok (nxt c) 4 n)) ∗ (bigSep (fut 0 96) fun n => tk (famTok (nxt c) 5 n)))
    ∗ ((bigSep (Finset.Ico 0 3) fun n => tk (famTok (nxt c) 6 n)) ∗ (bigSep (Finset.Ico 0 3) fun n => tk (famTok (nxt c) 7 n)))
    ∗ dkX c ∗ dkA c ∗ dutyTok ER (gBr (prv c)) 0 0 ∗ dutyTok ER (gBr (nxt c)) 0 1)

omit [FloatOps F] in
theorem bigSep_pairs {α β : Type} [DecidableEq α] [DecidableEq β] (s : Finset α) (t : Finset β) (Φ : α × β → sProp 𝕄) :
    bigSep (s ×ˢ t) Φ = bigSep s fun a => bigSep t fun b => Φ (a, b) := by
  rw [show s ×ˢ t = (s.sigma fun _ => t).map (Equiv.sigmaEquivProd α β).toEmbedding by ext ⟨a, b⟩; simp, bigSep_map, Pipeline.bigSep_sigma]
  rfl

omit [FloatOps F] in
theorem bigSep_eleven (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

omit [FloatOps F] in
/-- The partial sums' sends are those around the ring and the three home copies. -/
theorem home_split (Φ : ℕ → sProp 𝕄) : bigSep (Finset.range 96) Φ = iprop(bigSep (fut 0 96) Φ ∗ bigSep (Finset.Ico 0 3) fun l => Φ (32 * l + 31)) := by
  rw [bigSep_filter_split (Finset.range 96) ok, show (Finset.range 96).filter ok = fut 0 96 by decide,
    show ((Finset.range 96).filter fun n => ¬ok n) = (Finset.Ico 0 3).map ⟨fun l => 32 * l + 31, fun a b h => by simpa using h⟩ by decide, bigSep_map]
  rfl

omit [FloatOps F] in
theorem posS_home (l : ℕ) : posS ((32 * l + 31) % 2) (32 * l + 31) = posS 1 (32 * l + 31) := by rw [show (32 * l + 31) % 2 = 1 by omega]

omit [FloatOps F] in
theorem fam2 (c : Dev nD) : (bigSep (famRange 2) fun n => tk (famTok c 2 n) : sProp 𝕄) = iprop((bigSep (fut 0 96) fun n => tk (famTok c 2 n)) ∗ SHt c 0) := by
  rw [show famRange 2 = Finset.range 96 from rfl, home_split]
  unfold SHt
  rw [bigSep_congr (s := Finset.Ico 0 3) (Ψ := fun l => dutyTok ER (gAs c 0 (32 * l + 31)) (posS 1 (32 * l + 31)) (32 * l + 31)) fun l _ => by simp only [famTok, posS_home]]
omit [FloatOps F] in
theorem fam3 (c : Dev nD) : (bigSep (famRange 3) fun n => tk (famTok c 3 n) : sProp 𝕄) = iprop((bigSep (fut 0 96) fun n => tk (famTok c 3 n)) ∗ SHt c 1) := by
  rw [show famRange 3 = Finset.range 96 from rfl, home_split]
  unfold SHt
  rw [bigSep_congr (s := Finset.Ico 0 3) (Ψ := fun l => dutyTok ER (gAs c 1 (32 * l + 31)) (posS 1 (32 * l + 31)) (32 * l + 31)) fun l _ => by simp only [famTok, posS_home]]
omit [FloatOps F] in
theorem fam10 (c : Dev nD) : (bigSep (famRange 10) fun n => tk (famTok c 10 n) : sProp 𝕄) = iprop(dutyTok ER (gBr c) 0 0 ∗ dutyTok ER (gBr c) 0 1) := by
  rw [show famRange 10 = {0, 1} from rfl, bigSep_insert (by decide), bigSep_singleton]
  rfl

omit [FloatOps F] in
/-- The tokens dealt around the ring. -/
theorem toks_around : (bigSep Finset.univ fun c : Dev nD => (toks c : sProp 𝕄)) ⊢ bigSep Finset.univ fun c : Dev nD => spend c := by
  have e : ∀ c : Dev nD, (toks c : sProp 𝕄) = iprop((bigSep (fut 0 96) fun n => tk (famTok c 0 n)) ∗ (bigSep (fut 0 96) fun n => tk (famTok c 1 n))
      ∗ ((bigSep (fut 0 96) fun n => tk (famTok c 2 n)) ∗ SHt c 0) ∗ ((bigSep (fut 0 96) fun n => tk (famTok c 3 n)) ∗ SHt c 1)
      ∗ (bigSep (fut 0 96) fun n => tk (famTok c 4 n)) ∗ (bigSep (fut 0 96) fun n => tk (famTok c 5 n))
      ∗ (bigSep (Finset.Ico 0 3) fun n => tk (famTok c 6 n)) ∗ (bigSep (Finset.Ico 0 3) fun n => tk (famTok c 7 n))
      ∗ (bigSep (fut 3 96) fun n => dutyTok ER (gXc c) 0 n) ∗ (bigSep (fut 1 96) fun n => dutyTok ER (gAc c) 0 n)
      ∗ dutyTok ER (gBr c) 0 0 ∗ dutyTok ER (gBr c) 0 1) := fun c => by
    unfold toks
    rw [bigSep_eleven, fam2, fam3, fam10]
    simp only [famRange, famTok]
  simp only [e]
  unfold spend dkX dkA
  simp only [bigSep_sep']
  rw [bigSep_univ_equiv ringE (fun c : Dev nD => (bigSep (fut 0 96) fun n => tk (famTok c 1 n) : sProp 𝕄)),
    bigSep_univ_equiv ringE (fun c : Dev nD => (bigSep (fut 0 96) fun n => tk (famTok c 4 n) : sProp 𝕄)),
    bigSep_univ_equiv ringE (fun c : Dev nD => (bigSep (fut 0 96) fun n => tk (famTok c 5 n) : sProp 𝕄)),
    bigSep_univ_equiv ringE (fun c : Dev nD => (bigSep (Finset.Ico 0 3) fun n => tk (famTok c 6 n) : sProp 𝕄)),
    bigSep_univ_equiv ringE (fun c : Dev nD => (bigSep (Finset.Ico 0 3) fun n => tk (famTok c 7 n) : sProp 𝕄)),
    bigSep_univ_equiv ringE.symm (fun c : Dev nD => (bigSep (fut 3 96) fun n => dutyTok ER (gXc c) 0 n : sProp 𝕄)),
    bigSep_univ_equiv ringE.symm (fun c : Dev nD => (bigSep (fut 1 96) fun n => dutyTok ER (gAc c) 0 n : sProp 𝕄)),
    bigSep_univ_equiv ringE.symm (fun c : Dev nD => (dutyTok ER (gBr c) 0 0 : sProp 𝕄)),
    bigSep_univ_equiv ringE (fun c : Dev nD => (dutyTok ER (gBr c) 0 1 : sProp 𝕄))]
  iintro ⟨H0, H1, ⟨H2, H2'⟩, ⟨H3, H3'⟩, H4, H5, H6, H7, H8, H9, H10, H11⟩
  isplitl [H0]; · iexact H0
  isplitl [H1]; · iexact H1
  isplitl [H2 H2' H3 H3']
  · isplitl [H2 H2']
    · isplitl [H2] <;> iassumption
    isplitl [H3] <;> iassumption
  isplitl [H4 H5]
  · isplitl [H4]; · iexact H4
    iexact H5
  isplitl [H6 H7]
  · isplitl [H6]; · iexact H6
    iexact H7
  isplitl [H8]; · iexact H8
  isplitl [H9]; · iexact H9
  isplitl [H10]; · iexact H10
  iexact H11

/-! ## The landings -/

/-- The reader tokens of a device's landings, -/
def rds (c : Dev nD) : sProp 𝕄 := iprop(rdX c ∗ (rdA c 0 ∗ rdA c 1))
/-- and the writer tokens of its right neighbour's. -/
def wts (c : Dev nD) : sProp 𝕄 :=
  iprop((bigSep (fut 0 96) fun n => writeTok ES (nxt c, 0, n) 1) ∗ (bigSep (fut 0 96) fun n => writeTok ES (nxt c, kd 0, n) 1)
    ∗ (bigSep (fut 0 96) fun n => writeTok ES (nxt c, kd 1, n) 1))

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ

omit [FloatOps F] in
theorem keys_split (Φ : Key → sProp 𝕄) : bigSep keys Φ = bigSep Finset.univ fun c : Dev nD =>
    iprop((bigSep (fut 0 96) fun n => Φ (c, 0, n)) ∗ (bigSep (fut 0 96) fun n => Φ (c, 1, n)) ∗ (bigSep (fut 0 96) fun n => Φ (c, 2, n))) := by
  unfold keys
  rw [bigSep_pairs]
  exact bigSep_congr fun c _ => by rw [bigSep_pairs, bigSep_three]

omit [FloatOps F] in
/-- The landings are made: their invariants, and each device its tokens. -/
theorem fund_slots : BI.own (ES (initSlots keys 1)) ⊢ (|={Set.univ}=> ∃ ιs : Key → ℕ, (bigSep keys fun k => slotInv ES (ιs k) k (Sl (F := F) k))
    ∗ bigSep Finset.univ fun c : Dev nD => iprop(rds c ∗ wts c) : sProp 𝕄) := by
  iintro H
  imod (slots_init (E := ES) keys 1 (Sl (F := F)) (Es := Set.univ)) $$ H with ⟨%ιs, -, Hi, Hr, Hw⟩
  imodintro
  iexists ιs
  isplitl [Hi]; · iexact Hi
  rw [bigSep_sep']
  isplitl [Hr]
  · ihave Hr := (Entails.of_eq (keys_split fun k => readerAt ES k 0)) $$ Hr
    iexact Hr
  · ihave Hw := (Entails.of_eq (show bigSep (keys ×ˢ Finset.range 1) (fun x => (writeTok ES x.1 (x.2 + 1) : sProp 𝕄)) = bigSep keys fun k => writeTok ES k 1 by
      rw [bigSep_pairs]
      exact bigSep_congr fun k _ => by rw [show Finset.range 1 = {0} from rfl, bigSep_singleton])) $$ Hw
    ihave Hw := (Entails.of_eq (keys_split fun k => writeTok ES k 1)) $$ Hw
    ihave Hw := (Entails.of_eq (bigSep_univ_equiv ringE _)) $$ Hw
    iexact Hw

/-! ## The launch credit -/

/-- The credits of what is to come to a device. -/
def crs (c : Dev nD) : sProp 𝕄 :=
  iprop((bigSep (fut 0 96) fun n => cred (tallyAt (gXr c n) n NX)) ∗ (bigSep (fut 3 96) fun n => cred (tallyAt (gXc c) n 1))
    ∗ ((bigSep (fut 0 96) fun n => cred (tallyAt (gAr c 0 n) n NA)) ∗ (bigSep (fut 0 96) fun n => cred (tallyAt (gAr c 1 n) n NA)))
    ∗ (bigSep (fut 1 96) fun n => cred (tallyAt (gAc c) n 1))
    ∗ ((bigSep (Finset.Ico 0 3) fun l => cred (tallyAt (gHm c 0) l NA)) ∗ (bigSep (Finset.Ico 0 3) fun l => cred (tallyAt (gHm c 1) l NA)))
    ∗ cred (tallyAt (gBr c) 0 2))

omit [FloatOps F] in
/-- What all devices owe is what comes to each. -/
theorem crs_intro (c : Dev nD) : (Pipeline.launchCred oweB c : sProp 𝕄) ⊢ crs c := by
  have hr : ∀ (s : Finset ℕ) (sm : ℕ → SemLoc sig) (N : ℕ), (Pipeline.launchCred (fun d => ∑ n ∈ s, tallyAt ((nxt d : Thread nD τ), sm n) n N) c : sProp 𝕄)
      ⊢ bigSep s fun n => cred (tallyAt ((c : Thread nD τ), sm n) n N) := fun s sm N => by
    rw [Pipeline.launchCred_sum]
    exact bigSep_mono fun n _ => Pipeline.launchCred_tallyAt (sm n) nxt prv nxt_prv prv_nxt n N c
  have hl : ∀ (s : Finset ℕ) (sm : ℕ → SemLoc sig) (N : ℕ), (Pipeline.launchCred (fun d => ∑ n ∈ s, tallyAt ((prv d : Thread nD τ), sm n) n N) c : sProp 𝕄)
      ⊢ bigSep s fun n => cred (tallyAt ((c : Thread nD τ), sm n) n N) := fun s sm N => by
    rw [Pipeline.launchCred_sum]
    exact bigSep_mono fun n _ => Pipeline.launchCred_tallyAt (sm n) prv nxt prv_nxt nxt_prv n N c
  rw [show (oweB : Dev nD → CellTallies nD τ sig ℕ) = fun d => tX d 0 + tGX d 3 + tA d 0 0 + tA d 1 0 + tGA d 1 + tH d 0 0 + tH d 1 0
      + tallyAt (gBr (nxt d)) 0 1 + tallyAt (gBr (prv d)) 0 1 from rfl]
  simp only [Pipeline.launchCred_add]
  iintro ⟨⟨⟨⟨⟨⟨⟨⟨H1, H2⟩, H3⟩, H4⟩, H5⟩, H6⟩, H7⟩, H8⟩, H9⟩
  unfold crs
  isplitl [H1]; · iapply (hr (fut 0 96) (fun n => xrS (f4 (n + 1))) NX); iexact H1
  isplitl [H2]; · iapply (hl (fut 3 96) (fun n => xcS) 1); iexact H2
  isplitl [H3 H4]
  · isplitl [H3]
    · iapply (hr (fut 0 96) (fun n => arS (f2 (n + 1)) 0) NA); iexact H3
    · iapply (hr (fut 0 96) (fun n => arS (f2 (n + 1)) 1) NA); iexact H4
  isplitl [H5]; · iapply (hl (fut 1 96) (fun n => acS) 1); iexact H5
  isplitl [H6 H7]
  · isplitl [H6]
    · iapply (hr (Finset.Ico 0 3) (fun n => hmS 0) NA); iexact H6
    · iapply (hr (Finset.Ico 0 3) (fun n => hmS 1) NA); iexact H7
  ihave H8 := (Pipeline.launchCred_tallyAt brS nxt prv nxt_prv prv_nxt 0 1 c) $$ H8
  ihave H9 := (Pipeline.launchCred_tallyAt brS prv nxt prv_nxt nxt_prv 0 1 c) $$ H9
  rw [show (2 : ℕ) = 1 + 1 from rfl, ← tallyAt_add]
  iapply (cred_add _ _).2
  isplitl [H8] <;> iassumption

/-! ## A device's start -/

/-- Its counters, at their beginning. -/
def posn (c : Dev nD) : sProp 𝕄 := bigSep ringSems fun s => iprop(atPos ER ((c : Thread nD τ), s) 0 ∅ 0 ∗ reached ER ((c : Thread nD τ), s) 0)
/-- What it holds of its own but its places and credits. -/
def lin (c : Dev nD) : sProp 𝕄 := iprop(posn c ∗ spend c ∗ rds c ∗ wts c)
/-- Its places. -/
def places (c : Dev nD) : sProp 𝕄 := iprop(plX c ∗ plA c aB ∗ plA c cB ∗ (pcAny c hB (rH 0) ∗ pcAny c hB (rH 1)))

omit [FloatOps F] in
theorem posB_start {ι : Type} [Fintype ι] [DecidableEq ι] (cell : ι → GSem nD τ sig) (pos : ι → ℕ) (h : ∀ i, pos i = 0) :
    (bigSep Finset.univ fun i => iprop(atPos ER (cell i) 0 ∅ 0 ∗ reached ER (cell i) 0) : sProp 𝕄) = posB cell pos := by
  unfold posB; exact bigSep_congr fun i _ => by rw [h i]

/-- Everything a device's run starts from. -/
theorem bst_intro (D : Dat F) (c : Dev nD) : iprop(lin c ∗ crs c ∗ places c) ⊢ bst D c := by
  have e : (posn c : sProp 𝕄) = famSep fun s => iprop(atPos ER ((c : Thread nD τ), s) 0 ∅ 0 ∗ reached ER ((c : Thread nD τ), s) 0) := ring_split _
  unfold lin
  rw [e]
  unfold famSep crs places spend rds wts bst fam0 brT
  iintro ⟨⟨⟨P1, P2, ⟨P3, P4⟩, ⟨P5, P6⟩, ⟨P7, P8⟩, ⟨P9, -⟩, ⟨P10, -⟩, ⟨P11, -⟩⟩, ⟨T0, T1, ⟨⟨T2, S0⟩, ⟨T3, S1⟩⟩, ⟨T4, T5⟩, ⟨T6, T7⟩, T8, T9, T10, T11⟩, ⟨R0, R1⟩, ⟨W0, W1, W2⟩⟩,
    ⟨C1, C2, ⟨C3, C4⟩, C5, ⟨C6, C7⟩, C8⟩, HP⟩
  isplitl [R0 R1 T8 T9 P11 C8 T10 T11]
  · isplitl [R0]; · iexact R0
    isplitl [R1]; · iexact R1
    isplitl [T8 T9]
    · isplitl [T8] <;> iassumption
    isplitl [P11]; · iexact P11
    isplitl [C8]; · iexact C8
    isplitl [T10] <;> iassumption
  isplitl [HP]; · iexact HP
  isplitl [T0 T1 W0 P1 P2 C1 P9 C2 T2 T3 T4 T5 W1 W2 P3 P4 P5 P6 C3 C4 P10 C5]
  · isplitl [T0 T1 W0 P1 P2 C1 P9 C2]
    · isplitl [T0 T1 W0]
      · unfold SX
        rw [bigSep_sep', bigSep_sep']
        isplitl [T0]; · iexact T0
        isplitl [T1]; · iexact T1
        iexact W0
      isplitl [P1]
      · unfold WX; rw [← posB_start _ _ (fun i : Fin 4 => by revert i; decide)]; iexact P1
      isplitl [P2 C1]
      · unfold RX; rw [← posB_start _ _ (fun i : Fin 4 => by revert i; decide)]
        isplitl [P2] <;> iassumption
      unfold CX
      isplitl [P9]
      · iexists ∅
        isplitr; · ipureintro; exact Finset.empty_subset _
        isplitl [P9]; · iexact P9
        rw [bigSep_empty]; iempintro
      iexact C2
    isplitl [T2 T3 T4 T5 W1 W2]
    · isplitl [T2 T4 W1]
      · unfold SA
        rw [bigSep_sep', bigSep_sep']
        isplitl [T2]; · iexact T2
        isplitl [T4]; · iexact T4
        iexact W1
      · unfold SA
        rw [bigSep_sep', bigSep_sep']
        isplitl [T3]; · iexact T3
        isplitl [T5]; · iexact T5
        iexact W2
    isplitl [P3 P4]
    · unfold WA; rw [← posB_start _ _ (fun i : Fin 2 => by revert i; decide), ← posB_start _ _ (fun i : Fin 2 => by revert i; decide)]
      isplitl [P3] <;> iassumption
    isplitl [P5 P6 C3 C4]
    · unfold RA; rw [← posB_start _ _ (fun i : Fin 2 => by revert i; decide), ← posB_start _ _ (fun i : Fin 2 => by revert i; decide)]
      isplitl [P5 C3]
      · isplitl [P5] <;> iassumption
      isplitl [P6] <;> iassumption
    unfold CA
    isplitl [P10]
    · iexists ∅
      isplitr; · ipureintro; exact Finset.empty_subset _
      isplitl [P10]; · iexact P10
      rw [bigSep_empty]; iempintro
    iexact C5
  isplitl [P7 P8 C6 C7]
  · unfold RH
    isplitl [P7 C6]
    · isplitl [P7] <;> iassumption
    isplitl [P8] <;> iassumption
  unfold SH SHt
  rw [bigSep_sep', bigSep_sep']
  isplitl [S0 T6]
  · isplitl [S0]; · iexact S0
    iexact T6
  isplitl [S1]; · iexact S1
  iexact T7

/-! ## The global step -/

section Glob
variable (D : Dat F)

/-- What the launch element deals a device. -/
def G (c : Dev nD) : sProp 𝕄 :=
  iprop((bigSep ringSems fun s => roundState ER (Rd D) ((c : Thread nD τ), s) 0)
    ∗ ((bigSep ringSems fun s => atPos ER ((c : Thread nD τ), s) 0 ∅ 0) ∗ (bigSep ringSems fun s => reached ER ((c : Thread nD τ), s) 0)) ∗ toks c
    ∗ (∃ ιs : Key → ℕ, bigSep keys fun k => slotInv ES (ιs k) k (Sl (F := F) k)) ∗ rds c ∗ wts c)

/-- What everyone knows, but the order of waits. -/
def Know' (κ : GSem nD τ sig → ℕ) (ιs : Key → ℕ) : sProp 𝕄 :=
  iprop((bigSep Finset.univ fun d : Dev nD => bigSep ringSems fun s => iprop(cellInv ER (Rd D) (κ ((d : Thread nD τ), s)) ((d : Thread nD τ), s) ∗ reached ER ((d : Thread nD τ), s) 0))
    ∗ bigSep keys fun k => slotInv ES (ιs k) k (Sl (F := F) k))

instance (κ : GSem nD τ sig → ℕ) (ιs : Key → ℕ) : BI.Persistent (Know' D κ ιs) := by unfold Know'; infer_instance

/-- What a device gets of the global step. -/
def G' (c : Dev nD) : sProp 𝕄 := iprop(∃ κ ιs, Know' D κ ιs ∗ lin c)

omit [FloatOps F] in
theorem cells_split (Φ : GSem nD τ sig → sProp 𝕄) : bigSep ringCells Φ = bigSep Finset.univ fun c : Dev nD => bigSep ringSems fun s => Φ ((c : Thread nD τ), s) := by
  unfold ringCells; rw [bigSep_map, bigSep_pairs]; rfl

/-- The launch element, dealt. -/
theorem fund_all : iprop(BI.own (ER (initOf ringCells ringToks)) ∗ BI.own (ES (initSlots keys 1))) ⊢ (|={Set.univ}=> bigSep Finset.univ (G D) : sProp 𝕄) := by
  have hT : bigSep ringToks (fun x => (dutyTok ER x.1 x.2.1 x.2.2 : sProp 𝕄)) = bigSep Finset.univ fun c : Dev nD => toks c := by
    unfold ringToks; rw [bigSep_map, bigSep_pairs]
    exact bigSep_congr fun c _ => by rw [Pipeline.bigSep_sigma]; rfl
  have hG : bigSep Finset.univ (G D) = iprop((bigSep Finset.univ fun c : Dev nD => bigSep ringSems fun s => roundState ER (Rd D) ((c : Thread nD τ), s) 0)
      ∗ ((bigSep Finset.univ fun c : Dev nD => bigSep ringSems fun s => atPos ER ((c : Thread nD τ), s) 0 ∅ 0) ∗ (bigSep Finset.univ fun c : Dev nD => bigSep ringSems fun s => reached ER ((c : Thread nD τ), s) 0))
      ∗ (bigSep Finset.univ fun c : Dev nD => (toks c : sProp 𝕄))
      ∗ (bigSep Finset.univ fun _ : Dev nD => iprop(∃ ιs : Key → ℕ, bigSep keys fun k => slotInv ES (ιs k) k (Sl (F := F) k)))
      ∗ bigSep Finset.univ fun c : Dev nD => (iprop(rds c ∗ wts c) : sProp 𝕄)) := by
    rw [show G D = fun c => _ from funext fun c => by unfold G; rfl]
    rw [bigSep_sep', bigSep_sep', bigSep_sep', bigSep_sep', bigSep_sep']
  iintro ⟨HR, HS⟩
  imod (Rounds.fund ER (Rd D) ringCells ringToks) $$ HR with ⟨Hst, Hr, Hat, Htok⟩
  imod (fund_slots (F := F)) $$ HS with ⟨%ιs, #Hi, Hw⟩
  imodintro
  ihave Hst := (Entails.of_eq (cells_split fun g => roundState ER (Rd D) g 0)) $$ Hst
  ihave Hat := (Entails.of_eq (cells_split fun g => atPos ER g 0 ∅ 0)) $$ Hat
  ihave Hr := (Entails.of_eq (cells_split fun g => reached ER g 0)) $$ Hr
  ihave Htok := (Entails.of_eq hT) $$ Htok
  ihave Hi' := (BI.bigSep_of_persistent (Finset.univ : Finset (Dev nD)) (iprop(∃ ιs : Key → ℕ, bigSep keys fun k => slotInv ES (ιs k) k (Sl (F := F) k)) : sProp 𝕄)) $$ []
  · iexists ιs; iexact Hi
  iapply (Entails.of_eq hG.symm)
  isplitl [Hst]; · iexact Hst
  isplitl [Hat Hr]
  · isplitl [Hat] <;> iassumption
  isplitl [Htok]; · iexact Htok
  isplitl [Hi']; · iexact Hi'
  iexact Hw

/-- A device's counters become invariants. -/
theorem core_alloc (c : Dev nD) :
    iprop(Pipeline.ownSems0 (Ix := ℕ) (Name := ℕ) (U := UU) (Lvl := ℕ) (Val := Elt F) (τ := τ) osem c ∗ unscopedSems0 c ∗ G D c)
      ⊢ |={Set.univ}=> iprop((bigSep ringSems fun s => iprop(∃ κ : ℕ, cellInv ER (Rd D) κ ((c : Thread nD τ), s)))
          ∗ ((bigSep ringSems fun s => atPos ER ((c : Thread nD τ), s) 0 ∅ 0) ∗ (bigSep ringSems fun s => reached ER ((c : Thread nD τ), s) 0)) ∗ toks c
          ∗ (∃ ιs : Key → ℕ, bigSep keys fun k => slotInv ES (ιs k) k (Sl (F := F) k)) ∗ rds c ∗ wts c) := by
  unfold G
  iintro ⟨Hos, Hus, Hst, Hr⟩
  ihave Hv := (Entails.of_eq (sems0_eq (F := F) c)) $$ [Hos Hus]
  · isplitl [Hos] <;> iassumption
  imod (show iprop((bigSep ringSems fun s => semVal ((c : Thread nD τ), s) 0) ∗ bigSep ringSems fun s => roundState ER (Rd D) ((c : Thread nD τ), s) 0)
      ⊢ (|={Set.univ}=> bigSep ringSems fun s => iprop(∃ κ : ℕ, cellInv ER (Rd D) κ ((c : Thread nD τ), s)) : sProp 𝕄) from by
        rw [← bigSep_sep']
        exact (bigSep_mono fun s _ => (Rounds.body_intro ER (Rd D) ((c : Thread nD τ), s)).trans inv_alloc).trans (bigSep_fupd _ _)) $$ [Hv Hst] with Hinv
  · isplitl [Hv] <;> iassumption
  imodintro
  isplitl [Hinv]; · iexact Hinv
  iexact Hr

/-- What the counters' sharing gives, regrouped. -/
theorem regroup : (bigSep Finset.univ fun c : Dev nD => iprop((bigSep ringSems fun s => iprop(∃ κ : ℕ, cellInv ER (Rd D) κ ((c : Thread nD τ), s)))
          ∗ ((bigSep ringSems fun s => atPos ER ((c : Thread nD τ), s) 0 ∅ 0) ∗ (bigSep ringSems fun s => reached ER ((c : Thread nD τ), s) 0)) ∗ toks c
          ∗ (∃ ιs : Key → ℕ, bigSep keys fun k => slotInv ES (ιs k) k (Sl (F := F) k)) ∗ rds c ∗ wts c) : sProp 𝕄)
    ⊢ bigSep Finset.univ (G' D) := by
  rw [bigSep_sep', bigSep_sep', bigSep_sep', bigSep_sep', bigSep_sep', bigSep_sep']
  rw [← cells_split (fun g => iprop(∃ κ : ℕ, cellInv ER (Rd D) κ g))]
  iintro ⟨HI, ⟨Hat, #HR⟩, Htok, #Hs, Hrd, Hwt⟩
  ihave HK := (BI.bigSep_exists_pi ringCells (fun (g : GSem nD τ sig) (κ : ℕ) => (cellInv ER (Rd D) κ g : sProp 𝕄))) $$ HI
  icases HK with ⟨%κ, #HI⟩
  have hel : (bigSep Finset.univ fun _ : Dev nD => (iprop(∃ ιs : Key → ℕ, bigSep keys fun k => slotInv ES (ιs k) k (Sl (F := F) k)) : sProp 𝕄))
      ⊢ (iprop(∃ ιs : Key → ℕ, bigSep keys fun k => slotInv ES (ιs k) k (Sl (F := F) k)) : sProp 𝕄) := bigSep_elim (Finset.mem_univ (0 : Dev nD))
  ihave #Hs0 := hel $$ Hs
  icases Hs0 with ⟨%ιs, #Hs1⟩
  ihave Htk := (toks_around (F := F)) $$ Htok
  have key : iprop(Know' D κ ιs ∗ bigSep Finset.univ fun c : Dev nD => (lin c : sProp 𝕄)) ⊢ bigSep Finset.univ (G' D) := by
    refine (sep_mono_left (BI.bigSep_of_persistent (Finset.univ : Finset (Dev nD)) (Know' D κ ιs))).trans ?_
    rw [← bigSep_sep']
    refine bigSep_mono fun c _ => ?_
    show iprop(Know' D κ ιs ∗ lin c) ⊢ G' D c
    unfold G'
    iintro H
    iexists κ; iexists ιs; iexact H
  iapply key
  isplitr
  · unfold Know'
    isplitl
    · rw [bigSep_congr (s := (Finset.univ : Finset (Dev nD))) fun d _ => bigSep_sep' ringSems (fun s => (cellInv ER (Rd D) (κ ((d : Thread nD τ), s)) ((d : Thread nD τ), s) : sProp 𝕄)) (fun s => reached ER ((d : Thread nD τ), s) 0),
        bigSep_sep', ← cells_split (fun g => (cellInv ER (Rd D) (κ g) g : sProp 𝕄))]
      isplitl; · iexact HI
      iexact HR
    · iexact Hs1
  · unfold lin posn
    rw [bigSep_sep', bigSep_sep', bigSep_sep',
      bigSep_congr (s := (Finset.univ : Finset (Dev nD))) fun d _ => bigSep_sep' ringSems (fun s => (atPos ER ((d : Thread nD τ), s) 0 ∅ 0 : sProp 𝕄)) (fun s => reached ER ((d : Thread nD τ), s) 0), bigSep_sep']
    isplitl [Hat]
    · isplitl [Hat]; · iexact Hat
      iexact HR
    isplitl [Htk]; · iexact Htk
    isplitl [Hrd] <;> iassumption

/-- The global step: every device's counters shared, and the tokens dealt. -/
theorem glob : (bigSep Finset.univ fun c => iprop(Pipeline.ownSems0 (Ix := ℕ) (Name := ℕ) (U := UU) (Lvl := ℕ) (Val := Elt F) (τ := τ) osem c ∗ unscopedSems0 c ∗ G D c) : sProp 𝕄)
    ⊢ |={Set.univ}=> bigSep Finset.univ (G' D) :=
  ((bigSep_mono fun c _ => core_alloc D c).trans (bigSep_fupd _ _)).trans (BI.fupd_mono (regroup D))

end Glob

end Cert.Proof

end
-- ==== Proof.Pieces.lean ====
/-
  Whole buffers and their pieces: the scratch buffers cut into the places the ring uses and put together again, the staged
  windows read whole, and the result window put together from its two halves.
-/
module

public import proofs.«01_k».proof.Proof.Start
public import proofs.«01_k».proof.Proof.Gen.KernelIdeal.Launch
public import Idealize.ShloMosaic.Lib.Ring

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## A buffer and its pieces -/

section Cut
variable {s : Shape} {e : EltTy} (M : Memref sig .tc .vmem s e) (hM : M.view.set = Finset.univ)
  {B : Type} [Fintype B] [DecidableEq B] (r : B → Rect s)
  (hd : ∀ b b', b ≠ b' → Disjoint (r b).set (r b').set) (hc : ∀ i, ∃ b, i ∈ (r b).set) (c : Dev nD)

include hd in
theorem cut_disjoint (b b' : B) (h : b ≠ b') : Disjoint (M.access (r b)).set (M.access (r b')).set := by
  show Disjoint (M.view.slice (r b)).set (M.view.slice (r b')).set
  rw [View.set_slice, View.set_slice]
  exact (Finset.disjoint_map _).mpr (hd b b' h)
include hM hc in
theorem cut_cover : Finset.biUnion (β := M.view.ty.Idx) Finset.univ (fun b => (M.access (r b)).set) = Finset.univ := by
  refine Finset.eq_univ_iff_forall.mpr fun i => ?_
  have hi : i ∈ M.view.set := hM ▸ Finset.mem_univ i
  obtain ⟨x, -, rfl⟩ := Finset.mem_map.mp hi
  obtain ⟨b, hb⟩ := hc x
  refine Finset.mem_biUnion.mpr ⟨b, Finset.mem_univ _, ?_⟩
  show M.view.emb x ∈ (M.view.slice (r b)).set
  rw [View.set_slice]
  exact Finset.mem_map_of_mem _ hb

omit [FloatOps F] in
include hM hd hc in
/-- A whole buffer is its pieces, -/
theorem cut : iprop(∃ f : Buf (Elt F) (M.view.loc (c : Thread nD τ)), M.view.loc (c : Thread nD τ) ↦{fullShare} f) ⊢ (bigSep Finset.univ fun b => pcAny c M (r b) : sProp 𝕄) := by
  have h2 : ∀ f : Buf (Elt F) (M.view.loc (c : Thread nD τ)), (bigSep Finset.univ fun b => M.view.loc (c : Thread nD τ) ↦[(M.access (r b)).set]{fullShare} f : sProp 𝕄) ⊢ bigSep Finset.univ fun b => pcAny c M (r b) := fun f => bigSep_mono fun b _ => by
    show _ ⊢ (iprop(∃ f : Buf (Elt F) (M.view.loc (c : Thread nD τ)), M.view.loc (c : Thread nD τ) ↦[(M.access (r b)).set]{fullShare} f) : sProp 𝕄)
    iintro H
    iexists f; iexact H
  iintro ⟨%f, H⟩
  ihave H := (Entails.of_eq (Ring.pointsTo_blocks (ℓ := M.view.loc (c : Thread nD τ)) (q := fullShare) (fun b => (M.access (r b)).set) (cut_disjoint M r hd) (cut_cover M hM r hc) f)) $$ H
  iapply (h2 f)
  iexact H

include hM hd hc in
/-- and its pieces make it whole. -/
theorem mend : (bigSep Finset.univ fun b => pcAny c M (r b) : sProp 𝕄) ⊢ iprop(∃ f : Buf (Elt F) (M.view.loc (c : Thread nD τ)), M.view.loc (c : Thread nD τ) ↦{fullShare} f) := by
  unfold pcAny slot
  exact Ring.pointsTo_blocks_join_exists (ℓ := M.view.loc (c : Thread nD τ)) (q := fullShare) (fun b => (M.access (r b)).set) (cut_disjoint M r hd) (cut_cover M hM r hc) (fun _ => Classical.arbitrary _)

omit [FloatOps F] in
/-- A window read whole. -/
theorem full_pc (r : Rect s) (hr : (M.access r).set = Finset.univ) (f : Buf (Elt F) (M.view.loc (c : Thread nD τ))) :
    (M.view.loc (c : Thread nD τ) ↦{fullShare} f) ⊢ (pc c M r fullShare (M.view.readAt (Elt F) r.toLoadRect f) : sProp 𝕄) := by
  iintro H
  iapply (pc_intro c M r fullShare _ f rfl)
  rw [hr]; iexact H
omit [FloatOps F] in
theorem pc_full (r : Rect s) (hr : (M.access r).set = Finset.univ) (X : r.shape.Idx → Elt F e) :
    pc c M r fullShare X ⊢ (iprop(∃ f : Buf (Elt F) (M.view.loc (c : Thread nD τ)), ⌜M.view.readAt (Elt F) r.toLoadRect f = X⌝ ∗ (M.view.loc (c : Thread nD τ) ↦{fullShare} f)) : sProp 𝕄) := by
  unfold pc
  rw [hr]
end Cut

/-! ## The scratch buffers -/

theorem xSlots_disjoint (b b' : Fin 4) (h : b ≠ b') : Disjoint (rX b).set (rX b').set :=
  Rect.unit_disjoint 0 (by
    have : b.val ≠ b'.val := fun e => h (Fin.ext e)
    show b.val + 1 ≤ b'.val ∨ b'.val + 1 ≤ b.val
    omega)
theorem xSlots_cover (i : S4x64x1024.Idx) : ∃ b, i ∈ (rX b).set :=
  ⟨i 0, Rect.mem_set_unit.mpr fun a => by
    have h := (i a).isLt
    fin_cases a
    · exact ⟨le_refl _, Nat.lt_succ_self _⟩
    · exact ⟨Nat.zero_le _, by simpa using h⟩
    · exact ⟨Nat.zero_le _, by simpa using h⟩⟩
theorem aSlots_disjoint (b b' : Fin 2 × Fin 2) (h : b ≠ b') : Disjoint (rA b.1 b.2).set (rA b'.1 b'.2).set := by
  by_cases h1 : b.1 = b'.1
  · have h2 : b.2.val ≠ b'.2.val := fun e => h (Prod.ext h1 (Fin.ext e))
    exact Rect.unit_disjoint 1 (by
      show b.2.val + 1 ≤ b'.2.val ∨ b'.2.val + 1 ≤ b.2.val
      omega)
  · have h2 : b.1.val ≠ b'.1.val := fun e => h1 (Fin.ext e)
    exact Rect.unit_disjoint 0 (by
      show b.1.val + 1 ≤ b'.1.val ∨ b'.1.val + 1 ≤ b.1.val
      omega)
theorem aSlots_cover (i : S2x2x64x512.Idx) : ∃ b : Fin 2 × Fin 2, i ∈ (rA b.1 b.2).set :=
  ⟨(i 0, i 1), Rect.mem_set_unit.mpr fun a => by
    have h := (i a).isLt
    fin_cases a
    · exact ⟨le_refl _, Nat.lt_succ_self _⟩
    · exact ⟨le_refl _, Nat.lt_succ_self _⟩
    · exact ⟨Nat.zero_le _, by simpa using h⟩
    · exact ⟨Nat.zero_le _, by simpa using h⟩⟩
theorem hSlots_disjoint (b b' : Fin 2) (h : b ≠ b') : Disjoint (rH b).set (rH b').set :=
  Rect.unit_disjoint 0 (by
    have : b.val ≠ b'.val := fun e => h (Fin.ext e)
    show b.val + 1 ≤ b'.val ∨ b'.val + 1 ≤ b.val
    omega)
theorem hSlots_cover (i : S2x64x512.Idx) : ∃ b, i ∈ (rH b).set :=
  ⟨i 0, Rect.mem_set_unit.mpr fun a => by
    have h := (i a).isLt
    fin_cases a
    · exact ⟨le_refl _, Nat.lt_succ_self _⟩
    · exact ⟨Nat.zero_le _, by simpa using h⟩
    · exact ⟨Nat.zero_le _, by simpa using h⟩⟩

section Scratch
variable (c : Dev nD)

omit [FloatOps F] in
theorem places_intro : (Pipeline.scopedRest cfg0.spec c : sProp 𝕄) ⊢ places c := by
  rw [show cfg0.spec = spec0 from rfl, scopedRest0_eq]
  have hX : iprop(∃ f : Buf (Elt F) (xB.view.loc (c : Thread nD τ)), xB.view.loc (c : Thread nD τ) ↦{fullShare} f) ⊢ (plX c : sProp 𝕄) := by
    refine (cut (F := F) xB (View.set_whole _) rX xSlots_disjoint xSlots_cover c).trans ?_
    rw [bigSep_four]; exact .rfl
  have hA : ∀ (M : Memref sig .tc .vmem S2x2x64x512 .f32) (hM : M.view.set = Finset.univ),
      iprop(∃ f : Buf (Elt F) (M.view.loc (c : Thread nD τ)), M.view.loc (c : Thread nD τ) ↦{fullShare} f) ⊢ (plA c M : sProp 𝕄) := fun M hM => by
    refine (cut (F := F) M hM (fun b : Fin 2 × Fin 2 => rA b.1 b.2) aSlots_disjoint aSlots_cover c).trans ?_
    rw [bigSep_univ_prod, bigSep_two, bigSep_two, bigSep_two]; exact .rfl
  have hH : iprop(∃ f : Buf (Elt F) (hB.view.loc (c : Thread nD τ)), hB.view.loc (c : Thread nD τ) ↦{fullShare} f) ⊢ (iprop(pcAny c hB (rH 0) ∗ pcAny c hB (rH 1)) : sProp 𝕄) := by
    refine (cut (F := F) hB (View.set_whole _) rH hSlots_disjoint hSlots_cover c).trans ?_
    rw [bigSep_two]
  unfold places
  iintro ⟨HX, HA, HC, HH⟩
  ihave HX := hX $$ HX
  ihave HA := (hA aB (View.set_whole _)) $$ HA
  ihave HC := (hA cB (View.set_whole _)) $$ HC
  ihave HH := hH $$ HH
  isplitl [HX]; · iexact HX
  isplitl [HA]; · iexact HA
  isplitl [HC]; · iexact HC
  iexact HH

theorem rest_intro : iprop((pcAny c xB (rX 0) ∗ pcAny c xB (rX 1) ∗ pcAny c xB (rX 2) ∗ pcAny c xB (rX 3)) ∗ plA c aB ∗ plA c cB ∗ (pcAny c hB (rH 0) ∗ pcAny c hB (rH 1)))
    ⊢ (Pipeline.scopedRest cfg0.spec c : sProp 𝕄) := by
  rw [show cfg0.spec = spec0 from rfl, scopedRest0_eq]
  have h4 := fun (M : Memref sig .tc .vmem S2x2x64x512 .f32) (hM : M.view.set = Finset.univ) => mend (F := F) M hM (fun b : Fin 2 × Fin 2 => rA b.1 b.2) aSlots_disjoint aSlots_cover c
  have hp : ∀ M : Memref sig .tc .vmem S2x2x64x512 .f32, (plA c M : sProp 𝕄) ⊢ bigSep Finset.univ fun b : Fin 2 × Fin 2 => pcAny c M (rA b.1 b.2) := fun M => by
    rw [bigSep_univ_prod, bigSep_two, bigSep_two, bigSep_two]
    exact .rfl
  iintro ⟨HX, HA, HC, HH⟩
  isplitl [HX]
  · iapply (mend (F := F) xB (View.set_whole _) rX xSlots_disjoint xSlots_cover c)
    rw [bigSep_four]; iexact HX
  isplitl [HA]
  · iapply (h4 aB (View.set_whole _)); iapply (hp aB); iexact HA
  isplitl [HC]
  · iapply (h4 cB (View.set_whole _)); iapply (hp cB); iexact HC
  iapply (mend (F := F) hB (View.set_whole _) rH hSlots_disjoint hSlots_cover c)
  rw [bigSep_two]; iexact HH
end Scratch

/-! ## The windows -/

theorem hz : (![0, 0] : Fin 2 → ℕ) = fun _ => 0 := funext fun a => by fin_cases a <;> rfl

/-- A buffer staged at `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The access of a whole window covers it. -/
theorem window_set {sp : Space} {s : Shape} {e : EltTy} (M : Memref sig .tc sp s e) (hM : M.view.set = Finset.univ) {off : Fin s.rank → ℕ} (h : off = fun _ => 0)
    (inb : ∀ a, off a + s.size a ≤ s.size a) : (M.access (Rect.unit (s := s) off s.size inb)).set = Finset.univ := by
  subst h
  refine Finset.eq_univ_iff_forall.mpr fun i => ?_
  have hi : i ∈ M.view.set := hM ▸ Finset.mem_univ i
  obtain ⟨x, -, rfl⟩ := Finset.mem_map.mp hi
  show M.view.emb x ∈ (M.view.slice (Rect.unit (s := s) (fun _ => 0) s.size inb)).set
  rw [View.set_slice]
  exact Finset.mem_map_of_mem _ (Rect.mem_set_unit.mpr fun a => ⟨Nat.zero_le _, by have := (x a).isLt; omega⟩)

/-! ## The result -/

section Out
variable (c : Dev nD) (X0 X1 : FVec F S64x512 .f32) (Z : FVec F S64x1024 .f32)

/-- The result window. -/
abbrev oM : Memref sig .tc .vmem S64x1024 .f32 := Memref.whole cc0_stg7_0

/-- The two halves beside each other. -/
def beside : FVec F S64x1024 .f32 :=
  (oM.access ro1).write (Elt F) ((oM.access ro0).write (Elt F) Z X0 Finset.univ) X1 Finset.univ

theorem halves_disjoint : Disjoint (oM.access ro0).set (oM.access ro1).set := by
  show Disjoint (oM.view.slice ro0).set (oM.view.slice ro1).set
  rw [View.set_slice, View.set_slice]
  exact (Finset.disjoint_map _).mpr (Rect.unit_disjoint 1 (.inl (by decide)))
theorem halves_cover : (oM.access ro0).set ∪ (oM.access ro1).set = Finset.univ := by
  refine Finset.eq_univ_iff_forall.mpr fun i => ?_
  have hi : i ∈ oM.view.set := (View.set_whole _) ▸ Finset.mem_univ i
  obtain ⟨x, -, rfl⟩ := Finset.mem_map.mp hi
  rw [Finset.mem_union]
  show oM.view.emb x ∈ (oM.view.slice ro0).set ∨ oM.view.emb x ∈ (oM.view.slice ro1).set
  rw [View.set_slice, View.set_slice]
  have h0 : (x 0).val < 64 := (x 0).isLt
  have h1 : (x 1).val < 1024 := (x 1).isLt
  by_cases h : (x 1).val < 512
  · refine .inl (Finset.mem_map_of_mem _ (Rect.mem_set_unit.mpr fun a => ?_))
    fin_cases a
    · exact ⟨Nat.zero_le _, by simpa using h0⟩
    · exact ⟨Nat.zero_le _, by simpa using h⟩
  · refine .inr (Finset.mem_map_of_mem _ (Rect.mem_set_unit.mpr fun a => ?_))
    fin_cases a
    · exact ⟨Nat.zero_le _, by simpa using h0⟩
    · exact ⟨by simpa using h, by simpa using h1⟩

omit [FloatOps F] in
theorem beside_left : oM.view.readAt (Elt F) ro0.toLoadRect (beside X0 X1 Z) = X0 := by
  show (oM.access ro0).read (Elt F) _ = _
  refine (View.read_congr (v := oM.access ro0) (g := (oM.access ro0).write (Elt F) Z X0 Finset.univ) fun i hi => ?_).trans (View.read_write_univ (Val := Elt F) (v := oM.access ro0) Z X0)
  exact View.write_of_not_mem (Val := Elt F) (v := oM.access ro1) _ X1 Finset.univ fun h => Finset.disjoint_left.mp halves_disjoint hi h
omit [FloatOps F] in
theorem beside_right : oM.view.readAt (Elt F) ro1.toLoadRect (beside X0 X1 Z) = X1 := by
  exact View.read_write_univ (Val := Elt F) (v := oM.access ro1) _ _

omit [FloatOps F] in
/-- What reads the same there is the same there. -/
theorem agree_of_read {sp : Space} {s : Shape} {e : EltTy} (v : View sig .tc sp s e) (f g : v.ty.Contents (Elt F)) (h : v.read (Elt F) f = v.read (Elt F) g) :
    ∀ i ∈ v.set, f i = g i := fun i hi => by
  obtain ⟨x, -, rfl⟩ := Finset.mem_map.mp hi
  have := congrFun h x
  rw [View.read_apply, View.read_apply] at this
  exact (cast_inj _).mp this

omit [FloatOps F] in
/-- The two halves stored are the whole result. -/
theorem out_join : iprop(pc c oM ro0 fullShare X0 ∗ pc c oM ro1 fullShare X1) ⊢ (stg c cc0_stg7_0 (beside X0 X1 Z) : sProp 𝕄) := by
  unfold pc stg
  iintro ⟨⟨%f, %hf, HA⟩, ⟨%g, %hg, HB⟩⟩
  ihave HA := (Entails.of_eq (pointsTo_congr (agree_of_read (oM.access ro0) f (beside X0 X1 Z) (hf.trans (beside_left X0 X1 Z).symm)))) $$ HA
  ihave HB := (Entails.of_eq (pointsTo_congr (agree_of_read (oM.access ro1) g (beside X0 X1 Z) (hg.trans (beside_right X0 X1 Z).symm)))) $$ HB
  iexists (beside X0 X1 Z)
  isplitr; · ipureintro; rfl
  ihave H := (pointsTo_union (ℓ := oM.view.loc (c : Thread nD τ)) (q := fullShare) halves_disjoint).2 $$ [HA HB]
  · isplitl [HA] <;> iassumption
  rw [halves_cover]
  iexact H

omit [FloatOps F] in
/-- A result window is its halves. -/
theorem out_cut : iprop(∃ f : Buf (Elt F) ((c : Thread nD τ).loc cc0_stg7_0), ((c : Thread nD τ).loc cc0_stg7_0) ↦{fullShare} f) ⊢ (iprop(pcAny c oM ro0 ∗ pcAny c oM ro1) : sProp 𝕄) := by
  unfold pcAny slot
  iintro ⟨%f, H⟩
  ihave H := (Entails.of_eq (show ((c : Thread nD τ).loc cc0_stg7_0 ↦{fullShare} f : sProp 𝕄) = (oM.view.loc (c : Thread nD τ) ↦[(oM.access ro0).set ∪ (oM.access ro1).set]{fullShare} f) by rw [halves_cover])) $$ H
  ihave H := (pointsTo_union (ℓ := oM.view.loc (c : Thread nD τ)) (q := fullShare) halves_disjoint).1 $$ H
  icases H with ⟨HA, HB⟩
  isplitl [HA]
  · iexists f; iexact HA
  · iexists f; iexact HB
end Out

end Cert.Proof

end
-- ==== Proof.Run.lean ====
/-
  The run: what each device's program holds before and after its one grid point, that point's obligation, and the launch of
  all devices.
-/
module

public import proofs.«01_k».proof.Proof.Pieces
public import proofs.«01_k».proof.Proof.Gen.KernelIdeal.Points
public import proofs.«01_k».proof.Proof.Gen.KernelIdeal.Frame
public import Idealize.ShloMosaic.Lib.Pipeline.CollectiveSegs

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

open Idealize.ShloMosaic.Pipeline (BodyObligation)

/-! ## The data -/

section Run
variable (m : (ℓ : Loc nD τ sig) → Buf (Elt F) ℓ) (ρ : Dev nD → PrngReg)

/-- The machine at launch: memory as given, every counter at zero. -/
abbrev s₀ : MemSt nD τ sig (Elt F) := ⟨m, fun _ => 0, ρ⟩

/-- Each device's blocks. -/
def Dm : Cert.Proof.Dat F where
  x c := iblk m c 0 t0_0
  wi l c := match l with
    | 0 => iblk m c 1 t0_0
    | 1 => iblk m c 3 t0_0
    | _ => iblk m c 5 t0_0
  wo l c := match l with
    | 0 => iblk m c 2 t0_0
    | 1 => iblk m c 4 t0_0
    | _ => iblk m c 6 t0_0

/-- A device's result: its two halves of the last layer's home sum beside each other. -/
def outAt (c : Dev nD) : FVec F S64x1024 .f32 :=
  beside (k0_pay42 ((Dm m).hom 2 c 0)) (k0_pay43 ((Dm m).hom 2 c 1)) ((Dm m).x c)

/-- What a device's program starts from: who may wait, its counters and landings, its credits. -/
def start (c : Dev nD) : sProp 𝕄 := iprop((levAts LL lv : sProp 𝕄) ∗ G' (Dm m) c ∗ crs c)
def Φ₀ (c : Dev nD) : sProp 𝕄 := iprop(start m c ∗ Pipeline.scopedRest cfg0.spec c)
/-- What it ends with: every counter at zero, the scratch buffers whole. -/
def Φ₁ (c : Dev nD) : sProp 𝕄 := iprop((bigSep ringSems fun s => semVal ((c : Thread nD τ), s) 0) ∗ Pipeline.scopedRest cfg0.spec c)

def dats (_ : Fin 1) (c : Dev nD) : Pipeline.Dat τ (Elt F) ℕ ℕ UU ℕ cfg0 c where
  A w := m ((cfg0.win w).arr.view.loc (c : Thread nD τ))
  after w _ := match w with
    | ⟨0, _⟩ => (Dm m).x c
    | ⟨1, _⟩ => (Dm m).wi 0 c
    | ⟨2, _⟩ => (Dm m).wo 0 c
    | ⟨3, _⟩ => (Dm m).wi 1 c
    | ⟨4, _⟩ => (Dm m).wo 1 c
    | ⟨5, _⟩ => (Dm m).wi 2 c
    | ⟨6, _⟩ => (Dm m).wo 2 c
    | ⟨7, _⟩ => outAt m c
  Φ t := match t with
    | ⟨0, _⟩ => Φ₀ m c
    | ⟨_ + 1, _⟩ => Φ₁ c
  q _ := fullShare
  owed t := match t with
    | ⟨0, _⟩ => oweB c
    | ⟨_ + 1, _⟩ => 0

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

/-! ## The body's obligation -/

omit [FloatOps F] in
/-- A window staged at `X`, as a piece, -/
theorem stg_pc (c : Dev nD) (b : Ref sig .tc) {off : Fin b.ty.shape.rank → ℕ} (h : off = fun _ => 0) (inb : ∀ a, off a + b.ty.shape.size a ≤ b.ty.shape.size a)
    (X : b.ty.Contents (Elt F)) : stg c b X ⊢ (iprop(∃ f : Buf (Elt F) ((Memref.whole b : Memref sig .tc _ _ _).view.loc (c : Thread nD τ)), ⌜(Memref.whole b : Memref sig .tc _ _ _).view.readAt (Elt F) (Rect.unit off b.ty.shape.size inb).toLoadRect f = X⌝
      ∗ ((Memref.whole b : Memref sig .tc _ _ _).view.loc (c : Thread nD τ) ↦[((Memref.whole b : Memref sig .tc _ _ _).access (Rect.unit off b.ty.shape.size inb)).set]{fullShare} f)) : sProp 𝕄) := by
  rw [window_set (Memref.whole b) (View.set_whole _) h inb]
  iintro ⟨%f, %hf, H⟩
  iexists f
  isplitr
  · ipureintro; exact (Memref.readAt_unit_zero (Elt F) b h inb f).trans hf
  · iexact H
omit [FloatOps F] in
/-- and back. -/
theorem pc_stg (c : Dev nD) (b : Ref sig .tc) {off : Fin b.ty.shape.rank → ℕ} (h : off = fun _ => 0) (inb : ∀ a, off a + b.ty.shape.size a ≤ b.ty.shape.size a)
    (X : b.ty.Contents (Elt F)) : (iprop(∃ f : Buf (Elt F) ((Memref.whole b : Memref sig .tc _ _ _).view.loc (c : Thread nD τ)), ⌜(Memref.whole b : Memref sig .tc _ _ _).view.readAt (Elt F) (Rect.unit off b.ty.shape.size inb).toLoadRect f = X⌝
      ∗ ((Memref.whole b : Memref sig .tc _ _ _).view.loc (c : Thread nD τ) ↦[((Memref.whole b : Memref sig .tc _ _ _).access (Rect.unit off b.ty.shape.size inb)).set]{fullShare} f)) : sProp 𝕄) ⊢ stg c b X := by
  rw [window_set (Memref.whole b) (View.set_whole _) h inb]
  iintro ⟨%f, %hf, H⟩
  iexists f
  isplitr
  · ipureintro; exact (Memref.readAt_unit_zero (Elt F) b h inb f).symm.trans hf
  · iexact H

/-- The staged windows. -/
def stgs (c : Dev nD) : sProp 𝕄 :=
  iprop(stg c cc0_stg0_0 ((Dm m).x c) ∗ stg c cc0_stg1_0 ((Dm m).wi 0 c) ∗ stg c cc0_stg2_0 ((Dm m).wo 0 c) ∗ stg c cc0_stg3_0 ((Dm m).wi 1 c) ∗ stg c cc0_stg4_0 ((Dm m).wo 1 c) ∗ stg c cc0_stg5_0 ((Dm m).wi 2 c) ∗ stg c cc0_stg6_0 ((Dm m).wo 2 c))

theorem wins_of (c : Dev nD) : stgs m c ⊢ wins (Memref.whole cc0_stg0_0) (Memref.whole cc0_stg1_0) (Memref.whole cc0_stg2_0) (Memref.whole cc0_stg3_0) (Memref.whole cc0_stg4_0) (Memref.whole cc0_stg5_0) (Memref.whole cc0_stg6_0) (Dm m) c := by
  unfold stgs wins Wt pc
  iintro ⟨H0, H1, H2, H3, H4, H5, H6⟩
  isplitl [H0]; · iapply (stg_pc c cc0_stg0_0 hz inb_S64x1024_S64x1024_0_0); iexact H0
  isplitl [H1 H2]
  · isplitl [H1]
    · iapply (stg_pc c cc0_stg1_0 hz inb_S1024x2048_S1024x2048_0_0); iexact H1
    · iapply (stg_pc c cc0_stg2_0 hz inb_S2048x1024_S2048x1024_0_0); iexact H2
  isplitl [H3 H4]
  · isplitl [H3]
    · iapply (stg_pc c cc0_stg3_0 hz inb_S1024x2048_S1024x2048_0_0); iexact H3
    · iapply (stg_pc c cc0_stg4_0 hz inb_S2048x1024_S2048x1024_0_0); iexact H4
  · isplitl [H5]
    · iapply (stg_pc c cc0_stg5_0 hz inb_S1024x2048_S1024x2048_0_0); iexact H5
    · iapply (stg_pc c cc0_stg6_0 hz inb_S2048x1024_S2048x1024_0_0); iexact H6
theorem of_wins (c : Dev nD) : wins (Memref.whole cc0_stg0_0) (Memref.whole cc0_stg1_0) (Memref.whole cc0_stg2_0) (Memref.whole cc0_stg3_0) (Memref.whole cc0_stg4_0) (Memref.whole cc0_stg5_0) (Memref.whole cc0_stg6_0) (Dm m) c ⊢ stgs m c := by
  unfold stgs wins Wt pc
  iintro ⟨H0, ⟨H1, H2⟩, ⟨H3, H4⟩, ⟨H5, H6⟩⟩
  isplitl [H0]; · iapply (pc_stg c cc0_stg0_0 hz inb_S64x1024_S64x1024_0_0); iexact H0
  isplitl [H1]; · iapply (pc_stg c cc0_stg1_0 hz inb_S1024x2048_S1024x2048_0_0); iexact H1
  isplitl [H2]; · iapply (pc_stg c cc0_stg2_0 hz inb_S2048x1024_S2048x1024_0_0); iexact H2
  isplitl [H3]; · iapply (pc_stg c cc0_stg3_0 hz inb_S1024x2048_S1024x2048_0_0); iexact H3
  isplitl [H4]; · iapply (pc_stg c cc0_stg4_0 hz inb_S2048x1024_S2048x1024_0_0); iexact H4
  isplitl [H5]; · iapply (pc_stg c cc0_stg5_0 hz inb_S1024x2048_S1024x2048_0_0); iexact H5
  iapply (pc_stg c cc0_stg6_0 hz inb_S2048x1024_S2048x1024_0_0); iexact H6

/-- The places the body gives back are the scratch buffers. -/
theorem rest_of (D : Cert.Proof.Dat F) (c : Dev nD) : iprop((pcAny c cB (rA (f2 (32 * 2 + 32)) 0) ∗ pcAny c cB (rA (f2 (32 * 2 + 32)) 1)) ∗ kept c 2 31
    ∗ tlA c 2 ∗ (pcAny c aB (rA (f2 (32 * 2 + 31)) 0) ∗ pcAny c aB (rA (f2 (32 * 2 + 31)) 1)) ∗ (pcAny c cB (rA (f2 (32 * 2 + 31)) 0) ∗ pcAny c cB (rA (f2 (32 * 2 + 31)) 1))
      ∗ (pcAny c hB (rH 0) ∗ pcAny c hB (rH 1))) ⊢ (Pipeline.scopedRest cfg0.spec c : sProp 𝕄) := by
  have hk : (kept c 2 31 : sProp 𝕄) = iprop(pcAny c xB (rX 0) ∗ pcAny c xB (rX 1) ∗ pcAny c xB (rX 2) ∗ pcAny c xB (rX 3)) := by
    unfold kept
    rw [show (Finset.univ.filter fun i : Fin 4 => 28 + i.val ≤ 31 ∧ (2 = 2 ∨ i = 0)) = Finset.univ by decide, bigSep_four]
  rw [hk]
  unfold tlA
  iintro ⟨HC0, HX, HA0, HA1, HC1, HH⟩
  iapply (rest_intro (F := F) c)
  unfold plA
  isplitl [HX]; · iexact HX
  isplitl [HA0 HA1]
  · isplitl [HA0]
    · iexact HA0
    · iexact HA1
  isplitl [HC0 HC1]
  · isplitl [HC0]
    · iexact HC0
    · iexact HC1
  iexact HH

def bodyPre (c : Dev nD) : sProp 𝕄 :=
  iprop(Φ₀ m c ∗ (dats m 0 c).owesAt 0 t0_0.castSucc
    ∗ (∃ d, stg c cc0_stg0_0 ((dats m 0 c).before (0 : Fin 8) t0_0 d))
    ∗ (∃ d, stg c cc0_stg1_0 ((dats m 0 c).before (1 : Fin 8) t0_0 d))
    ∗ (∃ d, stg c cc0_stg2_0 ((dats m 0 c).before (2 : Fin 8) t0_0 d))
    ∗ (∃ d, stg c cc0_stg3_0 ((dats m 0 c).before (3 : Fin 8) t0_0 d))
    ∗ (∃ d, stg c cc0_stg4_0 ((dats m 0 c).before (4 : Fin 8) t0_0 d))
    ∗ (∃ d, stg c cc0_stg5_0 ((dats m 0 c).before (5 : Fin 8) t0_0 d))
    ∗ (∃ d, stg c cc0_stg6_0 ((dats m 0 c).before (6 : Fin 8) t0_0 d))
    ∗ (∃ d, stg c cc0_stg7_0 ((dats m 0 c).before (7 : Fin 8) t0_0 d)))
def bodyPost (c : Dev nD) : sProp 𝕄 :=
  iprop(Φ₁ c ∗ (dats m 0 c).owesAt 0 t0_0.succ ∗ stg c cc0_stg0_0 ((Dm m).x c) ∗ stg c cc0_stg1_0 ((Dm m).wi 0 c) ∗ stg c cc0_stg2_0 ((Dm m).wo 0 c) ∗ stg c cc0_stg3_0 ((Dm m).wi 1 c) ∗ stg c cc0_stg4_0 ((Dm m).wo 1 c) ∗ stg c cc0_stg5_0 ((Dm m).wi 2 c) ∗ stg c cc0_stg6_0 ((Dm m).wo 2 c) ∗ stg c cc0_stg7_0 (outAt m c))

/-- Before the body every input window holds its block. -/
theorem before_in (c : Dev nD) :
    (∀ d, (dats m 0 c).before (0 : Fin 8) t0_0 d = (Dm m).x c) ∧ (∀ d, (dats m 0 c).before (1 : Fin 8) t0_0 d = (Dm m).wi 0 c) ∧ (∀ d, (dats m 0 c).before (2 : Fin 8) t0_0 d = (Dm m).wo 0 c) ∧ (∀ d, (dats m 0 c).before (3 : Fin 8) t0_0 d = (Dm m).wi 1 c) ∧ (∀ d, (dats m 0 c).before (4 : Fin 8) t0_0 d = (Dm m).wo 1 c) ∧ (∀ d, (dats m 0 c).before (5 : Fin 8) t0_0 d = (Dm m).wi 2 c) ∧ (∀ d, (dats m 0 c).before (6 : Fin 8) t0_0 d = (Dm m).wo 2 c) := by
  refine ⟨?_, ?_, ?_, ?_, ?_, ?_, ?_⟩ <;> intro d
  · unfold Pipeline.Dat.before; rw [if_pos (fetch0_0 t0_0)]; rfl
  · unfold Pipeline.Dat.before; rw [if_pos (fetch0_1 t0_0)]; rfl
  · unfold Pipeline.Dat.before; rw [if_pos (fetch0_2 t0_0)]; rfl
  · unfold Pipeline.Dat.before; rw [if_pos (fetch0_3 t0_0)]; rfl
  · unfold Pipeline.Dat.before; rw [if_pos (fetch0_4 t0_0)]; rfl
  · unfold Pipeline.Dat.before; rw [if_pos (fetch0_5 t0_0)]; rfl
  · unfold Pipeline.Dat.before; rw [if_pos (fetch0_6 t0_0)]; rfl

set_option maxRecDepth 8000 in
/-- One device's program, from what it starts with to what it ends with. -/
theorem run_body (c : Dev nD) : bodyPre m c ⊢ WP c
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10) (fun _ => bodyPost m c) := by
  obtain ⟨e0, e1, e2, e3, e4, e5, e6⟩ := before_in m c
  unfold bodyPre Φ₀ start G' Pipeline.Dat.owesAt Pipeline.owesWithin
  rw [show (dats m 0 c).owed t0_0.castSucc = oweB c from rfl]
  iintro ⟨⟨⟨#HL, ⟨%κ, %ιs, #HK, Hl⟩, Hc⟩, HR⟩, ⟨%W, -, HO⟩, ⟨%d0, H0⟩, ⟨%d1, H1⟩, ⟨%d2, H2⟩, ⟨%d3, H3⟩, ⟨%d4, H4⟩, ⟨%d5, H5⟩, ⟨%d6, H6⟩, ⟨%d7, %g7, -, H7⟩⟩
  ihave H0 := (Entails.of_eq (congrArg (stg c cc0_stg0_0) (e0 d0))) $$ H0
  ihave H1 := (Entails.of_eq (congrArg (stg c cc0_stg1_0) (e1 d1))) $$ H1
  ihave H2 := (Entails.of_eq (congrArg (stg c cc0_stg2_0) (e2 d2))) $$ H2
  ihave H3 := (Entails.of_eq (congrArg (stg c cc0_stg3_0) (e3 d3))) $$ H3
  ihave H4 := (Entails.of_eq (congrArg (stg c cc0_stg4_0) (e4 d4))) $$ H4
  ihave H5 := (Entails.of_eq (congrArg (stg c cc0_stg5_0) (e5 d5))) $$ H5
  ihave H6 := (Entails.of_eq (congrArg (stg c cc0_stg6_0) (e6 d6))) $$ H6
  ihave #HW : Know (Dm m) κ ιs $$ [HL HK]
  · unfold Know Know'
    isplitr <;> iassumption
  ihave HP := (places_intro (F := F) c) $$ HR
  ihave HB := (bst_intro (Dm m) c) $$ [Hl Hc HP]
  · isplitl [Hl]; · iexact Hl
    isplitl [Hc] <;> iassumption
  ihave HS := (wins_of m c) $$ [H0 H1 H2 H3 H4 H5 H6]
  · unfold stgs
    isplitl [H0]; · iexact H0
    isplitl [H1]; · iexact H1
    isplitl [H2]; · iexact H2
    isplitl [H3]; · iexact H3
    isplitl [H4]; · iexact H4
    isplitl [H5] <;> iassumption
  ihave HQ := (out_cut (F := F) c) $$ [H7]
  · iexists g7; iexact H7
  ihave H := (body_spec (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Dm m) κ ιs c (W := W) (Q := fun _ => iprop(|={Set.univ}=> bodyPost m c))) $$ HW HB HO HS HQ
  iapply (wp_fupd frame _ Set.univ _ (fun _ => bodyPost m c))
  iapply H
  iintro ⟨HE, HS, HQ0, HQ1⟩
  unfold bend lend
  icases HE with ⟨⟨Hat, ⟨-, HWX, HRX, -, HCX, -, -, HCA, HC0, Hk⟩, HWA, HRA, HRH⟩, ⟨HA0, HA1, HC1, HH⟩, HO⟩
  ihave HR := (rest_of (Dm m) c) $$ [HC0 Hk HA0 HA1 HC1 HH]
  · isplitl [HC0]; · iexact HC0
    isplitl [Hk]; · iexact Hk
    isplitl [HA0]; · iexact HA0
    isplitl [HA1]; · iexact HA1
    isplitl [HC1] <;> iassumption
  imod (close_all (Dm m) κ ιs c) $$ HW [HWX HRX HWA HRA HRH HCX HCA Hat] with HZ
  · isplitl [HWX]; · iexact HWX
    isplitl [HRX]; · iexact HRX
    isplitl [HWA]; · iexact HWA
    isplitl [HRA]; · iexact HRA
    isplitl [HRH]; · iexact HRH
    isplitl [HCX]; · iexact HCX
    isplitl [HCA] <;> iassumption
  imodintro
  ihave HT := (out_join c _ _ ((Dm m).x c)) $$ [HQ0 HQ1]
  · isplitl [HQ0]
    · iexact HQ0
    · iexact HQ1
  ihave HS := (of_wins m c) $$ HS
  unfold stgs
  icases HS with ⟨H0, H1, H2, H3, H4, H5, H6⟩
  unfold bodyPost Φ₁ Ow Pipeline.Dat.owesAt Pipeline.owesWithin
  rw [owe_end, show (dats m 0 c).owed t0_0.succ = 0 from rfl]
  icases HO with ⟨%W', HO⟩
  isplitl [HZ HR]
  · isplitl [HZ] <;> iassumption
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HT

set_option maxRecDepth 8000 in
theorem body_obligation (c : Dev nD) : BodyObligation (dats m 0 c) (defs₀ (F := F)) 𝒱₀ 0 Set.univ := fun t => by
  rw [fin_N0 t]
  rw [bigSep_W0, bigSep_W0]
  simp only [owns_whole_eq]
  exact run_body m c

/-! ## The launch -/

theorem ownSemFacts : Pipeline.OwnSemFacts cfg0.spec osem := by decide
theorem share_eq (c : Dev nD) (w : Fin cfg0.W) : (dats m 0 c).share w = fullShare := by unfold Pipeline.Dat.share; split <;> rfl

theorem L_of_ne (g : GSem nD τ sig) (h : g.1.2 ≠ Proc.tc) : LL g = ∅ := if_neg h

theorem lv_br (c : Dev nD) : lv (gBr c) 0 = 1 := rfl

/-- What is owed at the start lies above the staging waits. -/
theorem oweB_above (c : Dev nD) : ∀ (g : GSem nD τ sig) (i : ℕ), 0 < oweB c g i → i ∈ LL g ∧ 0 < lv g i := by
  intro g i h
  have hb : ∀ d : Dev nD, 0 < (tallyAt (gBr d) 0 1 : CellTallies nD τ sig ℕ) g i → i ∈ LL g ∧ 0 < lv g i := fun d hd => by
    rw [tallyAt_apply] at hd
    by_cases hg : g = gBr d ∧ i = 0
    · rw [hg.1, hg.2]
      exact ⟨mem_LL d _ (by omega), by rw [lv_br]; exact Nat.one_pos⟩
    · rw [if_neg hg] at hd; exact absurd hd (Nat.lt_irrefl 0)
  unfold oweB at h
  rw [Pi.add_apply, Finsupp.add_apply, Pi.add_apply, Finsupp.add_apply] at h
  have hk := k0_above
  by_cases h1 : 0 < owe c k₀ g i
  · have := owe_above c k₀ 1 hk.1 hk.2.1 hk.2.2.1 hk.2.2.2.1 hk.2.2.2.2.1 hk.2.2.2.2.2.1 hk.2.2.2.2.2.2 g i h1
    exact ⟨this.1, by omega⟩
  · by_cases h2 : 0 < (tallyAt (gBr (nxt c)) 0 1 : CellTallies nD τ sig ℕ) g i
    · exact hb _ h2
    · exact hb (prv c) (by omega)

theorem mayWait_stage (c : Dev nD) (q : DmaSem sig) (hq : role (SemLoc.dma q) = .no) (O : CellTallies nD τ sig ℕ) (hO : O = oweB c ∨ O = 0) :
    (levAts LL lv : sProp 𝕄) ⊢ MayWait (c : Thread nD τ) (.dma q) 0 O := by
  rcases hO with rfl | rfl
  · have h0 : lv ((c : Thread nD τ), .dma q) 0 = 0 := by unfold lv; rw [show role ((c : Thread nD τ), SemLoc.dma q).2 = .no from hq]
    exact Pipeline.mayWait_of_levAts (mem_LL c _ (by omega)) fun g i h => by rw [h0]; exact oweB_above c g i h
  · rw [MayWait_zero]; iintro -; iempintro

theorem waits (c : Dev nD) : (levAts LL lv : sProp 𝕄) ⊢ Pipeline.cellsWaits cfgs (dats m) 0 0 c :=
  Pipeline.cellsWaits_intro cfgs (dats m) 0 0 c fun w s t =>
    mayWait_stage c _ (by fin_cases w <;> fin_cases s <;> decide) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts LL lv
        ∗ Pipeline.launchCred oweB c ∗ prngReg c (ρ c) ∗ G' (Dm m) c)
      ⊢ |={Set.univ}=> (iprop(start m c ∗ emp) : sProp 𝕄) := by
  iintro ⟨-, Hlev, Hcr, -, HG⟩
  ihave Hc := (crs_intro (F := F) c) $$ Hcr
  imodintro
  unfold start
  isplitl
  · isplitl [Hlev]; · iexact Hlev
    isplitl [HG] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl]
  unfold Φ₁
  rw [← sems0_eq]
  iintro ⟨⟨Ho, Hu⟩, Hr⟩
  isplitl [Hu]; · iexact Hu
  isplitl [Ho] <;> iassumption

def u₀ : UU := (initOf (Pipeline.cells cfgs cellOf_inj) (Pipeline.launchToks cfgs cellOf_inj), (initOf ringCells ringToks, initSlots keys 1))

theorem u₀_split : (ownU u₀ : sProp 𝕄) ⊢ iprop(BI.own (EP (initOf (Pipeline.cells cfgs cellOf_inj) (Pipeline.launchToks cfgs cellOf_inj)))
    ∗ BI.own (ER (initOf ringCells ringToks)) ∗ BI.own (ES (initSlots keys 1))) := by
  unfold u₀
  iintro Hu
  ihave H := (ownU_pair _ _) $$ Hu
  icases H with ⟨HP, HX⟩
  isplitl [HP]; · iexact HP
  iapply (own_pair_emb ((Emb.inr : Emb (URounds (GSem nD τ sig) ℕ × USlots Key) UU).trans (uEmb (nD := nD) (sig := sig) (Ix := ℕ) (Val := Elt F) (Name := ℕ) (U := UU) (Lvl := ℕ)).toEmb)
    (initOf ringCells ringToks) (initSlots keys 1))
  iexact HX

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- For any float values, from any memory with zero counters, every weakly fair execution of the 32 devices' programs
    terminates without a fault; each device's arrays end at the computed contents and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := oweB) (howed₀ := fun _ => rfl) (howedN := fun _ => rfl)
    (L := LL) (lv := lv) (hL := L_of_ne) (hwaits := waits m)
    (G := G (Dm m)) (G' := G' (Dm m)) (u₀ := u₀)
    (hu₀ := by
      iintro Hu
      ihave H := (u₀_split (F := F)) $$ Hu
      icases H with ⟨HP, HX⟩
      imod (fund_all (Dm m)) $$ HX with HG
      imodintro
      isplitl [HP] <;> iassumption)
    (hglob := glob (Dm m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

set_option maxRecDepth 8000 in
/-- The run, read at the arrays: the arguments are unchanged and each device's result array holds its two halves beside
    each other. -/
theorem run_arrays : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v1) = finalA m c 7)
      ∧ r.2.sem = fun _ => 0) :=
  (θ_run defs _ _).mono (fun r h => ⟨fun c =>
    ⟨(h.1 c 0).trans ((dats m 0 c).arrAt_in 0 rfl _), (h.1 c 1).trans ((dats m 0 c).arrAt_in 1 rfl _), (h.1 c 2).trans ((dats m 0 c).arrAt_in 2 rfl _),
      (h.1 c 3).trans ((dats m 0 c).arrAt_in 3 rfl _), (h.1 c 4).trans ((dats m 0 c).arrAt_in 4 rfl _), (h.1 c 5).trans ((dats m 0 c).arrAt_in 5 rfl _),
      (h.1 c 6).trans ((dats m 0 c).arrAt_in 6 rfl _), h.1 c 7⟩, h.2⟩) (run_main m ρ)

end Run

end Cert.Proof

end
-- ==== Proof.Frames.lean ====
/-
  The kernel's two programs, as printed and read over the reals: each ends with its arguments unchanged and every counter
  at zero.
-/
module

public import proofs.«01_k».proof.Defs
public import proofs.«01_k».proof.Proof.Gen.Kernel
public import proofs.«01_k».proof.Proof.Gen.ReferenceIdeal.Run
public import Idealize.ShloMosaic.Lib.Quiescent
public import proofs.«01_k».proof.Proof.Run

@[expose] public section

noncomputable section

namespace Cert.Proof

open Idealize.ShloMosaic Idealize.SL.Sem Idealize.ShloMosaic.TcCoe

variable {F : FTy → Type} [FloatOps F]

set_option maxRecDepth 8000 in
/-- The kernel's program at any float values runs from any memory, leaves its arguments as they were and every counter at
    zero. -/
theorem frame_any (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) :=
  (θ_run Cert.KernelIdeal.defs _ _).mono (fun _ h => ⟨fun c => by
    obtain ⟨h0, h1, h2, h3, h4, h5, h6, -⟩ := h.1 c
    exact ⟨h0, h1, h2, h3, h4, h5, h6⟩, h.2⟩) (run_arrays m ρ)

/-- So the program over the reals. -/
theorem frame_kernelIdeal : Cert.quiescent_KernelIdeal := fun m ρ _ => frame_any (F := Ideal) m ρ

/-! The printed program is the same text at float words: its body, -/

set_option maxRecDepth 8000 in
theorem body_same : Cert.Kernel.cc0_body (F := Bits) = Cert.KernelIdeal.cc0_body (F := Bits) := rfl
set_option maxRecDepth 8000 in
/-- its functions -/
theorem defs₀_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) =>
    dsimp only
    rw [body_same]
/-- and its definitions. -/
theorem defs_same : Cert.Kernel.defs (F := Bits) = Cert.KernelIdeal.defs (F := Bits) :=
  congrArg (Pipeline.defs (Cert.KernelIdeal.pcfgs (F := Bits))) defs₀_same

set_option maxRecDepth 8000 in
/-- So the printed program. -/
theorem frame_kernel : Cert.quiescent_Kernel := fun m ρ _ => by
  have h := frame_any (F := Bits) m ρ
  rw [← defs_same] at h
  exact h

/-- The reference runs, leaves its arguments as they were and every counter at zero: it has none. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

end Cert.Proof

end
-- ==== Proof.Value.lean ====
/-
  What the kernel's result arrays hold over the reals: each device's rows of the reference's three layers.
-/
module

public import proofs.«01_k».proof.Proof.Blocks
public import proofs.«01_k».proof.Proof.Frames

@[expose] public section

noncomputable section

namespace Cert.Proof

open Cert.KernelIdeal Cert.KernelIdeal.Gen

open Idealize.ShloMosaic
open Idealize.ShloMosaic.TcCoe
open Idealize.SL.Sem

/-! ## The result window -/

/-- The two halves beside each other, at an index. -/
theorem beside_apply (X0 X1 : FVec Ideal S64x512 .f32) (Z : FVec Ideal S64x1024 .f32) (h : Fin 2) (r : Fin 64) (j : Fin 512) :
    beside X0 X1 Z (ix2 r (col h j)) = (if h = 0 then X0 else X1) (ix2 r j) := by
  match h with
  | 0 =>
    refine Eq.trans (congrArg (beside X0 X1 Z) (funext fun a => ?_)) (congrFun (beside_left X0 X1 Z) (ix2 r j))
    fin_cases a
    · exact Fin.ext (by show r.val = 0 + 1 * r.val; omega)
    · exact Fin.ext (by show 512 * 0 + j.val = 0 + 1 * j.val; omega)
  | 1 =>
    refine Eq.trans (congrArg (beside X0 X1 Z) (funext fun a => ?_)) (congrFun (beside_right X0 X1 Z) (ix2 r j))
    fin_cases a
    · exact Fin.ext (by show r.val = 0 + 1 * r.val; omega)
    · exact Fin.ext (by show 512 * 1 + j.val = 512 + 1 * j.val; omega)

set_option maxRecDepth 16384 in
/-- The left half as it is stored in the result window is the half that came home, -/
theorem pay42_apply (A : FVec Ideal S1x64x512 .f32) (r : Fin 64) (j : Fin 512) : k0_pay42 (F := Ideal) A (ix2 r j) = A (ix3 0 r j) := by
  pointwise [k0_pay42]
set_option maxRecDepth 16384 in
/-- and so is the right. -/
theorem pay43_apply (A : FVec Ideal S1x64x512 .f32) (r : Fin 64) (j : Fin 512) : k0_pay43 (F := Ideal) A (ix2 r j) = A (ix3 0 r j) := by
  pointwise [k0_pay43]

section
variable (m : (ℓ : Loc nD τ sig) → Buf (Elt Ideal) ℓ)

/-- A device's result is its block after the three layers. -/
theorem outAt_eq (c : Dev nD) : outAt m c = (Dm m).H 3 c := by
  funext i
  obtain ⟨r, j, rfl⟩ : ∃ (r : Fin 64) (j : Fin 1024), i = ix2 r j := ⟨i 0, i 1, eq_ix2 i⟩
  obtain ⟨h, j, rfl⟩ := eq_col j
  refine (beside_apply _ _ _ h r j).trans (Eq.trans ?_ (join_apply _ _ h r j).symm)
  match h with
  | 0 => rw [if_pos rfl, if_pos rfl]; exact pay42_apply _ r j
  | 1 => rw [if_neg (by decide), if_neg (by decide)]; exact pay43_apply _ r j

/-! ## The arrays -/

/-- The result array ends at the device's result: its one block is the whole array. -/
theorem finalA_result (c : Dev nD) : finalA m c 7 = outAt m c := by
  have hr : (win0_7.blk t0_0).view.read (Elt Ideal) (finalA m c 7) = outAt m c := by
    unfold finalA
    rw [show cfg0.N = ((0 : Fin 1) : Fin cfg0.N).val + 1 from rfl, (dats m 0 c).arrAt_succ 7 (0 : Fin 1)]
    rw [show (cfg0.win 7).flush (0 : Fin 1) = true from by decide, if_pos rfl]
    exact View.read_write_univ _ _
  exact (Memref.read_access_unit_zero (Elt Ideal) main_v1 (funext fun a => by fin_cases a <;> decide) (fun a => by fin_cases a <;> decide) _).symm.trans hr

/-- Window 0's block is the whole array of argument 0. -/
theorem blk0 (c : Dev nD) : iblk m c 0 t0_0 = m ((c.tc : Thread nD τ).loc main_arg0) :=
  Memref.read_access_unit_zero (Elt Ideal) main_arg0 (funext fun a => by fin_cases a <;> decide) (fun a => by fin_cases a <;> decide) _
/-- Window 1's block is the whole array of argument 1. -/
theorem blk1 (c : Dev nD) : iblk m c 1 t0_0 = m ((c.tc : Thread nD τ).loc main_arg1) :=
  Memref.read_access_unit_zero (Elt Ideal) main_arg1 (funext fun a => by fin_cases a <;> decide) (fun a => by fin_cases a <;> decide) _
/-- Window 2's block is the whole array of argument 2. -/
theorem blk2 (c : Dev nD) : iblk m c 2 t0_0 = m ((c.tc : Thread nD τ).loc main_arg2) :=
  Memref.read_access_unit_zero (Elt Ideal) main_arg2 (funext fun a => by fin_cases a <;> decide) (fun a => by fin_cases a <;> decide) _
/-- Window 3's block is the whole array of argument 3. -/
theorem blk3 (c : Dev nD) : iblk m c 3 t0_0 = m ((c.tc : Thread nD τ).loc main_arg3) :=
  Memref.read_access_unit_zero (Elt Ideal) main_arg3 (funext fun a => by fin_cases a <;> decide) (fun a => by fin_cases a <;> decide) _
/-- Window 4's block is the whole array of argument 4. -/
theorem blk4 (c : Dev nD) : iblk m c 4 t0_0 = m ((c.tc : Thread nD τ).loc main_arg4) :=
  Memref.read_access_unit_zero (Elt Ideal) main_arg4 (funext fun a => by fin_cases a <;> decide) (fun a => by fin_cases a <;> decide) _
/-- Window 5's block is the whole array of argument 5. -/
theorem blk5 (c : Dev nD) : iblk m c 5 t0_0 = m ((c.tc : Thread nD τ).loc main_arg5) :=
  Memref.read_access_unit_zero (Elt Ideal) main_arg5 (funext fun a => by fin_cases a <;> decide) (fun a => by fin_cases a <;> decide) _
/-- Window 6's block is the whole array of argument 6. -/
theorem blk6 (c : Dev nD) : iblk m c 6 t0_0 = m ((c.tc : Thread nD τ).loc main_arg6) :=
  Memref.read_access_unit_zero (Elt Ideal) main_arg6 (funext fun a => by fin_cases a <;> decide) (fun a => by fin_cases a <;> decide) _

/-- Where the devices' arguments are the blocks of whole arrays, the results are the rows of the reference's three layers. -/
theorem result_rows (X : FVec Ideal Cert.ReferenceIdeal.S2048x1024 .f32) (W0 W1 W2 : FVec Ideal Cert.ReferenceIdeal.S1024x65536 .f32)
    (O0 O1 O2 : FVec Ideal Cert.ReferenceIdeal.S65536x1024 .f32)
    (h : ∀ c : Dev nD, m ((c.tc : Thread nD τ).loc main_arg0) = rows c X
      ∧ m ((c.tc : Thread nD τ).loc main_arg1) = cols c W0 ∧ m ((c.tc : Thread nD τ).loc main_arg2) = deep c O0
      ∧ m ((c.tc : Thread nD τ).loc main_arg3) = cols c W1 ∧ m ((c.tc : Thread nD τ).loc main_arg4) = deep c O1
      ∧ m ((c.tc : Thread nD τ).loc main_arg5) = cols c W2 ∧ m ((c.tc : Thread nD τ).loc main_arg6) = deep c O2) (c : Dev nD) :
    finalA m c 7 = rows c (refLayer (refLayer (refLayer X W0 O0) W1 O1) W2 O2) := by
  have h0 : (Dm m).H 0 = fun d => rows d X := funext fun d => (blk0 m d).trans (h d).1
  have i0 : (Dm m).wi 0 = fun d => cols d W0 := funext fun d => (blk1 m d).trans (h d).2.1
  have o0 : (Dm m).wo 0 = fun d => deep d O0 := funext fun d => (blk2 m d).trans (h d).2.2.1
  have i1 : (Dm m).wi 1 = fun d => cols d W1 := funext fun d => (blk3 m d).trans (h d).2.2.2.1
  have o1 : (Dm m).wo 1 = fun d => deep d O1 := funext fun d => (blk4 m d).trans (h d).2.2.2.2.1
  have i2 : (Dm m).wi 2 = fun d => cols d W2 := funext fun d => (blk5 m d).trans (h d).2.2.2.2.2.1
  have o2 : (Dm m).wo 2 = fun d => deep d O2 := funext fun d => (blk6 m d).trans (h d).2.2.2.2.2.2
  have h1 : (Dm m).H 1 = fun d => rows d (refLayer X W0 O0) := by
    show nextH ((Dm m).H 0) ((Dm m).wi 0) ((Dm m).wo 0) = _
    rw [h0, i0, o0]; exact funext fun d => nextH_rows X W0 O0 d
  have h2 : (Dm m).H 2 = fun d => rows d (refLayer (refLayer X W0 O0) W1 O1) := by
    show nextH ((Dm m).H 1) ((Dm m).wi 1) ((Dm m).wo 1) = _
    rw [h1, i1, o1]; exact funext fun d => nextH_rows _ W1 O1 d
  rw [finalA_result, outAt_eq]
  show nextH ((Dm m).H 2) ((Dm m).wi 2) ((Dm m).wo 2) c = _
  rw [h2, i2, o2]
  exact nextH_rows _ W2 O2 c
end

/-! ## The claim -/

/-- From arguments that are the blocks of the reference's, each device's result is its rows of the reference's result, and
    the arguments of both are as they were. -/
theorem value : Cert.algebraic_KernelIdeal_ReferenceIdeal := by
  intro m ρ m' ρ' _ hagree
  refine ⟨_, ?_, (θ_run Cert.ReferenceIdeal.defs _ _).mono (fun _ h => h 0) (Cert.ReferenceIdeal.Value.run m' ρ')⟩
  refine (θ_run Cert.KernelIdeal.defs _ _).mono (fun r h c => ?_) (run_arrays m ρ)
  obtain ⟨a0, a1, a2, a3, a4, a5, a6, hv⟩ := h.1 c
  exact ⟨hv.trans (result_rows m _ _ _ _ _ _ _ hagree c), a0, a1, a2, a3, a4, a5, a6⟩

end Cert.Proof

end
-- ==== Proof.lean ====
/-
  The claim: the kernel's programs and the reference run and leave everything in order, the program over the reals is the
  kernel's own text, and over the reals each device's result is its rows of the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value

@[expose] public section

noncomputable section

namespace Cert.Proof

open Idealize.ShloMosaic Idealize.SL.Sem

/-- Everything claimed: the three frames, the kernel over the reals being the printed text, and its value. -/
theorem claim : Cert.Claim := ⟨Cert.Kernel.Gen.facts, Cert.KernelIdeal.Gen.facts, Cert.ReferenceIdeal.Gen.facts,
  frame_kernel, frame_kernelIdeal, frame_reference, trivial, value⟩

end Cert.Proof

end
